-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)) (v8 : (c : Dev Cert.Kernel2Ideal.nD) → Buf (Elt Ideal) ((c.tc : Thread Cert.Kernel2Ideal.nD Cert.Kernel2Ideal.τ).loc Cert.Kernel2Ideal.main_v20_8)) (v9 : (c : Dev Cert.Kernel2Ideal.nD) → Buf (Elt Ideal) ((c.tc : Thread Cert.Kernel2Ideal.nD Cert.Kernel2Ideal.τ).loc Cert.Kernel2Ideal.main_v20_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_v20_8) = v8 c
          ∧ r.2.mem ((c.tc : Thread Cert.Kernel2Ideal.nD Cert.Kernel2Ideal.τ).loc Cert.Kernel2Ideal.main_v20_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_v43) = v4 c
          ∧ r.2.mem ((c.tc : Thread Cert.Reference2Ideal.nD Cert.Reference2Ideal.τ).loc Cert.Reference2Ideal.main_v44) = v5 c
          ∧ r.2.mem ((c.tc : Thread Cert.Reference2Ideal.nD Cert.Reference2Ideal.τ).loc Cert.Reference2Ideal.main_v45) = v6 c
          ∧ r.2.mem ((c.tc : Thread Cert.Reference2Ideal.nD Cert.Reference2Ideal.τ).loc Cert.Reference2Ideal.main_v46) = v7 c
          ∧ r.2.mem ((c.tc : Thread Cert.Reference2Ideal.nD Cert.Reference2Ideal.τ).loc Cert.Reference2Ideal.main_v36) = v8 c
          ∧ r.2.mem ((c.tc : Thread Cert.Reference2Ideal.nD Cert.Reference2Ideal.τ).loc Cert.Reference2Ideal.main_v47) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)) (v4 : (c : Dev Cert.Kernel4Ideal.nD) → Buf (Elt Ideal) ((c.tc : Thread Cert.Kernel4Ideal.nD Cert.Kernel4Ideal.τ).loc Cert.Kernel4Ideal.main_v21_4)) (v5 : (c : Dev Cert.Kernel4Ideal.nD) → Buf (Elt Ideal) ((c.tc : Thread Cert.Kernel4Ideal.nD Cert.Kernel4Ideal.τ).loc Cert.Kernel4Ideal.main_v21_5)) (v6 : (c : Dev Cert.Kernel4Ideal.nD) → Buf (Elt Ideal) ((c.tc : Thread Cert.Kernel4Ideal.nD Cert.Kernel4Ideal.τ).loc Cert.Kernel4Ideal.main_v21_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_v21_4) = v4 c
          ∧ r.2.mem ((c.tc : Thread Cert.Kernel4Ideal.nD Cert.Kernel4Ideal.τ).loc Cert.Kernel4Ideal.main_v21_5) = v5 c
          ∧ r.2.mem ((c.tc : Thread Cert.Kernel4Ideal.nD Cert.Kernel4Ideal.τ).loc Cert.Kernel4Ideal.main_v21_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_v45) = v5 c
          ∧ r.2.mem ((c.tc : Thread Cert.Reference4Ideal.nD Cert.Reference4Ideal.τ).loc Cert.Reference4Ideal.main_v47) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v253) = v0 c
          ∧ r.2.mem ((c.tc : Thread Cert.Reference5Ideal.nD Cert.Reference5Ideal.τ).loc Cert.Reference5Ideal.main_v255) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v250) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_operands.lean ====
abbrev S4x8192x512 : Shape := ⟨3, ![4, 8192, 512]⟩
abbrev S4x512x8192 : Shape := ⟨3, ![4, 512, 8192]⟩
abbrev S4x8x8192 : Shape := ⟨3, ![4, 8, 8192]⟩
abbrev S_ : Shape := ⟨0, ![]⟩

class Facts : Prop where
  bcast_S_S4x8192x512 : S_.BroadcastsInDim S4x8192x512 (![] : Fin 0 → Fin S4x8192x512.rank)
  bcast_S_S4x512x8192 : S_.BroadcastsInDim S4x512x8192 (![] : Fin 0 → Fin S4x512x8192.rank)
  bcast_S_S4x8x8192 : S_.BroadcastsInDim S4x8x8192 (![] : Fin 0 → Fin S4x8x8192.rank)

variable [Facts]

def fn {F : FTy → Type} [FloatOps F] (main_arg0 : FVec F S4x8192x512 .bf16) (main_arg1 : FVec F S4x512x8192 .bf16) (main_arg2 : FVec F S4x8192x512 .bf16) (main_arg3 : FVec F S4x8x8192 .f32) : IVec S4x8192x512 1 × IVec S4x512x8192 1 × IVec S4x8x8192 1 :=
  let main_v0 : FVec F S4x8192x512 .bf16 := Host.absf main_arg0
  let main_cst : FVec F S_ .bf16 := constant S_ .bf16 0x7F80#16
  let main_v1 : FVec F S4x8192x512 .bf16 := broadcastInDim S4x8192x512 ![] bcast_S_S4x8192x512 main_cst
  let main_v2 : IVec S4x8192x512 1 := cmpf .olt main_v0 main_v1
  let main_v3 : FVec F S4x512x8192 .bf16 := Host.absf main_arg1
  let main_cst_0 : FVec F S_ .bf16 := constant S_ .bf16 0x7F80#16
  let main_v4 : FVec F S4x512x8192 .bf16 := broadcastInDim S4x512x8192 ![] bcast_S_S4x512x8192 main_cst_0
  let main_v5 : IVec S4x512x8192 1 := cmpf .olt main_v3 main_v4
  let main_v6 : FVec F S4x8x8192 .f32 := Host.absf main_arg3
  let main_cst_1 : FVec F S_ .f32 := constant S_ .f32 0x7F800000#32
  let main_v7 : FVec F S4x8x8192 .f32 := broadcastInDim S4x8x8192 ![] bcast_S_S4x8x8192 main_cst_1
  let main_v8 : IVec S4x8x8192 1 := cmpf .olt main_v6 main_v7
  (main_v2, main_v5, main_v8)
-- ==== Kernel.lean ====
abbrev S4x8192x512 : Shape := ⟨3, ![4, 8192, 512]⟩
abbrev S4x512x8192 : Shape := ⟨3, ![4, 512, 8192]⟩
abbrev S4x8x8192 : Shape := ⟨3, ![4, 8, 8192]⟩
abbrev S1x512x128 : Shape := ⟨3, ![1, 512, 128]⟩
abbrev S1x128x8192 : Shape := ⟨3, ![1, 128, 8192]⟩
abbrev S1x8192x128 : Shape := ⟨3, ![1, 8192, 128]⟩
abbrev S1x8x8192 : Shape := ⟨3, ![1, 8, 8192]⟩
abbrev S512x1 : Shape := ⟨2, ![512, 1]⟩
abbrev S512x128 : Shape := ⟨2, ![512, 128]⟩
abbrev S8x512 : Shape := ⟨2, ![8, 512]⟩
abbrev S512x512 : Shape := ⟨2, ![512, 512]⟩
abbrev S1x8x512 : Shape := ⟨3, ![1, 8, 512]⟩
abbrev S512 : Shape := ⟨1, ![512]⟩
abbrev S1x512 : Shape := ⟨2, ![1, 512]⟩
abbrev S1x1 : Shape := ⟨2, ![1, 1]⟩
abbrev S1x128x512 : Shape := ⟨3, ![1, 128, 512]⟩
abbrev S128x512 : Shape := ⟨2, ![128, 512]⟩

abbrev nBuf : Space → Nat
  | .hbm => 5
  | .vmem => 13
  | .smem => 0
  | _ => 0

abbrev bufTy : (tb : Table) → Fin (tcTables nBuf tb) → BufTy
  | .hbm, ⟨0, _⟩ => ⟨S4x8192x512, .bf16⟩
  | .hbm, ⟨1, _⟩ => ⟨S4x512x8192, .bf16⟩
  | .hbm, ⟨2, _⟩ => ⟨S4x8192x512, .bf16⟩
  | .hbm, ⟨3, _⟩ => ⟨S4x8x8192, .f32⟩
  | .hbm, ⟨4, _⟩ => ⟨S4x8192x512, .f32⟩
  | .local _ .vmem, ⟨0, _⟩ => ⟨S1x512x128, .bf16⟩
  | .local _ .vmem, ⟨1, _⟩ => ⟨S1x512x128, .bf16⟩
  | .local _ .vmem, ⟨2, _⟩ => ⟨S1x128x8192, .bf16⟩
  | .local _ .vmem, ⟨3, _⟩ => ⟨S1x128x8192, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8x8192, .f32⟩
  | .local _ .vmem, ⟨7, _⟩ => ⟨S1x8x8192, .f32⟩
  | .local _ .vmem, ⟨8, _⟩ => ⟨S1x512x128, .f32⟩
  | .local _ .vmem, ⟨9, _⟩ => ⟨S1x512x128, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 3 → Nat :=
  let c0_2 : Index := 0#32
  let c0_3 : Index := 0#32
  let arg2 : BitVec 32 := BitVec.ofNat 32 (i 2).val
  let c512_i32 : BitVec 32 := 512#32
  let v0 : BitVec 32 := Scalar.muli arg2 c512_i32
  let v1 : BitVec 32 := v0
  let v12 : Index := Scalar.indexCast v1
  ![0, 0, v12.toNat]
@[reducible] def k0_t1_loop (i : grid0.Coords) : Scf.Loop 32 :=
  let c0_i32_16 : BitVec 32 := 0#32
  let arg2 : BitVec 32 := BitVec.ofNat 32 (i 2).val
  let v36 : BitVec 32 := Scalar.subi arg2 c0_i32_16
  let c1_i32 : BitVec 32 := 1#32
  let v38 : BitVec 32 := Scalar.divsi v36 c1_i32
  let v39 : BitVec 32 := Scalar.muli v38 c1_i32
  let v40 : BitVec 32 := Scalar.addi c0_i32_16 v39
  let c1_i32_17 : BitVec 32 := 1#32
  ⟨c0_i32_16, v40, c1_i32_17⟩
def k0_mult2 (i : grid0.Coords) (k0_t1 : Fin (k0_t1_loop i).trips) : BitVec 32 :=
  let c0_i32_16 : BitVec 32 := 0#32
  let c1_i32_17 : BitVec 32 := 1#32
  let arg11 : BitVec 32 := Scf.iv c0_i32_16 c1_i32_17 k0_t1
  let c512_i32_109 : BitVec 32 := 512#32
  let v200 : BitVec 32 := Scalar.muli arg11 c512_i32_109
  v200
def k0_off2 (i : grid0.Coords) (k0_t1 : Fin (k0_t1_loop i).trips) : Fin 3 → Nat :=
  let c0_110 : Index := 0#32
  let c0_111 : Index := 0#32
  let c0_i32_16 : BitVec 32 := 0#32
  let c1_i32_17 : BitVec 32 := 1#32
  let arg11 : BitVec 32 := Scf.iv c0_i32_16 c1_i32_17 k0_t1
  let c512_i32_109 : BitVec 32 := 512#32
  let v200 : BitVec 32 := Scalar.muli arg11 c512_i32_109
  let v201 : BitVec 32 := v200
  let v202 : Index := Scalar.indexCast v201
  ![0, 0, v202.toNat]
def k0_off3 (i : grid0.Coords) (k0_t1 : Fin (k0_t1_loop i).trips) : Fin 3 → Nat :=
  let c0_112 : Index := 0#32
  let c0_i32_16 : BitVec 32 := 0#32
  let c1_i32_17 : BitVec 32 := 1#32
  let arg11 : BitVec 32 := Scf.iv c0_i32_16 c1_i32_17 k0_t1
  let c512_i32_109 : BitVec 32 := 512#32
  let v200 : BitVec 32 := Scalar.muli arg11 c512_i32_109
  let v201 : BitVec 32 := v200
  let v205 : Index := Scalar.indexCast v201
  let c0_113 : Index := 0#32
  ![0, v205.toNat, 0]
def k0_off4 (i : grid0.Coords) (k0_t1 : Fin (k0_t1_loop i).trips) : Fin 3 → Nat :=
  let c0_115 : Index := 0#32
  let c0_116 : Index := 0#32
  let c0_i32_16 : BitVec 32 := 0#32
  let c1_i32_17 : BitVec 32 := 1#32
  let arg11 : BitVec 32 := Scf.iv c0_i32_16 c1_i32_17 k0_t1
  let c512_i32_109 : BitVec 32 := 512#32
  let v200 : BitVec 32 := Scalar.muli arg11 c512_i32_109
  let v201 : BitVec 32 := v200
  let v209 : Index := Scalar.indexCast v201
  ![0, 0, v209.toNat]
@[reducible] def k0_t2_loop (i : grid0.Coords) : Scf.Loop 32 :=
  let c0_i32_16 : BitVec 32 := 0#32
  let arg2 : BitVec 32 := BitVec.ofNat 32 (i 2).val
  let v36 : BitVec 32 := Scalar.subi arg2 c0_i32_16
  let c1_i32 : BitVec 32 := 1#32
  let v38 : BitVec 32 := Scalar.divsi v36 c1_i32
  let v39 : BitVec 32 := Scalar.muli v38 c1_i32
  let v40 : BitVec 32 := Scalar.addi c0_i32_16 v39
  let v37 : BitVec 32 := Scalar.addi c0_i32_16 v36
  let c1_i32_18 : BitVec 32 := 1#32
  ⟨v40, v37, c1_i32_18⟩
def k0_mult3 (i : grid0.Coords) (k0_t2 : Fin (k0_t2_loop i).trips) : BitVec 32 :=
  let c0_i32_16 : BitVec 32 := 0#32
  let arg2 : BitVec 32 := BitVec.ofNat 32 (i 2).val
  let v36 : BitVec 32 := Scalar.subi arg2 c0_i32_16
  let c1_i32 : BitVec 32 := 1#32
  let v38 : BitVec 32 := Scalar.divsi v36 c1_i32
  let v39 : BitVec 32 := Scalar.muli v38 c1_i32
  let v40 : BitVec 32 := Scalar.addi c0_i32_16 v39
  let c1_i32_18 : BitVec 32 := 1#32
  let arg11 : BitVec 32 := Scf.iv v40 c1_i32_18 k0_t2
  let c512_i32_109 : BitVec 32 := 512#32
  let v200 : BitVec 32 := Scalar.muli arg11 c512_i32_109
  v200
def k0_off5 (i : grid0.Coords) (k0_t2 : Fin (k0_t2_loop i).trips) : Fin 3 → Nat :=
  let c0_110 : Index := 0#32
  let c0_111 : Index := 0#32
  let c0_i32_16 : BitVec 32 := 0#32
  let arg2 : BitVec 32 := BitVec.ofNat 32 (i 2).val
  let v36 : BitVec 32 := Scalar.subi arg2 c0_i32_16
  let c1_i32 : BitVec 32 := 1#32
  let v38 : BitVec 32 := Scalar.divsi v36 c1_i32
  let v39 : BitVec 32 := Scalar.muli v38 c1_i32
  let v40 : BitVec 32 := Scalar.addi c0_i32_16 v39
  let c1_i32_18 : BitVec 32 := 1#32
  let arg11 : BitVec 32 := Scf.iv v40 c1_i32_18 k0_t2
  let c512_i32_109 : BitVec 32 := 512#32
  let v200 : BitVec 32 := Scalar.muli arg11 c512_i32_109
  let v201 : BitVec 32 := v200
  let v202 : Index := Scalar.indexCast v201
  ![0, 0, v202.toNat]
def k0_off6 (i : grid0.Coords) (k0_t2 : Fin (k0_t2_loop i).trips) : Fin 3 → Nat :=
  let c0_112 : Index := 0#32
  let c0_i32_16 : BitVec 32 := 0#32
  let arg2 : BitVec 32 := BitVec.ofNat 32 (i 2).val
  let v36 : BitVec 32 := Scalar.subi arg2 c0_i32_16
  let c1_i32 : BitVec 32 := 1#32
  let v38 : BitVec 32 := Scalar.divsi v36 c1_i32
  let v39 : BitVec 32 := Scalar.muli v38 c1_i32
  let v40 : BitVec 32 := Scalar.addi c0_i32_16 v39
  let c1_i32_18 : BitVec 32 := 1#32
  let arg11 : BitVec 32 := Scf.iv v40 c1_i32_18 k0_t2
  let c512_i32_109 : BitVec 32 := 512#32
  let v200 : BitVec 32 := Scalar.muli arg11 c512_i32_109
  let v201 : BitVec 32 := v200
  let v205 : Index := Scalar.indexCast v201
  let c0_113 : Index := 0#32
  ![0, v205.toNat, 0]
def k0_off7 (i : grid0.Coords) (k0_t2 : Fin (k0_t2_loop i).trips) : Fin 3 → Nat :=
  let c0_115 : Index := 0#32
  let c0_116 : Index := 0#32
  let c0_i32_16 : BitVec 32 := 0#32
  let arg2 : BitVec 32 := BitVec.ofNat 32 (i 2).val
  let v36 : BitVec 32 := Scalar.subi arg2 c0_i32_16
  let c1_i32 : BitVec 32 := 1#32
  let v38 : BitVec 32 := Scalar.divsi v36 c1_i32
  let v39 : BitVec 32 := Scalar.muli v38 c1_i32
  let v40 : BitVec 32 := Scalar.addi c0_i32_16 v39
  let c1_i32_18 : BitVec 32 := 1#32
  let arg11 : BitVec 32 := Scf.iv v40 c1_i32_18 k0_t2
  let c512_i32_109 : BitVec 32 := 512#32
  let v200 : BitVec 32 := Scalar.muli arg11 c512_i32_109
  let v201 : BitVec 32 := v200
  let v209 : Index := Scalar.indexCast v201
  ![0, 0, v209.toNat]
def k0_mult4 (i : grid0.Coords) : BitVec 32 :=
  let arg2 : BitVec 32 := BitVec.ofNat 32 (i 2).val
  let c512_i32_19 : BitVec 32 := 512#32
  let v41 : BitVec 32 := Scalar.muli arg2 c512_i32_19
  v41
def k0_off8 (i : grid0.Coords) : Fin 3 → Nat :=
  let c0_20 : Index := 0#32
  let c0_21 : Index := 0#32
  let arg2 : BitVec 32 := BitVec.ofNat 32 (i 2).val
  let c512_i32_19 : BitVec 32 := 512#32
  let v41 : BitVec 32 := Scalar.muli arg2 c512_i32_19
  let v42 : BitVec 32 := v41
  let v43 : Index := Scalar.indexCast v42
  ![0, 0, v43.toNat]
def k0_off9 (i : grid0.Coords) : Fin 3 → Nat :=
  let c0_22 : Index := 0#32
  let arg2 : BitVec 32 := BitVec.ofNat 32 (i 2).val
  let c512_i32_19 : BitVec 32 := 512#32
  let v41 : BitVec 32 := Scalar.muli arg2 c512_i32_19
  let v42 : BitVec 32 := v41
  let v46 : Index := Scalar.indexCast v42
  let c0_23 : Index := 0#32
  ![0, v46.toNat, 0]
@[reducible] def k0_t3_loop (i : grid0.Coords) : Scf.Loop 32 :=
  let c0_i32_69 : BitVec 32 := 0#32
  let arg2 : BitVec 32 := BitVec.ofNat 32 (i 2).val
  let v129 : BitVec 32 := Scalar.subi arg2 c0_i32_69
  let c1_i32_70 : BitVec 32 := 1#32
  let v131 : BitVec 32 := Scalar.divsi v129 c1_i32_70
  let v132 : BitVec 32 := Scalar.muli v131 c1_i32_70
  let v133 : BitVec 32 := Scalar.addi c0_i32_69 v132
  let c1_i32_71 : BitVec 32 := 1#32
  ⟨c0_i32_69, v133, c1_i32_71⟩
def k0_mult5 (i : grid0.Coords) (k0_t3 : Fin (k0_t3_loop i).trips) : BitVec 32 :=
  let c0_i32_69 : BitVec 32 := 0#32
  let c1_i32_71 : BitVec 32 := 1#32
  let arg11 : BitVec 32 := Scf.iv c0_i32_69 c1_i32_71 k0_t3
  let c512_i32_109 : BitVec 32 := 512#32
  let v200 : BitVec 32 := Scalar.muli arg11 c512_i32_109
  v200
def k0_off10 (i : grid0.Coords) (k0_t3 : Fin (k0_t3_loop i).trips) : Fin 3 → Nat :=
  let c0_110 : Index := 0#32
  let c0_111 : Index := 0#32
  let c0_i32_69 : BitVec 32 := 0#32
  let c1_i32_71 : BitVec 32 := 1#32
  let arg11 : BitVec 32 := Scf.iv c0_i32_69 c1_i32_71 k0_t3
  let c512_i32_109 : BitVec 32 := 512#32
  let v200 : BitVec 32 := Scalar.muli arg11 c512_i32_109
  let v201 : BitVec 32 := v200
  let v202 : Index := Scalar.indexCast v201
  ![0, 0, v202.toNat]
def k0_off11 (i : grid0.Coords) (k0_t3 : Fin (k0_t3_loop i).trips) : Fin 3 → Nat :=
  let c0_112 : Index := 0#32
  let c0_i32_69 : BitVec 32 := 0#32
  let c1_i32_71 : BitVec 32 := 1#32
  let arg11 : BitVec 32 := Scf.iv c0_i32_69 c1_i32_71 k0_t3
  let c512_i32_109 : BitVec 32 := 512#32
  let v200 : BitVec 32 := Scalar.muli arg11 c512_i32_109
  let v201 : BitVec 32 := v200
  let v205 : Index := Scalar.indexCast v201
  let c0_113 : Index := 0#32
  ![0, v205.toNat, 0]
def k0_off12 (i : grid0.Coords) (k0_t3 : Fin (k0_t3_loop i).trips) : Fin 3 → Nat :=
  let c0_115 : Index := 0#32
  let c0_116 : Index := 0#32
  let c0_i32_69 : BitVec 32 := 0#32
  let c1_i32_71 : BitVec 32 := 1#32
  let arg11 : BitVec 32 := Scf.iv c0_i32_69 c1_i32_71 k0_t3
  let c512_i32_109 : BitVec 32 := 512#32
  let v200 : BitVec 32 := Scalar.muli arg11 c512_i32_109
  let v201 : BitVec 32 := v200
  let v209 : Index := Scalar.indexCast v201
  ![0, 0, v209.toNat]
@[reducible] def k0_t4_loop (i : grid0.Coords) : Scf.Loop 32 :=
  let c0_i32_69 : BitVec 32 := 0#32
  let arg2 : BitVec 32 := BitVec.ofNat 32 (i 2).val
  let v129 : BitVec 32 := Scalar.subi arg2 c0_i32_69
  let c1_i32_70 : BitVec 32 := 1#32
  let v131 : BitVec 32 := Scalar.divsi v129 c1_i32_70
  let v132 : BitVec 32 := Scalar.muli v131 c1_i32_70
  let v133 : BitVec 32 := Scalar.addi c0_i32_69 v132
  let v130 : BitVec 32 := Scalar.addi c0_i32_69 v129
  let c1_i32_72 : BitVec 32 := 1#32
  ⟨v133, v130, c1_i32_72⟩
def k0_mult6 (i : grid0.Coords) (k0_t4 : Fin (k0_t4_loop i).trips) : BitVec 32 :=
  let c0_i32_69 : BitVec 32 := 0#32
  let arg2 : BitVec 32 := BitVec.ofNat 32 (i 2).val
  let v129 : BitVec 32 := Scalar.subi arg2 c0_i32_69
  let c1_i32_70 : BitVec 32 := 1#32
  let v131 : BitVec 32 := Scalar.divsi v129 c1_i32_70
  let v132 : BitVec 32 := Scalar.muli v131 c1_i32_70
  let v133 : BitVec 32 := Scalar.addi c0_i32_69 v132
  let c1_i32_72 : BitVec 32 := 1#32
  let arg11 : BitVec 32 := Scf.iv v133 c1_i32_72 k0_t4
  let c512_i32_109 : BitVec 32 := 512#32
  let v200 : BitVec 32 := Scalar.muli arg11 c512_i32_109
  v200
def k0_off13 (i : grid0.Coords) (k0_t4 : Fin (k0_t4_loop i).trips) : Fin 3 → Nat :=
  let c0_110 : Index := 0#32
  let c0_111 : Index := 0#32
  let c0_i32_69 : BitVec 32 := 0#32
  let arg2 : BitVec 32 := BitVec.ofNat 32 (i 2).val
  let v129 : BitVec 32 := Scalar.subi arg2 c0_i32_69
  let c1_i32_70 : BitVec 32 := 1#32
  let v131 : BitVec 32 := Scalar.divsi v129 c1_i32_70
  let v132 : BitVec 32 := Scalar.muli v131 c1_i32_70
  let v133 : BitVec 32 := Scalar.addi c0_i32_69 v132
  let c1_i32_72 : BitVec 32 := 1#32
  let arg11 : BitVec 32 := Scf.iv v133 c1_i32_72 k0_t4
  let c512_i32_109 : BitVec 32 := 512#32
  let v200 : BitVec 32 := Scalar.muli arg11 c512_i32_109
  let v201 : BitVec 32 := v200
  let v202 : Index := Scalar.indexCast v201
  ![0, 0, v202.toNat]
def k0_off14 (i : grid0.Coords) (k0_t4 : Fin (k0_t4_loop i).trips) : Fin 3 → Nat :=
  let c0_112 : Index := 0#32
  let c0_i32_69 : BitVec 32 := 0#32
  let arg2 : BitVec 32 := BitVec.ofNat 32 (i 2).val
  let v129 : BitVec 32 := Scalar.subi arg2 c0_i32_69
  let c1_i32_70 : BitVec 32 := 1#32
  let v131 : BitVec 32 := Scalar.divsi v129 c1_i32_70
  let v132 : BitVec 32 := Scalar.muli v131 c1_i32_70
  let v133 : BitVec 32 := Scalar.addi c0_i32_69 v132
  let c1_i32_72 : BitVec 32 := 1#32
  let arg11 : BitVec 32 := Scf.iv v133 c1_i32_72 k0_t4
  let c512_i32_109 : BitVec 32 := 512#32
  let v200 : BitVec 32 := Scalar.muli arg11 c512_i32_109
  let v201 : BitVec 32 := v200
  let v205 : Index := Scalar.indexCast v201
  let c0_113 : Index := 0#32
  ![0, v205.toNat, 0]
def k0_off15 (i : grid0.Coords) (k0_t4 : Fin (k0_t4_loop i).trips) : Fin 3 → Nat :=
  let c0_115 : Index := 0#32
  let c0_116 : Index := 0#32
  let c0_i32_69 : BitVec 32 := 0#32
  let arg2 : BitVec 32 := BitVec.ofNat 32 (i 2).val
  let v129 : BitVec 32 := Scalar.subi arg2 c0_i32_69
  let c1_i32_70 : BitVec 32 := 1#32
  let v131 : BitVec 32 := Scalar.divsi v129 c1_i32_70
  let v132 : BitVec 32 := Scalar.muli v131 c1_i32_70
  let v133 : BitVec 32 := Scalar.addi c0_i32_69 v132
  let c1_i32_72 : BitVec 32 := 1#32
  let arg11 : BitVec 32 := Scf.iv v133 c1_i32_72 k0_t4
  let c512_i32_109 : BitVec 32 := 512#32
  let v200 : BitVec 32 := Scalar.muli arg11 c512_i32_109
  let v201 : BitVec 32 := v200
  let v209 : Index := Scalar.indexCast v201
  ![0, 0, v209.toNat]
def k0_mult7 (i : grid0.Coords) : BitVec 32 :=
  let arg2 : BitVec 32 := BitVec.ofNat 32 (i 2).val
  let c512_i32_73 : BitVec 32 := 512#32
  let v134 : BitVec 32 := Scalar.muli arg2 c512_i32_73
  v134
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "masked" => some ⊥
  | _ => none
-- ==== ReferenceIdeal.lean ====
abbrev S4x8192x512 : Shape := ⟨3, ![4, 8192, 512]⟩
abbrev S4x512x8192 : Shape := ⟨3, ![4, 512, 8192]⟩
abbrev S4x8x8192 : Shape := ⟨3, ![4, 8, 8192]⟩
abbrev S4x8192x8x64 : Shape := ⟨4, ![4, 8192, 8, 64]⟩
abbrev S4x8x64x8192 : Shape := ⟨4, ![4, 8, 64, 8192]⟩
abbrev S4x8192x8 : Shape := ⟨3, ![4, 8192, 8]⟩
abbrev S8192 : Shape := ⟨1, ![8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x512x8192, .bf16⟩
  | .hbm, ⟨2, _⟩ => ⟨S4x8192x512, .bf16⟩
  | .hbm, ⟨3, _⟩ => ⟨S4x8x8192, .f32⟩
  | .hbm, ⟨4, _⟩ => ⟨S4x8192x8x64, .bf16⟩
  | .hbm, ⟨5, _⟩ => ⟨S4x8x64x8192, .bf16⟩
  | .hbm, ⟨6, _⟩ => ⟨S4x8192x8x64, .bf16⟩
  | .hbm, ⟨7, _⟩ => ⟨S4x8192x8x64, .bf16⟩
  | .hbm, ⟨8, _⟩ => ⟨S4x8192x8, .f32⟩
  | .hbm, ⟨9, _⟩ => ⟨S8192, .i32⟩
  | .hbm, ⟨10, _⟩ => ⟨S4x8x8192x8192, .f32⟩
  | .hbm, ⟨11, _⟩ => ⟨S4x8x8192, .f32⟩
  | .hbm, ⟨12, _⟩ => ⟨S4x8x8192x1, .f32⟩
  | .hbm, ⟨13, _⟩ => ⟨S4x8x8192, .f32⟩
  | .hbm, ⟨14, _⟩ => ⟨S4x8x1x8192, .f32⟩
  | .hbm, ⟨15, _⟩ => ⟨S4x8x8192x8192, .f32⟩
  | .hbm, ⟨16, _⟩ => ⟨S4x8x8192x8192, .f32⟩
  | .hbm, ⟨17, _⟩ => ⟨S4x8x8192x8192, .f32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x1x8192x8192, .i1⟩
  | .hbm, ⟨24, _⟩ => ⟨S4x8x8192x8192, .f32⟩
  | .hbm, ⟨25, _⟩ => ⟨S_, .f32⟩
  | .hbm, ⟨26, _⟩ => ⟨S_, .f32⟩
  | .hbm, ⟨27, _⟩ => ⟨S4x8x8192x8192, .i1⟩
  | .hbm, ⟨28, _⟩ => ⟨S4x8x8192x8192, .f32⟩
  | .hbm, ⟨29, _⟩ => ⟨S4x8x8192x8192, .f32⟩
  | .hbm, ⟨30, _⟩ => ⟨S_, .f32⟩
  | .hbm, ⟨31, _⟩ => ⟨S4x8x8192, .f32⟩
  | .hbm, ⟨32, _⟩ => ⟨S_, .f32⟩
  | .hbm, ⟨33, _⟩ => ⟨S4x8x8192, .f32⟩
  | .hbm, ⟨34, _⟩ => ⟨S4x8x8192, .f32⟩
  | .hbm, ⟨35, _⟩ => ⟨S4x8x8192x1, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S_, .f32⟩
  | .hbm, ⟨40, _⟩ => ⟨S4x8x8192, .f32⟩
  | .hbm, ⟨41, _⟩ => ⟨S4x8x8192x1, .f32⟩
  | .hbm, ⟨42, _⟩ => ⟨S4x8x8192x8192, .f32⟩
  | .hbm, ⟨43, _⟩ => ⟨S4x8x8192x8192, .f32⟩
  | .hbm, ⟨44, _⟩ => ⟨S4x8x8192x8192, .bf16⟩
  | .hbm, ⟨45, _⟩ => ⟨S4x8x64x8192, .f32⟩
  | .hbm, ⟨46, _⟩ => ⟨S4x8192x8x64, .f32⟩
  | .hbm, ⟨47, _⟩ => ⟨S4x8192x512, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x3592 : Shape := ⟨3, ![1, 1024, 3592]⟩
abbrev S1x8 : Shape := ⟨2, ![1, 8]⟩
abbrev S1024x3592 : Shape := ⟨2, ![1024, 3592]⟩
abbrev S8 : Shape := ⟨1, ![8]⟩
abbrev S1024x512 : Shape := ⟨2, ![1024, 512]⟩
abbrev S1024x8 : Shape := ⟨2, ![1024, 8]⟩
abbrev S1024x2048 : Shape := ⟨2, ![1024, 2048]⟩
abbrev S1024x3072 : Shape := ⟨2, ![1024, 3072]⟩
abbrev S512x1024 : Shape := ⟨2, ![512, 1024]⟩
abbrev S8x1024 : Shape := ⟨2, ![8, 1024]⟩
abbrev S_ : Shape := ⟨0, ![]⟩
abbrev S16x1024 : Shape := ⟨2, ![16, 1024]⟩
abbrev S16 : Shape := ⟨1, ![16]⟩
abbrev S16x1 : Shape := ⟨2, ![16, 1]⟩
abbrev S1024x128 : Shape := ⟨2, ![1024, 128]⟩
abbrev S1024x3712 : Shape := ⟨2, ![1024, 3712]⟩
abbrev S128 : Shape := ⟨1, ![128]⟩
abbrev S1x128 : Shape := ⟨2, ![1, 128]⟩
abbrev S1024 : Shape := ⟨1, ![1024]⟩
abbrev S4x8192x512 : Shape := ⟨3, ![4, 8192, 512]⟩
abbrev S4x512x8192 : Shape := ⟨3, ![4, 512, 8192]⟩
abbrev S4x8x8192 : Shape := ⟨3, ![4, 8, 8192]⟩
abbrev S1x512x1024 : Shape := ⟨3, ![1, 512, 1024]⟩
abbrev S1x512x512 : Shape := ⟨3, ![1, 512, 512]⟩
abbrev S1x8x512 : Shape := ⟨3, ![1, 8, 512]⟩
abbrev S8x128 : Shape := ⟨2, ![8, 128]⟩
abbrev S512 : Shape := ⟨1, ![512]⟩
abbrev S512x1 : Shape := ⟨2, ![512, 1]⟩
abbrev S512x512 : Shape := ⟨2, ![512, 512]⟩
abbrev S16x512 : Shape := ⟨2, ![16, 512]⟩
abbrev S8x512 : Shape := ⟨2, ![8, 512]⟩
abbrev S8x1 : Shape := ⟨2, ![8, 1]⟩

abbrev nBuf : Space → Nat
  | .hbm => 42
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1024x3592, .f32⟩
  | .hbm, ⟨5, _⟩ => ⟨S8, .f32⟩
  | .hbm, ⟨6, _⟩ => ⟨S1024x3592, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x8, .bf16⟩
  | .hbm, ⟨11, _⟩ => ⟨S1024x2048, .bf16⟩
  | .hbm, ⟨12, _⟩ => ⟨S1024x3072, .bf16⟩
  | .hbm, ⟨13, _⟩ => ⟨S512x1024, .bf16⟩
  | .hbm, ⟨14, _⟩ => ⟨S8x1024, .bf16⟩
  | .hbm, ⟨15, _⟩ => ⟨S_, .i32⟩
  | .hbm, ⟨16, _⟩ => ⟨S_, .bf16⟩
  | .hbm, ⟨17, _⟩ => ⟨S16x1024, .bf16⟩
  | .hbm, ⟨18, _⟩ => ⟨S_, .i32⟩
  | .hbm, ⟨19, _⟩ => ⟨S_, .f32⟩
  | .hbm, ⟨20, _⟩ => ⟨S16, .f32⟩
  | .hbm, ⟨21, _⟩ => ⟨S16x1, .f32⟩
  | .hbm, ⟨22, _⟩ => ⟨S_, .i32⟩
  | .hbm, ⟨23, _⟩ => ⟨S_, .bf16⟩
  | .hbm, ⟨24, _⟩ => ⟨S1024x128, .bf16⟩
  | .hbm, ⟨25, _⟩ => ⟨S1024x3712, .bf16⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024, .f32⟩
  | .hbm, ⟨31, _⟩ => ⟨S1x1024, .f32⟩
  | .hbm, ⟨32, _⟩ => ⟨S4x8192x512, .bf16⟩
  | .hbm, ⟨33, _⟩ => ⟨S4x8192x512, .bf16⟩
  | .hbm, ⟨34, _⟩ => ⟨S4x8192x512, .f32⟩
  | .hbm, ⟨35, _⟩ => ⟨S4x512x8192, .bf16⟩
  | .hbm, ⟨36, _⟩ => ⟨S4x512x8192, .f32⟩
  | .hbm, ⟨37, _⟩ => ⟨S4x8x8192, .f32⟩
  | .hbm, ⟨38, _⟩ => ⟨S4x8x8192, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S16x1024, .bf16⟩
  | .local _ .vmem, ⟨6, _⟩ => ⟨S16x1, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .f32⟩
  | .local _ .vmem, ⟨16, _⟩ => ⟨S1x512x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S1x8x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call3_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v20_8 : Ref sig .tc := ⟨.hbm, 40, rfl⟩
abbrev main_v20_9 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S4x8192x1024 : Shape := ⟨3, ![4, 8192, 1024]⟩
abbrev S1x1024 : Shape := ⟨2, ![1, 1024]⟩
abbrev S1x1024x3592 : Shape := ⟨3, ![1, 1024, 3592]⟩
abbrev S1x8 : Shape := ⟨2, ![1, 8]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x3592 : Shape := ⟨2, ![1024, 3592]⟩
abbrev S4x8192x3592 : Shape := ⟨3, ![4, 8192, 3592]⟩
abbrev S4x8192x512 : Shape := ⟨3, ![4, 8192, 512]⟩
abbrev S4x8192x8 : Shape := ⟨3, ![4, 8192, 8]⟩
abbrev S8 : Shape := ⟨1, ![8]⟩
abbrev S1x1x8 : Shape := ⟨3, ![1, 1, 8]⟩
abbrev S4x512x8192 : Shape := ⟨3, ![4, 512, 8192]⟩
abbrev S4x8x8192 : Shape := ⟨3, ![4, 8, 8192]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S1024x3592, .f32⟩
  | .hbm, ⟨22, _⟩ => ⟨S4x8192x3592, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x8, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S4x8192x512, .f32⟩
  | .hbm, ⟨31, _⟩ => ⟨S8, .f32⟩
  | .hbm, ⟨32, _⟩ => ⟨S1x1x8, .f32⟩
  | .hbm, ⟨33, _⟩ => ⟨S4x8192x8, .f32⟩
  | .hbm, ⟨34, _⟩ => ⟨S4x8192x8, .f32⟩
  | .hbm, ⟨35, _⟩ => ⟨S4x8192x8, .f32⟩
  | .hbm, ⟨36, _⟩ => ⟨S_, .f32⟩
  | .hbm, ⟨37, _⟩ => ⟨S4x8192x8, .f32⟩
  | .hbm, ⟨38, _⟩ => ⟨S4x8192x8, .f32⟩
  | .hbm, ⟨39, _⟩ => ⟨S4x8192x8, .f32⟩
  | .hbm, ⟨40, _⟩ => ⟨S4x8192x8, .f32⟩
  | .hbm, ⟨41, _⟩ => ⟨S4x8192x8, .i1⟩
  | .hbm, ⟨42, _⟩ => ⟨S4x8192x8, .f32⟩
  | .hbm, ⟨43, _⟩ => ⟨S4x8192x8, .f32⟩
  | .hbm, ⟨44, _⟩ => ⟨S4x8192x8, .f32⟩
  | .hbm, ⟨45, _⟩ => ⟨S4x8192x8, .f32⟩
  | .hbm, ⟨46, _⟩ => ⟨S4x8192x8, .f32⟩
  | .hbm, ⟨47, _⟩ => ⟨S4x8192x8, .f32⟩
  | .hbm, ⟨48, _⟩ => ⟨S4x8192x8, .f32⟩
  | .hbm, ⟨49, _⟩ => ⟨S4x8192x8, .f32⟩
  | .hbm, ⟨50, _⟩ => ⟨S4x8192x8, .f32⟩
  | .hbm, ⟨51, _⟩ => ⟨S_, .f32⟩
  | .hbm, ⟨52, _⟩ => ⟨S_, .f32⟩
  | .hbm, ⟨53, _⟩ => ⟨S4x8192x8, .f32⟩
  | .hbm, ⟨54, _⟩ => ⟨S4x8192x512, .f32⟩
  | .hbm, ⟨55, _⟩ => ⟨S4x8192x512, .f32⟩
  | .hbm, ⟨56, _⟩ => ⟨S_, .f32⟩
  | .hbm, ⟨57, _⟩ => ⟨S4x8192x512, .f32⟩
  | .hbm, ⟨58, _⟩ => ⟨S4x8192x512, .f32⟩
  | .hbm, ⟨59, _⟩ => ⟨S_, .f32⟩
  | .hbm, ⟨60, _⟩ => ⟨S4x8192x512, .f32⟩
  | .hbm, ⟨61, _⟩ => ⟨S4x8192x512, .f32⟩
  | .hbm, ⟨62, _⟩ => ⟨S4x8192x512, .f32⟩
  | .hbm, ⟨63, _⟩ => ⟨S_, .f32⟩
  | .hbm, ⟨64, _⟩ => ⟨S4x8192x512, .f32⟩
  | .hbm, ⟨65, _⟩ => ⟨S4x8192x512, .f32⟩
  | .hbm, ⟨66, _⟩ => ⟨S4x8192x512, .bf16⟩
  | .hbm, ⟨67, _⟩ => ⟨S4x8192x512, .bf16⟩
  | .hbm, ⟨68, _⟩ => ⟨S4x512x8192, .f32⟩
  | .hbm, ⟨69, _⟩ => ⟨S4x512x8192, .bf16⟩
  | .hbm, ⟨70, _⟩ => ⟨S4x512x8192, .f32⟩
  | .hbm, ⟨71, _⟩ => ⟨S4x8x8192, .f32⟩
  | .hbm, ⟨72, _⟩ => ⟨S4x8x8192, .f32⟩
  | .hbm, ⟨73, _⟩ => ⟨S4x8192x512, .f32⟩
  | .hbm, ⟨74, _⟩ => ⟨S4x8192x512, .f32⟩
  | .hbm, ⟨75, _⟩ => ⟨S_, .f32⟩
  | .hbm, ⟨76, _⟩ => ⟨S4x8192x512, .f32⟩
  | .hbm, ⟨77, _⟩ => ⟨S4x8192x512, .f32⟩
  | .hbm, ⟨78, _⟩ => ⟨S_, .f32⟩
  | .hbm, ⟨79, _⟩ => ⟨S4x8192x512, .f32⟩
  | .hbm, ⟨80, _⟩ => ⟨S4x8192x512, .f32⟩
  | .hbm, ⟨81, _⟩ => ⟨S4x8192x512, .f32⟩
  | .hbm, ⟨82, _⟩ => ⟨S4x8192x512, .f32⟩
  | .hbm, ⟨83, _⟩ => ⟨S4x8192x512, .f32⟩
  | .hbm, ⟨84, _⟩ => ⟨S_, .f32⟩
  | .hbm, ⟨85, _⟩ => ⟨S4x8192x512, .f32⟩
  | .hbm, ⟨86, _⟩ => ⟨S4x8192x512, .f32⟩
  | .hbm, ⟨87, _⟩ => ⟨S_, .f32⟩
  | .hbm, ⟨88, _⟩ => ⟨S4x8192x512, .f32⟩
  | .hbm, ⟨89, _⟩ => ⟨S4x8192x512, .f32⟩
  | .hbm, ⟨90, _⟩ => ⟨S4x8192x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v28 : Ref sig .tc := ⟨.hbm, 50, rfl⟩
abbrev main_call1_call0_cst : Ref sig .tc := ⟨.hbm, 51, rfl⟩
abbrev main_call1_call0_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v46 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v47 : Ref sig .tc := ⟨.hbm, 90, rfl⟩

abbrev nD : Nat := 1
abbrev τ : Topo := Topo.v7x

variable {F : FTy → Type} [FloatOps F]
-- ==== Kernel3.lean ====
abbrev S4x8192x512 : Shape := ⟨3, ![4, 8192, 512]⟩
abbrev S4x8192x1024 : Shape := ⟨3, ![4, 8192, 1024]⟩
abbrev S1x4x8192x256 : Shape := ⟨4, ![1, 4, 8192, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩
abbrev S32768x512 : Shape := ⟨2, ![32768, 512]⟩
abbrev S32768x1024 : Shape := ⟨2, ![32768, 1024]⟩
abbrev S4x8192x256 : Shape := ⟨3, ![4, 8192, 256]⟩
abbrev S32768x256 : Shape := ⟨2, ![32768, 256]⟩
abbrev S512x512 : Shape := ⟨2, ![512, 512]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 26
  | .vmem => 17
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x1024, .f32⟩
  | .hbm, ⟨4, _⟩ => ⟨S1x4x8192x256, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S256x1024, .f32⟩
  | .hbm, ⟨13, _⟩ => ⟨S256x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S32768x1024, .f32⟩
  | .hbm, ⟨23, _⟩ => ⟨S4x8192x256, .f32⟩
  | .hbm, ⟨24, _⟩ => ⟨S32768x256, .f32⟩
  | .hbm, ⟨25, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x8192x512 : Shape := ⟨3, ![4, 8192, 512]⟩
abbrev S4x8192x1024 : Shape := ⟨3, ![4, 8192, 1024]⟩
abbrev S1x4x8192x256 : Shape := ⟨4, ![1, 4, 8192, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1024x1024 : Shape := ⟨2, ![1024, 1024]⟩
abbrev S4x8192x256 : Shape := ⟨3, ![4, 8192, 256]⟩
abbrev S256x1024 : Shape := ⟨2, ![256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x1024, .f32⟩
  | .hbm, ⟨4, _⟩ => ⟨S1x4x8192x256, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024x1024, .f32⟩
  | .hbm, ⟨9, _⟩ => ⟨S1024, .f32⟩
  | .hbm, ⟨10, _⟩ => ⟨S4x8192x512, .f32⟩
  | .hbm, ⟨11, _⟩ => ⟨S4x8192x1024, .f32⟩
  | .hbm, ⟨12, _⟩ => ⟨S1024x1024, .f32⟩
  | .hbm, ⟨13, _⟩ => ⟨S4x8192x1024, .f32⟩
  | .hbm, ⟨14, _⟩ => ⟨S4x8192x1024, .f32⟩
  | .hbm, ⟨15, _⟩ => ⟨S4x8192x256, .f32⟩
  | .hbm, ⟨16, _⟩ => ⟨S256x1024, .f32⟩
  | .hbm, ⟨17, _⟩ => ⟨S4x8192x1024, .f32⟩
  | .hbm, ⟨18, _⟩ => ⟨S1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S1024x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S32768x1024, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel4.lean ====
abbrev S128x4x1024 : Shape := ⟨3, ![128, 4, 1024]⟩
abbrev S1x1024 : Shape := ⟨2, ![1, 1024]⟩
abbrev S1x1024x3592 : Shape := ⟨3, ![1, 1024, 3592]⟩
abbrev S1x8 : Shape := ⟨2, ![1, 8]⟩
abbrev S1024x3592 : Shape := ⟨2, ![1024, 3592]⟩
abbrev S8 : Shape := ⟨1, ![8]⟩
abbrev S1024x512 : Shape := ⟨2, ![1024, 512]⟩
abbrev S1024x8 : Shape := ⟨2, ![1024, 8]⟩
abbrev S1024x2048 : Shape := ⟨2, ![1024, 2048]⟩
abbrev S1024x3072 : Shape := ⟨2, ![1024, 3072]⟩
abbrev S512x1024 : Shape := ⟨2, ![512, 1024]⟩
abbrev S8x1024 : Shape := ⟨2, ![8, 1024]⟩
abbrev S_ : Shape := ⟨0, ![]⟩
abbrev S16x1024 : Shape := ⟨2, ![16, 1024]⟩
abbrev S16 : Shape := ⟨1, ![16]⟩
abbrev S16x1 : Shape := ⟨2, ![16, 1]⟩
abbrev S1024x128 : Shape := ⟨2, ![1024, 128]⟩
abbrev S1024x3712 : Shape := ⟨2, ![1024, 3712]⟩
abbrev S128 : Shape := ⟨1, ![128]⟩
abbrev S1x128 : Shape := ⟨2, ![1, 128]⟩
abbrev S1024 : Shape := ⟨1, ![1024]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S512x128 : Shape := ⟨2, ![512, 128]⟩

abbrev nBuf : Space → Nat
  | .hbm => 40
  | .vmem => 11
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S1024x3592, .f32⟩
  | .hbm, ⟨5, _⟩ => ⟨S8, .f32⟩
  | .hbm, ⟨6, _⟩ => ⟨S1024x3592, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x8, .bf16⟩
  | .hbm, ⟨11, _⟩ => ⟨S1024x2048, .bf16⟩
  | .hbm, ⟨12, _⟩ => ⟨S1024x3072, .bf16⟩
  | .hbm, ⟨13, _⟩ => ⟨S512x1024, .bf16⟩
  | .hbm, ⟨14, _⟩ => ⟨S8x1024, .bf16⟩
  | .hbm, ⟨15, _⟩ => ⟨S_, .i32⟩
  | .hbm, ⟨16, _⟩ => ⟨S_, .bf16⟩
  | .hbm, ⟨17, _⟩ => ⟨S16x1024, .bf16⟩
  | .hbm, ⟨18, _⟩ => ⟨S_, .i32⟩
  | .hbm, ⟨19, _⟩ => ⟨S_, .f32⟩
  | .hbm, ⟨20, _⟩ => ⟨S16, .f32⟩
  | .hbm, ⟨21, _⟩ => ⟨S16x1, .f32⟩
  | .hbm, ⟨22, _⟩ => ⟨S_, .i32⟩
  | .hbm, ⟨23, _⟩ => ⟨S_, .bf16⟩
  | .hbm, ⟨24, _⟩ => ⟨S1024x128, .bf16⟩
  | .hbm, ⟨25, _⟩ => ⟨S1024x3712, .bf16⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024, .f32⟩
  | .hbm, ⟨31, _⟩ => ⟨S1x1024, .f32⟩
  | .hbm, ⟨32, _⟩ => ⟨S512x1024, .f32⟩
  | .hbm, ⟨33, _⟩ => ⟨S512x512, .bf16⟩
  | .hbm, ⟨34, _⟩ => ⟨S512x512, .f32⟩
  | .hbm, ⟨35, _⟩ => ⟨S512x512, .f32⟩
  | .hbm, ⟨36, _⟩ => ⟨S512x8, .f32⟩
  | .hbm, ⟨37, _⟩ => ⟨S512x512, .f32⟩
  | .hbm, ⟨38, _⟩ => ⟨S512x512, .f32⟩
  | .hbm, ⟨39, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x3712, .bf16⟩
  | .local _ .vmem, ⟨3, _⟩ => ⟨S1x128, .f32⟩
  | .local _ .vmem, ⟨4, _⟩ => ⟨S512x512, .bf16⟩
  | .local _ .vmem, ⟨5, _⟩ => ⟨S512x512, .f32⟩
  | .local _ .vmem, ⟨6, _⟩ => ⟨S512x512, .f32⟩
  | .local _ .vmem, ⟨7, _⟩ => ⟨S512x8, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call3_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v21_5 : Ref sig .tc := ⟨.hbm, 38, rfl⟩
abbrev main_v21_6 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S128x4x1024 : Shape := ⟨3, ![128, 4, 1024]⟩
abbrev S1x1024 : Shape := ⟨2, ![1, 1024]⟩
abbrev S1x1024x3592 : Shape := ⟨3, ![1, 1024, 3592]⟩
abbrev S1x8 : Shape := ⟨2, ![1, 8]⟩
abbrev S_ : Shape := ⟨0, ![]⟩
abbrev S128x4 : Shape := ⟨2, ![128, 4]⟩
abbrev S128x4x1 : Shape := ⟨3, ![128, 4, 1]⟩
abbrev S1024 : Shape := ⟨1, ![1024]⟩
abbrev S1x1x1024 : Shape := ⟨3, ![1, 1, 1024]⟩
abbrev S1024x3592 : Shape := ⟨2, ![1024, 3592]⟩
abbrev S128x4x3592 : Shape := ⟨3, ![128, 4, 3592]⟩
abbrev S128x4x512 : Shape := ⟨3, ![128, 4, 512]⟩
abbrev S128x4x8 : Shape := ⟨3, ![128, 4, 8]⟩
abbrev S8 : Shape := ⟨1, ![8]⟩
abbrev S1x1x8 : Shape := ⟨3, ![1, 1, 8]⟩
abbrev S512x512 : Shape := ⟨2, ![512, 512]⟩
abbrev S512x8 : Shape := ⟨2, ![512, 8]⟩

abbrev nBuf : Space → Nat
  | .hbm => 89
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S128x4x1024, .f32⟩
  | .hbm, ⟨5, _⟩ => ⟨S_, .f32⟩
  | .hbm, ⟨6, _⟩ => ⟨S128x4, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1, .f32⟩
  | .hbm, ⟨15, _⟩ => ⟨S128x4x1024, .f32⟩
  | .hbm, ⟨16, _⟩ => ⟨S128x4x1024, .f32⟩
  | .hbm, ⟨17, _⟩ => ⟨S1024, .f32⟩
  | .hbm, ⟨18, _⟩ => ⟨S1x1x1024, .f32⟩
  | .hbm, ⟨19, _⟩ => ⟨S128x4x1024, .f32⟩
  | .hbm, ⟨20, _⟩ => ⟨S128x4x1024, .f32⟩
  | .hbm, ⟨21, _⟩ => ⟨S1024x3592, .f32⟩
  | .hbm, ⟨22, _⟩ => ⟨S128x4x3592, .f32⟩
  | .hbm, ⟨23, _⟩ => ⟨S128x4x512, .f32⟩
  | .hbm, ⟨24, _⟩ => ⟨S128x4x512, .f32⟩
  | .hbm, ⟨25, _⟩ => ⟨S128x4x512, .f32⟩
  | .hbm, ⟨26, _⟩ => ⟨S128x4x8, .f32⟩
  | .hbm, ⟨27, _⟩ => ⟨S128x4x512, .f32⟩
  | .hbm, ⟨28, _⟩ => ⟨S128x4x512, .f32⟩
  | .hbm, ⟨29, _⟩ => ⟨S128x4x512, .f32⟩
  | .hbm, ⟨30, _⟩ => ⟨S128x4x512, .f32⟩
  | .hbm, ⟨31, _⟩ => ⟨S8, .f32⟩
  | .hbm, ⟨32, _⟩ => ⟨S1x1x8, .f32⟩
  | .hbm, ⟨33, _⟩ => ⟨S128x4x8, .f32⟩
  | .hbm, ⟨34, _⟩ => ⟨S128x4x8, .f32⟩
  | .hbm, ⟨35, _⟩ => ⟨S128x4x8, .f32⟩
  | .hbm, ⟨36, _⟩ => ⟨S_, .f32⟩
  | .hbm, ⟨37, _⟩ => ⟨S128x4x8, .f32⟩
  | .hbm, ⟨38, _⟩ => ⟨S128x4x8, .f32⟩
  | .hbm, ⟨39, _⟩ => ⟨S128x4x8, .f32⟩
  | .hbm, ⟨40, _⟩ => ⟨S128x4x8, .f32⟩
  | .hbm, ⟨41, _⟩ => ⟨S128x4x8, .i1⟩
  | .hbm, ⟨42, _⟩ => ⟨S128x4x8, .f32⟩
  | .hbm, ⟨43, _⟩ => ⟨S128x4x8, .f32⟩
  | .hbm, ⟨44, _⟩ => ⟨S128x4x8, .f32⟩
  | .hbm, ⟨45, _⟩ => ⟨S128x4x8, .f32⟩
  | .hbm, ⟨46, _⟩ => ⟨S128x4x8, .f32⟩
  | .hbm, ⟨47, _⟩ => ⟨S128x4x8, .f32⟩
  | .hbm, ⟨48, _⟩ => ⟨S128x4x8, .f32⟩
  | .hbm, ⟨49, _⟩ => ⟨S128x4x8, .f32⟩
  | .hbm, ⟨50, _⟩ => ⟨S128x4x8, .f32⟩
  | .hbm, ⟨51, _⟩ => ⟨S128x4x512, .f32⟩
  | .hbm, ⟨52, _⟩ => ⟨S128x4x512, .f32⟩
  | .hbm, ⟨53, _⟩ => ⟨S_, .f32⟩
  | .hbm, ⟨54, _⟩ => ⟨S128x4x512, .f32⟩
  | .hbm, ⟨55, _⟩ => ⟨S128x4x512, .f32⟩
  | .hbm, ⟨56, _⟩ => ⟨S_, .f32⟩
  | .hbm, ⟨57, _⟩ => ⟨S128x4x512, .f32⟩
  | .hbm, ⟨58, _⟩ => ⟨S128x4x512, .f32⟩
  | .hbm, ⟨59, _⟩ => ⟨S128x4x512, .f32⟩
  | .hbm, ⟨60, _⟩ => ⟨S_, .f32⟩
  | .hbm, ⟨61, _⟩ => ⟨S128x4x512, .f32⟩
  | .hbm, ⟨62, _⟩ => ⟨S128x4x512, .f32⟩
  | .hbm, ⟨63, _⟩ => ⟨S512x512, .f32⟩
  | .hbm, ⟨64, _⟩ => ⟨S512x512, .bf16⟩
  | .hbm, ⟨65, _⟩ => ⟨S512x512, .f32⟩
  | .hbm, ⟨66, _⟩ => ⟨S512x512, .f32⟩
  | .hbm, ⟨67, _⟩ => ⟨S512x8, .f32⟩
  | .hbm, ⟨68, _⟩ => ⟨S128x4x512, .f32⟩
  | .hbm, ⟨69, _⟩ => ⟨S128x4x512, .f32⟩
  | .hbm, ⟨70, _⟩ => ⟨S_, .f32⟩
  | .hbm, ⟨71, _⟩ => ⟨S128x4x512, .f32⟩
  | .hbm, ⟨72, _⟩ => ⟨S128x4x512, .f32⟩
  | .hbm, ⟨73, _⟩ => ⟨S_, .f32⟩
  | .hbm, ⟨74, _⟩ => ⟨S128x4x512, .f32⟩
  | .hbm, ⟨75, _⟩ => ⟨S128x4x512, .f32⟩
  | .hbm, ⟨76, _⟩ => ⟨S128x4x512, .f32⟩
  | .hbm, ⟨77, _⟩ => ⟨S512x512, .f32⟩
  | .hbm, ⟨78, _⟩ => ⟨S512x512, .f32⟩
  | .hbm, ⟨79, _⟩ => ⟨S128x4x512, .f32⟩
  | .hbm, ⟨80, _⟩ => ⟨S128x4x512, .f32⟩
  | .hbm, ⟨81, _⟩ => ⟨S_, .f32⟩
  | .hbm, ⟨82, _⟩ => ⟨S128x4x512, .f32⟩
  | .hbm, ⟨83, _⟩ => ⟨S128x4x512, .f32⟩
  | .hbm, ⟨84, _⟩ => ⟨S_, .f32⟩
  | .hbm, ⟨85, _⟩ => ⟨S128x4x512, .f32⟩
  | .hbm, ⟨86, _⟩ => ⟨S128x4x512, .f32⟩
  | .hbm, ⟨87, _⟩ => ⟨S128x4x512, .f32⟩
  | .hbm, ⟨88, _⟩ => ⟨S512x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v46 : Ref sig .tc := ⟨.hbm, 87, rfl⟩
abbrev main_v47 : Ref sig .tc := ⟨.hbm, 88, rfl⟩

abbrev nD : Nat := 1
abbrev τ : Topo := Topo.v7x

variable {F : FTy → Type} [FloatOps F]
-- ==== Kernel5.lean ====
abbrev S1x128x30x512 : Shape := ⟨4, ![1, 128, 30, 512]⟩
abbrev S512x512 : Shape := ⟨2, ![512, 512]⟩
abbrev S1x31x512 : Shape := ⟨3, ![1, 31, 512]⟩
abbrev S1x512 : Shape := ⟨2, ![1, 512]⟩
abbrev S512 : Shape := ⟨1, ![512]⟩
abbrev S128x30x512 : Shape := ⟨3, ![128, 30, 512]⟩
abbrev S30x128x512 : Shape := ⟨3, ![30, 128, 512]⟩
abbrev S128x4x512 : Shape := ⟨3, ![128, 4, 512]⟩
abbrev S31x512 : Shape := ⟨2, ![31, 512]⟩
abbrev S30x32x512 : Shape := ⟨3, ![30, 32, 512]⟩
abbrev S32x4x512 : Shape := ⟨3, ![32, 4, 512]⟩
abbrev S32x512 : Shape := ⟨2, ![32, 512]⟩
abbrev S1x32x512 : Shape := ⟨3, ![1, 32, 512]⟩
abbrev S32x1x512 : Shape := ⟨3, ![32, 1, 512]⟩
abbrev S32 : Shape := ⟨1, ![32]⟩
abbrev S32x1 : Shape := ⟨2, ![32, 1]⟩

abbrev nBuf : Space → Nat
  | .hbm => 20
  | .vmem => 14
  | .smem => 0
  | _ => 0

abbrev bufTy : (tb : Table) → Fin (tcTables nBuf tb) → BufTy
  | .hbm, ⟨0, _⟩ => ⟨S1x128x30x512, .f32⟩
  | .hbm, ⟨1, _⟩ => ⟨S512x512, .f32⟩
  | .hbm, ⟨2, _⟩ => ⟨S512x512, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S128x30x512, .f32⟩
  | .hbm, ⟨14, _⟩ => ⟨S30x128x512, .f32⟩
  | .hbm, ⟨15, _⟩ => ⟨S128x4x512, .f32⟩
  | .hbm, ⟨16, _⟩ => ⟨S128x4x512, .f32⟩
  | .hbm, ⟨17, _⟩ => ⟨S31x512, .f32⟩
  | .hbm, ⟨18, _⟩ => ⟨S128x4x512, .f32⟩
  | .hbm, ⟨19, _⟩ => ⟨S30x128x512, .f32⟩
  | .local _ .vmem, ⟨0, _⟩ => ⟨S30x32x512, .f32⟩
  | .local _ .vmem, ⟨1, _⟩ => ⟨S30x32x512, .f32⟩
  | .local _ .vmem, ⟨2, _⟩ => ⟨S32x4x512, .f32⟩
  | .local _ .vmem, ⟨3, _⟩ => ⟨S32x4x512, .f32⟩
  | .local _ .vmem, ⟨4, _⟩ => ⟨S32x4x512, .f32⟩
  | .local _ .vmem, ⟨5, _⟩ => ⟨S32x4x512, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S32x4x512, .f32⟩
  | .local _ .vmem, ⟨11, _⟩ => ⟨S32x4x512, .f32⟩
  | .local _ .vmem, ⟨12, _⟩ => ⟨S30x32x512, .f32⟩
  | .local _ .vmem, ⟨13, _⟩ => ⟨S30x32x512, .f32⟩
  | _, _ => ⟨S1x128x30x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S30x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S30x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1x128x30x512 : Shape := ⟨4, ![1, 128, 30, 512]⟩
abbrev S512x512 : Shape := ⟨2, ![512, 512]⟩
abbrev S1x31x512 : Shape := ⟨3, ![1, 31, 512]⟩
abbrev S1x512 : Shape := ⟨2, ![1, 512]⟩
abbrev S128x4x512 : Shape := ⟨3, ![128, 4, 512]⟩
abbrev S128x30x512 : Shape := ⟨3, ![128, 30, 512]⟩
abbrev S128x34x512 : Shape := ⟨3, ![128, 34, 512]⟩
abbrev S1x1x512 : Shape := ⟨3, ![1, 1, 512]⟩
abbrev S512 : Shape := ⟨1, ![512]⟩
abbrev S_ : Shape := ⟨0, ![]⟩
abbrev S128x4 : Shape := ⟨2, ![128, 4]⟩
abbrev S128x4x1 : Shape := ⟨3, ![128, 4, 1]⟩
abbrev S30x128x512 : Shape := ⟨3, ![30, 128, 512]⟩

abbrev nBuf : Space → Nat
  | .hbm => 277
  | .vmem => 0
  | .smem => 0
  | _ => 0

abbrev hbmTy0_0 (i : Nat) : BufTy := match i % 128 with
  | 0 => ⟨S1x128x30x512, .f32⟩
  | 1 => ⟨S512x512, .f32⟩
  | 2 => ⟨S512x512, .f32⟩
  | 3 => ⟨S1x31x512, .f32⟩
  | 4 => ⟨S1x512, .f32⟩
  | 5 => ⟨S1x512, .f32⟩
  | 6 => ⟨S1x512, .f32⟩
  | 7 => ⟨S128x4x512, .f32⟩
  | 8 => ⟨S128x4x512, .f32⟩
  | 9 => ⟨S128x30x512, .f32⟩
  | 10 => ⟨S128x34x512, .f32⟩
  | 11 => ⟨S128x4x512, .f32⟩
  | 12 => ⟨S1x1x512, .f32⟩
  | 13 => ⟨S512, .f32⟩
  | 14 => ⟨S1x1x512, .f32⟩
  | 15 => ⟨S128x4x512, .f32⟩
  | 16 => ⟨S128x4x512, .f32⟩
  | 17 => ⟨S_, .f32⟩
  | 18 => ⟨S128x4x512, .f32⟩
  | 19 => ⟨S128x4x512, .f32⟩
  | 20 => ⟨S128x4x512, .f32⟩
  | 21 => ⟨S1x1x512, .f32⟩
  | 22 => ⟨S512, .f32⟩
  | 23 => ⟨S1x1x512, .f32⟩
  | 24 => ⟨S128x4x512, .f32⟩
  | 25 => ⟨S128x4x512, .f32⟩
  | 26 => ⟨S128x4x512, .f32⟩
  | 27 => ⟨S128x4x512, .f32⟩
  | 28 => ⟨S1x1x512, .f32⟩
  | 29 => ⟨S512, .f32⟩
  | 30 => ⟨S1x1x512, .f32⟩
  | 31 => ⟨S128x4x512, .f32⟩
  | 32 => ⟨S128x4x512, .f32⟩
  | 33 => ⟨S128x4x512, .f32⟩
  | 34 => ⟨S128x4x512, .f32⟩
  | 35 => ⟨S1x1x512, .f32⟩
  | 36 => ⟨S512, .f32⟩
  | 37 => ⟨S1x1x512, .f32⟩
  | 38 => ⟨S128x4x512, .f32⟩
  | 39 => ⟨S128x4x512, .f32⟩
  | 40 => ⟨S128x4x512, .f32⟩
  | 41 => ⟨S128x4x512, .f32⟩
  | 42 => ⟨S1x1x512, .f32⟩
  | 43 => ⟨S512, .f32⟩
  | 44 => ⟨S1x1x512, .f32⟩
  | 45 => ⟨S128x4x512, .f32⟩
  | 46 => ⟨S128x4x512, .f32⟩
  | 47 => ⟨S128x4x512, .f32⟩
  | 48 => ⟨S128x4x512, .f32⟩
  | 49 => ⟨S1x1x512, .f32⟩
  | 50 => ⟨S512, .f32⟩
  | 51 => ⟨S1x1x512, .f32⟩
  | 52 => ⟨S128x4x512, .f32⟩
  | 53 => ⟨S128x4x512, .f32⟩
  | 54 => ⟨S128x4x512, .f32⟩
  | 55 => ⟨S128x4x512, .f32⟩
  | 56 => ⟨S1x1x512, .f32⟩
  | 57 => ⟨S512, .f32⟩
  | 58 => ⟨S1x1x512, .f32⟩
  | 59 => ⟨S128x4x512, .f32⟩
  | 60 => ⟨S128x4x512, .f32⟩
  | 61 => ⟨S128x4x512, .f32⟩
  | 62 => ⟨S128x4x512, .f32⟩
  | 63 => ⟨S1x1x512, .f32⟩
  | 64 => ⟨S512, .f32⟩
  | 65 => ⟨S1x1x512, .f32⟩
  | 66 => ⟨S128x4x512, .f32⟩
  | 67 => ⟨S128x4x512, .f32⟩
  | 68 => ⟨S128x4x512, .f32⟩
  | 69 => ⟨S128x4x512, .f32⟩
  | 70 => ⟨S1x1x512, .f32⟩
  | 71 => ⟨S512, .f32⟩
  | 72 => ⟨S1x1x512, .f32⟩
  | 73 => ⟨S128x4x512, .f32⟩
  | 74 => ⟨S128x4x512, .f32⟩
  | 75 => ⟨S128x4x512, .f32⟩
  | 76 => ⟨S128x4x512, .f32⟩
  | 77 => ⟨S1x1x512, .f32⟩
  | 78 => ⟨S512, .f32⟩
  | 79 => ⟨S1x1x512, .f32⟩
  | 80 => ⟨S128x4x512, .f32⟩
  | 81 => ⟨S128x4x512, .f32⟩
  | 82 => ⟨S128x4x512, .f32⟩
  | 83 => ⟨S128x4x512, .f32⟩
  | 84 => ⟨S1x1x512, .f32⟩
  | 85 => ⟨S512, .f32⟩
  | 86 => ⟨S1x1x512, .f32⟩
  | 87 => ⟨S128x4x512, .f32⟩
  | 88 => ⟨S128x4x512, .f32⟩
  | 89 => ⟨S128x4x512, .f32⟩
  | 90 => ⟨S128x4x512, .f32⟩
  | 91 => ⟨S1x1x512, .f32⟩
  | 92 => ⟨S512, .f32⟩
  | 93 => ⟨S1x1x512, .f32⟩
  | 94 => ⟨S128x4x512, .f32⟩
  | 95 => ⟨S128x4x512, .f32⟩
  | 96 => ⟨S128x4x512, .f32⟩
  | 97 => ⟨S128x4x512, .f32⟩
  | 98 => ⟨S1x1x512, .f32⟩
  | 99 => ⟨S512, .f32⟩
  | 100 => ⟨S1x1x512, .f32⟩
  | 101 => ⟨S128x4x512, .f32⟩
  | 102 => ⟨S128x4x512, .f32⟩
  | 103 => ⟨S128x4x512, .f32⟩
  | 104 => ⟨S128x4x512, .f32⟩
  | 105 => ⟨S1x1x512, .f32⟩
  | 106 => ⟨S512, .f32⟩
  | 107 => ⟨S1x1x512, .f32⟩
  | 108 => ⟨S128x4x512, .f32⟩
  | 109 => ⟨S128x4x512, .f32⟩
  | 110 => ⟨S128x4x512, .f32⟩
  | 111 => ⟨S128x4x512, .f32⟩
  | 112 => ⟨S1x1x512, .f32⟩
  | 113 => ⟨S512, .f32⟩
  | 114 => ⟨S1x1x512, .f32⟩
  | 115 => ⟨S128x4x512, .f32⟩
  | 116 => ⟨S128x4x512, .f32⟩
  | 117 => ⟨S128x4x512, .f32⟩
  | 118 => ⟨S128x4x512, .f32⟩
  | 119 => ⟨S1x1x512, .f32⟩
  | 120 => ⟨S512, .f32⟩
  | 121 => ⟨S1x1x512, .f32⟩
  | 122 => ⟨S128x4x512, .f32⟩
  | 123 => ⟨S128x4x512, .f32⟩
  | 124 => ⟨S128x4x512, .f32⟩
  | 125 => ⟨S128x4x512, .f32⟩
  | 126 => ⟨S1x1x512, .f32⟩
  | 127 => ⟨S512, .f32⟩
  | _ => ⟨S1x128x30x512, .f32⟩

abbrev hbmTy0_1 (i : Nat) : BufTy := match i % 128 with
  | 0 => ⟨S1x1x512, .f32⟩
  | 1 => ⟨S128x4x512, .f32⟩
  | 2 => ⟨S128x4x512, .f32⟩
  | 3 => ⟨S128x4x512, .f32⟩
  | 4 => ⟨S128x4x512, .f32⟩
  | 5 => ⟨S1x1x512, .f32⟩
  | 6 => ⟨S512, .f32⟩
  | 7 => ⟨S1x1x512, .f32⟩
  | 8 => ⟨S128x4x512, .f32⟩
  | 9 => ⟨S128x4x512, .f32⟩
  | 10 => ⟨S128x4x512, .f32⟩
  | 11 => ⟨S128x4x512, .f32⟩
  | 12 => ⟨S1x1x512, .f32⟩
  | 13 => ⟨S512, .f32⟩
  | 14 => ⟨S1x1x512, .f32⟩
  | 15 => ⟨S128x4x512, .f32⟩
  | 16 => ⟨S128x4x512, .f32⟩
  | 17 => ⟨S128x4x512, .f32⟩
  | 18 => ⟨S128x4x512, .f32⟩
  | 19 => ⟨S1x1x512, .f32⟩
  | 20 => ⟨S512, .f32⟩
  | 21 => ⟨S1x1x512, .f32⟩
  | 22 => ⟨S128x4x512, .f32⟩
  | 23 => ⟨S128x4x512, .f32⟩
  | 24 => ⟨S128x4x512, .f32⟩
  | 25 => ⟨S128x4x512, .f32⟩
  | 26 => ⟨S1x1x512, .f32⟩
  | 27 => ⟨S512, .f32⟩
  | 28 => ⟨S1x1x512, .f32⟩
  | 29 => ⟨S128x4x512, .f32⟩
  | 30 => ⟨S128x4x512, .f32⟩
  | 31 => ⟨S128x4x512, .f32⟩
  | 32 => ⟨S128x4x512, .f32⟩
  | 33 => ⟨S1x1x512, .f32⟩
  | 34 => ⟨S512, .f32⟩
  | 35 => ⟨S1x1x512, .f32⟩
  | 36 => ⟨S128x4x512, .f32⟩
  | 37 => ⟨S128x4x512, .f32⟩
  | 38 => ⟨S128x4x512, .f32⟩
  | 39 => ⟨S128x4x512, .f32⟩
  | 40 => ⟨S1x1x512, .f32⟩
  | 41 => ⟨S512, .f32⟩
  | 42 => ⟨S1x1x512, .f32⟩
  | 43 => ⟨S128x4x512, .f32⟩
  | 44 => ⟨S128x4x512, .f32⟩
  | 45 => ⟨S128x4x512, .f32⟩
  | 46 => ⟨S128x4x512, .f32⟩
  | 47 => ⟨S1x1x512, .f32⟩
  | 48 => ⟨S512, .f32⟩
  | 49 => ⟨S1x1x512, .f32⟩
  | 50 => ⟨S128x4x512, .f32⟩
  | 51 => ⟨S128x4x512, .f32⟩
  | 52 => ⟨S128x4x512, .f32⟩
  | 53 => ⟨S128x4x512, .f32⟩
  | 54 => ⟨S1x1x512, .f32⟩
  | 55 => ⟨S512, .f32⟩
  | 56 => ⟨S1x1x512, .f32⟩
  | 57 => ⟨S128x4x512, .f32⟩
  | 58 => ⟨S128x4x512, .f32⟩
  | 59 => ⟨S128x4x512, .f32⟩
  | 60 => ⟨S128x4x512, .f32⟩
  | 61 => ⟨S1x1x512, .f32⟩
  | 62 => ⟨S512, .f32⟩
  | 63 => ⟨S1x1x512, .f32⟩
  | 64 => ⟨S128x4x512, .f32⟩
  | 65 => ⟨S128x4x512, .f32⟩
  | 66 => ⟨S128x4x512, .f32⟩
  | 67 => ⟨S128x4x512, .f32⟩
  | 68 => ⟨S1x1x512, .f32⟩
  | 69 => ⟨S512, .f32⟩
  | 70 => ⟨S1x1x512, .f32⟩
  | 71 => ⟨S128x4x512, .f32⟩
  | 72 => ⟨S128x4x512, .f32⟩
  | 73 => ⟨S128x4x512, .f32⟩
  | 74 => ⟨S128x4x512, .f32⟩
  | 75 => ⟨S1x1x512, .f32⟩
  | 76 => ⟨S512, .f32⟩
  | 77 => ⟨S1x1x512, .f32⟩
  | 78 => ⟨S128x4x512, .f32⟩
  | 79 => ⟨S128x4x512, .f32⟩
  | 80 => ⟨S128x4x512, .f32⟩
  | 81 => ⟨S128x4x512, .f32⟩
  | 82 => ⟨S1x1x512, .f32⟩
  | 83 => ⟨S512, .f32⟩
  | 84 => ⟨S1x1x512, .f32⟩
  | 85 => ⟨S128x4x512, .f32⟩
  | 86 => ⟨S128x4x512, .f32⟩
  | 87 => ⟨S128x4x512, .f32⟩
  | 88 => ⟨S128x4x512, .f32⟩
  | 89 => ⟨S1x1x512, .f32⟩
  | 90 => ⟨S512, .f32⟩
  | 91 => ⟨S1x1x512, .f32⟩
  | 92 => ⟨S128x4x512, .f32⟩
  | 93 => ⟨S128x4x512, .f32⟩
  | 94 => ⟨S128x4x512, .f32⟩
  | 95 => ⟨S128x4x512, .f32⟩
  | 96 => ⟨S1x1x512, .f32⟩
  | 97 => ⟨S512, .f32⟩
  | 98 => ⟨S1x1x512, .f32⟩
  | 99 => ⟨S128x4x512, .f32⟩
  | 100 => ⟨S128x4x512, .f32⟩
  | 101 => ⟨S128x4x512, .f32⟩
  | 102 => ⟨S512, .f32⟩
  | 103 => ⟨S1x1x512, .f32⟩
  | 104 => ⟨S128x4x512, .f32⟩
  | 105 => ⟨S128x4x512, .f32⟩
  | 106 => ⟨S_, .f32⟩
  | 107 => ⟨S128x4, .f32⟩
  | 108 => ⟨S128x4x1, .f32⟩
  | 109 => ⟨S_, .f32⟩
  | 110 => ⟨S128x4x1, .f32⟩
  | 111 => ⟨S128x4x1, .f32⟩
  | 112 => ⟨S128x4x512, .f32⟩
  | 113 => ⟨S128x4x512, .f32⟩
  | 114 => ⟨S128x4x512, .f32⟩
  | 115 => ⟨S_, .f32⟩
  | 116 => ⟨S128x4, .f32⟩
  | 117 => ⟨S128x4x1, .f32⟩
  | 118 => ⟨S_, .f32⟩
  | 119 => ⟨S128x4x1, .f32⟩
  | 120 => ⟨S128x4x1, .f32⟩
  | 121 => ⟨S128x4x512, .f32⟩
  | 122 => ⟨S128x4x512, .f32⟩
  | 123 => ⟨S_, .f32⟩
  | 124 => ⟨S128x4x1, .f32⟩
  | 125 => ⟨S128x4x1, .f32⟩
  | 126 => ⟨S128x4x1, .f32⟩
  | 127 => ⟨S128x4x512, .f32⟩
  | _ => ⟨S1x128x30x512, .f32⟩

abbrev hbmTy0_2 (i : Nat) : BufTy := match i % 128 with
  | 0 => ⟨S128x4x512, .f32⟩
  | 1 => ⟨S512, .f32⟩
  | 2 => ⟨S1x1x512, .f32⟩
  | 3 => ⟨S128x4x512, .f32⟩
  | 4 => ⟨S128x4x512, .f32⟩
  | 5 => ⟨S512, .f32⟩
  | 6 => ⟨S1x1x512, .f32⟩
  | 7 => ⟨S128x4x512, .f32⟩
  | 8 => ⟨S128x4x512, .f32⟩
  | 9 => ⟨S128x4x512, .f32⟩
  | 10 => ⟨S128x4x512, .f32⟩
  | 11 => ⟨S_, .f32⟩
  | 12 => ⟨S128x4x512, .f32⟩
  | 13 => ⟨S128x4x512, .f32⟩
  | 14 => ⟨S_, .f32⟩
  | 15 => ⟨S128x4x512, .f32⟩
  | 16 => ⟨S128x4x512, .f32⟩
  | 17 => ⟨S128x4x512, .f32⟩
  | 18 => ⟨S128x4x512, .f32⟩
  | 19 => ⟨S128x30x512, .f32⟩
  | 20 => ⟨S30x128x512, .f32⟩
  | _ => ⟨S1x128x30x512, .f32⟩

abbrev hbmTy (i : Nat) : BufTy := match i / 128 with
  | 0 => hbmTy0_0 i
  | 1 => hbmTy0_1 i
  | 2 => hbmTy0_2 i
  | _ => ⟨S1x128x30x512, .f32⟩

abbrev bufTy : (tb : Table) → Fin (tcTables nBuf tb) → BufTy
  | .hbm, ⟨i, _⟩ => hbmTy i
  | _, _ => ⟨S1x128x30x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_cst_0 : Ref sig .tc := ⟨.hbm, 234, rfl⟩
abbrev main_v226 : Ref sig .tc := ⟨.hbm, 235, rfl⟩
abbrev main_v227 : Ref sig .tc := ⟨.hbm, 236, rfl⟩
abbrev main_cst_1 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_cst_4 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_call0_v0 : Ref sig .tc := ⟨.hbm, 265, rfl⟩
abbrev main_call0_v1 : Ref sig .tc := ⟨.hbm, 266, rfl⟩
abbrev main_call0_cst : Ref sig .tc := ⟨.hbm, 267, rfl⟩
abbrev main_call0_v2 : Ref sig .tc := ⟨.hbm, 268, rfl⟩
abbrev main_call0_v3 : Ref sig .tc := ⟨.hbm, 269, rfl⟩
abbrev main_call0_cst_0 : Ref sig .tc := ⟨.hbm, 270, rfl⟩
abbrev main_call0_v4 : Ref sig .tc := ⟨.hbm, 271, rfl⟩
abbrev main_call0_v5 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩

abbrev nD : Nat := 1
abbrev τ : Topo := Topo.v7x

variable {F : FTy → Type} [FloatOps F]
-- ==== Kernel6.lean ====
abbrev S128x4x512 : Shape := ⟨3, ![128, 4, 512]⟩
abbrev S512x512 : Shape := ⟨2, ![512, 512]⟩
abbrev S128x4x1024 : Shape := ⟨3, ![128, 4, 1024]⟩
abbrev S1x128x4x256 : Shape := ⟨4, ![1, 128, 4, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩
abbrev S512x1024 : Shape := ⟨2, ![512, 1024]⟩
abbrev S128x4x256 : Shape := ⟨3, ![128, 4, 256]⟩
abbrev S512x256 : Shape := ⟨2, ![512, 256]⟩
abbrev S512 : Shape := ⟨1, ![512]⟩
abbrev S512x1 : Shape := ⟨2, ![512, 1]⟩

abbrev nBuf : Space → Nat
  | .hbm => 25
  | .vmem => 11
  | .smem => 0
  | _ => 0

abbrev bufTy : (tb : Table) → Fin (tcTables nBuf tb) → BufTy
  | .hbm, ⟨0, _⟩ => ⟨S128x4x512, .f32⟩
  | .hbm, ⟨1, _⟩ => ⟨S512x512, .f32⟩
  | .hbm, ⟨2, _⟩ => ⟨S128x4x512, .f32⟩
  | .hbm, ⟨3, _⟩ => ⟨S128x4x1024, .f32⟩
  | .hbm, ⟨4, _⟩ => ⟨S1x128x4x256, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S256x1024, .f32⟩
  | .hbm, ⟨13, _⟩ => ⟨S256x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S512x512, .f32⟩
  | .hbm, ⟨20, _⟩ => ⟨S512x512, .f32⟩
  | .hbm, ⟨21, _⟩ => ⟨S512x1024, .f32⟩
  | .hbm, ⟨22, _⟩ => ⟨S128x4x256, .f32⟩
  | .hbm, ⟨23, _⟩ => ⟨S512x256, .f32⟩
  | .hbm, ⟨24, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x1024, .f32⟩
  | .local _ .vmem, ⟨4, _⟩ => ⟨S512x256, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | _, _ => ⟨S128x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S128x4x512 : Shape := ⟨3, ![128, 4, 512]⟩
abbrev S512x512 : Shape := ⟨2, ![512, 512]⟩
abbrev S128x4x1024 : Shape := ⟨3, ![128, 4, 1024]⟩
abbrev S1x128x4x256 : Shape := ⟨4, ![1, 128, 4, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1024x1024 : Shape := ⟨2, ![1024, 1024]⟩
abbrev S128x4x256 : Shape := ⟨3, ![128, 4, 256]⟩
abbrev S256x1024 : Shape := ⟨2, ![256, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 65
  | .vmem => 0
  | .smem => 0
  | _ => 0

abbrev bufTy : (tb : Table) → Fin (tcTables nBuf tb) → BufTy
  | .hbm, ⟨0, _⟩ => ⟨S128x4x512, .f32⟩
  | .hbm, ⟨1, _⟩ => ⟨S512x512, .f32⟩
  | .hbm, ⟨2, _⟩ => ⟨S128x4x512, .f32⟩
  | .hbm, ⟨3, _⟩ => ⟨S128x4x1024, .f32⟩
  | .hbm, ⟨4, _⟩ => ⟨S1x128x4x256, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024x1024, .f32⟩
  | .hbm, ⟨9, _⟩ => ⟨S1024, .f32⟩
  | .hbm, ⟨10, _⟩ => ⟨S128x4x512, .f32⟩
  | .hbm, ⟨11, _⟩ => ⟨S128x4x512, .f32⟩
  | .hbm, ⟨12, _⟩ => ⟨S128x4x1024, .f32⟩
  | .hbm, ⟨13, _⟩ => ⟨S1024x1024, .f32⟩
  | .hbm, ⟨14, _⟩ => ⟨S128x4x1024, .f32⟩
  | .hbm, ⟨15, _⟩ => ⟨S128x4x1024, .f32⟩
  | .hbm, ⟨16, _⟩ => ⟨S128x4x256, .f32⟩
  | .hbm, ⟨17, _⟩ => ⟨S256x1024, .f32⟩
  | .hbm, ⟨18, _⟩ => ⟨S128x4x1024, .f32⟩
  | .hbm, ⟨19, _⟩ => ⟨S1024, .f32⟩
  | .hbm, ⟨20, _⟩ => ⟨S128x4x1024, .f32⟩
  | .hbm, ⟨21, _⟩ => ⟨S_, .f32⟩
  | .hbm, ⟨22, _⟩ => ⟨S128x4, .f32⟩
  | .hbm, ⟨23, _⟩ => ⟨S128x4x1, .f32⟩
  | .hbm, ⟨24, _⟩ => ⟨S_, .f32⟩
  | .hbm, ⟨25, _⟩ => ⟨S128x4x1, .f32⟩
  | .hbm, ⟨26, _⟩ => ⟨S128x4x1, .f32⟩
  | .hbm, ⟨27, _⟩ => ⟨S_, .f32⟩
  | .hbm, ⟨28, _⟩ => ⟨S128x4x1, .f32⟩
  | .hbm, ⟨29, _⟩ => ⟨S128x4x1, .f32⟩
  | .hbm, ⟨30, _⟩ => ⟨S128x4x1, .f32⟩
  | .hbm, ⟨31, _⟩ => ⟨S128x4x1024, .f32⟩
  | .hbm, ⟨32, _⟩ => ⟨S128x4x1024, .f32⟩
  | .hbm, ⟨33, _⟩ => ⟨S1x1x1024, .f32⟩
  | .hbm, ⟨34, _⟩ => ⟨S128x4x1024, .f32⟩
  | .hbm, ⟨35, _⟩ => ⟨S128x4x1024, .f32⟩
  | .hbm, ⟨36, _⟩ => ⟨S1024x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4x1024, .f32⟩
  | .hbm, ⟨42, _⟩ => ⟨S128x4x1024, .f32⟩
  | .hbm, ⟨43, _⟩ => ⟨S_, .f32⟩
  | .hbm, ⟨44, _⟩ => ⟨S128x4x1024, .f32⟩
  | .hbm, ⟨45, _⟩ => ⟨S128x4x1024, .f32⟩
  | .hbm, ⟨46, _⟩ => ⟨S128x4x1024, .f32⟩
  | .hbm, ⟨47, _⟩ => ⟨S128x4x1024, .f32⟩
  | .hbm, ⟨48, _⟩ => ⟨S128x4x1024, .f32⟩
  | .hbm, ⟨49, _⟩ => ⟨S_, .f32⟩
  | .hbm, ⟨50, _⟩ => ⟨S128x4, .f32⟩
  | .hbm, ⟨51, _⟩ => ⟨S128x4x1, .f32⟩
  | .hbm, ⟨52, _⟩ => ⟨S_, .f32⟩
  | .hbm, ⟨53, _⟩ => ⟨S128x4x1, .f32⟩
  | .hbm, ⟨54, _⟩ => ⟨S128x4x1, .f32⟩
  | .hbm, ⟨55, _⟩ => ⟨S_, .f32⟩
  | .hbm, ⟨56, _⟩ => ⟨S128x4x1, .f32⟩
  | .hbm, ⟨57, _⟩ => ⟨S128x4x1, .f32⟩
  | .hbm, ⟨58, _⟩ => ⟨S128x4x1, .f32⟩
  | .hbm, ⟨59, _⟩ => ⟨S128x4x1024, .f32⟩
  | .hbm, ⟨60, _⟩ => ⟨S128x4x1024, .f32⟩
  | .hbm, ⟨61, _⟩ => ⟨S1x1x1024, .f32⟩
  | .hbm, ⟨62, _⟩ => ⟨S128x4x1024, .f32⟩
  | .hbm, ⟨63, _⟩ => ⟨S128x4x1024, .f32⟩
  | .hbm, ⟨64, _⟩ => ⟨S512x1024, .f32⟩
  | _, _ => ⟨S128x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel7.lean ====
abbrev S4x8192x512 : Shape := ⟨3, ![4, 8192, 512]⟩
abbrev S1x31x512 : Shape := ⟨3, ![1, 31, 512]⟩
abbrev S1x512 : Shape := ⟨2, ![1, 512]⟩
abbrev S512 : Shape := ⟨1, ![512]⟩
abbrev S31x512 : Shape := ⟨2, ![31, 512]⟩
abbrev S1x512x512 : Shape := ⟨3, ![1, 512, 512]⟩
abbrev S544x512 : Shape := ⟨2, ![544, 512]⟩
abbrev S32x512 : Shape := ⟨2, ![32, 512]⟩
abbrev S512x512 : Shape := ⟨2, ![512, 512]⟩
abbrev S64x512 : Shape := ⟨2, ![64, 512]⟩
abbrev S32 : Shape := ⟨1, ![32]⟩
abbrev S32x1 : Shape := ⟨2, ![32, 1]⟩
abbrev S1x32x512 : Shape := ⟨3, ![1, 32, 512]⟩

abbrev nBuf : Space → Nat
  | .hbm => 14
  | .vmem => 11
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S1x31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S31x512, .f32⟩
  | .hbm, ⟨13, _⟩ => ⟨S4x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | .local _ .vmem, ⟨10, _⟩ => ⟨S544x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_4 : BitVec 32 := 0#32
  let c16_i32 : BitVec 32 := 16#32
  let v8 : BitVec 32 := Scalar.addi c0_i32_4 c16_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c32_i32 : BitVec 32 := 32#32
  let v13 : BitVec 32 := Scalar.muli arg10 c32_i32
  v13
def k0_off1 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c32_i32 : BitVec 32 := 32#32
  let v13 : BitVec 32 := Scalar.muli arg10 c32_i32
  let v14 : BitVec 32 := v13
  let v15 : Index := Scalar.indexCast v14
  let c0_9 : Index := 0#32
  ![v15.toNat, 0]
def k0_off2 (k0_t1 : Fin k0_t1_loop.trips) : Fin 3 → Nat :=
  let c0_53 : Index := 0#32
  let c0_i32_4 : BitVec 32 := 0#32
  let c1_i32 : BitVec 32 := 1#32
  let arg10 : BitVec 32 := Scf.iv c0_i32_4 c1_i32 k0_t1
  let c32_i32 : BitVec 32 := 32#32
  let v13 : BitVec 32 := Scalar.muli arg10 c32_i32
  let v14 : BitVec 32 := v13
  let v234 : Index := Scalar.indexCast v14
  let c0_54 : Index := 0#32
  ![0, v234.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S4x8192x512 : Shape := ⟨3, ![4, 8192, 512]⟩
abbrev S1x31x512 : Shape := ⟨3, ![1, 31, 512]⟩
abbrev S1x512 : Shape := ⟨2, ![1, 512]⟩
abbrev S_ : Shape := ⟨0, ![]⟩
abbrev S4x8222x512 : Shape := ⟨3, ![4, 8222, 512]⟩
abbrev S1x1x512 : Shape := ⟨3, ![1, 1, 512]⟩
abbrev S512 : Shape := ⟨1, ![512]⟩
abbrev S4x8192 : Shape := ⟨2, ![4, 8192]⟩
abbrev S4x8192x1 : Shape := ⟨3, ![4, 8192, 1]⟩

abbrev nBuf : Space → Nat
  | .hbm => 273
  | .vmem => 0
  | .smem => 0
  | _ => 0

abbrev hbmTy0_0 (i : Nat) : BufTy := match i % 128 with
  | 0 => ⟨S4x8192x512, .f32⟩
  | 1 => ⟨S4x8192x512, .f32⟩
  | 2 => ⟨S1x31x512, .f32⟩
  | 3 => ⟨S1x512, .f32⟩
  | 4 => ⟨S1x512, .f32⟩
  | 5 => ⟨S1x512, .f32⟩
  | 6 => ⟨S_, .i32⟩
  | 7 => ⟨S_, .f32⟩
  | 8 => ⟨S4x8222x512, .f32⟩
  | 9 => ⟨S4x8192x512, .f32⟩
  | 10 => ⟨S1x1x512, .f32⟩
  | 11 => ⟨S512, .f32⟩
  | 12 => ⟨S1x1x512, .f32⟩
  | 13 => ⟨S4x8192x512, .f32⟩
  | 14 => ⟨S4x8192x512, .f32⟩
  | 15 => ⟨S_, .f32⟩
  | 16 => ⟨S4x8192x512, .f32⟩
  | 17 => ⟨S4x8192x512, .f32⟩
  | 18 => ⟨S4x8192x512, .f32⟩
  | 19 => ⟨S1x1x512, .f32⟩
  | 20 => ⟨S512, .f32⟩
  | 21 => ⟨S1x1x512, .f32⟩
  | 22 => ⟨S4x8192x512, .f32⟩
  | 23 => ⟨S4x8192x512, .f32⟩
  | 24 => ⟨S4x8192x512, .f32⟩
  | 25 => ⟨S4x8192x512, .f32⟩
  | 26 => ⟨S1x1x512, .f32⟩
  | 27 => ⟨S512, .f32⟩
  | 28 => ⟨S1x1x512, .f32⟩
  | 29 => ⟨S4x8192x512, .f32⟩
  | 30 => ⟨S4x8192x512, .f32⟩
  | 31 => ⟨S4x8192x512, .f32⟩
  | 32 => ⟨S4x8192x512, .f32⟩
  | 33 => ⟨S1x1x512, .f32⟩
  | 34 => ⟨S512, .f32⟩
  | 35 => ⟨S1x1x512, .f32⟩
  | 36 => ⟨S4x8192x512, .f32⟩
  | 37 => ⟨S4x8192x512, .f32⟩
  | 38 => ⟨S4x8192x512, .f32⟩
  | 39 => ⟨S4x8192x512, .f32⟩
  | 40 => ⟨S1x1x512, .f32⟩
  | 41 => ⟨S512, .f32⟩
  | 42 => ⟨S1x1x512, .f32⟩
  | 43 => ⟨S4x8192x512, .f32⟩
  | 44 => ⟨S4x8192x512, .f32⟩
  | 45 => ⟨S4x8192x512, .f32⟩
  | 46 => ⟨S4x8192x512, .f32⟩
  | 47 => ⟨S1x1x512, .f32⟩
  | 48 => ⟨S512, .f32⟩
  | 49 => ⟨S1x1x512, .f32⟩
  | 50 => ⟨S4x8192x512, .f32⟩
  | 51 => ⟨S4x8192x512, .f32⟩
  | 52 => ⟨S4x8192x512, .f32⟩
  | 53 => ⟨S4x8192x512, .f32⟩
  | 54 => ⟨S1x1x512, .f32⟩
  | 55 => ⟨S512, .f32⟩
  | 56 => ⟨S1x1x512, .f32⟩
  | 57 => ⟨S4x8192x512, .f32⟩
  | 58 => ⟨S4x8192x512, .f32⟩
  | 59 => ⟨S4x8192x512, .f32⟩
  | 60 => ⟨S4x8192x512, .f32⟩
  | 61 => ⟨S1x1x512, .f32⟩
  | 62 => ⟨S512, .f32⟩
  | 63 => ⟨S1x1x512, .f32⟩
  | 64 => ⟨S4x8192x512, .f32⟩
  | 65 => ⟨S4x8192x512, .f32⟩
  | 66 => ⟨S4x8192x512, .f32⟩
  | 67 => ⟨S4x8192x512, .f32⟩
  | 68 => ⟨S1x1x512, .f32⟩
  | 69 => ⟨S512, .f32⟩
  | 70 => ⟨S1x1x512, .f32⟩
  | 71 => ⟨S4x8192x512, .f32⟩
  | 72 => ⟨S4x8192x512, .f32⟩
  | 73 => ⟨S4x8192x512, .f32⟩
  | 74 => ⟨S4x8192x512, .f32⟩
  | 75 => ⟨S1x1x512, .f32⟩
  | 76 => ⟨S512, .f32⟩
  | 77 => ⟨S1x1x512, .f32⟩
  | 78 => ⟨S4x8192x512, .f32⟩
  | 79 => ⟨S4x8192x512, .f32⟩
  | 80 => ⟨S4x8192x512, .f32⟩
  | 81 => ⟨S4x8192x512, .f32⟩
  | 82 => ⟨S1x1x512, .f32⟩
  | 83 => ⟨S512, .f32⟩
  | 84 => ⟨S1x1x512, .f32⟩
  | 85 => ⟨S4x8192x512, .f32⟩
  | 86 => ⟨S4x8192x512, .f32⟩
  | 87 => ⟨S4x8192x512, .f32⟩
  | 88 => ⟨S4x8192x512, .f32⟩
  | 89 => ⟨S1x1x512, .f32⟩
  | 90 => ⟨S512, .f32⟩
  | 91 => ⟨S1x1x512, .f32⟩
  | 92 => ⟨S4x8192x512, .f32⟩
  | 93 => ⟨S4x8192x512, .f32⟩
  | 94 => ⟨S4x8192x512, .f32⟩
  | 95 => ⟨S4x8192x512, .f32⟩
  | 96 => ⟨S1x1x512, .f32⟩
  | 97 => ⟨S512, .f32⟩
  | 98 => ⟨S1x1x512, .f32⟩
  | 99 => ⟨S4x8192x512, .f32⟩
  | 100 => ⟨S4x8192x512, .f32⟩
  | 101 => ⟨S4x8192x512, .f32⟩
  | 102 => ⟨S4x8192x512, .f32⟩
  | 103 => ⟨S1x1x512, .f32⟩
  | 104 => ⟨S512, .f32⟩
  | 105 => ⟨S1x1x512, .f32⟩
  | 106 => ⟨S4x8192x512, .f32⟩
  | 107 => ⟨S4x8192x512, .f32⟩
  | 108 => ⟨S4x8192x512, .f32⟩
  | 109 => ⟨S4x8192x512, .f32⟩
  | 110 => ⟨S1x1x512, .f32⟩
  | 111 => ⟨S512, .f32⟩
  | 112 => ⟨S1x1x512, .f32⟩
  | 113 => ⟨S4x8192x512, .f32⟩
  | 114 => ⟨S4x8192x512, .f32⟩
  | 115 => ⟨S4x8192x512, .f32⟩
  | 116 => ⟨S4x8192x512, .f32⟩
  | 117 => ⟨S1x1x512, .f32⟩
  | 118 => ⟨S512, .f32⟩
  | 119 => ⟨S1x1x512, .f32⟩
  | 120 => ⟨S4x8192x512, .f32⟩
  | 121 => ⟨S4x8192x512, .f32⟩
  | 122 => ⟨S4x8192x512, .f32⟩
  | 123 => ⟨S4x8192x512, .f32⟩
  | 124 => ⟨S1x1x512, .f32⟩
  | 125 => ⟨S512, .f32⟩
  | 126 => ⟨S1x1x512, .f32⟩
  | 127 => ⟨S4x8192x512, .f32⟩
  | _ => ⟨S4x8192x512, .f32⟩

abbrev hbmTy0_1 (i : Nat) : BufTy := match i % 128 with
  | 0 => ⟨S4x8192x512, .f32⟩
  | 1 => ⟨S4x8192x512, .f32⟩
  | 2 => ⟨S4x8192x512, .f32⟩
  | 3 => ⟨S1x1x512, .f32⟩
  | 4 => ⟨S512, .f32⟩
  | 5 => ⟨S1x1x512, .f32⟩
  | 6 => ⟨S4x8192x512, .f32⟩
  | 7 => ⟨S4x8192x512, .f32⟩
  | 8 => ⟨S4x8192x512, .f32⟩
  | 9 => ⟨S4x8192x512, .f32⟩
  | 10 => ⟨S1x1x512, .f32⟩
  | 11 => ⟨S512, .f32⟩
  | 12 => ⟨S1x1x512, .f32⟩
  | 13 => ⟨S4x8192x512, .f32⟩
  | 14 => ⟨S4x8192x512, .f32⟩
  | 15 => ⟨S4x8192x512, .f32⟩
  | 16 => ⟨S4x8192x512, .f32⟩
  | 17 => ⟨S1x1x512, .f32⟩
  | 18 => ⟨S512, .f32⟩
  | 19 => ⟨S1x1x512, .f32⟩
  | 20 => ⟨S4x8192x512, .f32⟩
  | 21 => ⟨S4x8192x512, .f32⟩
  | 22 => ⟨S4x8192x512, .f32⟩
  | 23 => ⟨S4x8192x512, .f32⟩
  | 24 => ⟨S1x1x512, .f32⟩
  | 25 => ⟨S512, .f32⟩
  | 26 => ⟨S1x1x512, .f32⟩
  | 27 => ⟨S4x8192x512, .f32⟩
  | 28 => ⟨S4x8192x512, .f32⟩
  | 29 => ⟨S4x8192x512, .f32⟩
  | 30 => ⟨S4x8192x512, .f32⟩
  | 31 => ⟨S1x1x512, .f32⟩
  | 32 => ⟨S512, .f32⟩
  | 33 => ⟨S1x1x512, .f32⟩
  | 34 => ⟨S4x8192x512, .f32⟩
  | 35 => ⟨S4x8192x512, .f32⟩
  | 36 => ⟨S4x8192x512, .f32⟩
  | 37 => ⟨S4x8192x512, .f32⟩
  | 38 => ⟨S1x1x512, .f32⟩
  | 39 => ⟨S512, .f32⟩
  | 40 => ⟨S1x1x512, .f32⟩
  | 41 => ⟨S4x8192x512, .f32⟩
  | 42 => ⟨S4x8192x512, .f32⟩
  | 43 => ⟨S4x8192x512, .f32⟩
  | 44 => ⟨S4x8192x512, .f32⟩
  | 45 => ⟨S1x1x512, .f32⟩
  | 46 => ⟨S512, .f32⟩
  | 47 => ⟨S1x1x512, .f32⟩
  | 48 => ⟨S4x8192x512, .f32⟩
  | 49 => ⟨S4x8192x512, .f32⟩
  | 50 => ⟨S4x8192x512, .f32⟩
  | 51 => ⟨S4x8192x512, .f32⟩
  | 52 => ⟨S1x1x512, .f32⟩
  | 53 => ⟨S512, .f32⟩
  | 54 => ⟨S1x1x512, .f32⟩
  | 55 => ⟨S4x8192x512, .f32⟩
  | 56 => ⟨S4x8192x512, .f32⟩
  | 57 => ⟨S4x8192x512, .f32⟩
  | 58 => ⟨S4x8192x512, .f32⟩
  | 59 => ⟨S1x1x512, .f32⟩
  | 60 => ⟨S512, .f32⟩
  | 61 => ⟨S1x1x512, .f32⟩
  | 62 => ⟨S4x8192x512, .f32⟩
  | 63 => ⟨S4x8192x512, .f32⟩
  | 64 => ⟨S4x8192x512, .f32⟩
  | 65 => ⟨S4x8192x512, .f32⟩
  | 66 => ⟨S1x1x512, .f32⟩
  | 67 => ⟨S512, .f32⟩
  | 68 => ⟨S1x1x512, .f32⟩
  | 69 => ⟨S4x8192x512, .f32⟩
  | 70 => ⟨S4x8192x512, .f32⟩
  | 71 => ⟨S4x8192x512, .f32⟩
  | 72 => ⟨S4x8192x512, .f32⟩
  | 73 => ⟨S1x1x512, .f32⟩
  | 74 => ⟨S512, .f32⟩
  | 75 => ⟨S1x1x512, .f32⟩
  | 76 => ⟨S4x8192x512, .f32⟩
  | 77 => ⟨S4x8192x512, .f32⟩
  | 78 => ⟨S4x8192x512, .f32⟩
  | 79 => ⟨S4x8192x512, .f32⟩
  | 80 => ⟨S1x1x512, .f32⟩
  | 81 => ⟨S512, .f32⟩
  | 82 => ⟨S1x1x512, .f32⟩
  | 83 => ⟨S4x8192x512, .f32⟩
  | 84 => ⟨S4x8192x512, .f32⟩
  | 85 => ⟨S4x8192x512, .f32⟩
  | 86 => ⟨S4x8192x512, .f32⟩
  | 87 => ⟨S1x1x512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S4x8192x512, .f32⟩
  | 94 => ⟨S1x1x512, .f32⟩
  | 95 => ⟨S512, .f32⟩
  | 96 => ⟨S1x1x512, .f32⟩
  | 97 => ⟨S4x8192x512, .f32⟩
  | 98 => ⟨S4x8192x512, .f32⟩
  | 99 => ⟨S4x8192x512, .f32⟩
  | 100 => ⟨S512, .f32⟩
  | 101 => ⟨S1x1x512, .f32⟩
  | 102 => ⟨S4x8192x512, .f32⟩
  | 103 => ⟨S4x8192x512, .f32⟩
  | 104 => ⟨S_, .f32⟩
  | 105 => ⟨S4x8192, .f32⟩
  | 106 => ⟨S4x8192x1, .f32⟩
  | 107 => ⟨S_, .f32⟩
  | 108 => ⟨S4x8192x1, .f32⟩
  | 109 => ⟨S4x8192x1, .f32⟩
  | 110 => ⟨S4x8192x512, .f32⟩
  | 111 => ⟨S4x8192x512, .f32⟩
  | 112 => ⟨S4x8192x512, .f32⟩
  | 113 => ⟨S_, .f32⟩
  | 114 => ⟨S4x8192, .f32⟩
  | 115 => ⟨S4x8192x1, .f32⟩
  | 116 => ⟨S_, .f32⟩
  | 117 => ⟨S4x8192x1, .f32⟩
  | 118 => ⟨S4x8192x1, .f32⟩
  | 119 => ⟨S4x8192x512, .f32⟩
  | 120 => ⟨S4x8192x512, .f32⟩
  | 121 => ⟨S_, .f32⟩
  | 122 => ⟨S4x8192x1, .f32⟩
  | 123 => ⟨S4x8192x1, .f32⟩
  | 124 => ⟨S4x8192x1, .f32⟩
  | 125 => ⟨S4x8192x512, .f32⟩
  | 126 => ⟨S4x8192x512, .f32⟩
  | 127 => ⟨S512, .f32⟩
  | _ => ⟨S4x8192x512, .f32⟩

abbrev hbmTy0_2 (i : Nat) : BufTy := match i % 128 with
  | 0 => ⟨S1x1x512, .f32⟩
  | 1 => ⟨S4x8192x512, .f32⟩
  | 2 => ⟨S4x8192x512, .f32⟩
  | 3 => ⟨S512, .f32⟩
  | 4 => ⟨S1x1x512, .f32⟩
  | 5 => ⟨S4x8192x512, .f32⟩
  | 6 => ⟨S4x8192x512, .f32⟩
  | 7 => ⟨S4x8192x512, .f32⟩
  | 8 => ⟨S4x8192x512, .f32⟩
  | 9 => ⟨S_, .f32⟩
  | 10 => ⟨S4x8192x512, .f32⟩
  | 11 => ⟨S4x8192x512, .f32⟩
  | 12 => ⟨S_, .f32⟩
  | 13 => ⟨S4x8192x512, .f32⟩
  | 14 => ⟨S4x8192x512, .f32⟩
  | 15 => ⟨S4x8192x512, .f32⟩
  | 16 => ⟨S4x8192x512, .f32⟩
  | _ => ⟨S4x8192x512, .f32⟩

abbrev hbmTy (i : Nat) : BufTy := match i / 128 with
  | 0 => hbmTy0_0 i
  | 1 => hbmTy0_1 i
  | 2 => hbmTy0_2 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_cst_0 : Ref sig .tc := ⟨.hbm, 232, rfl⟩
abbrev main_v223 : Ref sig .tc := ⟨.hbm, 233, rfl⟩
abbrev main_v224 : Ref sig .tc := ⟨.hbm, 234, rfl⟩
abbrev main_cst_1 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_cst_2 : Ref sig .tc := ⟨.hbm, 241, rfl⟩
abbrev main_v230 : Ref sig .tc := ⟨.hbm, 242, rfl⟩
abbrev main_v231 : Ref sig .tc := ⟨.hbm, 243, rfl⟩
abbrev main_cst_3 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_cst_4 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_call1_v0 : Ref sig .tc := ⟨.hbm, 263, rfl⟩
abbrev main_call1_v1 : Ref sig .tc := ⟨.hbm, 264, rfl⟩
abbrev main_call1_cst : Ref sig .tc := ⟨.hbm, 265, rfl⟩
abbrev main_call1_v2 : Ref sig .tc := ⟨.hbm, 266, rfl⟩
abbrev main_call1_v3 : Ref sig .tc := ⟨.hbm, 267, rfl⟩
abbrev main_call1_cst_0 : Ref sig .tc := ⟨.hbm, 268, rfl⟩
abbrev main_call1_v4 : Ref sig .tc := ⟨.hbm, 269, rfl⟩
abbrev main_call1_v5 : Ref sig .tc := ⟨.hbm, 270, rfl⟩
abbrev main_v249 : Ref sig .tc := ⟨.hbm, 271, rfl⟩
abbrev main_v250 : Ref sig .tc := ⟨.hbm, 272, rfl⟩

abbrev nD : Nat := 1
abbrev τ : Topo := Topo.v7x

variable {F : FTy → Type} [FloatOps F]
-- ==== Proof.KRun.lean ====
/-
  The attention kernel's body, run once over a symbolic grid point: the pieces it leaves in the output's staging memref, as
  a function of what the accumulator scratch held before (the body loads it once before its first store to it).
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces (last first) the body leaves in the output's staging memref, given the contents `f` of the accumulator
    scratch at its start, with the triple: from whole staging memrefs, the inputs' at `x0 … x3`, the body runs to the inputs
    unchanged and the output's memref with those pieces written. -/
noncomputable def bodyRun (c : Dev nD) (i : grid0.Coords) (arg3 : Memref sig .tc .vmem S1x512x128 .bf16) (harg3 : arg3.IsWhole) (arg4 : Memref sig .tc .vmem S1x128x8192 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x512x128 .bf16) (x1 : Vec F S1x128x8192 .bf16) (x2 : Vec F S1x8192x128 .bf16) (x3 : Vec F S1x8x8192 .f32) :
    { L4 : BufTy.Contents (Elt F) arg10.view.ty → List (View.Piece (Elt F) S1x512x128 .f32) //
      ∀ (E : Set ℕ) (K : PUnit → sProp 𝕄) (fs2 : BufTy.Contents (Elt F) arg10.view.ty),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} fs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f (L4 fs2)) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10) K } := by
  refine ⟨?_, fun E K fs2 => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, HS2, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Attn

end
-- ==== Proof.KVal.lean ====
/-
  What one call of the attention body computes, as plain functions: the scores of a block, one step of the running maximum,
  sum and accumulator, and the values the two counted loops leave in the three scratch memrefs.
-/
module

public import proofs.«01_k».proof.Proof.KRun
public import Idealize.ShloMosaic.Lib.Pipeline.Value
public import Idealize.ShloMosaic.Lib.VecWindow

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL.Sem

variable {F : FTy → Type} [FloatOps F] [Named F]

/-- Columns `512 j … 512 j + 511` of the keys' window. -/
def kW (x1 : Vec F S1x128x8192 .bf16) (j : Fin 16) : Vec F S1x128x512 .bf16 :=
  VecWindow.window x1 ![0, 0, 512 * j.val] S1x128x512.size (by revert j; decide)

/-- Rows `512 j … 512 j + 511` of the values' window. -/
def vW (x2 : Vec F S1x8192x128 .bf16) (j : Fin 16) : Vec F S1x512x128 .bf16 :=
  VecWindow.window x2 ![0, 512 * j.val, 0] S1x512x128.size (by revert j; decide)

/-- Columns `512 j … 512 j + 511` of the decays' window. -/
def cW (x3 : Vec F S1x8x8192 .f32) (j : Fin 16) : Vec F S1x8x512 .f32 :=
  VecWindow.window x3 ![0, 0, 512 * j.val] S1x8x512.size (by revert j; decide)

/-- The row of decays of head `w` in a block: the sum over the eight heads of the rows kept where the head is `w`. -/
def cRow (w : BitVec 32) (v5 : IVec S8x512 32) (cb : Vec F S1x8x512 .f32) : FVec F S1x512 .f32 :=
  shapeCast S1x512 (multiReduction .add [0] S512 (select (cmpi .eq v5 (broadcast S8x512 w)) (shapeCast S8x512 cb shapeCasts_S1x8x512_S8x512)
    (broadcast S8x512 (Scalar.ofBits .f32 0x00000000#32 : F .f32))) 0x00000000#32 reduces_S8x512_S512 (.inl rfl) rfl) shapeCasts_S512_S1x512

/-- The scores of a block of queries `q` against a block of keys, with the decays taken from the reference decay `cr`. -/
def score (w : BitVec 32) (v5 : IVec S8x512 32) (q : FVec F S512x128 .bf16) (cr : FVec F S1x1 .f32) (kb : Vec F S1x128x512 .bf16)
    (cb : Vec F S1x8x512 .f32) : FVec F S512x512 .f32 :=
  addf (matmul dot_S512x128_S128x512_S512x512_1_0_0_1_n_n none q (shapeCast S128x512 kb shapeCasts_S1x128x512_S128x512) (constant S512x512 .f32 0x00000000#32))
    (broadcastTo S512x512 (subf (broadcastTo S1x512 cr broadcasts_S1x1_S1x512) (cRow w v5 cb)) broadcasts_S1x512_S512x512)

/-- The scores with those after the diagonal replaced by the named constant. -/
def maskS (v6 v7 : IVec S512x512 32) (s : FVec F S512x512 .f32) : FVec F S512x512 .f32 :=
  select (cmpi .sge v6 v7) s (broadcast S512x512 (Named.named κ "masked" 0xF149F2CA#32 : F .f32))

/-- The running maximum, sum and accumulator. -/
abbrev St (F : FTy → Type) : Type := Vec F S512x1 .f32 × Vec F S512x1 .f32 × Vec F S512x128 .f32

/-- The running maximum after a block of scores `s`. -/
def stepM (s : FVec F S512x512 .f32) (m : Vec F S512x1 .f32) : FVec F S512x1 .f32 :=
  maximumf m (shapeCast S512x1 (multiReduction .maximumf [1] S512 s 0xFF800000#32 reduces_S512x512_S512 (.inl rfl) rfl) shapeCasts_S512_S512x1)

/-- The weights of a block: the exponentials of the scores less the new maximum. -/
def stepP (s : FVec F S512x512 .f32) (m : Vec F S512x1 .f32) : FVec F S512x512 .f32 :=
  exp (subf s (broadcastTo S512x512 (stepM s m) broadcasts_S512x1_S512x512))

/-- The factor that rescales what was summed under the old maximum. -/
def stepA (s : FVec F S512x512 .f32) (m : Vec F S512x1 .f32) : FVec F S512x1 .f32 := exp (subf m (stepM s m))

/-- One step: a block of scores `s` and of values `vb` taken into the running maximum, sum and accumulator. -/
def step (s : FVec F S512x512 .f32) (vb : Vec F S1x512x128 .bf16) (st : St F) : St F :=
  (shapeCast S512x1 (stepM s st.1) shapeCasts_S512x1_S512x1,
   shapeCast S512x1 (addf (mulf (stepA s st.1) st.2.1)
      (shapeCast S512x1 (multiReduction .add [1] S512 (stepP s st.1) 0x00000000#32 reduces_S512x512_S512 (.inl rfl) rfl) shapeCasts_S512_S512x1)) shapeCasts_S512x1_S512x1,
   shapeCast S512x128 (addf (mulf (broadcastTo S512x128 (stepA s st.1) broadcasts_S512x1_S512x128) st.2.2)
      (matmul dot_S512x512_S512x128_S512x128_1_0_0_1_n_n none (truncf .bf16 (stepP s st.1) bitsLt_bf16_f32)
        (shapeCast S512x128 vb shapeCasts_S1x512x128_S512x128) (constant S512x128 .f32 0x00000000#32))) shapeCasts_S512x128_S512x128)

/-- The state before the first block. -/
def st0 : St F := (k0_pay31, k0_pay32, k0_pay34 k0_pay33)

/-- The state after the first `n` blocks, unmasked. -/
def run (S : ℕ → FVec F S512x512 .f32) (V : ℕ → Vec F S1x512x128 .bf16) : ℕ → St F
  | 0 => st0
  | n + 1 => step (S n) (V n) (run S V n)

/-- A block index below sixteen, zero past the end. -/
def bj (n : ℕ) : Fin 16 := if h : n < 16 then ⟨n, h⟩ else 0

theorem trips1 (i : grid0.Coords) : (k0_t1_loop i).trips = (i 2).val := by
  have : ∀ n : Fin 16, Scf.trips 0#32 (Scalar.addi 0#32 (Scalar.muli (Scalar.divsi (Scalar.subi (BitVec.ofNat 32 n.val) 0#32) 1#32) 1#32)) 1#32 = n.val := by decide +kernel
  exact this (i 2)

theorem trips2 (i : grid0.Coords) : (k0_t2_loop i).trips = 0 := by
  have : ∀ n : Fin 16, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide +kernel
  exact this (i 2)

theorem trips3 (i : grid0.Coords) : (k0_t3_loop i).trips = (i 2).val := trips1 i

theorem trips4 (i : grid0.Coords) : (k0_t4_loop i).trips = 0 := trips2 i

theorem ivOff : ∀ n : Fin 16, BitVec.toNat (Scalar.indexCast (Scalar.muli (Scf.iv 0#32 1#32 n.val) 512#32)) = 512 * n.val := by decide +kernel

theorem qOff : ∀ n : Fin 16, BitVec.toNat (Scalar.indexCast (Scalar.muli (BitVec.ofNat 32 n.val) 512#32)) = 512 * n.val := by decide +kernel

section
variable (𝒱 : Variants) (c : Dev nD) (bd : Option 𝒱.V) (i : grid0.Coords) (arg3 : Memref sig .tc .vmem S1x512x128 .bf16) (harg3 : arg3.IsWhole) (arg4 : Memref sig .tc .vmem S1x128x8192 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (arg1 : BitVec 32) (arg2 : BitVec 32) (v5 : IVec S8x512 32) (v6 : IVec S512x512 32) (v7 : IVec S512x512 32) (v11 : FVec F S512x128 .bf16) (v23 : FVec F S1x1 .f32) (v32 : FVec F S512x128 .f32) (v33 : Vec F S512x128 .f32) (v106 : Vec F S1x8x512 .f32)
  (X4 : BufTy.Contents (Elt F) arg4.view.ty) (X5 : BufTy.Contents (Elt F) arg5.view.ty) (X6 : BufTy.Contents (Elt F) arg6.view.ty)

/-- What the three scratch memrefs read, together. -/
def rd (f8 : BufTy.Contents (Elt F) arg8.view.ty) (f9 : BufTy.Contents (Elt F) arg9.view.ty) (f10 : BufTy.Contents (Elt F) arg10.view.ty) : St F :=
  (arg8.view.read (Elt F) f8, arg9.view.read (Elt F) f9, arg10.view.read (Elt F) f10)

theorem off1 (k : Fin (k0_t1_loop i).trips) : BitVec.toNat (Scalar.indexCast (Scalar.muli (Scf.iv 0#32 1#32 k.val) 512#32)) = 512 * (bj k.val).val := by
  have h : k.val < 16 := lt_of_lt_of_le k.isLt (by rw [trips1]; exact (i 2).isLt.le)
  have e : bj k.val = ⟨k.val, h⟩ := dif_pos h
  rw [e]; exact ivOff ⟨k.val, h⟩

set_option backward.isDefEq.respectTransparency false in
set_option maxHeartbeats 1000000 in
/-- One trip of the loop over the blocks before the diagonal (head 0 of the pair) is one step. -/
theorem trip1 (k : Fin (k0_t1_loop i).trips) (f8 : BufTy.Contents (Elt F) arg8.view.ty) (f9 : BufTy.Contents (Elt F) arg9.view.ty) (f10 : BufTy.Contents (Elt F) arg10.view.ty)
    (L8 : List (View.Piece (Elt F) S512x1 .f32)) (L9 : List (View.Piece (Elt F) S512x1 .f32)) (L10 : List (View.Piece (Elt F) S512x128 .f32)) :
    rd arg8 arg9 arg10
      (arg8.view.writes (Elt F) (arg8.view.writes (Elt F) f8 L8) (tripL_k0_t1 (F := F) 𝒱 c bd i arg3 harg3 arg4 harg4 arg5 harg5 arg6 harg6 arg7 harg7 arg8 harg8 arg9 harg9 arg10 harg10 arg1 arg2 v5 v6 v7 v11 v23 v32 v33 X4 X5 X6 k
          (arg8.view.writes (Elt F) f8 L8) (arg9.view.writes (Elt F) f9 L9) (arg10.view.writes (Elt F) f10 L10)).1)
      (arg9.view.writes (Elt F) (arg9.view.writes (Elt F) f9 L9) (tripL_k0_t1 (F := F) 𝒱 c bd i arg3 harg3 arg4 harg4 arg5 harg5 arg6 harg6 arg7 harg7 arg8 harg8 arg9 harg9 arg10 harg10 arg1 arg2 v5 v6 v7 v11 v23 v32 v33 X4 X5 X6 k
          (arg8.view.writes (Elt F) f8 L8) (arg9.view.writes (Elt F) f9 L9) (arg10.view.writes (Elt F) f10 L10)).2.1)
      (arg10.view.writes (Elt F) (arg10.view.writes (Elt F) f10 L10) (tripL_k0_t1 (F := F) 𝒱 c bd i arg3 harg3 arg4 harg4 arg5 harg5 arg6 harg6 arg7 harg7 arg8 harg8 arg9 harg9 arg10 harg10 arg1 arg2 v5 v6 v7 v11 v23 v32 v33 X4 X5 X6 k
          (arg8.view.writes (Elt F) f8 L8) (arg9.view.writes (Elt F) f9 L9) (arg10.view.writes (Elt F) f10 L10)).2.2)
      = step (score (Scalar.addi (Scalar.muli 2#32 arg1) 0#32) v5 v11 v23 (kW (arg4.view.read (Elt F) X4) (bj k.val)) (cW (arg6.view.read (Elt F) X6) (bj k.val)))
          (vW (arg5.view.read (Elt F) X5) (bj k.val))
          (rd arg8 arg9 arg10 (arg8.view.writes (Elt F) f8 L8) (arg9.view.writes (Elt F) f9 L9) (arg10.view.writes (Elt F) f10 L10)) := by
  generalize arg8.view.writes (Elt F) f8 L8 = g8
  generalize arg9.view.writes (Elt F) f9 L9 = g9
  generalize arg10.view.writes (Elt F) f10 L10 = g10
  unfold tripL_k0_t1 trip_k0_t1
  dsimp only
  sl_unfold_words
  unfold rd
  have hk := off1 i k
  rw [View.read_writes_full, View.read_writes_full, View.read_writes_full, View.readAt_full arg8.view g8, View.readAt_full arg9.view g9, View.readAt_full arg10.view g10,
    View.readAt_unit arg4.view X4 (off' := ![0, 0, 512 * (bj k.val).val]) _ (by dsimp only; rw [hk]) (by generalize bj k.val = j; revert j; decide),
    View.readAt_unit arg5.view X5 (off' := ![0, 512 * (bj k.val).val, 0]) _ (by dsimp only; rw [hk]) (by generalize bj k.val = j; revert j; decide),
    View.readAt_unit arg6.view X6 (off' := ![0, 0, 512 * (bj k.val).val]) _ (by dsimp only; rw [hk]) (by generalize bj k.val = j; revert j; decide)]
  rfl

/-- After `n` trips the scratch memrefs read the state after `n` steps, if they read the first state before. -/
theorem loop1 (f8 : BufTy.Contents (Elt F) arg8.view.ty) (f9 : BufTy.Contents (Elt F) arg9.view.ty) (f10 : BufTy.Contents (Elt F) arg10.view.ty)
    (h0 : rd arg8 arg9 arg10 f8 f9 f10 = st0) : ∀ n : ℕ, n ≤ (k0_t1_loop i).trips →
    rd arg8 arg9 arg10
      (arg8.view.writes (Elt F) f8 (pb_k0_t1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 n).1)
      (arg9.view.writes (Elt F) f9 (pb_k0_t1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 n).2.1)
      (arg10.view.writes (Elt F) f10 (pb_k0_t1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 n).2.2)
      = run (fun j => score (Scalar.addi (Scalar.muli 2#32 arg1) 0#32) v5 v11 v23 (kW (arg4.view.read (Elt F) X4) (bj j)) (cW (arg6.view.read (Elt F) X6) (bj j)))
          (fun j => vW (arg5.view.read (Elt F) X5) (bj j)) n
  | 0, _ => h0
  | n + 1, hn => by
    have ih := loop1 f8 f9 f10 h0 n (by omega)
    have e := pb_k0_t1_succ (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 ⟨n, by omega⟩
    dsimp only at e
    rw [e]
    dsimp only
    rw [View.writes_append, View.writes_append, View.writes_append, trip1, ih]
    rfl

theorem off3 (k : Fin (k0_t3_loop i).trips) : BitVec.toNat (Scalar.indexCast (Scalar.muli (Scf.iv 0#32 1#32 k.val) 512#32)) = 512 * (bj k.val).val := by
  have h : k.val < 16 := lt_of_lt_of_le k.isLt (by rw [trips3]; exact (i 2).isLt.le)
  have e : bj k.val = ⟨k.val, h⟩ := dif_pos h
  rw [e]; exact ivOff ⟨k.val, h⟩

set_option backward.isDefEq.respectTransparency false in
set_option maxHeartbeats 1000000 in
/-- One trip of the loop over the blocks before the diagonal (head 1 of the pair) is one step. -/
theorem trip3 (k : Fin (k0_t3_loop i).trips) (f8 : BufTy.Contents (Elt F) arg8.view.ty) (f9 : BufTy.Contents (Elt F) arg9.view.ty) (f10 : BufTy.Contents (Elt F) arg10.view.ty)
    (L8 : List (View.Piece (Elt F) S512x1 .f32)) (L9 : List (View.Piece (Elt F) S512x1 .f32)) (L10 : List (View.Piece (Elt F) S512x128 .f32)) :
    rd arg8 arg9 arg10
      (arg8.view.writes (Elt F) (arg8.view.writes (Elt F) f8 L8) (tripL_k0_t3 (F := F) 𝒱 c bd i arg3 harg3 arg4 harg4 arg5 harg5 arg6 harg6 arg7 harg7 arg8 harg8 arg9 harg9 arg10 harg10 arg1 arg2 v5 v11 v106 X4 X5 X6 k
          (arg8.view.writes (Elt F) f8 L8) (arg9.view.writes (Elt F) f9 L9) (arg10.view.writes (Elt F) f10 L10)).1)
      (arg9.view.writes (Elt F) (arg9.view.writes (Elt F) f9 L9) (tripL_k0_t3 (F := F) 𝒱 c bd i arg3 harg3 arg4 harg4 arg5 harg5 arg6 harg6 arg7 harg7 arg8 harg8 arg9 harg9 arg10 harg10 arg1 arg2 v5 v11 v106 X4 X5 X6 k
          (arg8.view.writes (Elt F) f8 L8) (arg9.view.writes (Elt F) f9 L9) (arg10.view.writes (Elt F) f10 L10)).2.1)
      (arg10.view.writes (Elt F) (arg10.view.writes (Elt F) f10 L10) (tripL_k0_t3 (F := F) 𝒱 c bd i arg3 harg3 arg4 harg4 arg5 harg5 arg6 harg6 arg7 harg7 arg8 harg8 arg9 harg9 arg10 harg10 arg1 arg2 v5 v11 v106 X4 X5 X6 k
          (arg8.view.writes (Elt F) f8 L8) (arg9.view.writes (Elt F) f9 L9) (arg10.view.writes (Elt F) f10 L10)).2.2)
      = step (score (Scalar.addi (Scalar.muli 2#32 arg1) 1#32) v5 v11 (k0_pay52 arg1 v5 v106) (kW (arg4.view.read (Elt F) X4) (bj k.val)) (cW (arg6.view.read (Elt F) X6) (bj k.val)))
          (vW (arg5.view.read (Elt F) X5) (bj k.val))
          (rd arg8 arg9 arg10 (arg8.view.writes (Elt F) f8 L8) (arg9.view.writes (Elt F) f9 L9) (arg10.view.writes (Elt F) f10 L10)) := by
  generalize arg8.view.writes (Elt F) f8 L8 = g8
  generalize arg9.view.writes (Elt F) f9 L9 = g9
  generalize arg10.view.writes (Elt F) f10 L10 = g10
  unfold tripL_k0_t3 trip_k0_t3
  dsimp only
  sl_unfold_words
  unfold rd
  have hk := off3 i k
  rw [View.read_writes_full, View.read_writes_full, View.read_writes_full, View.readAt_full arg8.view g8, View.readAt_full arg9.view g9, View.readAt_full arg10.view g10,
    View.readAt_unit arg4.view X4 (off' := ![0, 0, 512 * (bj k.val).val]) _ (by dsimp only; rw [hk]) (by generalize bj k.val = j; revert j; decide),
    View.readAt_unit arg5.view X5 (off' := ![0, 512 * (bj k.val).val, 0]) _ (by dsimp only; rw [hk]) (by generalize bj k.val = j; revert j; decide),
    View.readAt_unit arg6.view X6 (off' := ![0, 0, 512 * (bj k.val).val]) _ (by dsimp only; rw [hk]) (by generalize bj k.val = j; revert j; decide)]
  rfl

/-- After `n` trips the scratch memrefs read the state after `n` steps, if they read the first state before. -/
theorem loop3 (f8 : BufTy.Contents (Elt F) arg8.view.ty) (f9 : BufTy.Contents (Elt F) arg9.view.ty) (f10 : BufTy.Contents (Elt F) arg10.view.ty)
    (h0 : rd arg8 arg9 arg10 f8 f9 f10 = st0) : ∀ n : ℕ, n ≤ (k0_t3_loop i).trips →
    rd arg8 arg9 arg10
      (arg8.view.writes (Elt F) f8 (pb_k0_t3 (F := F) 𝒱 c bd i arg3 harg3 arg4 harg4 arg5 harg5 arg6 harg6 arg7 harg7 arg8 harg8 arg9 harg9 arg10 harg10 arg1 arg2 v5 v11 v106 X4 X5 X6 f8 f9 f10 n).1)
      (arg9.view.writes (Elt F) f9 (pb_k0_t3 (F := F) 𝒱 c bd i arg3 harg3 arg4 harg4 arg5 harg5 arg6 harg6 arg7 harg7 arg8 harg8 arg9 harg9 arg10 harg10 arg1 arg2 v5 v11 v106 X4 X5 X6 f8 f9 f10 n).2.1)
      (arg10.view.writes (Elt F) f10 (pb_k0_t3 (F := F) 𝒱 c bd i arg3 harg3 arg4 harg4 arg5 harg5 arg6 harg6 arg7 harg7 arg8 harg8 arg9 harg9 arg10 harg10 arg1 arg2 v5 v11 v106 X4 X5 X6 f8 f9 f10 n).2.2)
      = run (fun j => score (Scalar.addi (Scalar.muli 2#32 arg1) 1#32) v5 v11 (k0_pay52 arg1 v5 v106) (kW (arg4.view.read (Elt F) X4) (bj j)) (cW (arg6.view.read (Elt F) X6) (bj j)))
          (fun j => vW (arg5.view.read (Elt F) X5) (bj j)) n
  | 0, _ => h0
  | n + 1, hn => by
    have ih := loop3 f8 f9 f10 h0 n (by omega)
    have e := pb_k0_t3_succ (F := F) 𝒱 c bd i arg3 harg3 arg4 harg4 arg5 harg5 arg6 harg6 arg7 harg7 arg8 harg8 arg9 harg9 arg10 harg10 arg1 arg2 v5 v11 v106 X4 X5 X6 f8 f9 f10 ⟨n, by omega⟩
    dsimp only at e
    rw [e]
    dsimp only
    rw [View.writes_append, View.writes_append, View.writes_append, trip3, ih]
    rfl

end

end Cert.KernelIdeal.Attn

end
-- ==== Proof.KBody.lean ====
/-
  The value the attention body leaves in the output's staging memref, as a plain function of the four input windows.
-/
module

public import proofs.«01_k».proof.Proof.KVal
public import Idealize.ShloMosaic.Lib.Pipeline.Value
public import Idealize.ShloMosaic.Lib.VecWindow

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL.Sem

variable {F : FTy → Type} [FloatOps F] [Named F]

/-- The queries of one head of the pair: the other head's lanes zeroed. -/
def qH0 (x0 : Vec F S1x512x128 .bf16) : FVec F S512x128 .bf16 := k0_pay29 x0

/-- The queries of the other head of the pair. -/
def qH1 (x0 : Vec F S1x512x128 .bf16) : FVec F S512x128 .bf16 := k0_pay51 (k0_pay28 x0) (iota .tc S512x128 32 [1] iota_S512x128_d1_w32)

/-- The state after the last block, the one on the diagonal, for the head numbered `w` of queries `q` with reference decay `cr`. -/
def fin (w : BitVec 32) (i : grid0.Coords) (q : FVec F S512x128 .bf16) (cr : FVec F S1x1 .f32) (x1 : Vec F S1x128x8192 .bf16) (x2 : Vec F S1x8192x128 .bf16)
    (x3 : Vec F S1x8x8192 .f32) : St F :=
  step (maskS (iota .tc S512x512 32 [0] iota_S512x512_d0_w32) (iota .tc S512x512 32 [1] iota_S512x512_d1_w32)
      (score w (iota .tc S8x512 32 [0] iota_S8x512_d0_w32) q cr (kW x1 (i 2)) (cW x3 (i 2)))) (vW x2 (i 2))
    (run (fun j => score w (iota .tc S8x512 32 [0] iota_S8x512_d0_w32) q cr (kW x1 (bj j)) (cW x3 (bj j))) (fun j => vW x2 (bj j)) (i 2).val)

/-- The number of the pair's first or second head. -/
def hd (i : grid0.Coords) (h : BitVec 32) : BitVec 32 := Scalar.addi (Scalar.muli 2#32 (BitVec.ofNat 32 (i 1).val)) h

/-- The block of outputs: each head's accumulator over its sum, the first head's in the lower lanes. -/
def bodyVal (i : grid0.Coords) (x0 : Vec F S1x512x128 .bf16) (x1 : Vec F S1x128x8192 .bf16) (x2 : Vec F S1x8192x128 .bf16) (x3 : Vec F S1x8x8192 .f32) :
    FVec F S1x512x128 .f32 :=
  let s0 := fin (hd i 0#32) i (qH0 x0) (k0_pay30 i (cW x3 (i 2))) x1 x2 x3
  let s1 := fin (hd i 1#32) i (qH1 x0) (k0_pay52 (BitVec.ofNat 32 (i 1).val) (iota .tc S8x512 32 [0] iota_S8x512_d0_w32) (cW x3 (i 2))) x1 x2 x3
  k0_pay3 (iota .tc S512x128 32 [1] iota_S512x128_d1_w32) (k0_pay50 s0.2.2 s0.2.1) s1.2.2 s1.2.1

/-- A covered load of the view's own sizes reads what the pieces leave over anything. -/
theorem readCov_read {sig : RefSig} {κ : Kind} {sp : Space} {s : Shape} {e : EltTy} {Val : EltTy → Type} [∀ e, Nonempty (Val e)] (v : View sig κ sp s e) {off : Fin s.rank → ℕ}
    (inb : ∀ a, off a + s.size a ≤ s.size a) (L : List (View.Piece Val s e)) :
    v.readCov L (Rect.unit off s.size inb).toLoadRect = v.read Val (v.writes Val v.junk L) :=
  View.readAt_full v _ inb

section
variable (𝒱 : Variants) (c : Dev nD) (bd : Option 𝒱.V) (i : grid0.Coords) (arg3 : Memref sig .tc .vmem S1x512x128 .bf16) (harg3 : arg3.IsWhole) (arg4 : Memref sig .tc .vmem S1x128x8192 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (arg1 : BitVec 32) (arg2 : BitVec 32) (v5 : IVec S8x512 32) (v6 : IVec S512x512 32) (v7 : IVec S512x512 32) (v11 : FVec F S512x128 .bf16) (v23 : FVec F S1x1 .f32) (v32 : FVec F S512x128 .f32) (v33 : Vec F S512x128 .f32) (v106 : Vec F S1x8x512 .f32) (v40 : BitVec 32) (v133 : BitVec 32) (X4 : BufTy.Contents (Elt F) arg4.view.ty) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty)

theorem pb2_nil : pb_k0_t2 (F := F) 𝒱 c bd i arg3 harg3 arg4 harg4 arg5 harg5 arg6 harg6 arg7 harg7 arg8 harg8 arg9 harg9 arg10 harg10 arg1 arg2 v5 v6 v7 v11 v23 v32 v33 v40 X4 X5 X6 f8 f9 f10 (Scf.trips (k0_t2_loop i).lb (k0_t2_loop i).ub (k0_t2_loop i).st) = ([], [], []) := by
  have h : Scf.trips (k0_t2_loop i).lb (k0_t2_loop i).ub (k0_t2_loop i).st = 0 := trips2 i
  rw [h]; rfl

theorem pb4_nil : pb_k0_t4 (F := F) 𝒱 c bd i arg3 harg3 arg4 harg4 arg5 harg5 arg6 harg6 arg7 harg7 arg8 harg8 arg9 harg9 arg10 harg10 arg1 arg2 v5 v11 v106 v133 X4 X5 X6 f8 f9 f10 (Scf.trips (k0_t4_loop i).lb (k0_t4_loop i).ub (k0_t4_loop i).st) = ([], [], []) := by
  have h : Scf.trips (k0_t4_loop i).lb (k0_t4_loop i).ub (k0_t4_loop i).st = 0 := trips4 i
  rw [h]; rfl

theorem end1_8 (h0 : rd arg8 arg9 arg10 f8 f9 f10 = st0) :
    arg8.view.read (Elt F) (arg8.view.writes (Elt F) f8 (pb_k0_t1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 (Scf.trips (k0_t1_loop i).lb (k0_t1_loop i).ub (k0_t1_loop i).st)).1)
      = (run (fun j => score (Scalar.addi (Scalar.muli 2#32 arg1) 0#32) v5 v11 v23 (kW (arg4.view.read (Elt F) X4) (bj j)) (cW (arg6.view.read (Elt F) X6) (bj j)))
          (fun j => vW (arg5.view.read (Elt F) X5) (bj j)) (i 2).val).1 := by
  have h := loop1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 h0 _ le_rfl
  have ht : Scf.trips (k0_t1_loop i).lb (k0_t1_loop i).ub (k0_t1_loop i).st = (i 2).val := trips1 i
  have ht' : (k0_t1_loop i).trips = (i 2).val := trips1 i
  rw [ht'] at h
  rw [ht]
  exact congrArg (fun s : St F => s.1) h

theorem end1_9 (h0 : rd arg8 arg9 arg10 f8 f9 f10 = st0) :
    arg9.view.read (Elt F) (arg9.view.writes (Elt F) f9 (pb_k0_t1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 (Scf.trips (k0_t1_loop i).lb (k0_t1_loop i).ub (k0_t1_loop i).st)).2.1)
      = (run (fun j => score (Scalar.addi (Scalar.muli 2#32 arg1) 0#32) v5 v11 v23 (kW (arg4.view.read (Elt F) X4) (bj j)) (cW (arg6.view.read (Elt F) X6) (bj j)))
          (fun j => vW (arg5.view.read (Elt F) X5) (bj j)) (i 2).val).2.1 := by
  have h := loop1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 h0 _ le_rfl
  have ht : Scf.trips (k0_t1_loop i).lb (k0_t1_loop i).ub (k0_t1_loop i).st = (i 2).val := trips1 i
  have ht' : (k0_t1_loop i).trips = (i 2).val := trips1 i
  rw [ht'] at h
  rw [ht]
  exact congrArg (fun s : St F => s.2.1) h

theorem end1_10 (h0 : rd arg8 arg9 arg10 f8 f9 f10 = st0) :
    arg10.view.read (Elt F) (arg10.view.writes (Elt F) f10 (pb_k0_t1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 (Scf.trips (k0_t1_loop i).lb (k0_t1_loop i).ub (k0_t1_loop i).st)).2.2)
      = (run (fun j => score (Scalar.addi (Scalar.muli 2#32 arg1) 0#32) v5 v11 v23 (kW (arg4.view.read (Elt F) X4) (bj j)) (cW (arg6.view.read (Elt F) X6) (bj j)))
          (fun j => vW (arg5.view.read (Elt F) X5) (bj j)) (i 2).val).2.2 := by
  have h := loop1 (F := F) 𝒱 c bd i arg3 harg3 arg4 harg4 arg5 harg5 arg6 harg6 arg7 harg7 arg8 harg8 arg9 harg9 arg10 harg10 arg1 arg2 v5 v6 v7 v11 v23 v32 v33 X4 X5 X6 f8 f9 f10 h0 _ le_rfl
  have ht : Scf.trips (k0_t1_loop i).lb (k0_t1_loop i).ub (k0_t1_loop i).st = (i 2).val := trips1 i
  have ht' : (k0_t1_loop i).trips = (i 2).val := trips1 i
  rw [ht'] at h
  rw [ht]
  exact congrArg (fun s : St F => s.2.2) h

theorem end3_8 (h0 : rd arg8 arg9 arg10 f8 f9 f10 = st0) :
    arg8.view.read (Elt F) (arg8.view.writes (Elt F) f8 (pb_k0_t3 (F := F) 𝒱 c bd i arg3 harg3 arg4 harg4 arg5 harg5 arg6 harg6 arg7 harg7 arg8 harg8 arg9 harg9 arg10 harg10 arg1 arg2 v5 v11 v106 X4 X5 X6 f8 f9 f10 (Scf.trips (k0_t3_loop i).lb (k0_t3_loop i).ub (k0_t3_loop i).st)).1)
      = (run (fun j => score (Scalar.addi (Scalar.muli 2#32 arg1) 1#32) v5 v11 (k0_pay52 arg1 v5 v106) (kW (arg4.view.read (Elt F) X4) (bj j)) (cW (arg6.view.read (Elt F) X6) (bj j)))
          (fun j => vW (arg5.view.read (Elt F) X5) (bj j)) (i 2).val).1 := by
  have h := loop3 (F := F) 𝒱 c bd i arg3 harg3 arg4 harg4 arg5 harg5 arg6 harg6 arg7 harg7 arg8 harg8 arg9 harg9 arg10 harg10 arg1 arg2 v5 v11 v106 X4 X5 X6 f8 f9 f10 h0 _ le_rfl
  have ht : Scf.trips (k0_t3_loop i).lb (k0_t3_loop i).ub (k0_t3_loop i).st = (i 2).val := trips3 i
  have ht' : (k0_t3_loop i).trips = (i 2).val := trips3 i
  rw [ht'] at h
  rw [ht]
  exact congrArg (fun s : St F => s.1) h

theorem end3_9 (h0 : rd arg8 arg9 arg10 f8 f9 f10 = st0) :
    arg9.view.read (Elt F) (arg9.view.writes (Elt F) f9 (pb_k0_t3 (F := F) 𝒱 c bd i arg3 harg3 arg4 harg4 arg5 harg5 arg6 harg6 arg7 harg7 arg8 harg8 arg9 harg9 arg10 harg10 arg1 arg2 v5 v11 v106 X4 X5 X6 f8 f9 f10 (Scf.trips (k0_t3_loop i).lb (k0_t3_loop i).ub (k0_t3_loop i).st)).2.1)
      = (run (fun j => score (Scalar.addi (Scalar.muli 2#32 arg1) 1#32) v5 v11 (k0_pay52 arg1 v5 v106) (kW (arg4.view.read (Elt F) X4) (bj j)) (cW (arg6.view.read (Elt F) X6) (bj j)))
          (fun j => vW (arg5.view.read (Elt F) X5) (bj j)) (i 2).val).2.1 := by
  have h := loop3 (F := F) 𝒱 c bd i arg3 harg3 arg4 harg4 arg5 harg5 arg6 harg6 arg7 harg7 arg8 harg8 arg9 harg9 arg10 harg10 arg1 arg2 v5 v11 v106 X4 X5 X6 f8 f9 f10 h0 _ le_rfl
  have ht : Scf.trips (k0_t3_loop i).lb (k0_t3_loop i).ub (k0_t3_loop i).st = (i 2).val := trips3 i
  have ht' : (k0_t3_loop i).trips = (i 2).val := trips3 i
  rw [ht'] at h
  rw [ht]
  exact congrArg (fun s : St F => s.2.1) h

theorem end3_10 (h0 : rd arg8 arg9 arg10 f8 f9 f10 = st0) :
    arg10.view.read (Elt F) (arg10.view.writes (Elt F) f10 (pb_k0_t3 (F := F) 𝒱 c bd i arg3 harg3 arg4 harg4 arg5 harg5 arg6 harg6 arg7 harg7 arg8 harg8 arg9 harg9 arg10 harg10 arg1 arg2 v5 v11 v106 X4 X5 X6 f8 f9 f10 (Scf.trips (k0_t3_loop i).lb (k0_t3_loop i).ub (k0_t3_loop i).st)).2.2)
      = (run (fun j => score (Scalar.addi (Scalar.muli 2#32 arg1) 1#32) v5 v11 (k0_pay52 arg1 v5 v106) (kW (arg4.view.read (Elt F) X4) (bj j)) (cW (arg6.view.read (Elt F) X6) (bj j)))
          (fun j => vW (arg5.view.read (Elt F) X5) (bj j)) (i 2).val).2.2 := by
  have h := loop3 (F := F) 𝒱 c bd i arg3 harg3 arg4 harg4 arg5 harg5 arg6 harg6 arg7 harg7 arg8 harg8 arg9 harg9 arg10 harg10 arg1 arg2 v5 v11 v106 X4 X5 X6 f8 f9 f10 h0 _ le_rfl
  have ht : Scf.trips (k0_t3_loop i).lb (k0_t3_loop i).ub (k0_t3_loop i).st = (i 2).val := trips3 i
  have ht' : (k0_t3_loop i).trips = (i 2).val := trips3 i
  rw [ht'] at h
  rw [ht]
  exact congrArg (fun s : St F => s.2.2) h

end

set_option backward.isDefEq.respectTransparency false in
set_option maxHeartbeats 1000000 in
/-- Whatever the accumulator scratch held, the body leaves one whole block, at `bodyVal` of the four windows. -/
theorem bodyRun_eq (c : Dev nD) (i : grid0.Coords) (arg3 : Memref sig .tc .vmem S1x512x128 .bf16) (harg3 : arg3.IsWhole) (arg4 : Memref sig .tc .vmem S1x128x8192 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)  (x0 : Vec F S1x512x128 .bf16) (x1 : Vec F S1x128x8192 .bf16) (x2 : Vec F S1x8192x128 .bf16) (x3 : Vec F S1x8x8192 .f32) (f : BufTy.Contents (Elt F) arg10.view.ty) :
  (bodyRun c i arg3 harg3 arg4 harg4 arg5 harg5 arg6 harg6 arg7 harg7 arg8 harg8 arg9 harg9 arg10 harg10 x0 x1 x2 x3).1 f
    = [⟨Rect.unit ![0, 0, 0] ![1, 512, 128] inb_S1x512x128_S1x512x128_0_0_0, bodyVal i x0 x1 x2 x3⟩] := by
  unfold bodyRun
  dsimp only
  sl_unfold_words
  have hk := qOff (i 2)
  have e4 : ∀ (inb), View.readAt (Elt F) arg4.view (Rect.unit (s := S1x128x8192) ![0, 0, BitVec.toNat (Scalar.indexCast (Scalar.muli (BitVec.ofNat 32 (i 2).val) 512#32))] S1x128x512.size inb).toLoadRect (harg4.unread x1) = kW x1 (i 2) := by
    intro inb
    rw [View.readAt_unit arg4.view _ (off' := ![0, 0, 512 * (i 2).val]) _ (by rw [hk]) (by generalize (i 2) = j; revert j; decide), harg4.read_unread]; rfl
  have e5 : ∀ (inb), View.readAt (Elt F) arg5.view (Rect.unit (s := S1x8192x128) ![0, BitVec.toNat (Scalar.indexCast (Scalar.muli (BitVec.ofNat 32 (i 2).val) 512#32)), 0] S1x512x128.size inb).toLoadRect (harg5.unread x2) = vW x2 (i 2) := by
    intro inb
    rw [View.readAt_unit arg5.view _ (off' := ![0, 512 * (i 2).val, 0]) _ (by rw [hk]) (by generalize (i 2) = j; revert j; decide), harg5.read_unread]; rfl
  have e6 : ∀ (inb), View.readAt (Elt F) arg6.view (Rect.unit (s := S1x8x8192) ![0, 0, BitVec.toNat (Scalar.indexCast (Scalar.muli (BitVec.ofNat 32 (i 2).val) 512#32))] S1x8x512.size inb).toLoadRect (harg6.unread x3) = cW x3 (i 2) := by
    intro inb
    rw [View.readAt_unit arg6.view _ (off' := ![0, 0, 512 * (i 2).val]) _ (by rw [hk]) (by generalize (i 2) = j; revert j; decide), harg6.read_unread]; rfl
  have e3 : ∀ (inb), View.readAt (Elt F) arg3.view (Rect.unit (s := S1x512x128) ![0, 0, 0] S1x512x128.size inb).toLoadRect (harg3.unread x0) = x0 := by
    intro inb
    rw [View.readAt_full arg3.view, harg3.read_unread]
  rw [e3, e4, e5]
  rw [e6]
  rw [View.readCov_full arg10.view, View.readCov_full arg9.view]
  rw [View.readCov_full arg10.view, View.readCov_full arg9.view]
  rw [readCov_read arg8.view, readCov_read arg9.view, readCov_read arg10.view]
  rw [readCov_read arg8.view, readCov_read arg9.view, readCov_read arg10.view]
  rw [pb2_nil, pb4_nil]
  dsimp only
  iterate 6 rw [List.nil_append]
  rw [View.writes_append arg8.view, View.writes_append arg9.view, View.writes_append arg10.view]
  rw [end1_8, end1_9, end1_10]
  rw [View.writes_append arg8.view, View.writes_append arg9.view, View.writes_append arg10.view]
  rw [end3_8, end3_9, end3_10, harg4.read_unread, harg5.read_unread, harg6.read_unread]
  · rfl
  all_goals
    unfold rd
    rw [View.read_writes_full, View.read_writes_full, View.read_writes_full]
    rfl

end Cert.KernelIdeal.Attn

end
-- ==== Proof.KFrame.lean ====
/-
  The attention kernel's launch: every grid point leaves `bodyVal` of its four input blocks in the output's block, so the run
  ends with the result array at what the pipeline writes back, the arguments unchanged and every counter at zero.
-/
module

public import proofs.«01_k».proof.Proof.KBody
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body's triple: from whole staging memrefs, the inputs' at `x0 … x3` and the scratch at anything, the body runs to the
    inputs unchanged and the output's memref with one whole block written, `bodyVal` of the inputs. -/
theorem body_triple (c : Dev nD) (i : grid0.Coords) (arg3 : Memref sig .tc .vmem S1x512x128 .bf16) (harg3 : arg3.IsWhole) (arg4 : Memref sig .tc .vmem S1x128x8192 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x0 : Vec F S1x512x128 .bf16) (x1 : Vec F S1x128x8192 .bf16) (x2 : Vec F S1x8192x128 .bf16) (x3 : Vec F S1x8x8192 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f [⟨Rect.unit ![0, 0, 0] ![1, 512, 128] inb_S1x512x128_S1x512x128_0_0_0, bodyVal i x0 x1 x2 x3⟩]) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_attn_prompt i arg3 harg3 arg4 harg4 arg5 harg5 arg6 harg6 arg7 harg7 arg8 harg8 arg9 harg9 arg10 harg10) K := by
  iintro ⟨H0, H1, H2, H3, H4, HS0, HS1, ⟨%d, HS2⟩, Hk⟩
  unfold owns
  icases HS2 with ⟨%fs2, -, HS2⟩
  have h := (bodyRun c i arg3 harg3 arg4 harg4 arg5 harg5 arg6 harg6 arg7 harg7 arg8 harg8 arg9 harg9 arg10 harg10 x0 x1 x2 x3).2 E K fs2
  rw [bodyRun_eq] at h
  unfold owns at h
  iapply h
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iexact Hk

/-! ## What the outputs hold after each point -/

/-- What the output's staging buffer holds after the body at point `t`: `bodyVal` of the point's input blocks. -/
def outsAt0 (c : Dev nD) (t : Fin cfg0.N) : Vec F S1x512x128 .f32 :=
  bodyVal (grid0.coords t) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨⟨HS0, HS1, HS2⟩, Hg⟩, Ho, ⟨%d0, H0⟩, ⟨%d1, H1⟩, ⟨%d2, H2⟩, ⟨%d3, H3⟩, ⟨%d4, H4⟩⟩
  iapply (body_triple c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_full (ms0_4 t).view _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every weakly fair execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.KFinal.lean ====
/-
  The attention kernel's result array, entry by entry: the block that the grid point of the entry leaves, at the entry's place.
-/
module

public import proofs.«01_k».proof.Proof.KFrame
public import Idealize.ShloMosaic.Lib.Pipeline.Value
public import Idealize.ShloMosaic.Lib.ValueIdx

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F] [Named F]
variable (m : (ℓ : Loc nD τ sig) → Buf (Elt F) ℓ) (ρ : Dev nD → PrngReg)

/-- The queries' block of a grid point. -/
def qB (i : grid0.Coords) (X : Vec F S4x8192x512 .bf16) : Vec F S1x512x128 .bf16 := fun j =>
  X (ix3 (i 0 : Fin 4) ⟨512 * (i 2).val + (j 1).val, by have h : (i 2).val < 16 := (i 2).isLt; have h' : (j 1).val < 512 := (j 1).isLt; omega⟩
    ⟨128 * (i 1).val + (j 2).val, by have h : (i 1).val < 4 := (i 1).isLt; have h' : (j 2).val < 128 := (j 2).isLt; omega⟩)

/-- The keys' block of a grid point. -/
def kB (i : grid0.Coords) (X : Vec F S4x512x8192 .bf16) : Vec F S1x128x8192 .bf16 := fun j =>
  X (ix3 (i 0 : Fin 4) ⟨128 * (i 1).val + (j 1).val, by have h : (i 1).val < 4 := (i 1).isLt; have h' : (j 1).val < 128 := (j 1).isLt; omega⟩ (j 2 : Fin 8192))

/-- The values' block of a grid point. -/
def vB (i : grid0.Coords) (X : Vec F S4x8192x512 .bf16) : Vec F S1x8192x128 .bf16 := fun j =>
  X (ix3 (i 0 : Fin 4) (j 1 : Fin 8192) ⟨128 * (i 1).val + (j 2).val, by have h : (i 1).val < 4 := (i 1).isLt; have h' : (j 2).val < 128 := (j 2).isLt; omega⟩)

/-- The decays' block of a grid point. -/
def cB (i : grid0.Coords) (X : Vec F S4x8x8192 .f32) : Vec F S1x8x8192 .f32 := fun j =>
  X (ix3 (i 0 : Fin 4) (j 1 : Fin 8) (j 2 : Fin 8192))

/-- A block's own index. -/
def inB (j : S1x512x128.Idx) (i : grid0.Coords) : S4x8192x512.Idx :=
  ix3 (i 0 : Fin 4) ⟨512 * (i 2).val + (j 1).val, by have h : (i 2).val < 16 := (i 2).isLt; have h' : (j 1).val < 512 := (j 1).isLt; omega⟩
    ⟨128 * (i 1).val + (j 2).val, by have h : (i 1).val < 4 := (i 1).isLt; have h' : (j 2).val < 128 := (j 2).isLt; omega⟩

theorem tr0 : ∀ (a : Fin 4) (b : Fin 4) (d : Fin 16), (BitVec.ofNat 32 a.val).toNat = a.val ∧ (BitVec.ofNat 32 b.val).toNat = b.val ∧ (BitVec.ofNat 32 d.val).toNat = d.val := by decide +kernel

theorem emb0 (t : Fin cfg0.N) (j : S1x512x128.Idx) : ((cfg0.win 0).blk t).view.emb j = inB j (grid0.coords t) := by
  obtain ⟨e0, e1, e2⟩ := tr0 (grid0.coords t 0) (grid0.coords t 1) (grid0.coords t 2)
  have h0 : (j 0).val < 1 := (j 0).isLt
  funext a; apply Fin.ext
  match a with
  | ⟨0, _⟩ => show (BitVec.ofNat 32 (grid0.coords t 0).val).toNat * 1 + 1 * (j 0).val = (grid0.coords t 0).val; omega
  | ⟨1, _⟩ => show (BitVec.ofNat 32 (grid0.coords t 2).val).toNat * 512 + 1 * (j 1).val = 512 * (grid0.coords t 2).val + (j 1).val; omega
  | ⟨2, _⟩ => show (BitVec.ofNat 32 (grid0.coords t 1).val).toNat * 128 + 1 * (j 2).val = 128 * (grid0.coords t 1).val + (j 2).val; omega

theorem emb4 (t : Fin cfg0.N) (j : S1x512x128.Idx) : ((cfg0.win 4).blk t).view.emb j = inB j (grid0.coords t) := emb0 t j

theorem iblk0_eq (c : Dev nD) (t : Fin cfg0.N) : iblk m c 0 t = qB (grid0.coords t) (V m c main_arg0) := by
  funext j
  show V m c main_arg0 (((cfg0.win 0).blk t).view.emb j) = _
  rw [emb0]; rfl

theorem iblk1_eq (c : Dev nD) (t : Fin cfg0.N) : iblk m c 1 t = kB (grid0.coords t) (V m c main_arg1) := by
  obtain ⟨e0, e1, e2⟩ := tr0 (grid0.coords t 0) (grid0.coords t 1) (grid0.coords t 2)
  funext j
  have h0 : (j 0).val < 1 := (j 0).isLt
  show V m c main_arg1 (((cfg0.win 1).blk t).view.emb j) = _
  refine congrArg (V m c main_arg1) ?_
  funext a; apply Fin.ext
  match a with
  | ⟨0, _⟩ => show (BitVec.ofNat 32 (grid0.coords t 0).val).toNat * 1 + 1 * (j 0).val = (grid0.coords t 0).val; omega
  | ⟨1, _⟩ => show (BitVec.ofNat 32 (grid0.coords t 1).val).toNat * 128 + 1 * (j 1).val = 128 * (grid0.coords t 1).val + (j 1).val; omega
  | ⟨2, _⟩ => show (0#32 : BitVec 32).toNat * 8192 + 1 * (j 2).val = (j 2).val; simp

theorem iblk2_eq (c : Dev nD) (t : Fin cfg0.N) : iblk m c 2 t = vB (grid0.coords t) (V m c main_arg2) := by
  obtain ⟨e0, e1, e2⟩ := tr0 (grid0.coords t 0) (grid0.coords t 1) (grid0.coords t 2)
  funext j
  have h0 : (j 0).val < 1 := (j 0).isLt
  show V m c main_arg2 (((cfg0.win 2).blk t).view.emb j) = _
  refine congrArg (V m c main_arg2) ?_
  funext a; apply Fin.ext
  match a with
  | ⟨0, _⟩ => show (BitVec.ofNat 32 (grid0.coords t 0).val).toNat * 1 + 1 * (j 0).val = (grid0.coords t 0).val; omega
  | ⟨1, _⟩ => show (0#32 : BitVec 32).toNat * 8192 + 1 * (j 1).val = (j 1).val; simp
  | ⟨2, _⟩ => show (BitVec.ofNat 32 (grid0.coords t 1).val).toNat * 128 + 1 * (j 2).val = 128 * (grid0.coords t 1).val + (j 2).val; omega

theorem iblk3_eq (c : Dev nD) (t : Fin cfg0.N) : iblk m c 3 t = cB (grid0.coords t) (V m c main_arg3) := by
  obtain ⟨e0, e1, e2⟩ := tr0 (grid0.coords t 0) (grid0.coords t 1) (grid0.coords t 2)
  funext j
  have h0 : (j 0).val < 1 := (j 0).isLt
  show V m c main_arg3 (((cfg0.win 3).blk t).view.emb j) = _
  refine congrArg (V m c main_arg3) ?_
  funext a; apply Fin.ext
  match a with
  | ⟨0, _⟩ => show (BitVec.ofNat 32 (grid0.coords t 0).val).toNat * 1 + 1 * (j 0).val = (grid0.coords t 0).val; omega
  | ⟨1, _⟩ => show (0#32 : BitVec 32).toNat * 8 + 1 * (j 1).val = (j 1).val; simp
  | ⟨2, _⟩ => show (0#32 : BitVec 32).toNat * 8192 + 1 * (j 2).val = (j 2).val; simp

theorem coords_eq : ∀ t : Fin grid0.N, (grid0.coords t 0).val = t.val / 64 ∧ (grid0.coords t 1).val = t.val / 16 % 4 ∧ (grid0.coords t 2).val = t.val % 16 := by
  decide +kernel

theorem N_eq : grid0.N = 256 := by decide +kernel

/-- The grid point whose block an entry of the result lies in. -/
def tOf (y : S4x8192x512.Idx) : Fin grid0.N :=
  ⟨64 * (y 0).val + 16 * ((y 2).val / 128) + (y 1).val / 512, by
    have h0 : (y 0).val < 4 := (y 0).isLt
    have h1 : (y 1).val < 8192 := (y 1).isLt
    have h2 : (y 2).val < 512 := (y 2).isLt
    rw [N_eq]; omega⟩

/-- An entry's place in its block. -/
def jOf (y : S4x8192x512.Idx) : S1x512x128.Idx :=
  ix3 (0 : Fin 1) ⟨(y 1).val % 512, Nat.mod_lt _ (by decide)⟩ ⟨(y 2).val % 128, Nat.mod_lt _ (by decide)⟩

theorem inB_jOf (y : S4x8192x512.Idx) : inB (jOf y) (grid0.coords (tOf y)) = y := by
  obtain ⟨e0, e1, e2⟩ := coords_eq (tOf y)
  have h0 : (y 0).val < 4 := (y 0).isLt
  have h1 : (y 1).val < 8192 := (y 1).isLt
  have h2 : (y 2).val < 512 := (y 2).isLt
  have ht : (tOf y).val = 64 * (y 0).val + 16 * ((y 2).val / 128) + (y 1).val / 512 := rfl
  funext a; apply Fin.ext
  match a with
  | ⟨0, _⟩ => show (grid0.coords (tOf y) 0).val = (y 0).val; omega
  | ⟨1, _⟩ => show 512 * (grid0.coords (tOf y) 2).val + (y 1).val % 512 = (y 1).val; omega
  | ⟨2, _⟩ => show 128 * (grid0.coords (tOf y) 1).val + (y 2).val % 128 = (y 2).val; omega

theorem tOf_inB (t : Fin grid0.N) (j : S1x512x128.Idx) : tOf (inB j (grid0.coords t)) = t ∧ jOf (inB j (grid0.coords t)) = j := by
  obtain ⟨e0, e1, e2⟩ := coords_eq t
  have hn : t.val < 256 := lt_of_lt_of_eq t.isLt N_eq
  have h0 : (j 0).val < 1 := (j 0).isLt
  have h1 : (j 1).val < 512 := (j 1).isLt
  have h2 : (j 2).val < 128 := (j 2).isLt
  constructor
  · apply Fin.ext
    show 64 * (grid0.coords t 0).val + 16 * ((128 * (grid0.coords t 1).val + (j 2).val) / 128) + (512 * (grid0.coords t 2).val + (j 1).val) / 512 = t.val
    omega
  · funext a; apply Fin.ext
    match a with
    | ⟨0, _⟩ => show 0 = (j 0).val; omega
    | ⟨1, _⟩ => show (512 * (grid0.coords t 2).val + (j 1).val) % 512 = (j 1).val; omega
    | ⟨2, _⟩ => show (128 * (grid0.coords t 1).val + (j 2).val) % 128 = (j 2).val; omega

/-- The block of outputs of a grid point, from the four argument arrays. -/
def blockOf (i : grid0.Coords) (X0 : Vec F S4x8192x512 .bf16) (X1 : Vec F S4x512x8192 .bf16) (X2 : Vec F S4x8192x512 .bf16) (X3 : Vec F S4x8x8192 .f32) : Vec F S1x512x128 .f32 :=
  bodyVal i (qB i X0) (kB i X1) (vB i X2) (cB i X3)

/-- The result array, from the four argument arrays. -/
def G (X0 : Vec F S4x8192x512 .bf16) (X1 : Vec F S4x512x8192 .bf16) (X2 : Vec F S4x8192x512 .bf16) (X3 : Vec F S4x8x8192 .f32) : Vec F S4x8192x512 .f32 :=
  fun y => blockOf (grid0.coords (tOf y)) X0 X1 X2 X3 (jOf y)

/-- What a point writes back is its block of `G` of the argument arrays as the region finds them. -/
theorem flushed4_eq (c : Dev nD) (t : Fin cfg0.N) :
    (dats m 0 c).flushed 4 t = ((cfg0.win 4).blk t).view.read (Elt F) (G (V m c main_arg0) (V m c main_arg1) (V m c main_arg2) (V m c main_arg3)) := by
  show (cfg0.win 4).cut (grid0.coords t) ((dats m 0 c).after 4 t) = _
  rw [after0_4]
  unfold outsAt0
  rw [iblk0_eq, iblk1_eq, iblk2_eq, iblk3_eq]
  funext j
  show bodyVal _ _ _ _ _ j = G _ _ _ _ (((cfg0.win 4).blk t).view.emb j)
  rw [emb4]
  obtain ⟨e1, e2⟩ := tOf_inB t j
  unfold G
  rw [e1, e2]
  rfl

/-- Every entry of the result lies in the block of its point. -/
theorem covered4 (y : S4x8192x512.Idx) :
    ∃ t : Fin cfg0.N, (cfg0.win 4).flush t = true ∧ y ∈ ((cfg0.win 4).blk t).view.set :=
  ⟨tOf y, flush0_4 _, by
    have h := ((cfg0.win 4).blk (tOf y)).view.emb_mem_set (jOf y)
    rwa [emb4, inB_jOf] at h⟩

/-- The result array after the run: `G` of the argument arrays as launched. -/
theorem final4 (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) :=
  ((dats m 0 c).arrAt_eq_of_cover 4 (G (V m c main_arg0) (V m c main_arg1) (V m c main_arg2) (V m c main_arg3)) (fun t _ => flushed4_eq m c t) covered4).trans
    (by rw [V_main_arg0, V_main_arg1, V_main_arg2, V_main_arg3])

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

/-- The run with the result array at `G` of the arguments, the arguments unchanged. -/
theorem run_value : θ_run defs (onTc (τ := τ) (main (F := F))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.KernelIdeal.Attn

end
-- ==== Proof.Online.lean ====
/-
  The running softmax over extended reals: blocks of 512 scores taken in one after the other under a running maximum leave
  the maximum, the sum of exponentials and the weighted sum of values of all scores taken in so far.
-/
module

public import Idealize.ShloMosaic.Lib.Pointwise
public import Mathlib.Analysis.SpecialFunctions.Exp

@[expose] public section

noncomputable section

namespace Cert.Online

open Idealize.ShloMosaic

/-- Rescaling a weight from an old maximum to a new one: the factor is the exponential of their difference. -/
theorem exp_rescale (x m m' : EReal) (h : x ≤ m) (h' : m ≤ m') : Ideal.exp (m - m') * Ideal.exp (x - m) = Ideal.exp (x - m') := by
  induction m' with
  | bot =>
    have hm : m = ⊥ := le_bot_iff.mp h'
    subst hm
    have hx : x = ⊥ := le_bot_iff.mp h
    subst hx; simp
  | top =>
    have e (y : EReal) : y - ⊤ = ⊥ := by rw [sub_eq_add_neg, EReal.neg_top, EReal.add_bot]
    rw [e, e]; simp
  | coe c =>
    induction m with
    | bot =>
      have hx : x = ⊥ := le_bot_iff.mp h
      subst hx; simp
    | top => exact absurd (top_le_iff.mp h') (EReal.coe_ne_top c)
    | coe b =>
      induction x with
      | bot => simp
      | top => exact absurd (top_le_iff.mp h) (EReal.coe_ne_top b)
      | coe a =>
        rw [← EReal.coe_sub, ← EReal.coe_sub, ← EReal.coe_sub]
        simp only [Ideal.exp_coe]
        rw [← EReal.coe_mul, ← Real.exp_add]
        congr 2; ring

/-- An exponential is never negative. -/
theorem exp_nonneg (x : EReal) : 0 ≤ Ideal.exp x := by
  induction x with
  | bot => simp
  | top => simp
  | coe a => simp only [Ideal.exp_coe]; exact_mod_cast (Real.exp_pos a).le

/-- The exponential of a difference from something at least as large is at most one. -/
theorem exp_sub_le_one (x m : EReal) (h : x ≤ m) : Ideal.exp (x - m) ≤ 1 := by
  induction m with
  | bot =>
    have hx : x = ⊥ := le_bot_iff.mp h
    subst hx; simp
  | top => rw [sub_eq_add_neg, EReal.neg_top, EReal.add_bot]; simp
  | coe b =>
    induction x with
    | bot => simp
    | top => exact absurd (top_le_iff.mp h) (EReal.coe_ne_top b)
    | coe a =>
      rw [← EReal.coe_sub]
      simp only [Ideal.exp_coe]
      have : Real.exp (a - b) ≤ 1 := Real.exp_le_one_iff.mpr (by have := EReal.coe_le_coe_iff.mp h; linarith)
      exact_mod_cast this

theorem exp_sub_ne_top (x m : EReal) (h : x ≤ m) : Ideal.exp (x - m) ≠ ⊤ := by
  intro e
  have := exp_sub_le_one x m h
  rw [e] at this
  exact absurd (top_le_iff.mp this) (by decide)

/-- A factor that is neither negative nor infinite goes into a finite sum. -/
theorem mul_sum_of_nonneg {ι : Type*} (s : Finset ι) (f : ι → EReal) (c : EReal) (h0 : 0 ≤ c) (h1 : c ≠ ⊤) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 h1, ih]

/-- A finite sum of real numbers, read among the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- One block of 512 scores and values taken into the running maximum, sum and weighted sum. -/
def stepS (x v : Fin 512 → EReal) (st : EReal × EReal × EReal) : EReal × EReal × EReal :=
  (max st.1 (Finset.univ.sup x),
   Ideal.exp (st.1 - max st.1 (Finset.univ.sup x)) * st.2.1 + ∑ c, Ideal.exp (x c - max st.1 (Finset.univ.sup x)),
   Ideal.exp (st.1 - max st.1 (Finset.univ.sup x)) * st.2.2 + ∑ c, Ideal.exp (x c - max st.1 (Finset.univ.sup x)) * v c)

/-- The running maximum, sum and weighted sum after the first `n` blocks. -/
def runS (X V : ℕ → EReal) : ℕ → EReal × EReal × EReal
  | 0 => (⊥, 0, 0)
  | n + 1 => stepS (fun c => X (512 * n + c.val)) (fun c => V (512 * n + c.val)) (runS X V n)

/-- The largest of the first `n` scores. -/
def mx (X : ℕ → EReal) (n : ℕ) : EReal := (Finset.range n).sup X

theorem le_mx (X : ℕ → EReal) (n k : ℕ) (h : k < n) : X k ≤ mx X n := Finset.le_sup (f := X) (Finset.mem_range.mpr h)

theorem mx_mono (X : ℕ → EReal) {m n : ℕ} (h : m ≤ n) : mx X m ≤ mx X n := Finset.sup_mono (Finset.range_mono h)

theorem mx_add (X : ℕ → EReal) (n w : ℕ) : mx X (n + w) = max (mx X n) (Finset.univ.sup fun c : Fin w => X (n + c.val)) := by
  apply le_antisymm
  · refine Finset.sup_le fun k hk => ?_
    rcases lt_or_ge k n with h | h
    · exact le_max_of_le_left (le_mx X n k h)
    · refine le_max_of_le_right ?_
      have hk' : k - n < w := by have := Finset.mem_range.mp hk; omega
      have := Finset.le_sup (f := fun c : Fin w => X (n + c.val)) (Finset.mem_univ (⟨k - n, hk'⟩ : Fin w))
      rwa [show n + (k - n) = k by omega] at this
  · refine max_le (mx_mono X (Nat.le_add_right _ _)) (Finset.sup_le fun c _ => le_mx X _ _ (by omega))

/-- What the first `n` blocks leave: the maximum of all their scores, the sum of the exponentials of the scores less that
maximum, and the same sum weighted by the values. -/
theorem runS_eq (X V : ℕ → EReal) (n : ℕ) : runS X V n =
    (mx X (512 * n), ∑ k ∈ Finset.range (512 * n), Ideal.exp (X k - mx X (512 * n)), ∑ k ∈ Finset.range (512 * n), Ideal.exp (X k - mx X (512 * n)) * V k) := by
  induction n with
  | zero => simp [runS, mx]
  | succ n ih =>
    have hm := mx_add X (512 * n) 512
    have hle := mx_mono X (Nat.le_add_right (512 * n) 512)
    rw [runS, ih]
    unfold stepS
    simp only [← hm]
    rw [show 512 * (n + 1) = 512 * n + 512 by ring, Finset.sum_range_add, Finset.sum_range_add, Finset.sum_range (n := 512), Finset.sum_range (n := 512)]
    rw [mul_sum_of_nonneg _ _ _ (exp_nonneg _) (exp_sub_ne_top _ _ hle), mul_sum_of_nonneg _ _ _ (exp_nonneg _) (exp_sub_ne_top _ _ hle)]
    congr 2
    · congr 1
      exact Finset.sum_congr rfl fun k hk => exp_rescale _ _ _ (le_mx X _ _ (Finset.mem_range.mp hk)) hle
    · congr 1
      refine Finset.sum_congr rfl fun k hk => ?_
      rw [← mul_assoc, exp_rescale _ _ _ (le_mx X _ _ (Finset.mem_range.mp hk)) hle]

/-- Scores that are real up to `q` and minus infinity after it. -/
def cut (x : ℕ → ℝ) (q : ℕ) (k : ℕ) : EReal := if k ≤ q then (x k : EReal) else ⊥

theorem cut_mx (x : ℕ → ℝ) (q N : ℕ) (h : q < N) : ∃ k, k ≤ q ∧ mx (cut x q) N = (x k : EReal) := by
  obtain ⟨k, hk, e⟩ := Finset.exists_mem_eq_sup (Finset.range N) ⟨q, Finset.mem_range.mpr h⟩ (cut x q)
  by_cases hkq : k ≤ q
  · exact ⟨k, hkq, by unfold mx; rw [e]; simp [cut, hkq]⟩
  · exfalso
    have h1 : cut x q q ≤ mx (cut x q) N := le_mx _ _ _ h
    unfold mx at h1
    rw [e] at h1
    simp [cut, hkq] at h1

/-- The maximum does not see what lies after `q`. -/
theorem cut_mx_eq (x : ℕ → ℝ) (q N N' : ℕ) (h : q < N) (h' : N ≤ N') : mx (cut x q) N = mx (cut x q) N' := by
  refine le_antisymm (mx_mono _ h') (Finset.sup_le fun k _ => ?_)
  by_cases hk : k ≤ q
  · exact le_mx _ _ _ (by omega)
  · simp [cut, hk]

/-- Adding a real number to every score adds it to their maximum. -/
theorem cut_mx_add (x : ℕ → ℝ) (d : ℝ) (q N : ℕ) : mx (cut (fun k => x k + d) q) N = mx (cut x q) N + (d : EReal) := by
  unfold mx
  induction N with
  | zero => simp
  | succ N ih =>
    rw [Finset.range_add_one, Finset.sup_insert, Finset.sup_insert, ih]
    have : cut (fun k => x k + d) q N = cut x q N + (d : EReal) := by
      unfold cut; split <;> simp
    rw [this]
    exact (Monotone.map_max (f := fun y : EReal => y + (d : EReal)) (fun a b hab => by exact add_le_add_left hab _)).symm

theorem cut_sum_eq (x : ℕ → ℝ) (m : EReal) (f : ℕ → EReal) (q N N' : ℕ) (h : q < N) (h' : N ≤ N') :
    ∑ k ∈ Finset.range N', Ideal.exp (cut x q k - m) * f k = ∑ k ∈ Finset.range N, Ideal.exp (cut x q k - m) * f k := by
  refine (Finset.sum_subset (Finset.range_mono h') fun k _ hk => ?_).symm
  have : ¬ k ≤ q := by have := mt Finset.mem_range.mpr hk; simp at hk; omega
  simp [cut, this]

/-- A softmax written with each weight divided by the sum is the running softmax's weighted sum over its sum, also when the
scores of one are those of the other moved by a constant. -/
theorem softmax_eq (x : ℕ → ℝ) (d : ℝ) (V : ℕ → EReal) (q n N' : ℕ) (h : q < 512 * n) (h' : 512 * n ≤ N') :
    Ideal.div (runS (cut x q) V n).2.2 (runS (cut x q) V n).2.1 =
      ∑ k ∈ Finset.range N', Ideal.div (Ideal.exp (cut (fun k => x k + d) q k - mx (cut (fun k => x k + d) q) N'))
        (∑ j ∈ Finset.range N', Ideal.exp (cut (fun k => x k + d) q j - mx (cut (fun k => x k + d) q) N')) * V k := by
  obtain ⟨k0, hk0, hM⟩ := cut_mx x q (512 * n) h
  have hM' : mx (cut x q) N' = (x k0 : EReal) := by rw [← hM, cut_mx_eq x q _ _ h h']
  have hE : ∀ k, Ideal.exp (cut (fun k => x k + d) q k - mx (cut (fun k => x k + d) q) N') = Ideal.exp (cut x q k - (x k0 : EReal)) := by
    intro k
    rw [cut_mx_add, hM']
    congr 1
    unfold cut
    split
    · rw [← EReal.coe_add, ← EReal.coe_sub, ← EReal.coe_sub]; congr 1; ring
    · simp [← EReal.coe_add]
  simp only [hE, runS_eq, hM]
  have hs := cut_sum_eq x (x k0) (fun _ => 1) q (512 * n) N' h h'
  simp only [mul_one] at hs
  rw [hs]
  set L := ∑ k ∈ Finset.range (512 * n), Ideal.exp (cut x q k - (x k0 : EReal)) with hL
  obtain ⟨l, hl, hl0⟩ : ∃ l : ℝ, L = (l : EReal) ∧ 0 < l := by
    let g : ℕ → ℝ := fun k => if k ≤ q then Real.exp (x k - x k0) else 0
    have hg : ∀ k, Ideal.exp (cut x q k - (x k0 : EReal)) = (g k : EReal) := by
      intro k
      simp only [g, cut]
      split
      · rw [← EReal.coe_sub, Ideal.exp_coe]
      · simp
    refine ⟨∑ k ∈ Finset.range (512 * n), g k, ?_, ?_⟩
    · rw [hL, coe_sum]; exact Finset.sum_congr rfl fun k _ => hg k
    · refine Finset.sum_pos' (fun k _ => ?_) ⟨k0, Finset.mem_range.mpr (by omega), ?_⟩
      · simp only [g]; split
        · exact (Real.exp_pos _).le
        · exact le_rfl
      · simp only [g, if_pos hk0]; exact Real.exp_pos _
  have hdiv : ∀ y : EReal, Ideal.div y L = ((l⁻¹ : ℝ) : EReal) * y := by
    intro y
    unfold Ideal.div
    rw [if_neg (by rw [hl]; exact_mod_cast hl0.ne'), hl, EReal.coe_inv, mul_comm]
  simp only [hdiv]
  rw [mul_sum_of_nonneg _ _ _ (by exact_mod_cast (inv_pos.mpr hl0).le) (EReal.coe_ne_top _)]
  have e := cut_sum_eq x (x k0) (fun k => ((l⁻¹ : ℝ) : EReal) * V k) q (512 * n) N' h h'
  calc _ = ∑ k ∈ Finset.range (512 * n), Ideal.exp (cut x q k - (x k0 : EReal)) * (((l⁻¹ : ℝ) : EReal) * V k) :=
        Finset.sum_congr rfl fun k _ => by rw [mul_left_comm]
    _ = _ := e.symm
    _ = _ := Finset.sum_congr rfl fun k _ => by rw [mul_left_comm, mul_assoc]

theorem mx_fin (X : ℕ → EReal) (n : ℕ) : (Finset.univ.sup fun c : Fin n => X c.val) = mx X n := by
  have := mx_add X 0 n
  simp only [zero_add] at this
  rw [this]
  simp [mx]

/-- The same, the softmax written over the row's indices. -/
theorem softmax_fin (x : ℕ → ℝ) (d : ℝ) (V : ℕ → EReal) (q n N' : ℕ) (h : q < 512 * n) (h' : 512 * n ≤ N') (lg v : Fin N' → EReal)
    (hl : ∀ k, lg k = cut (fun k => x k + d) q k.val) (hv : ∀ k, v k = V k.val) :
    Ideal.div (runS (cut x q) V n).2.2 (runS (cut x q) V n).2.1 =
      ∑ k : Fin N', Ideal.div (Ideal.exp (lg k - Finset.univ.sup lg)) (∑ j : Fin N', Ideal.exp (lg j - Finset.univ.sup lg)) * v k := by
  obtain rfl : lg = fun k => cut (fun k => x k + d) q k.val := funext hl
  obtain rfl : v = fun k => V k.val := funext hv
  rw [softmax_eq x d V q n N' h h', mx_fin, Finset.sum_range, Finset.sum_range]

end Cert.Online
-- ==== Proof.KIdeal.lean ====
/-
  The attention body's operations over the extended reals, read at one entry: the scores of a block as sums over the lanes,
  and one step of the running maximum, sum and accumulator as a step of the running softmax of that row.
-/
module

public import proofs.«01_k».proof.Proof.KFinal
public import proofs.«01_k».proof.Proof.Online
public import Idealize.ShloMosaic.Lib.Pointwise
public import Idealize.ShloMosaic.Lib.Tactic.CleanTypes
public import Idealize.ShloMosaic.Lib.IdealHost

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic Idealize.ShloMosaic.Pointwise
open Idealize.SL.Sem

theorem ofNat_eq_iff (a b : Fin 8) : BitVec.ofNat 32 a.val = BitVec.ofNat 32 b.val ↔ a = b := by revert a b; decide

theorem select_eq (a b : BitVec 32) (x y : EReal) : Scalar.select (IntOp.cmpi .eq a b) x y = if a = b then x else y := by
  unfold Scalar.select IntOp.cmpi
  by_cases h : a = b
  · simp [h]
  · rw [beq_false_of_ne h]; simp [h]

/-- The decays' row of a head is that head's row. -/
theorem cRow_apply (w : Fin 8) (cb : Vec Ideal S1x8x512 .f32) (c : Fin 512) :
    cRow (BitVec.ofNat 32 w.val) (iota .tc S8x512 32 [0] iota_S8x512_d0_w32) cb (ix2 0 c) = cb (ix3 0 w c) := by
  pointwise [cRow]
  simp only [select_eq, ofNat_eq_iff]
  simp

/-- A score is the inner product over the lanes plus the difference of the decays. -/
theorem score_apply (w : BitVec 32) (v5 : IVec S8x512 32) (q : FVec Ideal S512x128 .bf16) (cr : FVec Ideal S1x1 .f32) (kb : Vec Ideal S1x128x512 .bf16)
    (cb : Vec Ideal S1x8x512 .f32) (r : Fin 512) (c : Fin 512) :
    score w v5 q cr kb cb (ix2 r c) = (∑ d : Fin 128, q (ix2 r d) * kb (ix3 0 d c)) + (cr (ix2 0 0) - cRow w v5 cb (ix2 0 c)) := by
  pointwise [score]

theorem ofBits_negInf : Ideal.ofBits .f32 0xFF800000#32 = (⊥ : EReal) := by simp [Ideal.ofBits, Ideal.ieee]

theorem masked_eq : (Named.named κ "masked" 0xF149F2CA#32 : Ideal .f32) = (⊥ : EReal) := IdealRules.named_const.ideal_named_scalar _ _ _ _ rfl

/-- A running maximum is the larger of the old one and the block's. -/
theorem stepM_apply (s : FVec Ideal S512x512 .f32) (m : Vec Ideal S512x1 .f32) (r : Fin 512) :
    stepM s m (ix2 r 0) = max (m (ix2 r 0)) (Finset.univ.sup fun c : Fin 512 => s (ix2 r c)) := by
  pointwise [stepM]
  rw [ofBits_negInf]
  rfl

/-- One step, read at a row and a lane, is a step of that row's running softmax. -/
theorem step_apply (s : FVec Ideal S512x512 .f32) (vb : Vec Ideal S1x512x128 .bf16) (st : St Ideal) (r : Fin 512) (d : Fin 128) :
    ((step s vb st).1 (ix2 r 0), (step s vb st).2.1 (ix2 r 0), (step s vb st).2.2 (ix2 r d)) =
      Cert.Online.stepS (fun c => s (ix2 r c)) (fun c => vb (ix3 0 c d)) (st.1 (ix2 r 0), st.2.1 (ix2 r 0), st.2.2 (ix2 r d)) := by
  unfold Cert.Online.stepS
  rw [← stepM_apply]
  pointwise [step, stepP, stepA]

/-- The state before the first block, read at a row and a lane. -/
theorem st0_apply (r : Fin 512) (d : Fin 128) :
    ((st0 (F := Ideal)).1 (ix2 r 0), (st0 (F := Ideal)).2.1 (ix2 r 0), (st0 (F := Ideal)).2.2 (ix2 r d)) = ((⊥ : EReal), (0 : EReal), (0 : EReal)) := by
  unfold st0
  unfold_payloads
  pointwise
  exact congrArg (·, (0 : EReal), (0 : EReal)) masked_eq

/-- The states after the first blocks, read at a row and a lane, are that row's running softmax. -/
theorem run_apply (S : ℕ → FVec Ideal S512x512 .f32) (W : ℕ → Vec Ideal S1x512x128 .bf16) (X V : ℕ → EReal) (r : Fin 512) (d : Fin 128) (n : ℕ)
    (hS : ∀ j < n, ∀ c : Fin 512, S j (ix2 r c) = X (512 * j + c.val)) (hV : ∀ j < n, ∀ c : Fin 512, W j (ix3 0 c d) = V (512 * j + c.val)) :
    ((run S W n).1 (ix2 r 0), (run S W n).2.1 (ix2 r 0), (run S W n).2.2 (ix2 r d)) = Cert.Online.runS X V n := by
  induction n with
  | zero => exact st0_apply r d
  | succ n ih =>
    rw [run, step_apply, ih (fun j hj => hS j (by omega)) (fun j hj => hV j (by omega)), Cert.Online.runS]
    congr 1
    · funext c; exact hS n (by omega) c
    · funext c; exact hV n (by omega) c

theorem kW_apply (x1 : Vec Ideal S1x128x8192 .bf16) (j : Fin 16) (d : Fin 128) (c : Fin 512) :
    kW x1 j (ix3 0 d c) = x1 (ix3 0 d ⟨512 * j.val + c.val, by omega⟩) := by
  unfold kW VecWindow.window
  congr 1
  idx_ext

theorem vW_apply (x2 : Vec Ideal S1x8192x128 .bf16) (j : Fin 16) (c : Fin 512) (d : Fin 128) :
    vW x2 j (ix3 0 c d) = x2 (ix3 0 ⟨512 * j.val + c.val, by omega⟩ d) := by
  unfold vW VecWindow.window
  congr 1
  idx_ext

theorem cW_apply (x3 : Vec Ideal S1x8x8192 .f32) (j : Fin 16) (w : Fin 8) (c : Fin 512) :
    cW x3 j (ix3 0 w c) = x3 (ix3 0 w ⟨512 * j.val + c.val, by omega⟩) := by
  unfold cW VecWindow.window
  congr 1
  idx_ext

theorem select_sge (a b : Fin 512) (x y : EReal) :
    Scalar.select (IntOp.cmpi .sge (BitVec.ofNat 32 a.val) (BitVec.ofNat 32 b.val)) x y = if b.val ≤ a.val then x else y := by
  have e : IntOp.cmpi .sge (BitVec.ofNat 32 a.val) (BitVec.ofNat 32 b.val) = BitVec.ofBool (decide (b.val ≤ a.val)) := by
    unfold IntOp.cmpi
    have ha : (BitVec.ofNat 32 a.val).toInt = a.val := by rw [BitVec.toInt_ofNat']; have := a.isLt; simp only [Int.bmod]; omega
    have hb : (BitVec.ofNat 32 b.val).toInt = b.val := by rw [BitVec.toInt_ofNat']; have := b.isLt; simp only [Int.bmod]; omega
    simp only [BitVec.sle_eq_decide, ha, hb, Nat.cast_le]
  rw [e]; unfold Scalar.select
  by_cases h : b.val ≤ a.val <;> simp [h]

/-- The scores of the block on the diagonal: those after the diagonal are minus infinity. -/
theorem maskS_apply (s : FVec Ideal S512x512 .f32) (r c : Fin 512) :
    maskS (iota .tc S512x512 32 [0] iota_S512x512_d0_w32) (iota .tc S512x512 32 [1] iota_S512x512_d1_w32) s (ix2 r c) = if c.val ≤ r.val then s (ix2 r c) else (⊥ : EReal) := by
  pointwise [maskS]
  rw [select_sge]
  split
  · rfl
  · exact masked_eq

theorem bj_val (n : ℕ) (h : n < 16) : (bj n).val = n := by unfold bj; rw [dif_pos h]

/-- The state after the block on the diagonal, read at row `r` and lane `d`: the running softmax of the row's scores, which are
minus infinity after the row's own position. -/
theorem fin_apply (w : Fin 8) (i : grid0.Coords) (q : FVec Ideal S512x128 .bf16) (cr : FVec Ideal S1x1 .f32) (x1 : Vec Ideal S1x128x8192 .bf16)
    (x2 : Vec Ideal S1x8192x128 .bf16) (x3 : Vec Ideal S1x8x8192 .f32) (r : Fin 512) (d : Fin 128) (x : ℕ → ℝ) (V : ℕ → EReal)
    (hx : ∀ k : Fin 8192, (∑ l : Fin 128, q (ix2 r l) * x1 (ix3 0 l k)) + (cr (ix2 0 0) - x3 (ix3 0 w k)) = (x k.val : EReal))
    (hV : ∀ k : Fin 8192, x2 (ix3 0 k d) = V k.val) :
    ((fin (BitVec.ofNat 32 w.val) i q cr x1 x2 x3).1 (ix2 r 0), (fin (BitVec.ofNat 32 w.val) i q cr x1 x2 x3).2.1 (ix2 r 0),
      (fin (BitVec.ofNat 32 w.val) i q cr x1 x2 x3).2.2 (ix2 r d)) =
      Cert.Online.runS (Cert.Online.cut x (512 * (i 2).val + r.val)) V ((i 2).val + 1) := by
  have hi : (i 2).val < 16 := (i 2).isLt
  have hs : ∀ (j : Fin 16) (c : Fin 512), score (BitVec.ofNat 32 w.val) (iota .tc S8x512 32 [0] iota_S8x512_d0_w32) q cr (kW x1 j) (cW x3 j) (ix2 r c) = (x (512 * j.val + c.val) : EReal) := by
    intro j c
    rw [score_apply, cRow_apply, cW_apply]
    simp only [kW_apply]
    exact hx ⟨512 * j.val + c.val, by omega⟩
  unfold fin
  rw [step_apply, run_apply (X := Cert.Online.cut x (512 * (i 2).val + r.val)) (V := V), Cert.Online.runS]
  · congr 1
    · funext c
      refine (maskS_apply _ r c).trans ((congrArg (fun z : EReal => if c.val ≤ r.val then z else ⊥) (hs (i 2) c)).trans ?_)
      unfold Cert.Online.cut
      by_cases h : c.val ≤ r.val
      · rw [if_pos h, if_pos (by omega)]
      · rw [if_neg h, if_neg (by omega)]
    · funext c
      exact (vW_apply x2 (i 2) c d).trans (hV _)
  · intro j hj c
    have e := bj_val j (by omega)
    rw [hs, e]
    unfold Cert.Online.cut
    rw [if_pos (by omega)]
  · intro j hj c
    have e := bj_val j (by omega)
    rw [vW_apply, hV]
    show V (512 * (bj j).val + c.val) = _
    rw [e]

theorem select_slt64 (a : Fin 128) (x y : EReal) :
    Scalar.select (IntOp.cmpi .slt (BitVec.ofNat 32 a.val) 64#32) x y = if a.val < 64 then x else y := by
  have e : IntOp.cmpi .slt (BitVec.ofNat 32 a.val) 64#32 = BitVec.ofBool (decide (a.val < 64)) := by revert a; decide
  rw [e]; unfold Scalar.select
  by_cases h : a.val < 64 <;> simp [h]

theorem select_sge64 (a : Fin 128) (x y : EReal) :
    Scalar.select (IntOp.cmpi .sge (BitVec.ofNat 32 a.val) 64#32) x y = if 64 ≤ a.val then x else y := by
  have e : IntOp.cmpi .sge (BitVec.ofNat 32 a.val) 64#32 = BitVec.ofBool (decide (64 ≤ a.val)) := by revert a; decide
  rw [e]; unfold Scalar.select
  by_cases h : 64 ≤ a.val <;> simp [h]

/-- The first head's queries: the lanes below 64. -/
theorem qH0_apply (x0 : Vec Ideal S1x512x128 .bf16) (r : Fin 512) (l : Fin 128) : qH0 x0 (ix2 r l) = if l.val < 64 then x0 (ix3 0 r l) else 0 := by
  unfold qH0
  unfold_payloads
  pointwise
  exact select_slt64 l _ _

/-- The second head's queries: the lanes from 64 on. -/
theorem qH1_apply (x0 : Vec Ideal S1x512x128 .bf16) (r : Fin 512) (l : Fin 128) : qH1 x0 (ix2 r l) = if 64 ≤ l.val then x0 (ix3 0 r l) else 0 := by
  unfold qH1
  unfold_payloads
  pointwise
  exact select_sge64 l _ _

/-- A sum over the first head's lanes. -/
theorem sum_low (f g : Fin 128 → EReal) : (∑ l : Fin 128, (if l.val < 64 then f l else 0) * g l) = ∑ l : Fin 64, f ⟨l.val, by omega⟩ * g ⟨l.val, by omega⟩ := by
  rw [Fin.sum_univ_add (a := 64) (b := 64) (f := fun l : Fin (64 + 64) => (if l.val < 64 then f l else 0) * g l)]
  have h2 : ∀ l : Fin 64, (if (Fin.natAdd 64 l).val < 64 then f (Fin.natAdd 64 l) else 0) * g (Fin.natAdd 64 l) = 0 := fun l => by simp
  rw [Finset.sum_eq_zero (fun l _ => h2 l), add_zero]
  exact Finset.sum_congr rfl fun l _ => by simp [Fin.castAdd, Fin.castLE]

/-- A sum over the second head's lanes. -/
theorem sum_high (f g : Fin 128 → EReal) : (∑ l : Fin 128, (if 64 ≤ l.val then f l else 0) * g l) = ∑ l : Fin 64, f ⟨64 + l.val, by omega⟩ * g ⟨64 + l.val, by omega⟩ := by
  rw [Fin.sum_univ_add (a := 64) (b := 64) (f := fun l : Fin (64 + 64) => (if 64 ≤ l.val then f l else 0) * g l)]
  have h2 : ∀ l : Fin 64, (if 64 ≤ (Fin.castAdd 64 l).val then f (Fin.castAdd 64 l) else 0) * g (Fin.castAdd 64 l) = 0 := fun l => by
    have := l.isLt
    simp
  rw [Finset.sum_eq_zero (fun l _ => h2 l), zero_add]
  exact Finset.sum_congr rfl fun l _ => by simp [Fin.natAdd]

theorem hd0_eq (i : grid0.Coords) : hd i 0#32 = BitVec.ofNat 32 (2 * (i 1).val) := by
  have : ∀ n : Fin 4, Scalar.addi (Scalar.muli 2#32 (BitVec.ofNat 32 n.val)) 0#32 = BitVec.ofNat 32 (2 * n.val) := by decide
  exact this (i 1)

theorem hd1_eq (i : grid0.Coords) : hd i 1#32 = BitVec.ofNat 32 (2 * (i 1).val + 1) := by
  have : ∀ n : Fin 4, Scalar.addi (Scalar.muli 2#32 (BitVec.ofNat 32 n.val)) 1#32 = BitVec.ofNat 32 (2 * n.val + 1) := by decide
  exact this (i 1)

/-- The first head of the pair. -/
def h0 (i : grid0.Coords) : Fin 8 := ⟨2 * (i 1).val, by have : (i 1).val < 4 := (i 1).isLt; omega⟩

/-- The second head of the pair. -/
def h1 (i : grid0.Coords) : Fin 8 := ⟨2 * (i 1).val + 1, by have : (i 1).val < 4 := (i 1).isLt; omega⟩

theorem cr0_apply (i : grid0.Coords) (cb : Vec Ideal S1x8x512 .f32) : k0_pay30 i cb (ix2 0 0) = cb (ix3 0 (h0 i) 0) := by
  rw [← cRow_apply (h0 i) cb 0]
  show _ = cRow (BitVec.ofNat 32 (2 * (i 1).val)) _ cb (ix2 0 0)
  rw [← hd0_eq]
  unfold cRow hd
  unfold_payloads
  pointwise

theorem cr1_apply (i : grid0.Coords) (cb : Vec Ideal S1x8x512 .f32) :
    k0_pay52 (BitVec.ofNat 32 (i 1).val) (iota .tc S8x512 32 [0] iota_S8x512_d0_w32) cb (ix2 0 0) = cb (ix3 0 (h1 i) 0) := by
  rw [← cRow_apply (h1 i) cb 0]
  show _ = cRow (BitVec.ofNat 32 (2 * (i 1).val + 1)) _ cb (ix2 0 0)
  rw [← hd1_eq]
  unfold cRow hd
  unfold_payloads
  pointwise

/-- An entry of the block of outputs: the head's weighted sum over its sum. -/
theorem bodyVal_apply (i : grid0.Coords) (x0 : Vec Ideal S1x512x128 .bf16) (x1 : Vec Ideal S1x128x8192 .bf16) (x2 : Vec Ideal S1x8192x128 .bf16) (x3 : Vec Ideal S1x8x8192 .f32)
    (r : Fin 512) (l : Fin 128) :
    bodyVal i x0 x1 x2 x3 (ix3 0 r l) =
      if l.val < 64 then
        Ideal.div ((fin (BitVec.ofNat 32 (h0 i).val) i (qH0 x0) (k0_pay30 i (cW x3 (i 2))) x1 x2 x3).2.2 (ix2 r l))
          ((fin (BitVec.ofNat 32 (h0 i).val) i (qH0 x0) (k0_pay30 i (cW x3 (i 2))) x1 x2 x3).2.1 (ix2 r 0))
      else
        Ideal.div ((fin (BitVec.ofNat 32 (h1 i).val) i (qH1 x0) (k0_pay52 (BitVec.ofNat 32 (i 1).val) (iota .tc S8x512 32 [0] iota_S8x512_d0_w32) (cW x3 (i 2))) x1 x2 x3).2.2 (ix2 r l))
          ((fin (BitVec.ofNat 32 (h1 i).val) i (qH1 x0) (k0_pay52 (BitVec.ofNat 32 (i 1).val) (iota .tc S8x512 32 [0] iota_S8x512_d0_w32) (cW x3 (i 2))) x1 x2 x3).2.1 (ix2 r 0)) := by
  unfold bodyVal
  rw [hd0_eq, hd1_eq]
  change k0_pay3 (F := Ideal) _ (k0_pay50 (fin (BitVec.ofNat 32 (h0 i).val) i _ _ x1 x2 x3).2.2 (fin (BitVec.ofNat 32 (h0 i).val) i _ _ x1 x2 x3).2.1)
    (fin (BitVec.ofNat 32 (h1 i).val) i _ _ x1 x2 x3).2.2 (fin (BitVec.ofNat 32 (h1 i).val) i _ _ x1 x2 x3).2.1 _ = _
  generalize fin (BitVec.ofNat 32 (h0 i).val) i (qH0 x0) (k0_pay30 i (cW x3 (i 2))) x1 x2 x3 = s0
  generalize fin (BitVec.ofNat 32 (h1 i).val) i (qH1 x0) (k0_pay52 (BitVec.ofNat 32 (i 1).val) (iota .tc S8x512 32 [0] iota_S8x512_d0_w32) (cW x3 (i 2))) x1 x2 x3 = s1
  unfold_payloads
  pointwise
  exact select_slt64 l _ _

end Cert.KernelIdeal.Attn
-- ==== Proof.RefMax.lean ====
/-
  The host's maximum over a row of scores, read as a supremum.
-/
module

public import proofs.«01_k».proof.Proof.KIdeal
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read

open Idealize.ShloMosaic Idealize.ShloMosaic.TcCoe Idealize.ShloMosaic.Pointwise
open Idealize.SL.Sem

/-- Folding the larger of two from minus infinity gives the supremum. -/
theorem fold_sup {n : ℕ} (f g : Fin n → EReal) (i : EReal) (hi : i = ⊥) (h : ∀ k, f k = g k) :
    Finset.fold (FloatOps.maximumf (F := Ideal) (φ := .f32)) i f Finset.univ = Finset.univ.sup g := by
  obtain rfl : f = g := funext h
  subst hi
  rfl

/-- A row's maximum over the last axis. -/
theorem rowMax (y : FVec Ideal S4x8x8192x8192 .f32) (init : FVec Ideal S_ .f32) (b : Fin 4) (h : Fin 8) (q : Fin 8192)
    (hi : init (Shape.Idx.first h_S_) = (⊥ : EReal)) (g : Fin 8192 → EReal) (hg : ∀ k, y (ix4 b h q k) = g k) :
    Host.reduce FloatOps.maximumf y init reducesTo_S4x8x8192x8192_S4x8x8192_d3 h_S_ (ix3 b h q) = Finset.univ.sup g := by
  have hr : Shape.Reduces S4x8x8192x8192 [3] S4x8x8192 := by decide
  refine (Host.reduce_eq_fold_single (FloatOps.maximumf (F := Ideal) (φ := .f32)) y init reducesTo_S4x8x8192x8192_S4x8x8192_d3 hr h_S_ (ix3 b h q)).trans ?_
  refine fold_sup (n := 8192) _ g _ hi fun k => ?_
  rw [← hg]
  exact congrArg y (funext fun a => Fin.ext (by match a with | ⟨0, _⟩ => rfl | ⟨1, _⟩ => rfl | ⟨2, _⟩ => rfl | ⟨3, _⟩ => rfl))

variable (x0 : FVec Ideal S4x8192x512 .bf16) (x1 : FVec Ideal S4x512x8192 .bf16) (x3 : FVec Ideal S4x8x8192 .f32)

theorem cst0 : val_main_cst_0 (F := Ideal) (Shape.Idx.first h_S_) = (⊥ : EReal) := by
  rw [val_main_cst_0_apply]
  exact Cert.KernelIdeal.Attn.ofBits_negInf

/-- The reference's row maximum, from its scores read at a row. -/
theorem v22_of (b : Fin 4) (h : Fin 8) (q : Fin 8192) (lg : Fin 8192 → EReal) (hl : ∀ k, val_main_v21 (F := Ideal) x0 x1 x3 (ix4 b h q k) = lg k): val_main_v22 (F := Ideal) x0 x1 x3 (ix3 b h q) = Finset.univ.sup lg := by
  unfold val_main_v22
  generalize val_main_v21 (F := Ideal) x0 x1 x3 = y at *
  have := rowMax y (val_main_cst_0 (F := Ideal)) b h q cst0 lg hl
  exact this

end Cert.ReferenceIdeal.Attn
-- ==== Proof.RefValue.lean ====
/-
  The attention reference over the extended reals, read at one entry: its masked scores, its softmax, its weighted sum of values.
-/
module

public import proofs.«01_k».proof.Proof.RefMax

@[expose] public section

set_option maxRecDepth 16384

noncomputable section

namespace Cert.ReferenceIdeal.Attn

open Cert.ReferenceIdeal Cert.ReferenceIdeal.Gen Cert.ReferenceIdeal.Read

open Idealize.ShloMosaic Idealize.ShloMosaic.TcCoe Idealize.ShloMosaic.Pointwise
open Idealize.SL.Sem

variable (x0 : FVec Ideal S4x8192x512 .bf16) (x1 : FVec Ideal S4x512x8192 .bf16) (x2 : FVec Ideal S4x8192x512 .bf16) (x3 : FVec Ideal S4x8x8192 .f32)

theorem select_sle (a b : Fin 8192) (x y : EReal) :
    Scalar.select (IntOp.cmpi .sle (BitVec.ofNat 32 a.val) (BitVec.ofNat 32 b.val)) x y = if a.val ≤ b.val then x else y := by
  have e : IntOp.cmpi .sle (BitVec.ofNat 32 a.val) (BitVec.ofNat 32 b.val) = BitVec.ofBool (decide (a.val ≤ b.val)) := by
    unfold IntOp.cmpi
    have ha : (BitVec.ofNat 32 a.val).toInt = a.val := by rw [BitVec.toInt_ofNat']; have := a.isLt; simp only [Int.bmod]; omega
    have hb : (BitVec.ofNat 32 b.val).toInt = b.val := by rw [BitVec.toInt_ofNat']; have := b.isLt; simp only [Int.bmod]; omega
    simp only [BitVec.sle_eq_decide, ha, hb, Nat.cast_le]
  rw [e]; unfold Scalar.select
  by_cases h : a.val ≤ b.val <;> simp [h]

/-- The masked scores of a row. -/
def lg (b : Fin 4) (h : Fin 8) (q k : Fin 8192) : EReal :=
  if k.val ≤ q.val then
    (∑ d : Fin 64, x0 (ix3 b q ⟨64 * h.val + d.val, by omega⟩) * x1 (ix3 b ⟨64 * h.val + d.val, by omega⟩ k)) + (x3 (ix3 b h q) - x3 (ix3 b h k))
  else ⊥

/-- The reference's masked scores. -/
theorem v21_apply (b : Fin 4) (h : Fin 8) (q k : Fin 8192) : val_main_v21 (F := Ideal) x0 x1 x3 (ix4 b h q k) = lg x0 x1 x3 b h q k := by
  pointwise [val_main_v21, val_main_v20, val_main_call0_v1, val_main_call0_v2, val_main_call0_v0, val_main_cst, val_main_v19, val_main_v18, val_main_v17,
    val_main_v16, val_main_v15, val_main_v14, val_main_v5, val_main_v6, val_main_v0, val_main_v1, val_main_v2, val_main_v13, val_main_v12, val_main_v11,
    val_main_v10, val_main_v9, val_main_v8, val_main_v7, val_main_v4]
  refine (select_sle k q _ _).trans ?_
  unfold lg
  simp only [Nat.mul_comm h.val 64]
  split
  · rfl
  · exact Cert.KernelIdeal.Attn.ofBits_negInf

/-- The largest masked score of a row. -/
theorem v22_apply (b : Fin 4) (h : Fin 8) (q : Fin 8192) : val_main_v22 (F := Ideal) x0 x1 x3 (ix3 b h q) = Finset.univ.sup (lg x0 x1 x3 b h q) := by
  exact v22_of x0 x1 x3 b h q (lg x0 x1 x3 b h q) fun k => v21_apply x0 x1 x3 b h q k

theorem max_negInf (M : EReal) : FloatOps.maximumf (F := Ideal) (φ := .f32) (FloatOps.ofBits .f32 0xFF800000#32) M = M := by
  show max (Ideal.ofBits .f32 0xFF800000#32) M = M
  rw [Cert.KernelIdeal.Attn.ofBits_negInf]
  exact max_eq_right bot_le

/-- Once more the maximum with minus infinity changes nothing. -/
theorem v24_apply (b : Fin 4) (h : Fin 8) (q : Fin 8192) : val_main_v24 (F := Ideal) x0 x1 x3 (ix3 b h q) = Finset.univ.sup (lg x0 x1 x3 b h q) := by
  rw [val_main_v24_apply, val_main_v23_apply, val_main_cst_1_apply, v22_apply]
  generalize Finset.univ.sup (lg x0 x1 x3 b h q) = M
  exact max_negInf M

/-- The exponentials. -/
theorem v28_apply (b : Fin 4) (h : Fin 8) (q k : Fin 8192) : val_main_v28 (F := Ideal) x0 x1 x3 (ix4 b h q k) =
    Ideal.exp (lg x0 x1 x3 b h q k - Finset.univ.sup (lg x0 x1 x3 b h q)) := by
  pointwise [val_main_v28, val_main_v27, val_main_v26, val_main_v25]
  rw [v24_apply, v21_apply]

/-- Their sum over a row. -/
theorem v29_apply (b : Fin 4) (h : Fin 8) (q : Fin 8192) : val_main_v29 (F := Ideal) x0 x1 x3 (ix3 b h q) =
    ∑ j : Fin 8192, Ideal.exp (lg x0 x1 x3 b h q j - Finset.univ.sup (lg x0 x1 x3 b h q)) := by
  have hl : ∀ k, val_main_v28 (F := Ideal) x0 x1 x3 (idx_main_v29 (ix3 b h q) k) = Ideal.exp (lg x0 x1 x3 b h q k - Finset.univ.sup (lg x0 x1 x3 b h q)) := fun k => by
    rw [← v28_apply]
    exact congrArg _ (funext fun a => by match a with | ⟨0, _⟩ => rfl | ⟨1, _⟩ => rfl | ⟨2, _⟩ => rfl | ⟨3, _⟩ => rfl)
  have h0 : (val_main_cst_2 (F := Ideal)) (Shape.Idx.first h_S_) = (0 : EReal) := by simp [val_main_cst_2_apply, Ideal.ofBits, Ideal.ieee]
  rw [val_main_v29_apply, h0, zero_add]
  exact Finset.sum_congr rfl fun k _ => hl k

/-- The softmax's weights. -/
theorem v33_apply (b : Fin 4) (h : Fin 8) (q k : Fin 8192) : val_main_v33 (F := Ideal) x0 x1 x3 (ix4 b h q k) =
    Ideal.div (Ideal.exp (lg x0 x1 x3 b h q k - Finset.univ.sup (lg x0 x1 x3 b h q))) (∑ j : Fin 8192, Ideal.exp (lg x0 x1 x3 b h q j - Finset.univ.sup (lg x0 x1 x3 b h q))) := by
  pointwise [val_main_v33, val_main_v32, val_main_v31, val_main_v30]
  rw [v29_apply, v28_apply]

/-- An entry of the reference's result. -/
theorem v36_apply (b : Fin 4) (q : Fin 8192) (l : Fin 512) : val_main_v36 (F := Ideal) x0 x1 x2 x3 (ix3 b q l) =
    ∑ k : Fin 8192, val_main_v33 (F := Ideal) x0 x1 x3 (ix4 b ⟨l.val / 64, by omega⟩ q k) * x2 (ix3 b k l) := by
  pointwise [val_main_v36, val_main_v35, val_main_v34, val_main_v3]
  exact Finset.sum_congr rfl fun k _ => mul_comm _ _

end Cert.ReferenceIdeal.Attn
-- ==== Proof.AttnEq.lean ====
/-
  The attention kernel's result array is the reference's, entry by entry, where queries, keys and decays are finite.
-/
module

public import proofs.«01_k».proof.Proof.RefValue

@[expose] public section

set_option maxRecDepth 16384

noncomputable section

namespace Cert.KernelIdeal.Attn

open Cert.KernelIdeal Cert.KernelIdeal.Gen

open Idealize.ShloMosaic Idealize.ShloMosaic.TcCoe Idealize.ShloMosaic.Pointwise
open Idealize.SL.Sem

/-- An entry of the kernel's result is the reference's, for either head of a pair, given the head's inner products and its reference decay. -/
theorem head_eq (f0 : S4x8192x512.Idx → ℝ) (f1 : S4x512x8192.Idx → ℝ) (X2 : FVec Ideal S4x8192x512 .bf16) (f3 : S4x8x8192.Idx → ℝ)
    (i : grid0.Coords) (w : Fin 8) (qv : FVec Ideal S512x128 .bf16) (cr : FVec Ideal S1x1 .f32) (r : Fin 512) (l : Fin 128) (b : Fin 4) (Q : Fin 8192) (L : Fin 512) (K : Fin 8192)
    (hb : (i 0 : Fin 4) = b) (hQ : Q.val = 512 * (i 2).val + r.val) (hL : L.val = 128 * (i 1).val + l.val) (hw : L.val / 64 = w.val)
    (hq : ∀ k : Fin 8192, ∑ l' : Fin 128, qv (ix2 r l') * kB (F := Ideal) i (fun y => (f1 y : EReal)) (ix3 0 l' k) =
      ∑ d : Fin 64, (f0 (ix3 b Q ⟨64 * w.val + d.val, by omega⟩) : EReal) * (f1 (ix3 b ⟨64 * w.val + d.val, by omega⟩ k) : EReal))
    (hcr : cr (ix2 0 0) = (f3 (ix3 b w K) : EReal)) :
    Ideal.div ((fin (F := Ideal) (BitVec.ofNat 32 w.val) i qv cr (kB i (fun y => (f1 y : EReal))) (vB i X2) (cB i (fun y => (f3 y : EReal)))).2.2 (ix2 r l))
        ((fin (F := Ideal) (BitVec.ofNat 32 w.val) i qv cr (kB i (fun y => (f1 y : EReal))) (vB i X2) (cB i (fun y => (f3 y : EReal)))).2.1 (ix2 r 0)) =
      Cert.ReferenceIdeal.Read.val_main_v36 (F := Ideal) (fun y => (f0 y : EReal)) (fun y => (f1 y : EReal)) X2 (fun y => (f3 y : EReal)) (ix3 b Q L) := by
  have hi : (i 2).val < 16 := (i 2).isLt
  let x : ℕ → ℝ := fun k => if h : k < 8192 then
      (∑ d : Fin 64, f0 (ix3 b Q ⟨64 * w.val + d.val, by omega⟩) * f1 (ix3 b ⟨64 * w.val + d.val, by omega⟩ ⟨k, h⟩)) + (f3 (ix3 b w K) - f3 (ix3 b w ⟨k, h⟩)) else 0
  let V : ℕ → EReal := fun k => if h : k < 8192 then X2 (ix3 b ⟨k, h⟩ L) else 0
  have hx : ∀ k : Fin 8192, x k.val = (∑ d : Fin 64, f0 (ix3 b Q ⟨64 * w.val + d.val, by omega⟩) * f1 (ix3 b ⟨64 * w.val + d.val, by omega⟩ k)) + (f3 (ix3 b w K) - f3 (ix3 b w k)) := fun k => by
    simp only [x, k.isLt, dif_pos]
  have hV : ∀ k : Fin 8192, V k.val = X2 (ix3 b k L) := fun k => by simp only [V, k.isLt, dif_pos]
  have hs : ∀ k : Fin 8192, (∑ d : Fin 64, (f0 (ix3 b Q ⟨64 * w.val + d.val, by omega⟩) : EReal) * (f1 (ix3 b ⟨64 * w.val + d.val, by omega⟩ k) : EReal)) =
      ((∑ d : Fin 64, f0 (ix3 b Q ⟨64 * w.val + d.val, by omega⟩) * f1 (ix3 b ⟨64 * w.val + d.val, by omega⟩ k) : ℝ) : EReal) := fun k => by
    rw [Cert.Online.coe_sum]
    exact Finset.sum_congr rfl fun d _ => (EReal.coe_mul _ _).symm
  have hc : ∀ k : Fin 8192, cB (F := Ideal) i (fun y => (f3 y : EReal)) (ix3 0 w k) = (f3 (ix3 b w k) : EReal) := fun k => by
    rw [← hb]; rfl
  have hv : ∀ k : Fin 8192, vB (F := Ideal) i X2 (ix3 0 k l) = V k.val := fun k => by
    rw [hV, ← hb]
    refine congrArg X2 ?_
    funext a
    match a with
    | ⟨0, _⟩ => rfl
    | ⟨1, _⟩ => rfl
    | ⟨2, _⟩ => exact Fin.ext hL.symm
  have hf := fin_apply w i qv cr (kB (F := Ideal) i (fun y => (f1 y : EReal))) (vB (F := Ideal) i X2) (cB (F := Ideal) i (fun y => (f3 y : EReal))) r l x V
    (fun k => by
      rw [hq, hs, hcr, hc, hx]
      rw [← EReal.coe_sub, ← EReal.coe_add]) hv
  refine (congrArg (fun p : EReal × EReal × EReal => Ideal.div p.2.2 p.2.1) hf).trans ?_
  rw [← hQ]
  rw [Cert.ReferenceIdeal.Attn.v36_apply]
  have hw' : (⟨L.val / 64, by omega⟩ : Fin 8) = w := Fin.ext hw
  simp only [hw', Cert.ReferenceIdeal.Attn.v33_apply]
  refine Cert.Online.softmax_fin x (f3 (ix3 b w Q) - f3 (ix3 b w K)) V Q.val ((i 2).val + 1) 8192 (by omega) (by omega) _ _ (fun k => ?_) (fun k => (hV k).symm)
  unfold Cert.ReferenceIdeal.Attn.lg Cert.Online.cut
  by_cases h : k.val ≤ Q.val
  · rw [if_pos h, if_pos h, hs]
    show _ = ((x k.val + (f3 (ix3 b w Q) - f3 (ix3 b w K)) : ℝ) : EReal)
    rw [hx, ← EReal.coe_sub, ← EReal.coe_add]
    congr 1
    ring
  · rw [if_neg h, if_neg h]

/-- The kernel's result array is the reference's. -/
theorem G_eq (f0 : S4x8192x512.Idx → ℝ) (f1 : S4x512x8192.Idx → ℝ) (X2 : FVec Ideal S4x8192x512 .bf16) (f3 : S4x8x8192.Idx → ℝ) :
    G (F := Ideal) (fun y => (f0 y : EReal)) (fun y => (f1 y : EReal)) X2 (fun y => (f3 y : EReal)) =
      Cert.ReferenceIdeal.Read.val_main_v36 (F := Ideal) (fun y => (f0 y : EReal)) (fun y => (f1 y : EReal)) X2 (fun y => (f3 y : EReal)) := by
  funext y
  obtain ⟨b, Q, L, rfl⟩ : ∃ (b : Fin 4) (Q : Fin 8192) (L : Fin 512), y = ix3 b Q L := ⟨y 0, y 1, y 2, eq_ix3 y⟩
  obtain ⟨e0, e1, e2⟩ := coords_eq (tOf (ix3 b Q L))
  have ht : (tOf (ix3 b Q L)).val = 64 * b.val + 16 * (L.val / 128) + Q.val / 512 := rfl
  unfold G blockOf
  show bodyVal _ _ _ _ _ (ix3 (0 : Fin 1) ⟨Q.val % 512, Nat.mod_lt _ (by decide)⟩ ⟨L.val % 128, Nat.mod_lt _ (by decide)⟩) = _
  generalize hi : grid0.coords (tOf (ix3 b Q L)) = i at *
  rw [bodyVal_apply]
  have hb : (i 0 : Fin 4) = b := Fin.ext (by omega)
  have hk : ∀ (l' : Fin 128) (k : Fin 8192), kB (F := Ideal) i (fun y => (f1 y : EReal)) (ix3 0 l' k) =
      (f1 (ix3 b ⟨128 * (i 1).val + l'.val, by have : (i 1).val < 4 := (i 1).isLt; omega⟩ k) : EReal) := fun l' k => by
    refine congrArg (fun y => (f1 y : EReal)) ?_
    funext a
    match a with
    | ⟨0, _⟩ => exact hb
    | ⟨1, _⟩ => rfl
    | ⟨2, _⟩ => rfl
  have hq : ∀ (l' : Fin 128), qB (F := Ideal) i (fun y => (f0 y : EReal)) (ix3 0 ⟨Q.val % 512, Nat.mod_lt _ (by decide)⟩ l') =
      (f0 (ix3 b Q ⟨128 * (i 1).val + l'.val, by have : (i 1).val < 4 := (i 1).isLt; omega⟩) : EReal) := fun l' => by
    refine congrArg (fun y => (f0 y : EReal)) ?_
    funext a
    match a with
    | ⟨0, _⟩ => exact hb
    | ⟨1, _⟩ => exact Fin.ext (show 512 * (i 2).val + Q.val % 512 = Q.val by omega)
    | ⟨2, _⟩ => rfl
  have hcw : ∀ w : Fin 8, cW (cB (F := Ideal) i (fun y => (f3 y : EReal))) (i 2) (ix3 0 w 0) = (f3 (ix3 b w ⟨512 * (i 2).val, by have : (i 2).val < 16 := (i 2).isLt; omega⟩) : EReal) := fun w => by
    refine (cW_apply _ (i 2) w 0).trans ?_
    refine congrArg (fun y => (f3 y : EReal)) ?_
    funext a
    match a with
    | ⟨0, _⟩ => exact hb
    | ⟨1, _⟩ => rfl
    | ⟨2, _⟩ => rfl
  split
  · rename_i hl
    change L.val % 128 < 64 at hl
    refine head_eq f0 f1 X2 f3 i (h0 i) _ _ _ _ b Q L ⟨512 * (i 2).val, by have : (i 2).val < 16 := (i 2).isLt; omega⟩ hb
      (show Q.val = 512 * (i 2).val + Q.val % 512 by omega) (show L.val = 128 * (i 1).val + L.val % 128 by omega)
      (show L.val / 64 = 2 * (i 1).val by omega) (fun k => ?_) ((cr0_apply i _).trans (hcw _))
    simp only [qH0_apply, hq, hk]
    rw [sum_low]
    refine Finset.sum_congr rfl fun d _ => ?_
    have e : 64 * (h0 i).val = 128 * (i 1).val := by unfold h0; show 64 * (2 * (i 1).val) = _; omega
    simp only [e]
  · rename_i hl
    change ¬ L.val % 128 < 64 at hl
    refine head_eq f0 f1 X2 f3 i (h1 i) _ _ _ _ b Q L ⟨512 * (i 2).val, by have : (i 2).val < 16 := (i 2).isLt; omega⟩ hb
      (show Q.val = 512 * (i 2).val + Q.val % 512 by omega) (show L.val = 128 * (i 1).val + L.val % 128 by omega)
      (show L.val / 64 = 2 * (i 1).val + 1 by omega) (fun k => ?_) ((cr1_apply i _).trans (hcw _))
    simp only [qH1_apply, hq, hk]
    rw [sum_high]
    refine Finset.sum_congr rfl fun d _ => ?_
    have e : 64 * (h1 i).val = 128 * (i 1).val + 64 := by unfold h1; show 64 * (2 * (i 1).val + 1) = _; omega
    simp only [e, add_assoc]

end Cert.KernelIdeal.Attn
-- ==== Proof.MFrame.lean ====
/-
  The attention kernel over machine floats. The idealized kernel is the same program with its mask value given by a name;
  with that name read as the printed word it is the kernel itself, so its frame is the kernel's.
-/
module

public import proofs.«01_k».proof.Defs
public import proofs.«01_k».proof.Proof.KFrame
public import proofs.«01_k».proof.Proof.Gen.Kernel

@[expose] public section

set_option maxRecDepth 16384

noncomputable section

namespace Cert.Kernel.Attn

open Idealize.ShloMosaic Idealize.ShloMosaic.TcCoe Idealize.SL.Sem

/-- Every named constant read as its printed word. -/
@[reducible] def asPrinted (F : FTy → Type) [FloatOps F] : Named F := ⟨fun _ _ φ bits => Scalar.ofBits φ bits⟩

attribute [local instance] asPrinted Cert.Kernel.Gen.facts Cert.KernelIdeal.Gen.facts

/-- The two programs' tables of bodies agree. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l with
  | ⟨0, _⟩ => rfl

/-- The kernel over machine floats runs, leaves its arguments and ends with every semaphore at zero. -/
theorem frame : Cert.quiescent_Kernel (hKernel := Cert.Kernel.Gen.facts) := fun m ρ _ => by
  have h := Cert.KernelIdeal.Attn.frame (F := Bits) m ρ
  have e : Cert.Kernel.defs (F := Bits) = Cert.KernelIdeal.defs (F := Bits) := congrArg (Pipeline.defs Cert.Kernel.pcfgs) bodies_eq
  generalize Cert.Kernel.defs (F := Bits) = D at e ⊢
  subst e
  exact h

end Cert.Kernel.Attn

end
-- ==== Proof.AttnClaim.lean ====
/-
  The claims about the attention: the runs of the kernel and of the reference, the named constant, and the equality of their results
  where the queries, the keys and the decays are finite.
-/
module

public import proofs.«01_k».proof.Defs
public import proofs.«01_k».proof.Proof.AttnEq
public import proofs.«01_k».proof.Proof.MFrame
public import Idealize.ShloMosaic.Adequacy
public import Idealize.ShloMosaic.Init

@[expose] public section

set_option maxRecDepth 16384

noncomputable section

namespace Cert.Attn

open Idealize.ShloMosaic Idealize.ShloMosaic.TcCoe Idealize.ShloMosaic.Pointwise Idealize.SL.Sem

/-- The side conditions of the precondition's three comparisons. -/
instance preFacts : Cert.Pre_finite_operands.Facts where
  bcast_S_S4x8192x512 := by decide
  bcast_S_S4x512x8192 := by decide
  bcast_S_S4x8x8192 := by decide

/-- An extended real whose absolute value compares below plus infinity is a real number. -/
theorem finite_of_cmp (x t : EReal) (ht : t = ⊤) (h : FloatOps.cmpf (F := Ideal) (φ := .f32) .olt (max x (-x)) t = 1#1) : ∃ r : ℝ, x = (r : EReal) := by
  subst ht
  have hn : ¬ FloatOps.cmpf (F := Ideal) (φ := .f32) .olt (⊤ : EReal) ⊤ = 1#1 := by
    show ¬ Ideal.cmp .olt (⊤ : EReal) ⊤ = 1#1
    simp [Ideal.cmp]
  induction x with
  | bot => exact absurd (by simpa using h) hn
  | top => exact absurd (by simpa using h) hn
  | coe a => exact ⟨a, rfl⟩

theorem inf_f32 : Ideal.ofBits .f32 0x7F800000#32 = (⊤ : EReal) := by simp [Ideal.ofBits, Ideal.ieee]

theorem inf_bf16 : Ideal.ofBits .bf16 0x7F80#16 = (⊤ : EReal) := by simp [Ideal.ofBits, Ideal.ieee]

/-- The precondition makes the queries, the keys and the decays real numbers. -/
theorem finite_args (x0 : FVec Ideal Cert.Pre_finite_operands.S4x8192x512 .bf16) (x1 : FVec Ideal Cert.Pre_finite_operands.S4x512x8192 .bf16)
    (x2 : FVec Ideal Cert.Pre_finite_operands.S4x8192x512 .bf16) (x3 : FVec Ideal Cert.Pre_finite_operands.S4x8x8192 .f32)
    (h0 : (Cert.Pre_finite_operands.fn (F := Ideal) x0 x1 x2 x3).1 = fun _ => 1#1) (h1 : (Cert.Pre_finite_operands.fn (F := Ideal) x0 x1 x2 x3).2.1 = fun _ => 1#1)
    (h2 : (Cert.Pre_finite_operands.fn (F := Ideal) x0 x1 x2 x3).2.2 = fun _ => 1#1) :
    (∃ f : Cert.Pre_finite_operands.S4x8192x512.Idx → ℝ, x0 = fun y => (f y : EReal)) ∧ (∃ f : Cert.Pre_finite_operands.S4x512x8192.Idx → ℝ, x1 = fun y => (f y : EReal))
      ∧ (∃ f : Cert.Pre_finite_operands.S4x8x8192.Idx → ℝ, x3 = fun y => (f y : EReal)) := by
  have a0 : ∀ y, ∃ r : ℝ, x0 y = (r : EReal) := fun y => finite_of_cmp _ _ inf_bf16 (congrFun h0 y)
  have a1 : ∀ y, ∃ r : ℝ, x1 y = (r : EReal) := fun y => finite_of_cmp _ _ inf_bf16 (congrFun h1 y)
  have a2 : ∀ y, ∃ r : ℝ, x3 y = (r : EReal) := fun y => finite_of_cmp _ _ inf_f32 (congrFun h2 y)
  choose f0 e0 using a0
  choose f1 e1 using a1
  choose f2 e2 using a2
  exact ⟨⟨f0, funext e0⟩, ⟨f1, funext e1⟩, ⟨f2, funext e2⟩⟩

/-- The kernel over machine floats runs, leaves its arguments and ends with every semaphore at zero. -/
theorem frame_kernel : Cert.quiescent_Kernel (hKernel := Cert.Kernel.Gen.facts) := Cert.Kernel.Attn.frame

/-- The same of the idealized kernel. -/
theorem frame_ideal : Cert.quiescent_KernelIdeal (hKernelIdeal := Cert.KernelIdeal.Gen.facts) := fun m ρ _ => Cert.KernelIdeal.Attn.frame m ρ

/-- The same where the operands are finite. -/
theorem frame_ideal_pre : Cert.quiescent_KernelIdeal_pre_finite_operands (hKernelIdeal := Cert.KernelIdeal.Gen.facts) (hPre_finite_operands := preFacts) :=
  fun m ρ _ => Cert.KernelIdeal.Attn.frame m ρ

/-- The same of the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same of the reference where the operands are finite. -/
theorem frame_reference_pre : Cert.quiescent_ReferenceIdeal_pre_finite_operands (hReferenceIdeal := Cert.ReferenceIdeal.Gen.facts) (hPre_finite_operands := preFacts) :=
  fun m ρ _ => frame_reference m ρ trivial

/-- The one named constant: the mask value stands for minus infinity. -/
theorem preserves : Cert.preserves_Kernel_KernelIdeal := IdealRules.named_const.statement Cert.KernelIdeal.κ "masked" .f32 0xF149F2CA#32 ⊥ rfl

/-- The kernel's result is the reference's, where queries, keys and decays are finite. -/
theorem value : Cert.algebraic_KernelIdeal_ReferenceIdeal_pre_finite_operands (hKernelIdeal := Cert.KernelIdeal.Gen.facts)
    (hReferenceIdeal := Cert.ReferenceIdeal.Gen.facts) (hPre_finite_operands := preFacts) := by
  intro m ρ m' ρ' hpre hagree
  refine ⟨fun c => Cert.KernelIdeal.Attn.G (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)), Cert.KernelIdeal.Attn.run_value m ρ, ?_⟩
  refine (θ_run Cert.ReferenceIdeal.defs _ _).mono (fun r h c => ⟨(h c).1.trans ?_, (h c).2⟩) (Cert.ReferenceIdeal.Value.run (F := Ideal) m' ρ')
  obtain ⟨p0, p1, p2⟩ := hpre c
  obtain ⟨g0, g1, g2, g3⟩ := hagree c
  refine (Cert.ReferenceIdeal.Read.val_main_v36_eq m' c).trans ?_
  obtain ⟨⟨f0, e0⟩, ⟨f1, e1⟩, ⟨f3, e3⟩⟩ := finite_args _ _ _ _ p0 p1 p2
  refine (congr (congr (congr (congrArg (Cert.ReferenceIdeal.Read.val_main_v36 (F := Ideal)) (g0.trans e0)) (g1.trans e1)) g2) (g3.trans e3)).trans ?_
  refine (Cert.KernelIdeal.Attn.G_eq f0 f1 _ f3).symm.trans ?_
  exact congr (congr (congr (congrArg (Cert.KernelIdeal.Attn.G (F := Ideal)) e0.symm) e1.symm) rfl) e3.symm

end Cert.Attn
-- ==== Proof.P2Body.lean ====
/-
  What the projection's body leaves in each output's staging memref and in the running total it carries, as plain
  functions of its input windows.
-/
module

public import proofs.«01_k».proof.Proof.Gen.Kernel2Ideal.Frame
public import Idealize.ShloMosaic.Lib.Pipeline.Value
public import Idealize.ShloMosaic.Lib.VecWindow

@[expose] public section

set_option maxRecDepth 16384

noncomputable section

namespace Cert.Kernel2Ideal.Proj

open Cert.Kernel2Ideal Cert.Kernel2Ideal.Gen

open Idealize.ShloMosaic Idealize.ShloMosaic.TcCoe Idealize.ShloMosaic.Tactic
open Idealize.SL.Sem

variable {F : FTy → Type} [FloatOps F]

/-- Columns `512 j … 512 j + 511` of the concatenated weights. -/
def wS (x2 : Vec F S1024x3072 .bf16) (j : Fin 6) : Vec F S1024x512 .bf16 :=
  VecWindow.window x2 ![0, 512 * j.val] S1024x512.size (by revert j; decide)

/-- The running totals that enter a block: the carried scratch's first column. -/
def col0 (s : Vec F S8x128 .f32) : Vec F S8x1 .f32 := VecWindow.window s ![0, 0] S8x1.size (by decide)

/-- The normed rows of a block. -/
def zB (x0 : Vec F S1x512x1024 .f32) (x1 : Vec F S1x1024 .f32) : FVec F S512x1024 .bf16 := k0_pay4 x0 x1

/-- The log decays of a block. -/
def lB (x0 : Vec F S1x512x1024 .f32) (x1 : Vec F S1x1024 .f32) (x4 : Vec F S16x1024 .bf16) (x5 : Vec F S16x1 .f32) : FVec F S8x512 .f32 :=
  k0_pay17 (k0_pay4 x0 x1) x4 x5

/-- The running totals of a block's log decays, from the totals `s` that enter it, read along the lanes. -/
def ctB (l : FVec F S8x512 .f32) (s : Vec F S8x1 .f32) : FVec F S1x8x512 .f32 :=
  k0_pay2 (iota Kind.tc S8x512 32 [1] iota_S8x512_d1_w32) (k0_pay20 l) s

/-- The running total after a block, across the carried scratch's lanes. -/
def scB (l : FVec F S8x512 .f32) (s : Vec F S8x1 .f32) : FVec F S8x128 .f32 :=
  k0_pay3 (iota Kind.tc S8x512 32 [1] iota_S8x512_d1_w32) (k0_pay20 l) s

set_option backward.isDefEq.respectTransparency false in
/-- The queries the body leaves in a row's first block. -/
theorem out0_A_6_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_6 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay5 x0 x1 (wS x2 0) := by
  unfold out0_A_6 kernelRun0_A
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 0 ![0, 0] rfl]

set_option backward.isDefEq.respectTransparency false in
/-- The values, cast the body leaves in a row's first block. -/
theorem out0_A_7_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_7 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay9 (k0_pay8 x0 x1 (wS x2 1)) := by
  unfold out0_A_7 kernelRun0_A
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 1 ![0, 512] rfl]

set_option backward.isDefEq.respectTransparency false in
/-- The values the body leaves in a row's first block. -/
theorem out0_A_8_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_8 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay7 x0 x1 (wS x2 1) := by
  unfold out0_A_8 kernelRun0_A
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 1 ![0, 512] rfl]

set_option backward.isDefEq.respectTransparency false in
/-- The transposed keys, cast the body leaves in a row's first block. -/
theorem out0_A_9_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_9 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay16 (zB x0 x1) (k0_pay13 x3) := by
  unfold out0_A_9 kernelRun0_A
  dsimp only
  sl_unfold_words
  rw [View.read_writes_full]
  rw [View.readAt_full arg2.view, harg2.read_unread]
  rw [View.readAt_full arg3.view, harg3.read_unread]
  rw [View.readAt_full arg5.view, harg5.read_unread]
  rfl

set_option backward.isDefEq.respectTransparency false in
/-- The transposed keys the body leaves in a row's first block. -/
theorem out0_A_10_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_10 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay15 (zB x0 x1) (k0_pay13 x3) := by
  unfold out0_A_10 kernelRun0_A
  dsimp only
  sl_unfold_words
  rw [View.read_writes_full]
  rw [View.readAt_full arg2.view, harg2.read_unread]
  rw [View.readAt_full arg3.view, harg3.read_unread]
  rw [View.readAt_full arg5.view, harg5.read_unread]
  rfl

set_option backward.isDefEq.respectTransparency false in
/-- The log decays the body leaves in a row's first block. -/
theorem out0_A_11_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay18 (zB x0 x1) x4 x5 := by
  unfold out0_A_11 kernelRun0_A
  dsimp only
  sl_unfold_words
  rw [View.read_writes_full]
  rw [View.readAt_full arg2.view, harg2.read_unread]
  rw [View.readAt_full arg3.view, harg3.read_unread]
  rw [View.readAt_full arg6.view, harg6.read_unread]
  rw [View.readAt_full arg7.view, harg7.read_unread]
  rfl

set_option backward.isDefEq.respectTransparency false in
/-- The running totals the body leaves in a row's first block. -/
theorem out0_A_12_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = ctB (lB x0 x1 x4 x5) (col0 k0_pay19) := by
  unfold out0_A_12 kernelRun0_A
  dsimp only
  sl_unfold_words
  rw [View.read_writes_full]
  have es : ∀ inb, arg18.view.readCov [⟨Rect.unit ![0, 0] S8x128.size inb_S8x128_S8x128_0_0, (k0_pay19 : FVec F S8x128 .f32)⟩]
            (Rect.unit (s := S8x128) ![0, 0] ![8, 1] inb).toLoadRect = col0 k0_pay19 := by
    intro inb
    unfold View.readCov
    rw [View.readAt_unit arg18.view _ (off' := ![0, 0]) _ rfl (by decide), View.read_writes_full]; rfl
  rw [View.readAt_full arg2.view, harg2.read_unread]
  rw [View.readAt_full arg3.view, harg3.read_unread]
  rw [View.readAt_full arg6.view, harg6.read_unread]
  rw [View.readAt_full arg7.view, harg7.read_unread]
  rw [es]
  rfl

set_option backward.isDefEq.respectTransparency false in
/-- The attention's gate the body leaves in a row's first block. -/
theorem out0_A_13_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_13 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay10 (zB x0 x1) (wS x2 2) := by
  unfold out0_A_13 kernelRun0_A
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 2 ![0, 1024] rfl]
  rfl

set_option backward.isDefEq.respectTransparency false in
/-- The gated linear units the body leaves in a row's first block. -/
theorem out0_A_14_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_14 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay11 (zB x0 x1) (wS x2 3) (wS x2 4) := by
  unfold out0_A_14 kernelRun0_A
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 3 ![0, 1536] rfl]
  rw [e2 4 ![0, 2048] rfl]
  rfl

set_option backward.isDefEq.respectTransparency false in
/-- The convolution's gate the body leaves in a row's first block. -/
theorem out0_A_15_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    out0_A_15 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = k0_pay12 (zB x0 x1) (wS x2 5) := by
  unfold out0_A_15 kernelRun0_A
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 5 ![0, 2560] rfl]
  rfl

set_option backward.isDefEq.respectTransparency false in
/-- The total carried on the body leaves in a row's first block. -/
theorem sout0_A_0_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) :
    sout0_A_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = scB (lB x0 x1 x4 x5) (col0 k0_pay19) := by
  unfold sout0_A_0 kernelRun0_A
  dsimp only
  sl_unfold_words
  rw [View.read_writes_full]
  have es : ∀ inb, arg18.view.readCov [⟨Rect.unit ![0, 0] S8x128.size inb_S8x128_S8x128_0_0, (k0_pay19 : FVec F S8x128 .f32)⟩]
            (Rect.unit (s := S8x128) ![0, 0] ![8, 1] inb).toLoadRect = col0 k0_pay19 := by
    intro inb
    unfold View.readCov
    rw [View.readAt_unit arg18.view _ (off' := ![0, 0]) _ rfl (by decide), View.read_writes_full]; rfl
  rw [View.readAt_full arg2.view, harg2.read_unread]
  rw [View.readAt_full arg3.view, harg3.read_unread]
  rw [View.readAt_full arg6.view, harg6.read_unread]
  rw [View.readAt_full arg7.view, harg7.read_unread]
  rw [es]
  rfl

set_option backward.isDefEq.respectTransparency false in
/-- The queries the body leaves in a row's later blocks. -/
theorem out0_B_6_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_6 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay5 x0 x1 (wS x2 0) := by
  unfold out0_B_6 kernelRun0_B
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 0 ![0, 0] rfl]

set_option backward.isDefEq.respectTransparency false in
/-- The values, cast the body leaves in a row's later blocks. -/
theorem out0_B_7_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_7 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay9 (k0_pay8 x0 x1 (wS x2 1)) := by
  unfold out0_B_7 kernelRun0_B
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 1 ![0, 512] rfl]

set_option backward.isDefEq.respectTransparency false in
/-- The values the body leaves in a row's later blocks. -/
theorem out0_B_8_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_8 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay7 x0 x1 (wS x2 1) := by
  unfold out0_B_8 kernelRun0_B
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 1 ![0, 512] rfl]

set_option backward.isDefEq.respectTransparency false in
/-- The transposed keys, cast the body leaves in a row's later blocks. -/
theorem out0_B_9_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_9 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay16 (zB x0 x1) (k0_pay13 x3) := by
  unfold out0_B_9 kernelRun0_B
  dsimp only
  sl_unfold_words
  rw [View.read_writes_full]
  rw [View.readAt_full arg2.view, harg2.read_unread]
  rw [View.readAt_full arg3.view, harg3.read_unread]
  rw [View.readAt_full arg5.view, harg5.read_unread]
  rfl

set_option backward.isDefEq.respectTransparency false in
/-- The transposed keys the body leaves in a row's later blocks. -/
theorem out0_B_10_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_10 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay15 (zB x0 x1) (k0_pay13 x3) := by
  unfold out0_B_10 kernelRun0_B
  dsimp only
  sl_unfold_words
  rw [View.read_writes_full]
  rw [View.readAt_full arg2.view, harg2.read_unread]
  rw [View.readAt_full arg3.view, harg3.read_unread]
  rw [View.readAt_full arg5.view, harg5.read_unread]
  rfl

set_option backward.isDefEq.respectTransparency false in
/-- The log decays the body leaves in a row's later blocks. -/
theorem out0_B_11_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay18 (zB x0 x1) x4 x5 := by
  unfold out0_B_11 kernelRun0_B
  dsimp only
  sl_unfold_words
  rw [View.read_writes_full]
  rw [View.readAt_full arg2.view, harg2.read_unread]
  rw [View.readAt_full arg3.view, harg3.read_unread]
  rw [View.readAt_full arg6.view, harg6.read_unread]
  rw [View.readAt_full arg7.view, harg7.read_unread]
  rfl

set_option backward.isDefEq.respectTransparency false in
/-- The running totals the body leaves in a row's later blocks. -/
theorem out0_B_12_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_12 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = ctB (lB x0 x1 x4 x5) (col0 xs0) := by
  unfold out0_B_12 kernelRun0_B
  dsimp only
  sl_unfold_words
  rw [View.read_writes_full]
  have es : ∀ inb, View.readAt (Elt F) arg18.view (Rect.unit (s := S8x128) ![0, 0] ![8, 1] inb).toLoadRect (harg18.unread xs0) = col0 xs0 := by
    intro inb
    rw [View.readAt_unit arg18.view _ (off' := ![0, 0]) _ rfl (by decide), harg18.read_unread]; rfl
  rw [View.readAt_full arg2.view, harg2.read_unread]
  rw [View.readAt_full arg3.view, harg3.read_unread]
  rw [View.readAt_full arg6.view, harg6.read_unread]
  rw [View.readAt_full arg7.view, harg7.read_unread]
  rw [es]
  rfl

set_option backward.isDefEq.respectTransparency false in
/-- The attention's gate the body leaves in a row's later blocks. -/
theorem out0_B_13_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_13 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay10 (zB x0 x1) (wS x2 2) := by
  unfold out0_B_13 kernelRun0_B
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 2 ![0, 1024] rfl]
  rfl

set_option backward.isDefEq.respectTransparency false in
/-- The gated linear units the body leaves in a row's later blocks. -/
theorem out0_B_14_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_14 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay11 (zB x0 x1) (wS x2 3) (wS x2 4) := by
  unfold out0_B_14 kernelRun0_B
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 3 ![0, 1536] rfl]
  rw [e2 4 ![0, 2048] rfl]
  rfl

set_option backward.isDefEq.respectTransparency false in
/-- The convolution's gate the body leaves in a row's later blocks. -/
theorem out0_B_15_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    out0_B_15 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = k0_pay12 (zB x0 x1) (wS x2 5) := by
  unfold out0_B_15 kernelRun0_B
  dsimp only
  sl_unfold_words
  rw [View.read_writes_full]
  have e2 : ∀ (j : Fin 6) (off : Fin 2 → ℕ) (ho : off = ![0, 512 * j.val]) (inb), View.readAt (Elt F) arg4.view (Rect.unit (s := S1024x3072) off S1024x512.size inb).toLoadRect (harg4.unread x2) = wS x2 j := by
    intro j off ho inb
    subst ho
    rw [View.readAt_unit arg4.view _ (off' := ![0, 512 * j.val]) _ rfl (by revert j; decide), harg4.read_unread]; rfl
  rw [View.readAt_full arg2.view, harg2.read_unread]
  rw [View.readAt_full arg3.view, harg3.read_unread]
  rw [e2 5 ![0, 2560] rfl]
  rfl

set_option backward.isDefEq.respectTransparency false in
/-- The total carried on the body leaves in a row's later blocks. -/
theorem sout0_B_0_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S8x128 .f32) (harg18 : arg18.IsWhole) (hc0 : ¬cond0_0 i) (x0 : Vec F S1x512x1024 .f32) (x1 : Vec F S1x1024 .f32) (x2 : Vec F S1024x3072 .bf16) (x3 : Vec F S512x1024 .bf16) (x4 : Vec F S16x1024 .bf16) (x5 : Vec F S16x1 .f32) (xs0 : Vec F S8x128 .f32) :
    sout0_B_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = scB (lB x0 x1 x4 x5) (col0 xs0) := by
  unfold sout0_B_0 kernelRun0_B
  dsimp only
  sl_unfold_words
  rw [View.read_writes_full]
  have es : ∀ inb, View.readAt (Elt F) arg18.view (Rect.unit (s := S8x128) ![0, 0] ![8, 1] inb).toLoadRect (harg18.unread xs0) = col0 xs0 := by
    intro inb
    rw [View.readAt_unit arg18.view _ (off' := ![0, 0]) _ rfl (by decide), harg18.read_unread]; rfl
  rw [View.readAt_full arg2.view, harg2.read_unread]
  rw [View.readAt_full arg3.view, harg3.read_unread]
  rw [View.readAt_full arg6.view, harg6.read_unread]
  rw [View.readAt_full arg7.view, harg7.read_unread]
  rw [es]
  rfl

end Cert.Kernel2Ideal.Proj

end
-- ==== Proof.P2Math.lean ====
module

public import proofs.«01_k».proof.Proof.P2Body
public import Idealize.ShloMosaic.Lib.Pointwise

/-! The scalar formulas of the projection call's results, and the sums behind its running column sums. -/

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic Idealize.ShloMosaic.Pointwise

/-- The sum of the last `k` entries of `f` up to entry `l`. -/
def wsum (k : ℕ) (f : ℕ → EReal) (l : ℕ) : EReal := ∑ j ∈ Finset.range k, if j ≤ l then f (l - j) else 0

theorem wsum_one (f : ℕ → EReal) (l : ℕ) : wsum 1 f l = f l := by
  simp [wsum]

/-- Doubling: a window of `2k` entries is two windows of `k`, the second `k` entries earlier. -/
theorem wsum_double (k : ℕ) (f : ℕ → EReal) (l : ℕ) :
    wsum k f l + (if k ≤ l then wsum k f (l - k) else 0) = wsum (k + k) f l := by
  unfold wsum
  rw [Finset.sum_range_add]
  congr 1
  by_cases h : k ≤ l
  · rw [if_pos h]
    refine Finset.sum_congr rfl fun j _ => ?_
    by_cases h2 : j ≤ l - k
    · rw [if_pos h2, if_pos (by omega), Nat.sub_sub]
    · rw [if_neg h2, if_neg (by omega)]
  · rw [if_neg h]
    refine (Finset.sum_eq_zero fun j _ => ?_).symm
    rw [if_neg (by omega)]

/-- A window that reaches back to the start is the whole running sum. -/
theorem wsum_full (k : ℕ) (f : ℕ → EReal) (l : ℕ) (h : l < k) : wsum k f l = ∑ s ∈ Finset.range (l + 1), f s := by
  unfold wsum
  rw [← Finset.sum_subset (s₁ := Finset.range (l + 1)) (s₂ := Finset.range k), ← Finset.sum_range_reflect f (l + 1)]
  · refine Finset.sum_congr rfl fun j hj => ?_
    have := Finset.mem_range.1 hj
    rw [if_pos (by omega)]
    congr 1
  · intro x hx
    have := Finset.mem_range.1 hx
    exact Finset.mem_range.2 (by omega)
  · intro x _ hx
    rw [if_neg]
    intro h2
    exact hx (Finset.mem_range.2 (by omega))

/-- A running sum over a block that starts at `n`, with the sum of all earlier entries added. -/
theorem sum_block (f : ℕ → EReal) (n l : ℕ) :
    ∑ s ∈ Finset.range (l + 1), f (n + s) + ∑ s ∈ Finset.range n, f s = ∑ s ∈ Finset.range (n + l + 1), f s := by
  rw [add_assoc n l 1, Finset.sum_range_add f n (l + 1), add_comm]

theorem foldl_add_eq {ι : Type} (g : ι → EReal) : ∀ (l : List ι) (v : EReal),
    l.foldl (fun r n => r + g n) v = v + (l.map g).sum
  | [], v => by simp
  | a :: l, v => by
    rw [List.foldl_cons, foldl_add_eq g l, List.map_cons, List.sum_cons, add_assoc]

theorem foldl_finRange (N : ℕ) (g : Fin N → EReal) :
    (List.finRange N).foldl (fun r n => r + g n) 0 = ∑ n, g n := by
  rw [foldl_add_eq, zero_add, Fin.sum_univ_def]

/-- The normalised row of the input at column `d`. -/
def zf (X : S4x8192x1024.Idx → EReal) (G : S1x1024.Idx → EReal) (b : Fin 4) (t : Fin 8192) (d : Fin 1024) : EReal :=
  X (ix3 b t d) * Ideal.rsqrt (Ideal.div (∑ x, X (ix3 b t x) * X (ix3 b t x)) (Ideal.ofBits FTy.f32 1149239296#32) + Ideal.ofBits FTy.f32 897988541#32) * G (ix2 0 d)

/-- The projection of a row onto column `col` of the weights. -/
def yf (X : S4x8192x1024.Idx → EReal) (G : S1x1024.Idx → EReal) (W : S1x1024x3592.Idx → EReal) (b : Fin 4) (t : Fin 8192) (col : Fin 3592) : EReal :=
  ∑ d, zf X G b t d * W (ix3 0 d col)

/-- The logarithm of the logistic function, as both programs compute it. -/
def lgf (s : EReal) : EReal :=
  0 - (max (0 - s) 0 + Ideal.log1p (Ideal.exp (0 - (FloatOps.absf (F := Ideal) (φ := .f32) (0 - s) : EReal))))

/-- The log forget gate of head `h` at row `t`. -/
def lff (X : S4x8192x1024.Idx → EReal) (G : S1x1024.Idx → EReal) (W : S1x1024x3592.Idx → EReal) (B : S1x8.Idx → EReal) (b : Fin 4) (h : Fin 8) (t : Fin 8192) : EReal :=
  lgf (yf X G W b t ⟨1536 + h.val, by omega⟩ + B (ix2 0 h))

/-- The same for any row number, zero past the last row. -/
def lfn (X : S4x8192x1024.Idx → EReal) (G : S1x1024.Idx → EReal) (W : S1x1024x3592.Idx → EReal) (B : S1x8.Idx → EReal) (b : Fin 4) (h : Fin 8) (n : ℕ) : EReal :=
  if hn : n < 8192 then lff X G W B b h ⟨n, hn⟩ else 0

/-- The value gated by its logistic function. -/
def siluf (y : EReal) : EReal := y * Ideal.logistic y

/-- One doubling step of the block's running sum over lanes. -/
def stepV (k : BitVec 32) (x : FVec Ideal S8x512 .f32) : FVec Ideal S8x512 .f32 :=
  addf x (select (cmpi .sge (iota .tc S8x512 32 [1] iota_S8x512_d1_w32) (broadcast S8x512 k)) (dynamicRotate 1 k none x rotates_S8x512_d1) (broadcast S8x512 (Scalar.ofBits .f32 0x00000000#32)))

theorem pay20_eq (x : FVec Ideal S8x512 .f32) : k0_pay20 x = stepV 32#32 (stepV 16#32 (stepV 8#32 (stepV 4#32 (stepV 2#32 (stepV 1#32 x))))) := rfl

theorem pay1_eq (x : FVec Ideal S8x512 .f32) (s : FVec Ideal S8x1 .f32) :
    k0_pay1 (iota .tc S8x512 32 [1] iota_S8x512_d1_w32) x s = addf (stepV 256#32 (stepV 128#32 (stepV 64#32 x))) (broadcastTo S8x512 s broadcasts_S8x1_S8x512) := rfl

theorem sge_eq (n k : ℕ) (hn : n < 512) (hk : k < 512) (a : EReal) :
    Scalar.select (IntOp.cmpi CmpIPredicate.sge (BitVec.ofNat 32 n) (BitVec.ofNat 32 k)) a 0 = if k ≤ n then a else 0 := by
  have e : ∀ i : ℕ, i < 512 → (BitVec.ofNat 32 i).toInt = i := by
    intro i hi
    rw [BitVec.toInt_eq_toNat_of_lt]
    · rw [BitVec.toNat_ofNat, Nat.mod_eq_of_lt (by omega)]
    · rw [BitVec.toNat_ofNat, Nat.mod_eq_of_lt (by omega)]
      omega
  unfold Scalar.select IntOp.cmpi
  simp only [BitVec.sle, e n hn, e k hk, Nat.cast_le]
  by_cases h : k ≤ n
  · simp [h]
  · simp [h]

theorem step_at (k : ℕ) (hk : k < 512) (x : FVec Ideal S8x512 .f32) (h : Fin 8) (n : Fin 512) :
    stepV (BitVec.ofNat 32 k) x (ix2 h n) = x (ix2 h n) + if k ≤ n.val then x (ix2 h ⟨n.val - k, by omega⟩) else 0 := by
  unfold stepV
  pointwise
  rw [sge_eq n.val k n.isLt hk]
  congr 1
  by_cases hn : k ≤ n.val
  · rw [if_pos hn, if_pos hn]
    refine congrArg x (congrArg (ix2 h) (Fin.ext ?_))
    show (n.val + 512 - (BitVec.ofNat 32 k).toNat % 512) % 512 = n.val - k
    rw [BitVec.toNat_ofNat, Nat.mod_eq_of_lt (a := k) (by omega), Nat.mod_eq_of_lt hk]
    omega
  · rw [if_neg hn, if_neg hn]

theorem step_wsum (k : ℕ) (hk : k < 512) (x : FVec Ideal S8x512 .f32) (f : Fin 8 → ℕ → EReal)
    (hx : ∀ h (n : Fin 512), x (ix2 h n) = wsum k (f h) n.val) (h : Fin 8) (n : Fin 512) :
    stepV (BitVec.ofNat 32 k) x (ix2 h n) = wsum (k + k) (f h) n.val := by
  rw [step_at k hk, hx h n, ← wsum_double]
  congr 1
  by_cases hn : k ≤ n.val
  · rw [if_pos hn, if_pos hn, hx]
  · rw [if_neg hn, if_neg hn]

/-- The nine doubling steps and the carried column: lane `n` holds the carry plus the running sum of its block. -/
theorem scan_at (l : FVec Ideal S8x512 .f32) (s : FVec Ideal S8x1 .f32) (f : Fin 8 → ℕ → EReal)
    (hl : ∀ h (n : Fin 512), l (ix2 h n) = f h n.val) (h : Fin 8) (n : Fin 512) :
    k0_pay1 (iota .tc S8x512 32 [1] iota_S8x512_d1_w32) (k0_pay20 l) s (ix2 h n) =
      ∑ j ∈ Finset.range (n.val + 1), f h j + s (ix2 h 0) := by
  rw [pay20_eq, pay1_eq]
  have h0 : ∀ h (n : Fin 512), l (ix2 h n) = wsum 1 (f h) n.val := fun h n => (hl h n).trans (wsum_one _ _).symm
  have h9 := step_wsum 256 (by omega) _ f (step_wsum 128 (by omega) _ f (step_wsum 64 (by omega) _ f (step_wsum 32 (by omega) _ f
    (step_wsum 16 (by omega) _ f (step_wsum 8 (by omega) _ f (step_wsum 4 (by omega) _ f (step_wsum 2 (by omega) _ f
      (step_wsum 1 (by omega) l f h0))))))))
  rw [← wsum_full 512 (f h) n.val n.isLt, ← h9 h n]
  generalize stepV 256#32 _ = y
  pointwise

theorem ct_at (l : FVec Ideal S8x512 .f32) (s : FVec Ideal S8x1 .f32) (f : Fin 8 → ℕ → EReal)
    (hl : ∀ h (n : Fin 512), l (ix2 h n) = f h n.val) (h : Fin 8) (n : Fin 512) :
    ctB l s (ix3 0 h n) = ∑ j ∈ Finset.range (n.val + 1), f h j + s (ix2 h 0) := by
  rw [← scan_at l s f hl h n]
  unfold ctB k0_pay2
  generalize k0_pay1 (F := Ideal) _ _ _ = y
  pointwise

theorem sc_at (l : FVec Ideal S8x512 .f32) (s : FVec Ideal S8x1 .f32) (f : Fin 8 → ℕ → EReal)
    (hl : ∀ h (n : Fin 512), l (ix2 h n) = f h n.val) (h : Fin 8) (n : Fin 128) :
    scB l s (ix2 h n) = ∑ j ∈ Finset.range 512, f h j + s (ix2 h 0) := by
  refine Eq.trans ?_ (scan_at l s f hl h 511)
  unfold scB k0_pay3
  generalize k0_pay1 (F := Ideal) _ _ _ = y
  pointwise

theorem col0_at (s : FVec Ideal S8x128 .f32) (h : Fin 8) : col0 (F := Ideal) s (ix2 h 0) = s (ix2 h 0) := by
  unfold col0
  refine congrArg s ?_
  idx_ext

theorem zero_at (h : Fin 8) (n : Fin 128) : (k0_pay19 : FVec Ideal S8x128 .f32) (ix2 h n) = 0 := by
  unfold k0_pay19
  pointwise

theorem z_at (x0 : Vec Ideal S1x512x1024 .f32) (x1 : Vec Ideal S1x1024 .f32) (r : Fin 512) (d : Fin 1024) :
    (zB x0 x1 : FVec Ideal S512x1024 .bf16) (ix2 r d) =
      x0 (ix3 0 r d) * Ideal.rsqrt (Ideal.div (∑ x, x0 (ix3 0 r x) * x0 (ix3 0 r x)) (Ideal.ofBits FTy.f32 1149239296#32) + Ideal.ofBits FTy.f32 897988541#32) * x1 (ix2 0 d) := by
  unfold zB
  unfold_payloads
  pointwise

/-- A row of the normalised block times a column of the weights. -/
def dotS (z : FVec Ideal S512x1024 .bf16) (w : FVec Ideal S1024x512 .bf16) (r d : Fin 512) : EReal := ∑ x, z (ix2 r x) * w (ix2 x d)

theorem q_at (x0 : Vec Ideal S1x512x1024 .f32) (x1 : Vec Ideal S1x1024 .f32) (w : FVec Ideal S1024x512 .bf16) (r d : Fin 512) :
    (k0_pay5 x0 x1 w : FVec Ideal S1x512x512 .bf16) (ix3 0 r d) = dotS (zB x0 x1) w r d * Ideal.ofBits FTy.f32 1040187392#32 := by
  unfold k0_pay5 dotS zB
  generalize k0_pay4 x0 x1 = z
  pointwise

theorem v_at (x0 : Vec Ideal S1x512x1024 .f32) (x1 : Vec Ideal S1x1024 .f32) (w : FVec Ideal S1024x512 .bf16) (r d : Fin 512) :
    (k0_pay9 (k0_pay8 x0 x1 w) : FVec Ideal S1x512x512 .bf16) (ix3 0 r d) = dotS (zB x0 x1) w r d := by
  unfold k0_pay9 k0_pay8 k0_pay6 dotS zB
  generalize k0_pay4 x0 x1 = z
  pointwise

theorem vf_at (x0 : Vec Ideal S1x512x1024 .f32) (x1 : Vec Ideal S1x1024 .f32) (w : FVec Ideal S1024x512 .bf16) (r d : Fin 512) :
    (k0_pay7 x0 x1 w : FVec Ideal S1x512x512 .f32) (ix3 0 r d) = dotS (zB x0 x1) w r d := by
  unfold k0_pay7 k0_pay6 dotS zB
  generalize k0_pay4 x0 x1 = z
  pointwise

theorem kf_at (z : FVec Ideal S512x1024 .bf16) (w : FVec Ideal S512x1024 .bf16) (r d : Fin 512) :
    (k0_pay15 z (k0_pay13 w) : FVec Ideal S1x512x512 .f32) (ix3 0 d r) = ∑ x, w (ix2 d x) * z (ix2 r x) := by
  unfold k0_pay15 k0_pay14 k0_pay13
  pointwise

theorem kb_at (z : FVec Ideal S512x1024 .bf16) (w : FVec Ideal S512x1024 .bf16) (r d : Fin 512) :
    (k0_pay16 z (k0_pay13 w) : FVec Ideal S1x512x512 .bf16) (ix3 0 d r) = ∑ x, w (ix2 d x) * z (ix2 r x) := by
  unfold k0_pay16 k0_pay14 k0_pay13
  pointwise

theorem s_at (z : FVec Ideal S512x1024 .bf16) (w : FVec Ideal S1024x512 .bf16) (r d : Fin 512) :
    (k0_pay10 z w : FVec Ideal S1x512x512 .f32) (ix3 0 r d) = siluf (dotS z w r d) := by
  unfold k0_pay10 siluf dotS
  pointwise

theorem s2_at (z : FVec Ideal S512x1024 .bf16) (w : FVec Ideal S1024x512 .bf16) (r d : Fin 512) :
    (k0_pay12 z w : FVec Ideal S1x512x512 .f32) (ix3 0 r d) = siluf (dotS z w r d) := by
  unfold k0_pay12 siluf dotS
  pointwise

theorem u_at (z : FVec Ideal S512x1024 .bf16) (w w' : FVec Ideal S1024x512 .bf16) (r d : Fin 512) :
    (k0_pay11 z w w' : FVec Ideal S1x512x512 .f32) (ix3 0 r d) = dotS z w r d * Ideal.logistic (dotS z w' r d) := by
  unfold k0_pay11 dotS
  pointwise

theorem l_at (x0 : Vec Ideal S1x512x1024 .f32) (x1 : Vec Ideal S1x1024 .f32) (w : FVec Ideal S16x1024 .bf16) (b : FVec Ideal S16x1 .f32) (h : Fin 8) (r : Fin 512) :
    lB x0 x1 w b (ix2 h r) = lgf (∑ x, w (ix2 ⟨h.val, by omega⟩ x) * zB x0 x1 (ix2 r x) + b (ix2 ⟨h.val, by omega⟩ 0)) := by
  unfold lB zB k0_pay17 lgf
  generalize k0_pay4 x0 x1 = z
  pointwise
  rw [if_neg (fun h => h rfl)]

theorem lf_at (x0 : Vec Ideal S1x512x1024 .f32) (x1 : Vec Ideal S1x1024 .f32) (w : FVec Ideal S16x1024 .bf16) (b : FVec Ideal S16x1 .f32) (h : Fin 8) (r : Fin 512) :
    (k0_pay18 (zB x0 x1) w b : FVec Ideal S1x8x512 .f32) (ix3 0 h r) = lB x0 x1 w b (ix2 h r) := by
  unfold k0_pay18 lB zB
  generalize k0_pay17 (F := Ideal) _ w b = y
  pointwise

end Cert.Kernel2Ideal.Proj
end
-- ==== Proof.P2Host.lean ====
/-
  The projection's operands as the kernel finds them after the host's slicing, joining, transposing and padding of the
  weights, each read at an entry of the arguments.
-/
module

public import proofs.«01_k».proof.Proof.P2Body
public import Idealize.ShloMosaic.Lib.Claim
public import Idealize.ShloMosaic.Lib.StableHlo.ReadAt
public import Idealize.ShloMosaic.Lib.Pointwise

@[expose] public section

set_option maxRecDepth 16384

noncomputable section

namespace Cert.Kernel2Ideal.Proj

open Cert.Kernel2Ideal Cert.Kernel2Ideal.Gen

open Idealize.ShloMosaic Idealize.ShloMosaic.TcCoe Idealize.ShloMosaic.Tactic Idealize.ShloMosaic.Pointwise
open Idealize.SL.Sem

variable (m : (ℓ : Loc nD τ sig) → Buf (Elt Ideal) ℓ)

/-- The norm's gains, at an entry. -/
theorem V_g (c : Dev nD) (d : Fin 1024) :
    (V m c main_v19 : Vec Ideal S1x1024 .f32) (ix2 0 d) = (m ((c : Thread nD τ).loc main_arg1) : Vec Ideal S1x1024 .f32) (ix2 0 d) := by
  unfold V
  after_reads_at

/-- Three column blocks side by side. -/
def cat3 (A B : FVec Ideal S1024x512 .bf16) (C : FVec Ideal S1024x2048 .bf16) : FVec Ideal S1024x3072 .bf16 :=
  concatenate S1024x3072 1 [⟨S1024x512, A⟩, ⟨S1024x512, B⟩, ⟨S1024x2048, C⟩] concatenates_S1024x512_S1024x512_S1024x2048_S1024x3072_d1

/-- The weights without their leading axis. -/
def w2 (X : FVec Ideal S1x1024x3592 .f32) : FVec Ideal S1024x3592 .bf16 :=
  truncf .bf16 (shapeCast S1024x3592 X shapeCasts_S1x1024x3592_S1024x3592) bitsLt_bf16_f32

/-- The joined weights. -/
theorem V_w (c : Dev nD) :
    (V m c main_v8 : Vec Ideal S1024x3072 .bf16) = cat3 (extractStridedSlice S1024x512 ![0, 0] (w2 (m ((c : Thread nD τ).loc main_arg2))) slices_S1024x3592_S1024x512_0_0)
      (extractStridedSlice S1024x512 ![0, 1024] (w2 (m ((c : Thread nD τ).loc main_arg2))) slices_S1024x3592_S1024x512_0_1024)
      (extractStridedSlice S1024x2048 ![0, 1544] (w2 (m ((c : Thread nD τ).loc main_arg2))) slices_S1024x3592_S1024x2048_0_1544) := by
  unfold V
  after_reads_simp
  refine (show _ = cat3 _ _ _ from rfl).trans ?_
  refine congr (congr (congrArg cat3 ?_) ?_) ?_
  · show StableHlo.upto [hostOps0, hostOps0_1, hostOps0_2, hostOps0_3, hostOps0_4, hostOps0_5, hostOps0_6, hostOps0_7, hostOps0_8].flatten (fun b => m (c, b)) 8 (Proc.tc.devRef main_v3) = _
    show StableHlo.after [_, _, _, _, _, _, _, _] _ _ = _
    after_reads_simp
    rfl
  · show StableHlo.upto [hostOps0, hostOps0_1, hostOps0_2, hostOps0_3, hostOps0_4, hostOps0_5, hostOps0_6, hostOps0_7, hostOps0_8].flatten (fun b => m (c, b)) 8 (Proc.tc.devRef main_v5) = _
    show StableHlo.after [_, _, _, _, _, _, _, _] _ _ = _
    after_reads_simp
    rfl
  · show StableHlo.upto [hostOps0, hostOps0_1, hostOps0_2, hostOps0_3, hostOps0_4, hostOps0_5, hostOps0_6, hostOps0_7, hostOps0_8].flatten (fun b => m (c, b)) 8 (Proc.tc.devRef main_v7) = _
    show StableHlo.after [_, _, _, _, _, _, _, _] _ _ = _
    after_reads_simp
    rfl

/-- Where the columns of each of the six loads of the joined weights start in the weights. -/
def cW (k : Fin 6) : ℕ := ![0, 1024, 1544, 2056, 2568, 3080] k

theorem cW_le (k : Fin 6) : cW k + 512 ≤ 3592 := by revert k; decide

/-- The joined column blocks, at an entry of the weights. -/
theorem cat3_apply (X : FVec Ideal S1x1024x3592 .f32) (k : Fin 6) (d : Fin 1024) (j : Fin 512) :
    cat3 (extractStridedSlice S1024x512 ![0, 0] (w2 X) slices_S1024x3592_S1024x512_0_0) (extractStridedSlice S1024x512 ![0, 1024] (w2 X) slices_S1024x3592_S1024x512_0_1024)
      (extractStridedSlice S1024x2048 ![0, 1544] (w2 X) slices_S1024x3592_S1024x2048_0_1544) (ix2 d ⟨512 * k.val + j.val, by omega⟩)
      = X (ix3 0 d ⟨cW k + j.val, by have := cW_le k; omega⟩) := by
  have hj : j.val < 512 := j.isLt
  match k with
  | 0 =>
    show cat3 _ _ _ (ix2 d ⟨0 + j.val, by omega⟩) = X (ix3 0 d ⟨0 + j.val, by omega⟩)
    unfold cat3 w2
    pointwise
  | 1 =>
    show cat3 _ _ _ (ix2 d ⟨512 + j.val, by omega⟩) = X (ix3 0 d ⟨1024 + j.val, by omega⟩)
    unfold cat3 w2
    pointwise
  | 2 =>
    show cat3 _ _ _ (ix2 d ⟨1024 + j.val, by omega⟩) = X (ix3 0 d ⟨1544 + j.val, by omega⟩)
    unfold cat3 w2
    pointwise
    rw [dif_neg (by omega), dif_neg (by omega)]
    exact congrArg (fun n => X (ix3 0 d n)) (Fin.ext (by show 1544 + _ = _ + _; omega))
  | 3 =>
    show cat3 _ _ _ (ix2 d ⟨1536 + j.val, by omega⟩) = X (ix3 0 d ⟨2056 + j.val, by omega⟩)
    unfold cat3 w2
    pointwise
    rw [dif_neg (by omega), dif_neg (by omega)]
    exact congrArg (fun n => X (ix3 0 d n)) (Fin.ext (by show 1544 + _ = _ + _; omega))
  | 4 =>
    show cat3 _ _ _ (ix2 d ⟨2048 + j.val, by omega⟩) = X (ix3 0 d ⟨2568 + j.val, by omega⟩)
    unfold cat3 w2
    pointwise
    rw [dif_neg (by omega), dif_neg (by omega)]
    exact congrArg (fun n => X (ix3 0 d n)) (Fin.ext (by show 1544 + _ = _ + _; omega))
  | 5 =>
    show cat3 _ _ _ (ix2 d ⟨2560 + j.val, by omega⟩) = X (ix3 0 d ⟨3080 + j.val, by omega⟩)
    unfold cat3 w2
    pointwise
    rw [dif_neg (by omega), dif_neg (by omega)]
    exact congrArg (fun n => X (ix3 0 d n)) (Fin.ext (by show 1544 + _ = _ + _; omega))

/-- A loaded block of the joined weights, at an entry of the weights. -/
theorem V_wS (c : Dev nD) (k : Fin 6) (d : Fin 1024) (j : Fin 512) :
    wS (V m c main_v8 : FVec Ideal S1024x3072 .bf16) k (ix2 d j) = (m ((c : Thread nD τ).loc main_arg2) : FVec Ideal S1x1024x3592 .f32) (ix3 0 d ⟨cW k + j.val, by have := cW_le k; omega⟩) := by
  have e : wS (V m c main_v8 : FVec Ideal S1024x3072 .bf16) k (ix2 d j) = (V m c main_v8 : FVec Ideal S1024x3072 .bf16) (ix2 d ⟨512 * k.val + j.val, by omega⟩) := by
    unfold wS VecWindow.window
    refine congrArg _ ?_
    idx_ext
  rw [e, V_w]
  exact cat3_apply _ k d j

/-- The keys' weights, transposed, at an entry of the weights. -/
theorem V_wk (c : Dev nD) (d : Fin 1024) (j : Fin 512) :
    (V m c main_v9 : Vec Ideal S512x1024 .bf16) (ix2 j d) = (m ((c : Thread nD τ).loc main_arg2) : Vec Ideal S1x1024x3592 .f32) (ix3 0 d ⟨512 + j.val, by omega⟩) := by
  unfold V
  after_reads_at

/-- The gate's weights, transposed and padded, at an entry of the weights. -/
theorem V_wf (c : Dev nD) (d : Fin 1024) (j : Fin 8) :
    (V m c main_v11 : Vec Ideal S16x1024 .bf16) (ix2 ⟨j.val, by omega⟩ d) = (m ((c : Thread nD τ).loc main_arg2) : Vec Ideal S1x1024x3592 .f32) (ix3 0 d ⟨1536 + j.val, by omega⟩) := by
  unfold V
  after_reads_at

/-- The gate's biases, padded, at an entry. -/
theorem V_bf (c : Dev nD) (j : Fin 8) :
    (V m c main_v13 : Vec Ideal S16x1 .f32) (ix2 ⟨j.val, by omega⟩ 0) = (m ((c : Thread nD τ).loc main_arg3) : Vec Ideal S1x8 .f32) (ix2 0 j) := by
  unfold V
  after_reads_at

end Cert.Kernel2Ideal.Proj

end
-- ==== Proof.P2Pts.lean ====
module

public import proofs.«01_k».proof.Proof.P2Math
public import proofs.«01_k».proof.Proof.P2Host
public import proofs.«01_k».proof.Proof.Gen.Kernel2Ideal.Value

/-! The projection call's outputs at each grid point, read at one entry from the program's arguments. -/

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic Idealize.ShloMosaic.Pointwise
open Idealize.SL.Sem

/-- What a point leaves: the ten output blocks and the carried totals. -/
abbrev Outs : Type := FVec Ideal S1x512x512 .bf16 × FVec Ideal S1x512x512 .bf16 × FVec Ideal S1x512x512 .f32 × FVec Ideal S1x512x512 .bf16 × FVec Ideal S1x512x512 .f32 × FVec Ideal S1x8x512 .f32 × FVec Ideal S1x8x512 .f32 × FVec Ideal S1x512x512 .f32 × FVec Ideal S1x512x512 .f32 × FVec Ideal S1x512x512 .f32 × FVec Ideal S8x128 .f32

/-- The same as functions of the input blocks and the totals that enter. -/
def outT (x0 : Vec Ideal S1x512x1024 .f32) (x1 : Vec Ideal S1x1024 .f32) (x2 : Vec Ideal S1024x3072 .bf16) (x3 : Vec Ideal S512x1024 .bf16) (x4 : Vec Ideal S16x1024 .bf16) (x5 : Vec Ideal S16x1 .f32)
    (s : Vec Ideal S8x1 .f32) : Outs :=
  (k0_pay5 x0 x1 (wS x2 0), k0_pay9 (k0_pay8 x0 x1 (wS x2 1)), k0_pay7 x0 x1 (wS x2 1), k0_pay16 (zB x0 x1) (k0_pay13 x3), k0_pay15 (zB x0 x1) (k0_pay13 x3), k0_pay18 (zB x0 x1) x4 x5,
    ctB (lB x0 x1 x4 x5) s, k0_pay10 (zB x0 x1) (wS x2 2), k0_pay11 (zB x0 x1) (wS x2 3) (wS x2 4), k0_pay12 (zB x0 x1) (wS x2 5), scB (lB x0 x1 x4 x5) s)

variable (m : (ℓ : Loc nD τ sig) → Buf (Elt Ideal) ℓ)

theorem outs_first (c : Dev nD) (t : Fin cfg0.N) (h0 : t.val % 16 = 0) :
    outsAt0 m c t.val t.isLt = outT (iblk m c 0 t) (iblk m c 1 t) (iblk m c 2 t) (iblk m c 3 t) (iblk m c 4 t) (iblk m c 5 t) (col0 (k0_pay19 : FVec Ideal S8x128 .f32)) := by
  rw [outsAt0_A m c t h0, out0_A_6_eq, out0_A_7_eq, out0_A_8_eq, out0_A_9_eq, out0_A_10_eq, out0_A_11_eq, out0_A_12_eq, out0_A_13_eq, out0_A_14_eq, out0_A_15_eq, sout0_A_0_eq]
  rfl

theorem outs_next (c : Dev nD) (t : Fin cfg0.N) (h0 : ¬t.val % 16 = 0) :
    outsAt0 m c t.val t.isLt = outT (iblk m c 0 t) (iblk m c 1 t) (iblk m c 2 t) (iblk m c 3 t) (iblk m c 4 t) (iblk m c 5 t)
      (col0 (outsAt0 m c (t.val - 1) (Nat.lt_of_le_of_lt (Nat.sub_le _ _) t.isLt)).2.2.2.2.2.2.2.2.2.2) := by
  rw [outsAt0_B m c t h0, out0_B_6_eq, out0_B_7_eq, out0_B_8_eq, out0_B_9_eq, out0_B_10_eq, out0_B_11_eq, out0_B_12_eq, out0_B_13_eq, out0_B_14_eq, out0_B_15_eq, sout0_B_0_eq]
  rfl

theorem tr0 : ∀ (a : Fin 4) (b : Fin 16), (BitVec.ofNat 32 a.val).toNat = a.val ∧ (BitVec.ofNat 32 b.val).toNat = b.val := by decide +kernel

theorem coords_eq : ∀ t : Fin grid0.N, (grid0.coords t 0).val = t.val / 16 ∧ (grid0.coords t 1).val = t.val % 16 := by decide +kernel

theorem N_eq : grid0.N = 64 := N_0

/-- The batch a point works on. -/
def bOf (t : Fin cfg0.N) : Fin 4 := ⟨t.val / 16, by have := lt_of_lt_of_eq t.isLt (show cfg0.N = 64 from N_0); omega⟩

/-- The row of the input that row `r` of a point's block is. -/
def rOf (t : Fin cfg0.N) (r : Fin 512) : Fin 8192 := ⟨512 * (t.val % 16) + r.val, by omega⟩

theorem iblk0_at (c : Dev nD) (t : Fin cfg0.N) (r : Fin 512) (d : Fin 1024) :
    (iblk m c 0 t : Vec Ideal S1x512x1024 .f32) (ix3 0 r d) = (m ((c : Thread nD τ).loc main_arg0) : Vec Ideal S4x8192x1024 .f32) (ix3 (bOf t) (rOf t r) d) := by
  obtain ⟨e0, e1⟩ := tr0 (grid0.coords t 0) (grid0.coords t 1)
  obtain ⟨f0, f1⟩ := coords_eq t
  show V m c main_arg0 (((cfg0.win 0).blk t).view.emb (ix3 0 r d)) = _
  refine (congrArg (V m c main_arg0) (?_ : _ = ix3 (bOf t) (rOf t r) d)).trans ?_
  · funext a; apply Fin.ext
    match a with
    | ⟨0, _⟩ => show (BitVec.ofNat 32 (grid0.coords t 0).val).toNat * 1 + 1 * 0 = t.val / 16; omega
    | ⟨1, _⟩ => show (BitVec.ofNat 32 (grid0.coords t 1).val).toNat * 512 + 1 * r.val = 512 * (t.val % 16) + r.val; omega
    | ⟨2, _⟩ => show (0#32 : BitVec 32).toNat * 1024 + 1 * d.val = d.val; simp
  · unfold V
    rfl

theorem iblk1_eq (c : Dev nD) (t : Fin cfg0.N) : (iblk m c 1 t : Vec Ideal S1x1024 .f32) = V m c main_v19 := by
  funext j
  show V m c main_v19 (((cfg0.win 1).blk t).view.emb j) = _
  refine congrArg (V m c main_v19) ?_
  funext a; apply Fin.ext
  match a with
  | ⟨0, _⟩ => show (0#32 : BitVec 32).toNat * 1 + 1 * (j 0).val = (j 0).val; simp
  | ⟨1, _⟩ => show (0#32 : BitVec 32).toNat * 1024 + 1 * (j 1).val = (j 1).val; simp

theorem iblk2_eq (c : Dev nD) (t : Fin cfg0.N) : (iblk m c 2 t : Vec Ideal S1024x3072 .bf16) = V m c main_v8 := by
  funext j
  show V m c main_v8 (((cfg0.win 2).blk t).view.emb j) = _
  refine congrArg (V m c main_v8) ?_
  funext a; apply Fin.ext
  match a with
  | ⟨0, _⟩ => show (0#32 : BitVec 32).toNat * 1024 + 1 * (j 0).val = (j 0).val; simp
  | ⟨1, _⟩ => show (0#32 : BitVec 32).toNat * 3072 + 1 * (j 1).val = (j 1).val; simp

theorem iblk3_eq (c : Dev nD) (t : Fin cfg0.N) : (iblk m c 3 t : Vec Ideal S512x1024 .bf16) = V m c main_v9 := by
  funext j
  show V m c main_v9 (((cfg0.win 3).blk t).view.emb j) = _
  refine congrArg (V m c main_v9) ?_
  funext a; apply Fin.ext
  match a with
  | ⟨0, _⟩ => show (0#32 : BitVec 32).toNat * 512 + 1 * (j 0).val = (j 0).val; simp
  | ⟨1, _⟩ => show (0#32 : BitVec 32).toNat * 1024 + 1 * (j 1).val = (j 1).val; simp

theorem iblk4_eq (c : Dev nD) (t : Fin cfg0.N) : (iblk m c 4 t : Vec Ideal S16x1024 .bf16) = V m c main_v11 := by
  funext j
  show V m c main_v11 (((cfg0.win 4).blk t).view.emb j) = _
  refine congrArg (V m c main_v11) ?_
  funext a; apply Fin.ext
  match a with
  | ⟨0, _⟩ => show (0#32 : BitVec 32).toNat * 16 + 1 * (j 0).val = (j 0).val; simp
  | ⟨1, _⟩ => show (0#32 : BitVec 32).toNat * 1024 + 1 * (j 1).val = (j 1).val; simp

theorem iblk5_eq (c : Dev nD) (t : Fin cfg0.N) : (iblk m c 5 t : Vec Ideal S16x1 .f32) = V m c main_v13 := by
  funext j
  show V m c main_v13 (((cfg0.win 5).blk t).view.emb j) = _
  refine congrArg (V m c main_v13) ?_
  funext a; apply Fin.ext
  match a with
  | ⟨0, _⟩ => show (0#32 : BitVec 32).toNat * 16 + 1 * (j 0).val = (j 0).val; simp
  | ⟨1, _⟩ => show (0#32 : BitVec 32).toNat * 1 + 1 * (j 1).val = (j 1).val; simp

/-- The program's arguments. -/
abbrev aX (c : Dev nD) : FVec Ideal S4x8192x1024 .f32 := m ((c : Thread nD τ).loc main_arg0)
abbrev aG (c : Dev nD) : FVec Ideal S1x1024 .f32 := m ((c : Thread nD τ).loc main_arg1)
abbrev aW (c : Dev nD) : FVec Ideal S1x1024x3592 .f32 := m ((c : Thread nD τ).loc main_arg2)
abbrev aB (c : Dev nD) : FVec Ideal S1x8 .f32 := m ((c : Thread nD τ).loc main_arg3)

theorem zB_at (c : Dev nD) (t : Fin cfg0.N) (r : Fin 512) (d : Fin 1024) :
    (zB (iblk m c 0 t) (iblk m c 1 t) : FVec Ideal S512x1024 .bf16) (ix2 r d) = zf (aX m c) (aG m c) (bOf t) (rOf t r) d := by
  refine (z_at _ _ r d).trans ?_
  unfold zf
  have hx : ∀ x : Fin 1024, (iblk m c 0 t : Vec Ideal S1x512x1024 .f32) (ix3 0 r x) = aX m c (ix3 (bOf t) (rOf t r) x) := fun x => iblk0_at m c t r x
  have hg : (iblk m c 1 t : Vec Ideal S1x1024 .f32) (ix2 0 d) = aG m c (ix2 0 d) := (congrFun (iblk1_eq m c t) _).trans (V_g m c d)
  simp only [hx, hg]

/-- A row of a point's block times a block of weight columns. -/
theorem dot_at (c : Dev nD) (t : Fin cfg0.N) (k : Fin 6) (r d : Fin 512) :
    dotS (zB (iblk m c 0 t) (iblk m c 1 t)) (wS (iblk m c 2 t) k) r d =
      yf (aX m c) (aG m c) (aW m c) (bOf t) (rOf t r) ⟨cW k + d.val, by have := cW_le k; omega⟩ := by
  unfold dotS yf
  refine Finset.sum_congr rfl fun x _ => congrArg₂ (· * ·) (zB_at m c t r x) ?_
  refine Eq.trans ?_ (V_wS m c k x d)
  exact congrArg (fun w : Vec Ideal S1024x3072 .bf16 => wS w k (ix2 x d)) (iblk2_eq m c t)

/-- A row of the transposed weights times a row of the normalised block. -/
def dotT (z w : FVec Ideal S512x1024 .bf16) (r d : Fin 512) : EReal := ∑ x, w (ix2 d x) * z (ix2 r x)

theorem dotk_at (c : Dev nD) (t : Fin cfg0.N) (r d : Fin 512) :
    dotT (zB (iblk m c 0 t) (iblk m c 1 t)) (iblk m c 3 t) r d =
      yf (aX m c) (aG m c) (aW m c) (bOf t) (rOf t r) ⟨512 + d.val, by omega⟩ := by
  unfold dotT yf
  refine Finset.sum_congr rfl fun x _ => (mul_comm _ _).trans (congrArg₂ (· * ·) (zB_at m c t r x) ?_)
  exact (congrFun (iblk3_eq m c t) _).trans (V_wk m c x d)

theorem lB_at (c : Dev nD) (t : Fin cfg0.N) (h : Fin 8) (r : Fin 512) :
    lB (iblk m c 0 t) (iblk m c 1 t) (iblk m c 4 t) (iblk m c 5 t) (ix2 h r) = lff (aX m c) (aG m c) (aW m c) (aB m c) (bOf t) h (rOf t r) := by
  refine (l_at _ _ _ _ h r).trans ?_
  unfold lff yf
  refine congrArg lgf (congrArg₂ (· + ·) (Finset.sum_congr rfl fun x _ => (mul_comm _ _).trans (congrArg₂ (· * ·) (zB_at m c t r x) ?_)) ?_)
  · exact (congrFun (iblk4_eq m c t) _).trans (V_wf m c x h)
  · exact (congrFun (iblk5_eq m c t) _).trans (V_bf m c h)

/-- The log decays of a batch by row number. -/
abbrev fL (c : Dev nD) (b : Fin 4) (h : Fin 8) : ℕ → EReal := lfn (aX m c) (aG m c) (aW m c) (aB m c) b h

theorem lB_fL (c : Dev nD) (t : Fin cfg0.N) (h : Fin 8) (r : Fin 512) :
    lB (iblk m c 0 t) (iblk m c 1 t) (iblk m c 4 t) (iblk m c 5 t) (ix2 h r) = fL m c (bOf t) h (512 * (t.val % 16) + r.val) := by
  rw [lB_at]
  unfold fL lfn
  rw [dif_pos (by omega)]
  rfl

/-- The totals a point leaves: the sum of all rows of its batch up to its last. -/
theorem carry_at (c : Dev nD) : ∀ (n : ℕ) (hn : n < cfg0.N) (h : Fin 8) (l : Fin 128),
    (outsAt0 m c n hn).2.2.2.2.2.2.2.2.2.2 (ix2 h l) = ∑ s ∈ Finset.range (512 * (n % 16) + 512), fL m c (bOf ⟨n, hn⟩) h s
  | n, hn, h, l => by
    by_cases h0 : n % 16 = 0
    · rw [outs_first m c ⟨n, hn⟩ h0]
      refine (sc_at _ _ (fun h s => fL m c (bOf ⟨n, hn⟩) h (512 * (n % 16) + s)) (fun h r => lB_fL m c ⟨n, hn⟩ h r) h l).trans ?_
      rw [col0_at, zero_at, add_zero, h0]
      simp only [Nat.mul_zero, Nat.zero_add]
    · rw [outs_next m c ⟨n, hn⟩ h0]
      refine (sc_at _ _ (fun h s => fL m c (bOf ⟨n, hn⟩) h (512 * (n % 16) + s)) (fun h r => lB_fL m c ⟨n, hn⟩ h r) h l).trans ?_
      rw [col0_at, carry_at c (n - 1) (Nat.lt_of_le_of_lt (Nat.sub_le _ _) hn) h 0]
      have hb : bOf ⟨n - 1, Nat.lt_of_le_of_lt (Nat.sub_le _ _) hn⟩ = bOf ⟨n, hn⟩ := Fin.ext (by show (n - 1) / 16 = n / 16; omega)
      have hs : 512 * ((n - 1) % 16) + 512 = 512 * (n % 16) := by omega
      rw [hb, hs]
      exact sum_block (fL m c (bOf ⟨n, hn⟩) h) (512 * (n % 16)) 511
  termination_by n => n
  decreasing_by omega

/-- The running sums a point leaves. -/
theorem cum_at (c : Dev nD) (t : Fin cfg0.N) (h : Fin 8) (r : Fin 512) :
    (outsAt0 m c t.val t.isLt).2.2.2.2.2.2.1 (ix3 0 h r) = ∑ s ∈ Finset.range ((rOf t r).val + 1), fL m c (bOf t) h s := by
  by_cases h0 : t.val % 16 = 0
  · rw [outs_first m c t h0]
    refine (ct_at _ _ (fun h s => fL m c (bOf t) h (512 * (t.val % 16) + s)) (fun h r => lB_fL m c t h r) h r).trans ?_
    rw [col0_at, zero_at, add_zero]
    show _ = ∑ s ∈ Finset.range (512 * (t.val % 16) + r.val + 1), fL m c (bOf t) h s
    rw [h0]
    simp only [Nat.mul_zero, Nat.zero_add]
  · rw [outs_next m c t h0]
    refine (ct_at _ _ (fun h s => fL m c (bOf t) h (512 * (t.val % 16) + s)) (fun h r => lB_fL m c t h r) h r).trans ?_
    rw [col0_at, carry_at m c (t.val - 1) (Nat.lt_of_le_of_lt (Nat.sub_le _ _) t.isLt) h 0]
    have hb : bOf ⟨t.val - 1, Nat.lt_of_le_of_lt (Nat.sub_le _ _) t.isLt⟩ = bOf t := Fin.ext (by show (t.val - 1) / 16 = t.val / 16; omega)
    have hs : 512 * ((t.val - 1) % 16) + 512 = 512 * (t.val % 16) := by omega
    rw [hb, hs]
    exact sum_block (fL m c (bOf t) h) (512 * (t.val % 16)) r.val

/-- At every point, some totals enter. -/
theorem outs_some (c : Dev nD) (t : Fin cfg0.N) : ∃ s, outsAt0 m c t.val t.isLt =
    outT (iblk m c 0 t) (iblk m c 1 t) (iblk m c 2 t) (iblk m c 3 t) (iblk m c 4 t) (iblk m c 5 t) s := by
  by_cases h0 : t.val % 16 = 0
  · exact ⟨_, outs_first m c t h0⟩
  · exact ⟨_, outs_next m c t h0⟩

end Cert.Kernel2Ideal.Proj
end
-- ==== Proof.P2Ref.lean ====
module

public import proofs.«01_k».proof.Proof.P2Math
public import proofs.«01_k».proof.Proof.Gen.Reference2Ideal.Read

/-! The projection reference over the extended reals, read at one entry of each of its results. -/

@[expose] public section

set_option maxRecDepth 16384

noncomputable section

namespace Cert.Reference2Ideal.Proj

open Cert.Reference2Ideal Cert.Reference2Ideal.Gen Cert.Reference2Ideal.Read
open Idealize.ShloMosaic Idealize.ShloMosaic.TcCoe Idealize.ShloMosaic.Pointwise
open Cert.Kernel2Ideal.Proj (zf yf lgf lff lfn siluf wsum wsum_full foldl_finRange)

variable (X : FVec Ideal S4x8192x1024 .f32) (G : FVec Ideal S1x1024 .f32) (W : FVec Ideal S1x1024x3592 .f32) (B : FVec Ideal S1x8 .f32)

theorem v13_at (b : Fin 4) (t : Fin 8192) (d : Fin 1024) : val_main_v13 (F := Ideal) X G (ix3 b t d) = zf X G b t d := by
  unfold zf
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v15_at (b : Fin 4) (t : Fin 8192) (col : Fin 3592) : val_main_v15 (F := Ideal) X G W (ix3 b t col) = yf X G W b t col := by
  unfold yf
  refine (val_main_v15_apply X G W (ix3 b t col)).trans (Finset.sum_congr rfl fun k _ => ?_)
  refine congrArg₂ (· * ·) ?_ ?_
  · refine Eq.trans (congrArg (val_main_v13 (F := Ideal) X G) ?_) (v13_at X G b t k)
    idx_ext
  · unfold val_main_v14
    have e : ridx_main_v15 (ix3 b t col) k = ix2 k col := by idx_ext
    rw [e]
    pointwise

theorem v39_at (b : Fin 4) (t : Fin 8192) (j : Fin 512) : val_main_v39 (F := Ideal) X G W (ix3 b t j) = yf X G W b t ⟨0 + j.val, by omega⟩ * Ideal.ofBits FTy.f32 1040187392#32 := by
  rw [← v15_at]
  unfold val_main_v39 val_main_v38 val_main_v37 val_main_cst_4 val_main_v16
  generalize val_main_v15 (F := Ideal) X G W = y
  simp only [Nat.zero_add]
  pointwise

theorem v18_at (b : Fin 4) (t : Fin 8192) (j : Fin 512) : val_main_v18 (F := Ideal) X G W (ix3 b t j) = yf X G W b t ⟨1024 + j.val, by omega⟩ := by
  rw [← v15_at]
  unfold val_main_v18
  generalize val_main_v15 (F := Ideal) X G W = y
  pointwise

theorem v40_at (b : Fin 4) (t : Fin 8192) (j : Fin 512) : val_main_v40 (F := Ideal) X G W (ix3 b t j) = yf X G W b t ⟨1024 + j.val, by omega⟩ := by
  rw [← v15_at]
  unfold val_main_v40 val_main_v18
  generalize val_main_v15 (F := Ideal) X G W = y
  pointwise

theorem v43_at (b : Fin 4) (t : Fin 8192) (j : Fin 512) : val_main_v43 (F := Ideal) X G W (ix3 b j t) = yf X G W b t ⟨512 + j.val, by omega⟩ := by
  rw [← v15_at]
  unfold val_main_v43 val_main_v17
  generalize val_main_v15 (F := Ideal) X G W = y
  pointwise

theorem v42_at (b : Fin 4) (t : Fin 8192) (j : Fin 512) : val_main_v42 (F := Ideal) X G W (ix3 b j t) = yf X G W b t ⟨512 + j.val, by omega⟩ := by
  rw [← v15_at]
  unfold val_main_v42 val_main_v41 val_main_v17
  generalize val_main_v15 (F := Ideal) X G W = y
  pointwise

theorem v46_at (b : Fin 4) (t : Fin 8192) (j : Fin 512) : val_main_v46 (F := Ideal) X G W (ix3 b t j) = siluf (yf X G W b t ⟨1544 + j.val, by omega⟩) := by
  rw [← v15_at]
  unfold val_main_v46 val_main_call2_v5 val_main_call2_v4 val_main_call2_v3 val_main_call2_v2 val_main_call2_v1 val_main_call2_v0 val_main_call2_cst val_main_call2_cst_0 val_main_v20
  generalize val_main_v15 (F := Ideal) X G W = y
  unfold siluf Ideal.logistic
  pointwise

theorem v47_at (b : Fin 4) (t : Fin 8192) (j : Fin 512) : val_main_v47 (F := Ideal) X G W (ix3 b t j) = siluf (yf X G W b t ⟨3080 + j.val, by omega⟩) := by
  rw [← v15_at]
  unfold val_main_v47 val_main_call3_v5 val_main_call3_v4 val_main_call3_v3 val_main_call3_v2 val_main_call3_v1 val_main_call3_v0 val_main_call3_cst val_main_call3_cst_0 val_main_v23
  generalize val_main_v15 (F := Ideal) X G W = y
  unfold siluf Ideal.logistic
  pointwise

theorem v36_at (b : Fin 4) (t : Fin 8192) (j : Fin 512) : val_main_v36 (F := Ideal) X G W (ix3 b t j) =
    yf X G W b t ⟨2056 + j.val, by omega⟩ * Ideal.logistic (yf X G W b t ⟨2568 + j.val, by omega⟩) := by
  rw [← v15_at, ← v15_at]
  unfold val_main_v36 val_main_v35 val_main_v34 val_main_v33 val_main_v32 val_main_v31 val_main_v30 val_main_cst_2 val_main_cst_3 val_main_v21 val_main_v22
  generalize val_main_v15 (F := Ideal) X G W = y
  unfold Ideal.logistic
  pointwise

theorem neg_eq_zero_sub (x : EReal) : -x = 0 - x := by rw [sub_eq_add_neg, zero_add]

theorem v28_at (b : Fin 4) (t : Fin 8192) (h : Fin 8) : val_main_v28 (F := Ideal) X G W B (ix3 b t h) = lff X G W B b h t := by
  unfold lff
  rw [← v15_at]
  unfold val_main_v28 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  have e : val_main_v27 (F := Ideal) X G W B (ix3 b t h) = val_main_v15 (F := Ideal) X G W (ix3 b t ⟨1536 + h.val, by omega⟩) + B (ix2 0 h) := by
    unfold val_main_v27 val_main_v26 val_main_v25 val_main_v24 val_main_v19
    generalize val_main_v15 (F := Ideal) X G W = y
    pointwise
  rw [← e]
  generalize val_main_v27 (F := Ideal) X G W B = y
  unfold lgf
  pointwise
  rw [if_neg (fun h => h rfl)]
  simp only [neg_eq_zero_sub]

theorem v44_at (b : Fin 4) (t : Fin 8192) (h : Fin 8) : val_main_v44 (F := Ideal) X G W B (ix3 b h t) = lff X G W B b h t := by
  rw [← v28_at]
  unfold val_main_v44
  generalize val_main_v28 (F := Ideal) X G W B = y
  pointwise

/-- A windowed sum from zero is the sum over the window's positions. -/
theorem reduceWindow_sum {s t : Shape} (window strides lo hi : Fin s.rank → ℕ) (h : s.ReduceWindows window strides lo hi t) (x : s.Idx → EReal) (j : t.Idx) :
    Ideal.hostReduceWindowAdd window strides lo hi h x 0 j = ∑ w : (⟨s.rank, window⟩ : Shape).Idx,
      if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else 0 := by
  rw [← Equiv.sum_comp (⟨s.rank, window⟩ : Shape).rowMajor.symm]
  unfold Ideal.hostReduceWindowAdd Host.reduceWindow
  refine Eq.trans ?_ (foldl_finRange (⟨s.rank, window⟩ : Shape).numel fun n =>
    if hin : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a then
        x (fun a => ⟨(j (a.cast h.1.symm)).val * strides a + ((⟨s.rank, window⟩ : Shape).rowMajor.symm n a).val - lo a, (hin a).2⟩) else 0)
  dsimp only
  refine congrArg (fun g => List.foldl g (0 : EReal) _) (funext fun r => funext fun n => congrArg (r + ·) ?_)
  split
  · rfl
  · rfl

/-- The host's windowed float sum over the extended reals, from an initial value of zero. -/
theorem reduceWindowAdd_zero {s t u : Shape} (window strides lo hi : Fin s.rank → ℕ) (h : s.ReduceWindows window strides lo hi t) (x : FVec Ideal s .f32)
    (init : FVec Ideal u .f32) (hu : 0 < u.numel) (h0 : init (Shape.Idx.first hu) = (0 : EReal)) (j : t.Idx) :
    Host.reduceWindowAdd (F := Ideal) window strides lo hi x init h hu j = Ideal.hostReduceWindowAdd window strides lo hi h x 0 j := by
  rw [← h0]
  rfl

theorem sum_reflect (n : ℕ) (F : ℕ → EReal) : ∑ k : Fin n, F (n - 1 - k.val) = ∑ j ∈ Finset.range n, F j := by
  rw [Fin.sum_univ_eq_sum_range (fun k => F (n - 1 - k)) n, Finset.sum_range_reflect]

/-- The positions of a window that is wide on its middle axis only. -/
def midEquiv (n : ℕ) : (⟨3, ![1, n, 1]⟩ : Shape).Idx ≃ Fin n where
  toFun w := w 1
  invFun k := ix3 0 k 0
  left_inv w := by
    funext a
    match a with
    | ⟨0, _⟩ => exact Subsingleton.elim (α := Fin 1) _ _
    | ⟨1, _⟩ => rfl
    | ⟨2, _⟩ => exact Subsingleton.elim (α := Fin 1) _ _
  right_inv k := rfl

theorem cumsum_at (y : S4x8192x8.Idx → EReal) (f : ℕ → EReal) (b : Fin 4) (t : Fin 8192) (h : Fin 8)
    (hw : S4x8192x8.ReduceWindows ![1, 8192, 1] ![1, 1, 1] ![0, 8191, 0] ![0, 0, 0] S4x8192x8)
    (hf : ∀ s : Fin 8192, f s.val = y (ix3 b s h)) :
    Ideal.hostReduceWindowAdd ![1, 8192, 1] ![1, 1, 1] ![0, 8191, 0] ![0, 0, 0] hw y 0 (ix3 b t h) = ∑ s ∈ Finset.range (t.val + 1), f s := by
  rw [reduceWindow_sum, ← wsum_full 8192 f t.val t.isLt]
  unfold wsum
  rw [← sum_reflect]
  refine Fintype.sum_equiv (midEquiv 8192) _ _ fun w => ?_
  show _ = if 8192 - 1 - (w 1).val ≤ t.val then f (t.val - (8192 - 1 - (w 1).val)) else 0
  have w0 : (w 0).val < 1 := (w 0).isLt
  have w1 : (w 1).val < 8192 := (w 1).isLt
  have w2 : (w 2).val < 1 := (w 2).isLt
  by_cases hc : 8192 - 1 - (w 1).val ≤ t.val
  · rw [if_pos hc, dif_pos]
    · refine Eq.trans ?_ (hf ⟨t.val - (8192 - 1 - (w 1).val), by omega⟩).symm
      refine congrArg y ?_
      funext a
      apply Fin.ext
      match a with
      | ⟨0, _⟩ => show b.val * 1 + (w 0).val - 0 = b.val; omega
      | ⟨1, _⟩ => show t.val * 1 + (w 1).val - 8191 = t.val - (8192 - 1 - (w 1).val); omega
      | ⟨2, _⟩ => show h.val * 1 + (w 2).val - 0 = h.val; omega
    · intro a
      match a with
      | ⟨0, _⟩ => show 0 ≤ b.val * 1 + (w 0).val ∧ b.val * 1 + (w 0).val - 0 < 4; omega
      | ⟨1, _⟩ => show 8191 ≤ t.val * 1 + (w 1).val ∧ t.val * 1 + (w 1).val - 8191 < 8192; omega
      | ⟨2, _⟩ => show 0 ≤ h.val * 1 + (w 2).val ∧ h.val * 1 + (w 2).val - 0 < 8; omega
  · rw [if_neg hc, dif_neg]
    intro hin
    have h1 : 8191 ≤ t.val * 1 + (w 1).val := (hin 1).1
    omega

theorem zero_const : (val_main_call1_call0_v0 (F := Ideal)) (Shape.Idx.first h_S_) = (0 : EReal) := by
  unfold val_main_call1_call0_v0 val_main_call1_call0_cst
  pointwise

theorem v45_at (b : Fin 4) (t : Fin 8192) (h : Fin 8) : val_main_v45 (F := Ideal) X G W B (ix3 b h t) = ∑ s ∈ Finset.range (t.val + 1), lfn X G W B b h s := by
  have e : val_main_v29 (F := Ideal) X G W B (ix3 b t h) = ∑ s ∈ Finset.range (t.val + 1), lfn X G W B b h s := by
    have e2 : ∀ s : Fin 8192, lfn X G W B b h s.val = val_main_v28 (F := Ideal) X G W B (ix3 b s h) := fun s => by
      rw [v28_at]
      unfold lfn
      rw [dif_pos s.isLt]
    unfold val_main_v29
    generalize val_main_v28 (F := Ideal) X G W B = y at e2 ⊢
    exact (reduceWindowAdd_zero _ _ _ _ _ y _ _ zero_const _).trans
      (cumsum_at y _ b t h reduceWindows_S4x8192x8_S4x8192x8_w1s1p0_0_w8192s1p8191_0_w1s1p0_0 e2)
  rw [← e]
  unfold val_main_v45
  generalize val_main_v29 (F := Ideal) X G W B = y
  pointwise

end Cert.Reference2Ideal.Proj
end
-- ==== Proof.P2Val.lean ====
module

public import proofs.«01_k».proof.Proof.P2Pts
public import proofs.«01_k».proof.Proof.P2Ref

/-! The projection call's result arrays are the reference's. -/

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Pointwise
open Idealize.SL.Sem
open Cert.Kernel2Ideal.Value Cert.Reference2Ideal.Read Cert.Reference2Ideal.Proj

variable (m : (ℓ : Loc nD τ sig) → Buf (Elt Ideal) ℓ)

/-- The point whose block holds a row of a batch. -/
def tOf (b : Fin 4) (t : Fin 8192) : Fin cfg0.N :=
  ⟨16 * b.val + t.val / 512, lt_of_lt_of_eq (show _ < 64 by omega) (show cfg0.N = 64 from N_0).symm⟩

/-- A row's place in its block. -/
def lOf (t : Fin 8192) : Fin 512 := ⟨t.val % 512, by omega⟩

theorem bOf_tOf (b : Fin 4) (t : Fin 8192) : bOf (tOf b t) = b := Fin.ext (by show (16 * b.val + t.val / 512) / 16 = b.val; omega)

theorem rOf_tOf (b : Fin 4) (t : Fin 8192) : rOf (tOf b t) (lOf t) = t :=
  Fin.ext (by show 512 * ((16 * b.val + t.val / 512) % 16) + t.val % 512 = t.val; omega)

theorem outs_congr (c : Dev nD) (n n' : ℕ) (h : n < cfg0.N) (h' : n' < cfg0.N) (e : n = n') : outsAt0 m c n h = outsAt0 m c n' h' := by
  subst e; rfl

/-- An array of rows is what it is at every row and column. -/
theorem ext3 {p q r : ℕ} {α : Type} {f g : (⟨3, ![p, q, r]⟩ : Shape).Idx → α} (h : ∀ (x : Fin p) (y : Fin q) (z : Fin r), f (ix3 x y z) = g (ix3 x y z)) : f = g := by
  funext i
  have e : i = ix3 (i 0) (i 1) (i 2) := by
    funext a
    match a with
    | ⟨0, _⟩ => rfl
    | ⟨1, _⟩ => rfl
    | ⟨2, _⟩ => rfl
  rw [e]
  exact h _ _ _

theorem G6_read (c : Dev nD) (b : Fin 4) (t : Fin 8192) (j : Fin 512) :
    G6 m c (ix3 b t j) = (outsAt0 m c (tOf b t).val (tOf b t).isLt).1 (ix3 0 (lOf t) j) := by
  have hj := j.isLt
  have hp : pt6Of (ix3 b t j) = (tOf b t).val := by
    show 16 * (b.val / 1 - 0) + 1 * (t.val / 512 - 0) + 1 * (j.val / 512 - 0) = 16 * b.val + t.val / 512
    omega
  have hl : loc6Of (ix3 b t j) = ix3 0 (lOf t) j := by
    funext a; apply Fin.ext
    match a with
    | ⟨0, _⟩ => show b.val % 1 = 0; omega
    | ⟨1, _⟩ => show t.val % 512 = t.val % 512; omega
    | ⟨2, _⟩ => show j.val % 512 = j.val; omega
  unfold G6
  rw [dif_pos (by rw [hp]; exact (tOf b t).isLt), ← outsAt0_sweep m c _ (by rw [hp]; exact (tOf b t).isLt), hl]
  exact congrArg (fun o : Outs => o.1 (ix3 0 (lOf t) j)) (outs_congr m c _ _ _ _ hp)

theorem G6_eq (c : Dev nD) : G6 m c = val_main_v39 (F := Ideal) (aX m c) (aG m c) (aW m c) := by
  refine ext3 fun b t j => ?_
  rw [v39_at]
  refine (G6_read m c b t j).trans ?_
  obtain ⟨s, hs⟩ := outs_some m c (tOf b t)
  rw [hs]
  refine (q_at _ _ _ (lOf t) j).trans ?_
  rw [dot_at, bOf_tOf, rOf_tOf]
  rfl

theorem G7_read (c : Dev nD) (b : Fin 4) (t : Fin 8192) (j : Fin 512) :
    G7 m c (ix3 b t j) = (outsAt0 m c (tOf b t).val (tOf b t).isLt).2.1 (ix3 0 (lOf t) j) := by
  have hj := j.isLt
  have hp : pt7Of (ix3 b t j) = (tOf b t).val := by
    show 16 * (b.val / 1 - 0) + 1 * (t.val / 512 - 0) + 1 * (j.val / 512 - 0) = 16 * b.val + t.val / 512
    omega
  have hl : loc7Of (ix3 b t j) = ix3 0 (lOf t) j := by
    funext a; apply Fin.ext
    match a with
    | ⟨0, _⟩ => show b.val % 1 = 0; omega
    | ⟨1, _⟩ => show t.val % 512 = t.val % 512; omega
    | ⟨2, _⟩ => show j.val % 512 = j.val; omega
  unfold G7
  rw [dif_pos (by rw [hp]; exact (tOf b t).isLt), ← outsAt0_sweep m c _ (by rw [hp]; exact (tOf b t).isLt), hl]
  exact congrArg (fun o : Outs => o.2.1 (ix3 0 (lOf t) j)) (outs_congr m c _ _ _ _ hp)

theorem G7_eq (c : Dev nD) : G7 m c = val_main_v40 (F := Ideal) (aX m c) (aG m c) (aW m c) := by
  refine ext3 fun b t j => ?_
  rw [v40_at]
  refine (G7_read m c b t j).trans ?_
  obtain ⟨s, hs⟩ := outs_some m c (tOf b t)
  rw [hs]
  refine (v_at _ _ _ (lOf t) j).trans ?_
  rw [dot_at, bOf_tOf, rOf_tOf]
  rfl

theorem G8_read (c : Dev nD) (b : Fin 4) (t : Fin 8192) (j : Fin 512) :
    G8 m c (ix3 b t j) = (outsAt0 m c (tOf b t).val (tOf b t).isLt).2.2.1 (ix3 0 (lOf t) j) := by
  have hj := j.isLt
  have hp : pt8Of (ix3 b t j) = (tOf b t).val := by
    show 16 * (b.val / 1 - 0) + 1 * (t.val / 512 - 0) + 1 * (j.val / 512 - 0) = 16 * b.val + t.val / 512
    omega
  have hl : loc8Of (ix3 b t j) = ix3 0 (lOf t) j := by
    funext a; apply Fin.ext
    match a with
    | ⟨0, _⟩ => show b.val % 1 = 0; omega
    | ⟨1, _⟩ => show t.val % 512 = t.val % 512; omega
    | ⟨2, _⟩ => show j.val % 512 = j.val; omega
  unfold G8
  rw [dif_pos (by rw [hp]; exact (tOf b t).isLt), ← outsAt0_sweep m c _ (by rw [hp]; exact (tOf b t).isLt), hl]
  exact congrArg (fun o : Outs => o.2.2.1 (ix3 0 (lOf t) j)) (outs_congr m c _ _ _ _ hp)

theorem G8_eq (c : Dev nD) : G8 m c = val_main_v18 (F := Ideal) (aX m c) (aG m c) (aW m c) := by
  refine ext3 fun b t j => ?_
  rw [v18_at]
  refine (G8_read m c b t j).trans ?_
  obtain ⟨s, hs⟩ := outs_some m c (tOf b t)
  rw [hs]
  refine (vf_at _ _ _ (lOf t) j).trans ?_
  rw [dot_at, bOf_tOf, rOf_tOf]
  rfl

theorem G9_read (c : Dev nD) (b : Fin 4) (t : Fin 8192) (j : Fin 512) :
    G9 m c (ix3 b j t) = (outsAt0 m c (tOf b t).val (tOf b t).isLt).2.2.2.1 (ix3 0 j (lOf t)) := by
  have hj := j.isLt
  have hp : pt9Of (ix3 b j t) = (tOf b t).val := by
    show 16 * (b.val / 1 - 0) + 16 * (j.val / 512 - 0) + 1 * (t.val / 512 - 0) = 16 * b.val + t.val / 512
    omega
  have hl : loc9Of (ix3 b j t) = ix3 0 j (lOf t) := by
    funext a; apply Fin.ext
    match a with
    | ⟨0, _⟩ => show b.val % 1 = 0; omega
    | ⟨1, _⟩ => show j.val % 512 = j.val; omega
    | ⟨2, _⟩ => show t.val % 512 = t.val % 512; omega
  unfold G9
  rw [dif_pos (by rw [hp]; exact (tOf b t).isLt), ← outsAt0_sweep m c _ (by rw [hp]; exact (tOf b t).isLt), hl]
  exact congrArg (fun o : Outs => o.2.2.2.1 (ix3 0 j (lOf t))) (outs_congr m c _ _ _ _ hp)

theorem G9_eq (c : Dev nD) : G9 m c = val_main_v42 (F := Ideal) (aX m c) (aG m c) (aW m c) := by
  refine ext3 fun b j t => ?_
  rw [v42_at]
  refine (G9_read m c b t j).trans ?_
  obtain ⟨s, hs⟩ := outs_some m c (tOf b t)
  rw [hs]
  refine (kb_at _ _ (lOf t) j).trans ?_
  refine (dotk_at m c (tOf b t) (lOf t) j).trans ?_
  rw [bOf_tOf, rOf_tOf]

theorem G10_read (c : Dev nD) (b : Fin 4) (t : Fin 8192) (j : Fin 512) :
    G10 m c (ix3 b j t) = (outsAt0 m c (tOf b t).val (tOf b t).isLt).2.2.2.2.1 (ix3 0 j (lOf t)) := by
  have hj := j.isLt
  have hp : pt10Of (ix3 b j t) = (tOf b t).val := by
    show 16 * (b.val / 1 - 0) + 16 * (j.val / 512 - 0) + 1 * (t.val / 512 - 0) = 16 * b.val + t.val / 512
    omega
  have hl : loc10Of (ix3 b j t) = ix3 0 j (lOf t) := by
    funext a; apply Fin.ext
    match a with
    | ⟨0, _⟩ => show b.val % 1 = 0; omega
    | ⟨1, _⟩ => show j.val % 512 = j.val; omega
    | ⟨2, _⟩ => show t.val % 512 = t.val % 512; omega
  unfold G10
  rw [dif_pos (by rw [hp]; exact (tOf b t).isLt), ← outsAt0_sweep m c _ (by rw [hp]; exact (tOf b t).isLt), hl]
  exact congrArg (fun o : Outs => o.2.2.2.2.1 (ix3 0 j (lOf t))) (outs_congr m c _ _ _ _ hp)

theorem G10_eq (c : Dev nD) : G10 m c = val_main_v43 (F := Ideal) (aX m c) (aG m c) (aW m c) := by
  refine ext3 fun b j t => ?_
  rw [v43_at]
  refine (G10_read m c b t j).trans ?_
  obtain ⟨s, hs⟩ := outs_some m c (tOf b t)
  rw [hs]
  refine (kf_at _ _ (lOf t) j).trans ?_
  refine (dotk_at m c (tOf b t) (lOf t) j).trans ?_
  rw [bOf_tOf, rOf_tOf]

theorem G11_read (c : Dev nD) (b : Fin 4) (t : Fin 8192) (j : Fin 8) :
    G11 m c (ix3 b j t) = (outsAt0 m c (tOf b t).val (tOf b t).isLt).2.2.2.2.2.1 (ix3 0 j (lOf t)) := by
  have hj := j.isLt
  have hp : pt11Of (ix3 b j t) = (tOf b t).val := by
    show 16 * (b.val / 1 - 0) + 16 * (j.val / 8 - 0) + 1 * (t.val / 512 - 0) = 16 * b.val + t.val / 512
    omega
  have hl : loc11Of (ix3 b j t) = ix3 0 j (lOf t) := by
    funext a; apply Fin.ext
    match a with
    | ⟨0, _⟩ => show b.val % 1 = 0; omega
    | ⟨1, _⟩ => show j.val % 8 = j.val; omega
    | ⟨2, _⟩ => show t.val % 512 = t.val % 512; omega
  unfold G11
  rw [dif_pos (by rw [hp]; exact (tOf b t).isLt), ← outsAt0_sweep m c _ (by rw [hp]; exact (tOf b t).isLt), hl]
  exact congrArg (fun o : Outs => o.2.2.2.2.2.1 (ix3 0 j (lOf t))) (outs_congr m c _ _ _ _ hp)

theorem G11_eq (c : Dev nD) : G11 m c = val_main_v44 (F := Ideal) (aX m c) (aG m c) (aW m c) (aB m c) := by
  refine ext3 fun b j t => ?_
  rw [v44_at]
  refine (G11_read m c b t j).trans ?_
  obtain ⟨s, hs⟩ := outs_some m c (tOf b t)
  rw [hs]
  refine (lf_at _ _ _ _ j (lOf t)).trans ?_
  rw [lB_at, bOf_tOf, rOf_tOf]

theorem G12_read (c : Dev nD) (b : Fin 4) (t : Fin 8192) (j : Fin 8) :
    G12 m c (ix3 b j t) = (outsAt0 m c (tOf b t).val (tOf b t).isLt).2.2.2.2.2.2.1 (ix3 0 j (lOf t)) := by
  have hj := j.isLt
  have hp : pt12Of (ix3 b j t) = (tOf b t).val := by
    show 16 * (b.val / 1 - 0) + 16 * (j.val / 8 - 0) + 1 * (t.val / 512 - 0) = 16 * b.val + t.val / 512
    omega
  have hl : loc12Of (ix3 b j t) = ix3 0 j (lOf t) := by
    funext a; apply Fin.ext
    match a with
    | ⟨0, _⟩ => show b.val % 1 = 0; omega
    | ⟨1, _⟩ => show j.val % 8 = j.val; omega
    | ⟨2, _⟩ => show t.val % 512 = t.val % 512; omega
  unfold G12
  rw [dif_pos (by rw [hp]; exact (tOf b t).isLt), ← outsAt0_sweep m c _ (by rw [hp]; exact (tOf b t).isLt), hl]
  exact congrArg (fun o : Outs => o.2.2.2.2.2.2.1 (ix3 0 j (lOf t))) (outs_congr m c _ _ _ _ hp)

theorem G12_eq (c : Dev nD) : G12 m c = val_main_v45 (F := Ideal) (aX m c) (aG m c) (aW m c) (aB m c) := by
  refine ext3 fun b j t => ?_
  rw [v45_at]
  refine (G12_read m c b t j).trans ?_
  refine (cum_at m c (tOf b t) j (lOf t)).trans ?_
  rw [bOf_tOf, rOf_tOf]

theorem G13_read (c : Dev nD) (b : Fin 4) (t : Fin 8192) (j : Fin 512) :
    G13 m c (ix3 b t j) = (outsAt0 m c (tOf b t).val (tOf b t).isLt).2.2.2.2.2.2.2.1 (ix3 0 (lOf t) j) := by
  have hj := j.isLt
  have hp : pt13Of (ix3 b t j) = (tOf b t).val := by
    show 16 * (b.val / 1 - 0) + 1 * (t.val / 512 - 0) + 1 * (j.val / 512 - 0) = 16 * b.val + t.val / 512
    omega
  have hl : loc13Of (ix3 b t j) = ix3 0 (lOf t) j := by
    funext a; apply Fin.ext
    match a with
    | ⟨0, _⟩ => show b.val % 1 = 0; omega
    | ⟨1, _⟩ => show t.val % 512 = t.val % 512; omega
    | ⟨2, _⟩ => show j.val % 512 = j.val; omega
  unfold G13
  rw [dif_pos (by rw [hp]; exact (tOf b t).isLt), ← outsAt0_sweep m c _ (by rw [hp]; exact (tOf b t).isLt), hl]
  exact congrArg (fun o : Outs => o.2.2.2.2.2.2.2.1 (ix3 0 (lOf t) j)) (outs_congr m c _ _ _ _ hp)

theorem G13_eq (c : Dev nD) : G13 m c = val_main_v46 (F := Ideal) (aX m c) (aG m c) (aW m c) := by
  refine ext3 fun b t j => ?_
  rw [v46_at]
  refine (G13_read m c b t j).trans ?_
  obtain ⟨s, hs⟩ := outs_some m c (tOf b t)
  rw [hs]
  refine (s_at _ _ (lOf t) j).trans ?_
  rw [dot_at, bOf_tOf, rOf_tOf]
  rfl

theorem G14_read (c : Dev nD) (b : Fin 4) (t : Fin 8192) (j : Fin 512) :
    G14 m c (ix3 b t j) = (outsAt0 m c (tOf b t).val (tOf b t).isLt).2.2.2.2.2.2.2.2.1 (ix3 0 (lOf t) j) := by
  have hj := j.isLt
  have hp : pt14Of (ix3 b t j) = (tOf b t).val := by
    show 16 * (b.val / 1 - 0) + 1 * (t.val / 512 - 0) + 1 * (j.val / 512 - 0) = 16 * b.val + t.val / 512
    omega
  have hl : loc14Of (ix3 b t j) = ix3 0 (lOf t) j := by
    funext a; apply Fin.ext
    match a with
    | ⟨0, _⟩ => show b.val % 1 = 0; omega
    | ⟨1, _⟩ => show t.val % 512 = t.val % 512; omega
    | ⟨2, _⟩ => show j.val % 512 = j.val; omega
  unfold G14
  rw [dif_pos (by rw [hp]; exact (tOf b t).isLt), ← outsAt0_sweep m c _ (by rw [hp]; exact (tOf b t).isLt), hl]
  exact congrArg (fun o : Outs => o.2.2.2.2.2.2.2.2.1 (ix3 0 (lOf t) j)) (outs_congr m c _ _ _ _ hp)

theorem G14_eq (c : Dev nD) : G14 m c = val_main_v36 (F := Ideal) (aX m c) (aG m c) (aW m c) := by
  refine ext3 fun b t j => ?_
  rw [v36_at]
  refine (G14_read m c b t j).trans ?_
  obtain ⟨s, hs⟩ := outs_some m c (tOf b t)
  rw [hs]
  refine (u_at _ _ _ (lOf t) j).trans ?_
  rw [dot_at, dot_at, bOf_tOf, rOf_tOf]
  rfl

theorem G15_read (c : Dev nD) (b : Fin 4) (t : Fin 8192) (j : Fin 512) :
    G15 m c (ix3 b t j) = (outsAt0 m c (tOf b t).val (tOf b t).isLt).2.2.2.2.2.2.2.2.2.1 (ix3 0 (lOf t) j) := by
  have hj := j.isLt
  have hp : pt15Of (ix3 b t j) = (tOf b t).val := by
    show 16 * (b.val / 1 - 0) + 1 * (t.val / 512 - 0) + 1 * (j.val / 512 - 0) = 16 * b.val + t.val / 512
    omega
  have hl : loc15Of (ix3 b t j) = ix3 0 (lOf t) j := by
    funext a; apply Fin.ext
    match a with
    | ⟨0, _⟩ => show b.val % 1 = 0; omega
    | ⟨1, _⟩ => show t.val % 512 = t.val % 512; omega
    | ⟨2, _⟩ => show j.val % 512 = j.val; omega
  unfold G15
  rw [dif_pos (by rw [hp]; exact (tOf b t).isLt), ← outsAt0_sweep m c _ (by rw [hp]; exact (tOf b t).isLt), hl]
  exact congrArg (fun o : Outs => o.2.2.2.2.2.2.2.2.2.1 (ix3 0 (lOf t) j)) (outs_congr m c _ _ _ _ hp)

theorem G15_eq (c : Dev nD) : G15 m c = val_main_v47 (F := Ideal) (aX m c) (aG m c) (aW m c) := by
  refine ext3 fun b t j => ?_
  rw [v47_at]
  refine (G15_read m c b t j).trans ?_
  obtain ⟨s, hs⟩ := outs_some m c (tOf b t)
  rw [hs]
  refine (s2_at _ _ (lOf t) j).trans ?_
  rw [dot_at, bOf_tOf, rOf_tOf]
  rfl

end Cert.Kernel2Ideal.Proj
end
-- ==== Proof.P2Claim.lean ====
/-
  The claims about the projection: the runs of the kernel and of the reference, and the equality of all ten results.
-/
module

public import proofs.«01_k».proof.Defs
public import proofs.«01_k».proof.Proof.P2Val
public import proofs.«01_k».proof.Proof.Gen.Kernel2.Frame
public import Idealize.ShloMosaic.Adequacy
public import Idealize.ShloMosaic.Init

@[expose] public section

set_option maxRecDepth 16384

noncomputable section

namespace Cert.ProjClaim

open Idealize.ShloMosaic Idealize.ShloMosaic.TcCoe Idealize.SL.Sem

/-- The projection over machine floats runs, leaves its arguments and ends with every semaphore at zero. -/
theorem frame_kernel : Cert.quiescent_Kernel2 (hKernel2 := Cert.Kernel2.Gen.facts) := fun m ρ _ => Cert.Kernel2.Gen.frame m ρ

/-- The same of the idealized projection. -/
theorem frame_ideal : Cert.quiescent_Kernel2Ideal (hKernel2Ideal := Cert.Kernel2Ideal.Gen.facts) := fun m ρ _ => Cert.Kernel2Ideal.Gen.frame m ρ

/-- The same of the reference. -/
theorem frame_reference : Cert.quiescent_Reference2Ideal (hReference2Ideal := Cert.Reference2Ideal.Gen.facts) := fun m ρ _ =>
  (θ_run Cert.Reference2Ideal.defs _ _).mono (fun r h => ⟨fun c => (h c).2.2.2.2.2.2.2.2.2.2, sem_eq_zero_of_no_sems (by decide) r.2⟩) (Cert.Reference2Ideal.Value.run (F := Ideal) m ρ)

/-- No constant is named and no operation is rewritten. -/
theorem preserves : Cert.preserves_Kernel2_Kernel2Ideal := trivial

/-- Every result of the projection is the reference's. -/
theorem value : Cert.algebraic_Kernel2Ideal_Reference2Ideal (hKernel2Ideal := Cert.Kernel2Ideal.Gen.facts) (hReference2Ideal := Cert.Reference2Ideal.Gen.facts) := by
  intro m ρ m' ρ' _ hagree
  refine ⟨Cert.Kernel2Ideal.Value.G6 m, Cert.Kernel2Ideal.Value.G7 m, Cert.Kernel2Ideal.Value.G8 m, Cert.Kernel2Ideal.Value.G9 m, Cert.Kernel2Ideal.Value.G10 m, Cert.Kernel2Ideal.Value.G11 m, Cert.Kernel2Ideal.Value.G12 m, Cert.Kernel2Ideal.Value.G13 m, Cert.Kernel2Ideal.Value.G14 m, Cert.Kernel2Ideal.Value.G15 m, Cert.Kernel2Ideal.Value.run m ρ, ?_⟩
  refine (θ_run Cert.Reference2Ideal.defs _ _).mono (fun r h c => ?_) (Cert.Reference2Ideal.Value.run (F := Ideal) m' ρ')
  obtain ⟨g0, g1, g2, g3⟩ := hagree c
  obtain ⟨h0, h1, h2, h3, h4, h5, h6, h7, h8, h9, hr⟩ := h c
  refine ⟨h0.trans ?_, h1.trans ?_, h2.trans ?_, h3.trans ?_, h4.trans ?_, h5.trans ?_, h6.trans ?_, h7.trans ?_, h8.trans ?_, h9.trans ?_, hr⟩
  · refine (Cert.Reference2Ideal.Read.val_main_v39_eq _ _ _).trans ?_
    refine Eq.trans ?_ (Cert.Kernel2Ideal.Proj.G6_eq m c).symm
    exact congr (congr (congrArg (Cert.Reference2Ideal.Read.val_main_v39 (F := Ideal)) g0) g1) g2
  · refine (Cert.Reference2Ideal.Read.val_main_v40_eq _ _ _).trans ?_
    refine Eq.trans ?_ (Cert.Kernel2Ideal.Proj.G7_eq m c).symm
    exact congr (congr (congrArg (Cert.Reference2Ideal.Read.val_main_v40 (F := Ideal)) g0) g1) g2
  · refine (Cert.Reference2Ideal.Read.val_main_v18_eq _ _ _).trans ?_
    refine Eq.trans ?_ (Cert.Kernel2Ideal.Proj.G8_eq m c).symm
    exact congr (congr (congrArg (Cert.Reference2Ideal.Read.val_main_v18 (F := Ideal)) g0) g1) g2
  · refine (Cert.Reference2Ideal.Read.val_main_v42_eq _ _ _).trans ?_
    refine Eq.trans ?_ (Cert.Kernel2Ideal.Proj.G9_eq m c).symm
    exact congr (congr (congrArg (Cert.Reference2Ideal.Read.val_main_v42 (F := Ideal)) g0) g1) g2
  · refine (Cert.Reference2Ideal.Read.val_main_v43_eq _ _ _).trans ?_
    refine Eq.trans ?_ (Cert.Kernel2Ideal.Proj.G10_eq m c).symm
    exact congr (congr (congrArg (Cert.Reference2Ideal.Read.val_main_v43 (F := Ideal)) g0) g1) g2
  · refine (Cert.Reference2Ideal.Read.val_main_v44_eq m' c).trans ?_
    refine Eq.trans ?_ (Cert.Kernel2Ideal.Proj.G11_eq m c).symm
    exact congr (congr (congr (congrArg (Cert.Reference2Ideal.Read.val_main_v44 (F := Ideal)) g0) g1) g2) g3
  · refine (Cert.Reference2Ideal.Read.val_main_v45_eq m' c).trans ?_
    refine Eq.trans ?_ (Cert.Kernel2Ideal.Proj.G12_eq m c).symm
    exact congr (congr (congr (congrArg (Cert.Reference2Ideal.Read.val_main_v45 (F := Ideal)) g0) g1) g2) g3
  · refine (Cert.Reference2Ideal.Read.val_main_v46_eq _ _ _).trans ?_
    refine Eq.trans ?_ (Cert.Kernel2Ideal.Proj.G13_eq m c).symm
    exact congr (congr (congrArg (Cert.Reference2Ideal.Read.val_main_v46 (F := Ideal)) g0) g1) g2
  · refine (Cert.Reference2Ideal.Read.val_main_v36_eq _ _ _).trans ?_
    refine Eq.trans ?_ (Cert.Kernel2Ideal.Proj.G14_eq m c).symm
    exact congr (congr (congrArg (Cert.Reference2Ideal.Read.val_main_v36 (F := Ideal)) g0) g1) g2
  · refine (Cert.Reference2Ideal.Read.val_main_v47_eq _ _ _).trans ?_
    refine Eq.trans ?_ (Cert.Kernel2Ideal.Proj.G15_eq m c).symm
    exact congr (congr (congrArg (Cert.Reference2Ideal.Read.val_main_v47 (F := Ideal)) g0) g1) g2

end Cert.ProjClaim

end
-- ==== Proof.P3Math.lean ====
module

public import proofs.«01_k».proof.Proof.Gen.Kernel3Ideal.Skeleton
public import Idealize.ShloMosaic.Lib.Pointwise

/-! One row of the output stage as a formula, and the stage's body at one entry of its block. -/

@[expose] public section

set_option maxRecDepth 16384

noncomputable section

namespace Cert.OutRow

open Idealize.ShloMosaic

/-- A row's two branches through the output weights, added to the row itself. -/
def hRow (a s g : Fin 512 → EReal) (x : Fin 1024 → EReal) (wo : Fin 1024 → Fin 1024 → EReal) (d : Fin 1024) : EReal :=
  x d + (∑ j : Fin 512, a j * s j * wo ⟨j.val, by omega⟩ d + ∑ j : Fin 512, g j * wo ⟨512 + j.val, by omega⟩ d)

/-- A row times a matrix. -/
def dotR {n : ℕ} (p : Fin n → EReal) (w : Fin n → Fin 1024 → EReal) (d : Fin 1024) : EReal := ∑ k, p k * w k d

/-- A row divided by its root mean square, with gains. -/
def rmsR (z g : Fin 1024 → EReal) (d : Fin 1024) : EReal :=
  z d * Ideal.rsqrt (Ideal.div (∑ k, z k * z k) (Ideal.ofBits FTy.f32 1149239296#32) + Ideal.ofBits FTy.f32 897988541#32) * g d

/-- A row with its gated embedding added. -/
def gateR (h e : Fin 1024 → EReal) (wg : Fin 1024 → Fin 1024 → EReal) (d : Fin 1024) : EReal :=
  h d + Ideal.logistic (dotR h wg d) * e d

/-- A row of the output stage's result. -/
def outR (a s g : Fin 512 → EReal) (x : Fin 1024 → EReal) (p : Fin 256 → EReal) (wo : Fin 1024 → Fin 1024 → EReal) (we : Fin 256 → Fin 1024 → EReal)
    (ge : Fin 1024 → EReal) (wg : Fin 1024 → Fin 1024 → EReal) (gf : Fin 1024 → EReal) : Fin 1024 → EReal :=
  rmsR (gateR (hRow a s g x wo) (rmsR (dotR p we) ge) wg) gf

end Cert.OutRow

namespace Cert.Kernel3Ideal.Out

open Cert.Kernel3Ideal Cert.Kernel3Ideal.Gen Cert.OutRow
open Idealize.ShloMosaic Idealize.ShloMosaic.TcCoe Idealize.ShloMosaic.Tactic Idealize.ShloMosaic.Pointwise

theorem pay2_at (v0 v2 v6 : FVec Ideal S512x512 .f32) (v9 : FVec Ideal S512x1024 .f32) (v11 v15 : FVec Ideal S512x1024 .bf16) (r : Fin 512) (d : Fin 1024) :
    (k0_pay2 v0 v2 v6 v9 v11 v15 : FVec Ideal S512x1024 .f32) (ix2 r d) =
      v9 (ix2 r d) + (∑ j : Fin 512, v0 (ix2 r j) * v2 (ix2 r j) * v11 (ix2 j d) + ∑ j : Fin 512, v6 (ix2 r j) * v15 (ix2 j d)) := by
  rw [← add_assoc]
  unfold k0_pay2
  pointwise

theorem pay3_at (v19 : FVec Ideal S512x256 .f32) (v22 : FVec Ideal S256x1024 .bf16) (r : Fin 512) (d : Fin 1024) :
    (k0_pay3 v19 v22 : FVec Ideal S512x1024 .f32) (ix2 r d) =
      rmsR (dotR (fun k => v19 (ix2 r k)) (fun k d => v22 (ix2 k d))) (fun _ => 1) d := by
  unfold k0_pay3 rmsR dotR
  rw [mul_one]
  pointwise

theorem pay1_at (v18 v34 : FVec Ideal S512x1024 .f32) (v35 v56 : FVec Ideal S1x1024 .f32) (v40 : FVec Ideal S1024x1024 .bf16) (r : Fin 512) (d : Fin 1024) :
    (k0_pay1 v18 v34 v35 v40 v56 : FVec Ideal S512x1024 .f32) (ix2 r d) =
      rmsR (gateR (fun d => v18 (ix2 r d)) (fun d => v34 (ix2 r d) * v35 (ix2 0 d)) (fun k d => v40 (ix2 k d))) (fun d => v56 (ix2 0 d)) d := by
  unfold k0_pay1 rmsR gateR dotR
  pointwise

end Cert.Kernel3Ideal.Out
end
-- ==== Proof.P3Ref.lean ====
module

public import proofs.«01_k».proof.Proof.P3Math
public import proofs.«01_k».proof.Proof.Gen.Reference3Ideal.Read

/-! The output stage's reference over the extended reals, read at one entry. -/

@[expose] public section

set_option maxRecDepth 16384

noncomputable section

namespace Cert.Reference3Ideal.Out

open Cert.Reference3Ideal Cert.Reference3Ideal.Gen Cert.Reference3Ideal.Read Cert.OutRow
open Idealize.ShloMosaic Idealize.ShloMosaic.TcCoe Idealize.ShloMosaic.Pointwise

variable (x0 x2 : FVec Ideal S4x8192x512 .f32) (x1 : FVec Ideal S4x8192x512 .f32) (x3 : FVec Ideal S4x8192x1024 .f32) (x4 : FVec Ideal S1x4x8192x256 .f32)
  (x5 x8 : FVec Ideal S1x1024x1024 .f32) (x6 : FVec Ideal S1x256x1024 .f32) (x7 : FVec Ideal S1x1024 .f32) (x9 : FVec Ideal S1024 .f32)

/-- The row of the flattened arrays that is position `t` of sequence `b`. -/
def rowOf (b : Fin 4) (t : Fin 8192) : Fin 32768 := ⟨b.val * 8192 + t.val, by omega⟩

/-- The row of the arguments' output stage that is position `t` of sequence `b`. -/
def rowR (b : Fin 4) (t : Fin 8192) : Fin 1024 → EReal :=
  outR (fun j => x0 (ix3 b t j)) (fun j => x1 (ix3 b t j)) (fun j => x2 (ix3 b t j)) (fun j => x3 (ix3 b t j)) (fun j => x4 (ix4 0 b t j))
    (fun k d => x5 (ix3 0 k d)) (fun k d => x6 (ix3 0 k d)) (fun d => x7 (ix2 0 d)) (fun k d => x8 (ix3 0 k d)) (fun d => x9 (ix1 d))

theorem left_at (b : Fin 4) (t : Fin 8192) (j : Fin 512) :
    val_main_v1 (F := Ideal) x0 x1 x2 (ix3 b t ⟨j.val, by omega⟩) = x0 (ix3 b t j) * x1 (ix3 b t j) := by
  unfold val_main_v1 val_main_v0
  pointwise

theorem right_at (b : Fin 4) (t : Fin 8192) (j : Fin 512) :
    val_main_v1 (F := Ideal) x0 x1 x2 (ix3 b t ⟨512 + j.val, by omega⟩) = x2 (ix3 b t j) := by
  unfold val_main_v1
  generalize val_main_v0 (F := Ideal) x0 x1 = y
  pointwise

theorem sum_halves (f : Fin 1024 → EReal) : ∑ k, f k = ∑ j : Fin 512, f ⟨j.val, by omega⟩ + ∑ j : Fin 512, f ⟨512 + j.val, by omega⟩ :=
  Fin.sum_univ_add (a := 512) (b := 512) f

theorem h_at (b : Fin 4) (t : Fin 8192) (d : Fin 1024) : val_main_v4 (F := Ideal) x0 x1 x2 x3 x5 (ix3 b t d) =
    hRow (fun j => x0 (ix3 b t j)) (fun j => x1 (ix3 b t j)) (fun j => x2 (ix3 b t j)) (fun j => x3 (ix3 b t j)) (fun k d => x5 (ix3 0 k d)) d := by
  unfold hRow val_main_v4
  refine congrArg (x3 (ix3 b t d) + ·) ?_
  refine (val_main_v3_apply x0 x1 x2 x5 (ix3 b t d)).trans ?_
  have e : ∀ k : Fin 1024, lidx_main_v3 (ix3 b t d) k = ix3 b t k := fun k => by idx_ext
  have e' : ∀ k : Fin 1024, val_main_v2 (F := Ideal) x5 (ridx_main_v3 (ix3 b t d) k) = x5 (ix3 0 k d) := fun k => by
    have e2 : ridx_main_v3 (ix3 b t d) k = ix2 k d := by idx_ext
    rw [e2]
    unfold val_main_v2
    pointwise
  simp only [e, e']
  rw [sum_halves]
  refine congrArg₂ (· + ·) (Finset.sum_congr rfl fun j _ => ?_) (Finset.sum_congr rfl fun j _ => ?_)
  · rw [left_at]
  · rw [right_at]

theorem p_at (b : Fin 4) (t : Fin 8192) (d : Fin 1024) : val_main_v7 (F := Ideal) x4 x6 (ix3 b t d) =
    dotR (fun j => x4 (ix4 0 b t j)) (fun k d => x6 (ix3 0 k d)) d := by
  unfold dotR
  refine (val_main_v7_apply x4 x6 (ix3 b t d)).trans (Finset.sum_congr rfl fun k _ => congrArg₂ (· * ·) ?_ ?_)
  · have e : lidx_main_v7 (ix3 b t d) k = ix3 b t k := by idx_ext
    rw [e]
    unfold val_main_v5
    pointwise
  · have e : ridx_main_v7 (ix3 b t d) k = ix2 k d := by idx_ext
    rw [e]
    unfold val_main_v6
    pointwise

theorem e_at (b : Fin 4) (t : Fin 8192) (d : Fin 1024) : val_main_v21 (F := Ideal) x4 x6 x7 (ix3 b t d) =
    rmsR (dotR (fun j => x4 (ix4 0 b t j)) (fun k d => x6 (ix3 0 k d))) (fun d => x7 (ix2 0 d)) d := by
  have e : dotR (fun j => x4 (ix4 0 b t j)) (fun k d => x6 (ix3 0 k d)) = fun d => val_main_v7 (F := Ideal) x4 x6 (ix3 b t d) :=
    funext fun d => (p_at x4 x6 b t d).symm
  rw [e]
  unfold rmsR val_main_v21 val_main_v20 val_main_v19 val_main_v18 val_main_v17 val_main_v16 val_main_v15 val_main_v14 val_main_cst_1 val_main_v13 val_main_v12 val_main_cst_0 val_main_v11 val_main_v10 val_main_cst val_main_v9 val_main_v8
  generalize val_main_v7 (F := Ideal) x4 x6 = y
  pointwise

theorem d_at (b : Fin 4) (t : Fin 8192) (d : Fin 1024) : val_main_v23 (F := Ideal) x0 x1 x2 x3 x5 x8 (ix3 b t d) =
    dotR (fun d => val_main_v4 (F := Ideal) x0 x1 x2 x3 x5 (ix3 b t d)) (fun k d => x8 (ix3 0 k d)) d := by
  unfold dotR
  refine (val_main_v23_apply x0 x1 x2 x3 x5 x8 (ix3 b t d)).trans (Finset.sum_congr rfl fun k _ => congrArg₂ (· * ·) ?_ ?_)
  · have e : lidx_main_v23 (ix3 b t d) k = ix3 b t k := by idx_ext
    rw [e]
  · have e : ridx_main_v23 (ix3 b t d) k = ix2 k d := by idx_ext
    rw [e]
    unfold val_main_v22
    pointwise

theorem g_at (b : Fin 4) (t : Fin 8192) (d : Fin 1024) : val_main_v31 (F := Ideal) x0 x1 x2 x3 x4 x5 x6 x7 x8 (ix3 b t d) =
    gateR (fun d => val_main_v4 (F := Ideal) x0 x1 x2 x3 x5 (ix3 b t d)) (fun d => val_main_v21 (F := Ideal) x4 x6 x7 (ix3 b t d)) (fun k d => x8 (ix3 0 k d)) d := by
  unfold gateR
  rw [← d_at]
  unfold val_main_v31 val_main_v30 val_main_v29 val_main_v28 val_main_cst_3 val_main_v27 val_main_v26 val_main_cst_2 val_main_v25 val_main_v24
  generalize val_main_v4 (F := Ideal) x0 x1 x2 x3 x5 = y
  generalize val_main_v21 (F := Ideal) x4 x6 x7 = z
  generalize val_main_v23 (F := Ideal) x0 x1 x2 x3 x5 x8 = w
  unfold Ideal.logistic
  pointwise

theorem out_at (b : Fin 4) (t : Fin 8192) (d : Fin 1024) :
    val_main_v45 (F := Ideal) x0 x1 x2 x3 x4 x5 x6 x7 x8 x9 (ix2 (rowOf b t) d) = rowR x0 x2 x1 x3 x4 x5 x8 x6 x7 x9 b t d := by
  unfold rowR outR
  have eh : hRow (fun j => x0 (ix3 b t j)) (fun j => x1 (ix3 b t j)) (fun j => x2 (ix3 b t j)) (fun j => x3 (ix3 b t j)) (fun k d => x5 (ix3 0 k d))
      = fun d => val_main_v4 (F := Ideal) x0 x1 x2 x3 x5 (ix3 b t d) := funext fun d => (h_at x0 x2 x1 x3 x5 b t d).symm
  have ee : rmsR (dotR (fun j => x4 (ix4 0 b t j)) (fun k d => x6 (ix3 0 k d))) (fun d => x7 (ix2 0 d))
      = fun d => val_main_v21 (F := Ideal) x4 x6 x7 (ix3 b t d) := funext fun d => (e_at x4 x6 x7 b t d).symm
  rw [eh, ee]
  have eg := funext fun d => (g_at x0 x2 x1 x3 x4 x5 x8 x6 x7 b t d).symm
  rw [eg]
  have er : val_main_v45 (F := Ideal) x0 x1 x2 x3 x4 x5 x6 x7 x8 x9 (ix2 (rowOf b t) d) = val_main_v44 (F := Ideal) x0 x1 x2 x3 x4 x5 x6 x7 x8 x9 (ix3 b t d) := by
    refine (val_main_v45_apply (F := Ideal) x0 x1 x2 x3 x4 x5 x6 x7 x8 x9 _).trans (congrArg _ ?_)
    funext a; apply Fin.ext
    have hb := b.isLt
    have ht := t.isLt
    have hd := d.isLt
    match a with
    | ⟨0, _⟩ => show ((b.val * 8192 + t.val) * 1024 + d.val) / 8388608 = b.val; omega
    | ⟨1, _⟩ => show ((b.val * 8192 + t.val) * 1024 + d.val) / 1024 % 8192 = t.val; omega
    | ⟨2, _⟩ => show ((b.val * 8192 + t.val) * 1024 + d.val) % 1024 = d.val; omega
  rw [er]
  unfold rmsR val_main_v44 val_main_v43 val_main_v42 val_main_v41 val_main_v40 val_main_v39 val_main_v38 val_main_v37 val_main_cst_6 val_main_v36 val_main_v35 val_main_cst_5 val_main_v34 val_main_v33 val_main_cst_4 val_main_v32
  generalize val_main_v31 (F := Ideal) x0 x1 x2 x3 x4 x5 x6 x7 x8 = y
  pointwise

end Cert.Reference3Ideal.Out
end
-- ==== Proof.P3Val.lean ====
module

public import proofs.«01_k».proof.Proof.P3Ref
public import proofs.«01_k».proof.Proof.P3Math
public import proofs.«01_k».proof.Proof.Gen.Kernel3Ideal.Value
public import Idealize.ShloMosaic.Lib.Claim
public import Idealize.ShloMosaic.Lib.StableHlo.ReadAt

/-! The output stage's result array, which is the reference's. -/

@[expose] public section

set_option maxRecDepth 16384

noncomputable section

namespace Cert.Kernel3Ideal.Out

open Cert.Kernel3Ideal Cert.Kernel3Ideal.Gen Cert.Kernel3Ideal.Value Cert.OutRow
open Cert.Reference3Ideal.Out (rowOf rowR)
open Cert.Reference3Ideal.Read (val_main_v45)
open Idealize.ShloMosaic Idealize.ShloMosaic.TcCoe Idealize.ShloMosaic.Tactic Idealize.ShloMosaic.Pointwise
open Idealize.SL.Sem

variable (m : (ℓ : Loc nD τ sig) → Buf (Elt Ideal) ℓ)

/-- The program's arguments. -/
abbrev a0 (c : Dev nD) : FVec Ideal S4x8192x512 .f32 := m ((c : Thread nD τ).loc main_arg0)
abbrev a1 (c : Dev nD) : FVec Ideal S4x8192x512 .f32 := m ((c : Thread nD τ).loc main_arg1)
abbrev a2 (c : Dev nD) : FVec Ideal S4x8192x512 .f32 := m ((c : Thread nD τ).loc main_arg2)
abbrev a3 (c : Dev nD) : FVec Ideal S4x8192x1024 .f32 := m ((c : Thread nD τ).loc main_arg3)
abbrev a4 (c : Dev nD) : FVec Ideal S1x4x8192x256 .f32 := m ((c : Thread nD τ).loc main_arg4)
abbrev a5 (c : Dev nD) : FVec Ideal S1x1024x1024 .f32 := m ((c : Thread nD τ).loc main_arg5)
abbrev a6 (c : Dev nD) : FVec Ideal S1x256x1024 .f32 := m ((c : Thread nD τ).loc main_arg6)
abbrev a7 (c : Dev nD) : FVec Ideal S1x1024 .f32 := m ((c : Thread nD τ).loc main_arg7)
abbrev a8 (c : Dev nD) : FVec Ideal S1x1024x1024 .f32 := m ((c : Thread nD τ).loc main_arg8)
abbrev a9 (c : Dev nD) : FVec Ideal S1024 .f32 := m ((c : Thread nD τ).loc main_arg9)

/-- The reference's result at the program's arguments. -/
def G (c : Dev nD) : FVec Ideal S32768x1024 .f32 :=
  val_main_v45 (F := Ideal) (a0 m c) (a1 m c) (a2 m c) (a3 m c) (a4 m c) (a5 m c) (a6 m c) (a7 m c) (a8 m c) (a9 m c)

theorem row_div (b : Fin 4) (t : Fin 8192) (h : (rowOf b t).val / 8192 < 4) : (⟨(rowOf b t).val / 8192, h⟩ : Fin 4) = b := by
  apply Fin.ext
  show (b.val * 8192 + t.val) / 8192 = b.val
  omega

theorem row_mod (b : Fin 4) (t : Fin 8192) (h : (rowOf b t).val % 8192 < 8192) : (⟨(rowOf b t).val % 8192, h⟩ : Fin 8192) = t := by
  apply Fin.ext
  show (b.val * 8192 + t.val) % 8192 = t.val
  omega

theorem ext2 {α : Type} {A B : ℕ} {f g : (⟨2, ![A, B]⟩ : Shape).Idx → α} (h : ∀ a b, f (ix2 a b) = g (ix2 a b)) : f = g := by
  funext i
  have e : i = ix2 (i 0) (i 1) := by
    funext a
    match a with
    | ⟨0, _⟩ => rfl
    | ⟨1, _⟩ => rfl
  rw [e]
  exact h _ _

theorem V_x0 (c : Dev nD) (b : Fin 4) (t : Fin 8192) (j : Fin 512) :
    (V m c main_v9 : FVec Ideal S32768x512 _) (ix2 (rowOf b t) j) = a0 m c (ix3 b t j) := by
  unfold V
  after_reads_at
  rw [row_div, row_mod]

theorem V_x1 (c : Dev nD) (b : Fin 4) (t : Fin 8192) (j : Fin 512) :
    (V m c main_v10 : FVec Ideal S32768x512 _) (ix2 (rowOf b t) j) = a1 m c (ix3 b t j) := by
  unfold V
  after_reads_at
  rw [row_div, row_mod]

theorem V_x2 (c : Dev nD) (b : Fin 4) (t : Fin 8192) (j : Fin 512) :
    (V m c main_v11 : FVec Ideal S32768x512 _) (ix2 (rowOf b t) j) = a2 m c (ix3 b t j) := by
  unfold V
  after_reads_at
  rw [row_div, row_mod]

theorem V_x3 (c : Dev nD) (b : Fin 4) (t : Fin 8192) (j : Fin 1024) :
    (V m c main_v12 : FVec Ideal S32768x1024 _) (ix2 (rowOf b t) j) = a3 m c (ix3 b t j) := by
  unfold V
  after_reads_at
  rw [row_div, row_mod]

theorem V_x4 (c : Dev nD) (b : Fin 4) (t : Fin 8192) (j : Fin 256) :
    (V m c main_v14 : FVec Ideal S32768x256 _) (ix2 (rowOf b t) j) = a4 m c (ix4 0 b t j) := by
  unfold V
  after_reads_at
  rw [row_div, row_mod]

theorem V_x5 (c : Dev nD) (k d : Fin 1024) :
    (V m c main_v1 : FVec Ideal S1024x1024 _) (ix2 k d) = a5 m c (ix3 0 k d) := by
  unfold V
  after_reads_at

theorem V_x6 (c : Dev nD) (k : Fin 256) (d : Fin 1024) :
    (V m c main_v3 : FVec Ideal S256x1024 _) (ix2 k d) = a6 m c (ix3 0 k d) := by
  unfold V
  after_reads_at

theorem V_x7 (c : Dev nD) (d : Fin 1024) :
    (V m c main_v7 : FVec Ideal S1x1024 _) (ix2 0 d) = a7 m c (ix2 0 d) := by
  unfold V
  after_reads_at

theorem V_x8 (c : Dev nD) (k d : Fin 1024) :
    (V m c main_v5 : FVec Ideal S1024x1024 _) (ix2 k d) = a8 m c (ix3 0 k d) := by
  unfold V
  after_reads_at

theorem V_x9 (c : Dev nD) (d : Fin 1024) :
    (V m c main_v8 : FVec Ideal S1x1024 _) (ix2 0 d) = a9 m c (ix1 d) := by
  unfold V
  after_reads_at

theorem tr0 : ∀ a : Fin 64, (BitVec.ofNat 32 a.val).toNat = a.val := by decide +kernel

theorem coords_eq : ∀ t : Fin grid0.N, (grid0.coords t 0).val = t.val := by decide +kernel

/-- The row of the flattened arrays that row `r` of a point's block is. -/
def nOf (t : Fin cfg0.N) (r : Fin 512) : Fin 32768 := ⟨512 * t.val + r.val, by have := lt_of_lt_of_eq t.isLt (show cfg0.N = 64 from N_0); omega⟩

theorem blk0_at (c : Dev nD) (t : Fin cfg0.N) (r : Fin 512) (j : Fin 512) :
    (iblk m c 0 t : FVec Ideal S512x512 .f32) (ix2 r j) = (V m c main_v9 : FVec Ideal S32768x512 .f32) (ix2 (nOf t r) j) := by
  have e0 := tr0 (grid0.coords t 0)
  have f0 := coords_eq t
  show V m c main_v9 (((cfg0.win 0).blk t).view.emb (ix2 r j)) = _
  refine congrArg (V m c main_v9) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 512 + 1 * j.val = j.val; simp

theorem blk1_at (c : Dev nD) (t : Fin cfg0.N) (r : Fin 512) (j : Fin 512) :
    (iblk m c 1 t : FVec Ideal S512x512 .f32) (ix2 r j) = (V m c main_v10 : FVec Ideal S32768x512 .f32) (ix2 (nOf t r) j) := by
  have e0 := tr0 (grid0.coords t 0)
  have f0 := coords_eq t
  show V m c main_v10 (((cfg0.win 1).blk t).view.emb (ix2 r j)) = _
  refine congrArg (V m c main_v10) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 512 + 1 * j.val = j.val; simp

theorem blk2_at (c : Dev nD) (t : Fin cfg0.N) (r : Fin 512) (j : Fin 512) :
    (iblk m c 2 t : FVec Ideal S512x512 .f32) (ix2 r j) = (V m c main_v11 : FVec Ideal S32768x512 .f32) (ix2 (nOf t r) j) := by
  have e0 := tr0 (grid0.coords t 0)
  have f0 := coords_eq t
  show V m c main_v11 (((cfg0.win 2).blk t).view.emb (ix2 r j)) = _
  refine congrArg (V m c main_v11) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 512 + 1 * j.val = j.val; simp

theorem blk3_at (c : Dev nD) (t : Fin cfg0.N) (r : Fin 512) (j : Fin 1024) :
    (iblk m c 3 t : FVec Ideal S512x1024 .f32) (ix2 r j) = (V m c main_v12 : FVec Ideal S32768x1024 .f32) (ix2 (nOf t r) j) := by
  have e0 := tr0 (grid0.coords t 0)
  have f0 := coords_eq t
  show V m c main_v12 (((cfg0.win 3).blk t).view.emb (ix2 r j)) = _
  refine congrArg (V m c main_v12) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 1024 + 1 * j.val = j.val; simp

theorem blk4_at (c : Dev nD) (t : Fin cfg0.N) (r : Fin 512) (j : Fin 256) :
    (iblk m c 4 t : FVec Ideal S512x256 .f32) (ix2 r j) = (V m c main_v14 : FVec Ideal S32768x256 .f32) (ix2 (nOf t r) j) := by
  have e0 := tr0 (grid0.coords t 0)
  have f0 := coords_eq t
  show V m c main_v14 (((cfg0.win 4).blk t).view.emb (ix2 r j)) = _
  refine congrArg (V m c main_v14) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 256 + 1 * j.val = j.val; simp

theorem blk5_eq (c : Dev nD) (t : Fin cfg0.N) : (iblk m c 5 t : FVec Ideal S1024x1024 .bf16) = V m c main_v1 := by
  funext j
  show V m c main_v1 (((cfg0.win 5).blk t).view.emb j) = _
  refine congrArg (V m c main_v1) ?_
  funext a; apply Fin.ext
  match a with
  | ⟨0, _⟩ => show (0#32 : BitVec 32).toNat * 1024 + 1 * (j 0).val = (j 0).val; simp
  | ⟨1, _⟩ => show (0#32 : BitVec 32).toNat * 1024 + 1 * (j 1).val = (j 1).val; simp

theorem blk6_eq (c : Dev nD) (t : Fin cfg0.N) : (iblk m c 6 t : FVec Ideal S256x1024 .bf16) = V m c main_v3 := by
  funext j
  show V m c main_v3 (((cfg0.win 6).blk t).view.emb j) = _
  refine congrArg (V m c main_v3) ?_
  funext a; apply Fin.ext
  match a with
  | ⟨0, _⟩ => show (0#32 : BitVec 32).toNat * 256 + 1 * (j 0).val = (j 0).val; simp
  | ⟨1, _⟩ => show (0#32 : BitVec 32).toNat * 1024 + 1 * (j 1).val = (j 1).val; simp

theorem blk7_eq (c : Dev nD) (t : Fin cfg0.N) : (iblk m c 7 t : FVec Ideal S1x1024 .f32) = V m c main_v7 := by
  funext j
  show V m c main_v7 (((cfg0.win 7).blk t).view.emb j) = _
  refine congrArg (V m c main_v7) ?_
  funext a; apply Fin.ext
  match a with
  | ⟨0, _⟩ => show (0#32 : BitVec 32).toNat * 1 + 1 * (j 0).val = (j 0).val; simp
  | ⟨1, _⟩ => show (0#32 : BitVec 32).toNat * 1024 + 1 * (j 1).val = (j 1).val; simp

theorem blk8_eq (c : Dev nD) (t : Fin cfg0.N) : (iblk m c 8 t : FVec Ideal S1024x1024 .bf16) = V m c main_v5 := by
  funext j
  show V m c main_v5 (((cfg0.win 8).blk t).view.emb j) = _
  refine congrArg (V m c main_v5) ?_
  funext a; apply Fin.ext
  match a with
  | ⟨0, _⟩ => show (0#32 : BitVec 32).toNat * 1024 + 1 * (j 0).val = (j 0).val; simp
  | ⟨1, _⟩ => show (0#32 : BitVec 32).toNat * 1024 + 1 * (j 1).val = (j 1).val; simp

theorem blk9_eq (c : Dev nD) (t : Fin cfg0.N) : (iblk m c 9 t : FVec Ideal S1x1024 .f32) = V m c main_v8 := by
  funext j
  show V m c main_v8 (((cfg0.win 9).blk t).view.emb j) = _
  refine congrArg (V m c main_v8) ?_
  funext a; apply Fin.ext
  match a with
  | ⟨0, _⟩ => show (0#32 : BitVec 32).toNat * 1 + 1 * (j 0).val = (j 0).val; simp
  | ⟨1, _⟩ => show (0#32 : BitVec 32).toNat * 1024 + 1 * (j 1).val = (j 1).val; simp

theorem zz : (![0, 0] : Fin 2 → ℕ) = fun _ => 0 := by decide

/-- The body's block, at an entry of the blocks it loads. -/
theorem body_at (x0 x1 x2 : FVec Ideal S512x512 .f32) (x3 : FVec Ideal S512x1024 .f32) (x4 : FVec Ideal S512x256 .f32) (x5 x8 : FVec Ideal S1024x1024 .bf16) (x6 : FVec Ideal S256x1024 .bf16)
    (x7 x9 : FVec Ideal S1x1024 .f32) (r : Fin 512) (d : Fin 1024) :
    (out0_10 (F := Ideal) x0 x1 x2 x3 x4 x5 x6 x7 x8 x9 : FVec Ideal S512x1024 .f32) (ix2 r d) =
      outR (fun j => x0 (ix2 r j)) (fun j => x1 (ix2 r j)) (fun j => x2 (ix2 r j)) (fun j => x3 (ix2 r j)) (fun j => x4 (ix2 r j))
        (fun k d => x5 (ix2 k d)) (fun k d => x6 (ix2 k d)) (fun d => x7 (ix2 0 d)) (fun k d => x8 (ix2 k d)) (fun d => x9 (ix2 0 d)) d := by
  unfold out0_10
  rw [View.canon_unit_zero zz, View.ld_unit_zero zz, View.ld_unit_zero zz, View.ld_unit_zero zz, View.ld_unit_zero zz, View.ld_unit_zero zz, View.ld_unit_zero zz, View.ld_unit_zero zz, View.ld_unit_zero zz, View.ld_unit_zero zz]
  rw [pay1_at]
  have top : ∀ (k : Fin 512) (d : Fin 1024), (View.ld (Val := Elt Ideal) (e' := .bf16) x5 r0_2 : FVec Ideal S512x1024 .bf16) (ix2 k d) = x5 (ix2 ⟨k.val, by omega⟩ d) := fun k d => congrArg x5 (show r0_2.idx (ix2 k d) = ix2 ⟨k.val, by omega⟩ d by
    funext a; apply Fin.ext
    match a with
    | ⟨0, _⟩ => show 0 + 1 * k.val = k.val; omega
    | ⟨1, _⟩ => show 0 + 1 * d.val = d.val; omega)
  have bot : ∀ (k : Fin 512) (d : Fin 1024), (View.ld (Val := Elt Ideal) (e' := .bf16) x5 r0_3 : FVec Ideal S512x1024 .bf16) (ix2 k d) = x5 (ix2 ⟨512 + k.val, by omega⟩ d) := fun k d => congrArg x5 (show r0_3.idx (ix2 k d) = ix2 ⟨512 + k.val, by omega⟩ d by
    funext a; apply Fin.ext
    match a with
    | ⟨0, _⟩ => show 512 + 1 * k.val = 512 + k.val; omega
    | ⟨1, _⟩ => show 0 + 1 * d.val = d.val; omega)
  have eh : (fun d => (k0_pay2 x0 x1 x2 x3 (View.ld x5 r0_2) (View.ld x5 r0_3) : FVec Ideal S512x1024 .f32) (ix2 r d)) =
      hRow (fun j => x0 (ix2 r j)) (fun j => x1 (ix2 r j)) (fun j => x2 (ix2 r j)) (fun j => x3 (ix2 r j)) (fun k d => x5 (ix2 k d)) := by
    funext d
    rw [pay2_at]
    unfold hRow
    simp only [top, bot]
  have ee : (fun d => (k0_pay3 x4 x6 : FVec Ideal S512x1024 .f32) (ix2 r d) * x7 (ix2 0 d)) =
      rmsR (dotR (fun j => x4 (ix2 r j)) (fun k d => x6 (ix2 k d))) (fun d => x7 (ix2 0 d)) := by
    funext d
    rw [pay3_at]
    unfold rmsR
    rw [mul_one]
  rw [eh, ee]
  rfl

/-- What a point leaves, at an entry: the reference's entry. -/
theorem point_at (c : Dev nD) (t : Fin cfg0.N) (r : Fin 512) (d : Fin 1024) :
    (out0_10 (F := Ideal) (iblk m c 0 t) (iblk m c 1 t) (iblk m c 2 t) (iblk m c 3 t) (iblk m c 4 t) (iblk m c 5 t) (iblk m c 6 t) (iblk m c 7 t) (iblk m c 8 t) (iblk m c 9 t)
      : FVec Ideal S512x1024 .f32) (ix2 r d) = G m c (ix2 (nOf t r) d) := by
  obtain ⟨b, s, hn⟩ : ∃ (b : Fin 4) (s : Fin 8192), nOf t r = rowOf b s :=
    ⟨⟨(nOf t r).val / 8192, by have := (nOf t r).isLt; omega⟩, ⟨(nOf t r).val % 8192, by omega⟩, by
      apply Fin.ext
      show (nOf t r).val = (nOf t r).val / 8192 * 8192 + (nOf t r).val % 8192
      omega⟩
  rw [body_at]
  unfold G
  rw [hn, Cert.Reference3Ideal.Out.out_at]
  unfold rowR
  refine congrFun ?_ d
  have h0 : (fun j : Fin 512 => (iblk m c 0 t : FVec Ideal S512x512 .f32) (ix2 r j)) = fun j => a0 m c (ix3 b s j) := funext fun j => by rw [blk0_at, hn, V_x0]
  have h1 : (fun j : Fin 512 => (iblk m c 1 t : FVec Ideal S512x512 .f32) (ix2 r j)) = fun j => a1 m c (ix3 b s j) := funext fun j => by rw [blk1_at, hn, V_x1]
  have h2 : (fun j : Fin 512 => (iblk m c 2 t : FVec Ideal S512x512 .f32) (ix2 r j)) = fun j => a2 m c (ix3 b s j) := funext fun j => by rw [blk2_at, hn, V_x2]
  have h3 : (fun j : Fin 1024 => (iblk m c 3 t : FVec Ideal S512x1024 .f32) (ix2 r j)) = fun j => a3 m c (ix3 b s j) := funext fun j => by rw [blk3_at, hn, V_x3]
  have h4 : (fun j : Fin 256 => (iblk m c 4 t : FVec Ideal S512x256 .f32) (ix2 r j)) = fun j => a4 m c (ix4 0 b s j) := funext fun j => by rw [blk4_at, hn, V_x4]
  have h5 : (fun k d : Fin 1024 => (iblk m c 5 t : FVec Ideal S1024x1024 .bf16) (ix2 k d)) = fun k d => a5 m c (ix3 0 k d) := funext fun k => funext fun d => (congrFun (blk5_eq m c t) _).trans (V_x5 m c k d)
  have h6 : (fun (k : Fin 256) (d : Fin 1024) => (iblk m c 6 t : FVec Ideal S256x1024 .bf16) (ix2 k d)) = fun k d => a6 m c (ix3 0 k d) := funext fun k => funext fun d => (congrFun (blk6_eq m c t) _).trans (V_x6 m c k d)
  have h7 : (fun d : Fin 1024 => (iblk m c 7 t : FVec Ideal S1x1024 .f32) (ix2 0 d)) = fun d => a7 m c (ix2 0 d) := funext fun d => (congrFun (blk7_eq m c t) _).trans (V_x7 m c d)
  have h8 : (fun k d : Fin 1024 => (iblk m c 8 t : FVec Ideal S1024x1024 .bf16) (ix2 k d)) = fun k d => a8 m c (ix3 0 k d) := funext fun k => funext fun d => (congrFun (blk8_eq m c t) _).trans (V_x8 m c k d)
  have h9 : (fun d : Fin 1024 => (iblk m c 9 t : FVec Ideal S1x1024 .f32) (ix2 0 d)) = fun d => a9 m c (ix1 d) := funext fun d => (congrFun (blk9_eq m c t) _).trans (V_x9 m c d)
  rw [h0, h1, h2, h3, h4, h5, h6, h7, h8, h9]

/-- Where an entry of a point's block lies in the result. -/
theorem emb10 (t : Fin cfg0.N) (r : Fin 512) (d : Fin 1024) : (((cfg0.win 10).blk t).view.emb (ix2 r d) : S32768x1024.Idx) = ix2 (nOf t r) d := by
  have e0 := tr0 (grid0.coords t 0)
  have f0 := coords_eq t
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 1024 + 1 * d.val = d.val; simp

theorem flushed_eq (c : Dev nD) (t : Fin cfg0.N) :
    (dats m 0 c).flushed 10 t = ((cfg0.win 10).blk t).view.read (Elt Ideal) (G m c) := by
  rw [flushed10]
  refine ext2 fun r d => ?_
  refine (point_at m c t r d).trans ?_
  exact (congrArg (G m c) (emb10 t r d)).symm

theorem covered (y : S32768x1024.Idx) : ∃ t : Fin cfg0.N, (cfg0.win 10).flush t = true ∧ y ∈ ((cfg0.win 10).blk t).view.set := by
  have h0 : (y 0).val < 32768 := (y 0).isLt
  have h1 : (y 1).val < 1024 := (y 1).isLt
  have ht : (y 0).val / 512 < cfg0.N := by rw [show cfg0.N = 64 from N_0]; omega
  refine ⟨⟨(y 0).val / 512, ht⟩, flush0_10 _, ?_⟩
  have h := ((cfg0.win 10).blk ⟨(y 0).val / 512, ht⟩).view.emb_mem_set (ix2 ⟨(y 0).val % 512, by omega⟩ ⟨(y 1).val, h1⟩)
  rw [emb10] at h
  refine (congrArg (· ∈ ((cfg0.win 10).blk ⟨(y 0).val / 512, ht⟩).view.set) ?_).mp h
  funext a; apply Fin.ext
  match a with
  | ⟨0, _⟩ => show 512 * ((y 0).val / 512) + (y 0).val % 512 = (y 0).val; omega
  | ⟨1, _⟩ => rfl

/-- The result array after the run is the reference's. -/
theorem final (c : Dev nD) : (dats m 0 c).arrAt 10 cfg0.N = G m c :=
  (dats m 0 c).arrAt_eq_of_cover 10 (G m c) (fun t _ => flushed_eq m c t) covered

end Cert.Kernel3Ideal.Out
end
-- ==== Proof.P3Claim.lean ====
module

public import proofs.«01_k».proof.Defs
public import proofs.«01_k».proof.Proof.P3Val
public import proofs.«01_k».proof.Proof.Gen.Kernel3.Frame
public import Idealize.ShloMosaic.Adequacy
public import Idealize.ShloMosaic.Init

/-! The claims about the output stage of the prompt: the runs of the kernel and of the reference, and the equality of the result. -/

@[expose] public section

set_option maxRecDepth 16384

noncomputable section

namespace Cert.OutClaim3

open Idealize.ShloMosaic Idealize.ShloMosaic.TcCoe Idealize.SL.Sem

/-- The output stage of the prompt over machine floats runs, leaves its arguments and ends with every semaphore at zero. -/
theorem frame_kernel : Cert.quiescent_Kernel3 (hKernel3 := Cert.Kernel3.Gen.facts) := fun m ρ _ => Cert.Kernel3.Gen.frame m ρ

/-- The same of the idealized kernel. -/
theorem frame_ideal : Cert.quiescent_Kernel3Ideal (hKernel3Ideal := Cert.Kernel3Ideal.Gen.facts) := fun m ρ _ => Cert.Kernel3Ideal.Gen.frame m ρ

/-- The same of the reference. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)

/-- No constant is named and no operation is rewritten. -/
theorem preserves : Cert.preserves_Kernel3_Kernel3Ideal := trivial

/-- The result is the reference's. -/
theorem value : Cert.algebraic_Kernel3Ideal_Reference3Ideal (hKernel3Ideal := Cert.Kernel3Ideal.Gen.facts) (hReference3Ideal := Cert.Reference3Ideal.Gen.facts) := by
  intro m ρ m' ρ' _ hagree
  refine ⟨Cert.Kernel3Ideal.Out.G m, (θ_run Cert.Kernel3Ideal.defs _ _).mono (fun r h c => ⟨(h c).1.trans (Cert.Kernel3Ideal.Out.final m c), (h c).2⟩) (Cert.Kernel3Ideal.Value.run_blocks m ρ), ?_⟩
  refine (θ_run Cert.Reference3Ideal.defs _ _).mono (fun r h c => ?_) (Cert.Reference3Ideal.Value.run (F := Ideal) m' ρ')
  obtain ⟨g0, g1, g2, g3, g4, g5, g6, g7, g8, g9⟩ := hagree c
  obtain ⟨h0, hr⟩ := h c
  refine ⟨h0.trans ?_, hr⟩
  refine (Cert.Reference3Ideal.Read.val_main_v45_eq m' c).trans ?_
  exact congr (congr (congr (congr (congr (congr (congr (congr (congr (congrArg (Cert.Reference3Ideal.Read.val_main_v45 (F := Ideal)) g0) g1) g2) g3) g4) g5) g6) g7) g8) g9

end Cert.OutClaim3

end
-- ==== Proof.P4Math.lean ====
module

public import proofs.«01_k».proof.Proof.P2Math
public import proofs.«01_k».proof.Proof.Gen.Kernel4Ideal.Frame
public import Idealize.ShloMosaic.Lib.Claim
public import Idealize.ShloMosaic.Lib.StableHlo.ReadAt
public import Idealize.ShloMosaic.Lib.Pointwise

/-! The projection of the samples: its body at one entry of its blocks, and its operands as the host code leaves them. -/

@[expose] public section

set_option maxRecDepth 16384

noncomputable section

namespace Cert.Kernel4Ideal.Proj

open Cert.Kernel4Ideal Cert.Kernel4Ideal.Gen
open Cert.Kernel2Ideal.Proj (lgf siluf)
open Idealize.ShloMosaic Idealize.ShloMosaic.TcCoe Idealize.ShloMosaic.Tactic Idealize.ShloMosaic.Pointwise
open Idealize.SL.Sem

/-- A row scaled to unit mean square and by the gains. -/
def zR (x g : Fin 1024 → EReal) (d : Fin 1024) : EReal :=
  x d * Ideal.rsqrt (Ideal.div (∑ j, x j * x j) (Ideal.ofBits FTy.f32 1149239296#32) + Ideal.ofBits FTy.f32 897988541#32) * g d

/-- That row's product with a column of the weights. -/
def yR (x g w : Fin 1024 → EReal) : EReal := ∑ d, zR x g d * w d

theorem z_at (v0 : FVec Ideal S512x1024 .f32) (v12 : FVec Ideal S1x1024 .f32) (r : Fin 512) (d : Fin 1024) :
    (k0_pay2 v0 v12 : FVec Ideal S512x1024 .bf16) (ix2 r d) = zR (fun j => v0 (ix2 r j)) (fun j => v12 (ix2 0 j)) d := by
  unfold k0_pay2 zR
  pointwise

/-- A row of the normalised block times a column of the weights. -/
def dotS {N : ℕ} (z : FVec Ideal S512x1024 .bf16) (w : (⟨2, ![1024, N]⟩ : Shape).Idx → EReal) (r : Fin 512) (d : Fin N) : EReal := ∑ x, z (ix2 r x) * w (ix2 x d)

theorem dot_z {N : ℕ} (v0 : FVec Ideal S512x1024 .f32) (v12 : FVec Ideal S1x1024 .f32) (w : (⟨2, ![1024, N]⟩ : Shape).Idx → EReal) (r : Fin 512) (d : Fin N) :
    dotS (k0_pay2 v0 v12) w r d = yR (fun j => v0 (ix2 r j)) (fun j => v12 (ix2 0 j)) (fun k => w (ix2 k d)) := by
  unfold dotS yR
  simp only [z_at]

theorem q_at (v0 : FVec Ideal S512x1024 .f32) (v12 : FVec Ideal S1x1024 .f32) (w : FVec Ideal S1024x512 .bf16) (r d : Fin 512) :
    (k0_pay3 v0 v12 w : FVec Ideal S512x512 .bf16) (ix2 r d) = dotS (k0_pay2 v0 v12) w r d * Ideal.ofBits FTy.f32 1040187392#32 := by
  unfold k0_pay3 dotS
  generalize k0_pay2 (F := Ideal) v0 v12 = z
  pointwise

theorem k_at (v0 : FVec Ideal S512x1024 .f32) (v12 : FVec Ideal S1x1024 .f32) (w : FVec Ideal S1024x512 .bf16) (r d : Fin 512) :
    (k0_pay4 v0 v12 w : FVec Ideal S512x512 .f32) (ix2 r d) = dotS (k0_pay2 v0 v12) w r d := by
  unfold k0_pay4 dotS
  generalize k0_pay2 (F := Ideal) v0 v12 = z
  pointwise

theorem v_at (v0 : FVec Ideal S512x1024 .f32) (v12 : FVec Ideal S1x1024 .f32) (w : FVec Ideal S1024x512 .bf16) (r d : Fin 512) :
    (k0_pay5 v0 v12 w : FVec Ideal S512x512 .f32) (ix2 r d) = dotS (k0_pay2 v0 v12) w r d := by
  unfold k0_pay5 dotS
  generalize k0_pay2 (F := Ideal) v0 v12 = z
  pointwise

theorem sa_at (z : FVec Ideal S512x1024 .bf16) (w : FVec Ideal S1024x512 .bf16) (r d : Fin 512) :
    (k0_pay6 z w : FVec Ideal S512x512 .f32) (ix2 r d) = siluf (dotS z w r d) := by
  unfold k0_pay6 siluf dotS
  pointwise

theorem u_at (z : FVec Ideal S512x1024 .bf16) (w w' : FVec Ideal S1024x512 .bf16) (r d : Fin 512) :
    (k0_pay7 z w w' : FVec Ideal S512x512 .f32) (ix2 r d) = dotS z w r d * Ideal.logistic (dotS z w' r d) := by
  unfold k0_pay7 dotS
  pointwise

theorem sc_at (z : FVec Ideal S512x1024 .bf16) (w : FVec Ideal S1024x512 .bf16) (r d : Fin 512) :
    (k0_pay8 z w : FVec Ideal S512x512 .f32) (ix2 r d) = siluf (dotS z w r d) := by
  unfold k0_pay8 siluf dotS
  pointwise

theorem l_at (z : FVec Ideal S512x1024 .bf16) (w : FVec Ideal S1024x128 .bf16) (b : FVec Ideal S1x128 .f32) (r : Fin 512) (h : Fin 8) :
    (k0_pay1 (k0_pay9 z w b) (Scalar.ofBits .f32 0x00000000#32) (k0_pay10 z w b) (k0_pay11 (F := Ideal)) : FVec Ideal S512x8 .f32) (ix2 r h) =
      lgf (dotS (N := 128) z w r ⟨h.val, by omega⟩ + b (ix2 0 ⟨h.val, by omega⟩)) := by
  unfold k0_pay1 k0_pay10 k0_pay9 k0_pay11 lgf dotS
  pointwise
  rw [if_neg (fun h => h rfl)]

variable (m : (ℓ : Loc nD τ sig) → Buf (Elt Ideal) ℓ)

theorem V_x (c : Dev nD) (r : Fin 512) (d : Fin 1024) :
    (V m c main_v20 : FVec Ideal S512x1024 .f32) (ix2 r d) = (m ((c : Thread nD τ).loc main_arg0) : FVec Ideal S128x4x1024 .f32) (ix3 ⟨r.val / 4, by omega⟩ ⟨r.val % 4, by omega⟩ d) := by
  unfold V
  after_reads_at

theorem V_g (c : Dev nD) (d : Fin 1024) :
    (V m c main_v19 : FVec Ideal S1x1024 .f32) (ix2 0 d) = (m ((c : Thread nD τ).loc main_arg1) : FVec Ideal S1x1024 .f32) (ix2 0 d) := by
  unfold V
  after_reads_at

theorem V_b (c : Dev nD) (j : Fin 8) :
    (V m c main_v17 : FVec Ideal S1x128 .f32) (ix2 0 ⟨j.val, by omega⟩) = (m ((c : Thread nD τ).loc main_arg3) : FVec Ideal S1x8 .f32) (ix2 0 j) := by
  unfold V
  after_reads_at

/-- Five column blocks side by side. -/
def cat5 (A B C : FVec Ideal S1024x512 .bf16) (D : FVec Ideal S1024x2048 .bf16) (E : FVec Ideal S1024x128 .bf16) : FVec Ideal S1024x3712 .bf16 :=
  concatenate S1024x3712 1 [⟨S1024x512, A⟩, ⟨S1024x512, B⟩, ⟨S1024x512, C⟩, ⟨S1024x2048, D⟩, ⟨S1024x128, E⟩] concatenates_S1024x512_S1024x512_S1024x512_S1024x2048_S1024x128_S1024x3712_d1

/-- The weights without their leading axis. -/
def w2 (X : FVec Ideal S1x1024x3592 .f32) : FVec Ideal S1024x3592 .bf16 :=
  truncf .bf16 (shapeCast S1024x3592 X shapeCasts_S1x1024x3592_S1024x3592) bitsLt_bf16_f32

/-- The decay's weights, padded to 128 columns, as the host code leaves them. -/
def wfp (c : Dev nD) : FVec Ideal S1024x128 .bf16 :=
  StableHlo.upto [hostOps0, hostOps0_1, hostOps0_2, hostOps0_3, hostOps0_4, hostOps0_5, hostOps0_6, hostOps0_7, hostOps0_8].flatten (fun b => m (c, b)) 21 (Proc.tc.devRef main_v14)

theorem wfp_at (c : Dev nD) (d : Fin 1024) (j : Fin 8) :
    wfp m c (ix2 d ⟨j.val, by omega⟩) = (m ((c : Thread nD τ).loc main_arg2) : FVec Ideal S1x1024x3592 .f32) (ix3 0 d ⟨1536 + j.val, by omega⟩) := by
  unfold wfp
  show StableHlo.after [_, _, _, _, _, _, _, _, _, _, _, _, _, _, _, _, _, _, _, _, _] (fun b => m (c, b)) (Proc.tc.devRef main_v14) (ix2 d ⟨j.val, by omega⟩) = _
  after_reads_at

/-- The joined weights. -/
theorem V_w (c : Dev nD) :
    (V m c main_v15 : FVec Ideal S1024x3712 .bf16) = cat5 (extractStridedSlice S1024x512 ![0, 0] (w2 (m ((c : Thread nD τ).loc main_arg2))) slices_S1024x3592_S1024x512_0_0)
      (extractStridedSlice S1024x512 ![0, 512] (w2 (m ((c : Thread nD τ).loc main_arg2))) slices_S1024x3592_S1024x512_0_512)
      (extractStridedSlice S1024x512 ![0, 1024] (w2 (m ((c : Thread nD τ).loc main_arg2))) slices_S1024x3592_S1024x512_0_1024)
      (extractStridedSlice S1024x2048 ![0, 1544] (w2 (m ((c : Thread nD τ).loc main_arg2))) slices_S1024x3592_S1024x2048_0_1544) (wfp m c) := by
  unfold V
  after_reads_simp
  refine (show _ = cat5 _ _ _ _ _ from rfl).trans ?_
  refine congr (congr (congr (congr (congrArg cat5 ?_) ?_) ?_) ?_) rfl
  · show StableHlo.upto [hostOps0, hostOps0_1, hostOps0_2, hostOps0_3, hostOps0_4, hostOps0_5, hostOps0_6, hostOps0_7, hostOps0_8].flatten (fun b => m (c, b)) 21 (Proc.tc.devRef main_v3) = _
    show StableHlo.after [_, _, _, _, _, _, _, _, _, _, _, _, _, _, _, _, _, _, _, _, _] _ _ = _
    after_reads_simp
    rfl
  · show StableHlo.upto [hostOps0, hostOps0_1, hostOps0_2, hostOps0_3, hostOps0_4, hostOps0_5, hostOps0_6, hostOps0_7, hostOps0_8].flatten (fun b => m (c, b)) 21 (Proc.tc.devRef main_v4) = _
    show StableHlo.after [_, _, _, _, _, _, _, _, _, _, _, _, _, _, _, _, _, _, _, _, _] _ _ = _
    after_reads_simp
    rfl
  · show StableHlo.upto [hostOps0, hostOps0_1, hostOps0_2, hostOps0_3, hostOps0_4, hostOps0_5, hostOps0_6, hostOps0_7, hostOps0_8].flatten (fun b => m (c, b)) 21 (Proc.tc.devRef main_v5) = _
    show StableHlo.after [_, _, _, _, _, _, _, _, _, _, _, _, _, _, _, _, _, _, _, _, _] _ _ = _
    after_reads_simp
    rfl
  · show StableHlo.upto [hostOps0, hostOps0_1, hostOps0_2, hostOps0_3, hostOps0_4, hostOps0_5, hostOps0_6, hostOps0_7, hostOps0_8].flatten (fun b => m (c, b)) 21 (Proc.tc.devRef main_v7) = _
    show StableHlo.after [_, _, _, _, _, _, _, _, _, _, _, _, _, _, _, _, _, _, _, _, _] _ _ = _
    after_reads_simp
    rfl

/-- The joined weights from the weights and the padded block. -/
def catX (X : FVec Ideal S1x1024x3592 .f32) (E : FVec Ideal S1024x128 .bf16) : FVec Ideal S1024x3712 .bf16 :=
  cat5 (extractStridedSlice S1024x512 ![0, 0] (w2 X) slices_S1024x3592_S1024x512_0_0) (extractStridedSlice S1024x512 ![0, 512] (w2 X) slices_S1024x3592_S1024x512_0_512)
    (extractStridedSlice S1024x512 ![0, 1024] (w2 X) slices_S1024x3592_S1024x512_0_1024) (extractStridedSlice S1024x2048 ![0, 1544] (w2 X) slices_S1024x3592_S1024x2048_0_1544) E

theorem cat_0 (X : FVec Ideal S1x1024x3592 .f32) (E : FVec Ideal S1024x128 .bf16) (d : Fin 1024) (j : Fin 512) : catX X E (ix2 d ⟨0 + j.val, by omega⟩) = X (ix3 0 d ⟨0 + j.val, by omega⟩) := by
  unfold catX cat5 w2
  pointwise

theorem cat_1 (X : FVec Ideal S1x1024x3592 .f32) (E : FVec Ideal S1024x128 .bf16) (d : Fin 1024) (j : Fin 512) : catX X E (ix2 d ⟨512 + j.val, by omega⟩) = X (ix3 0 d ⟨512 + j.val, by omega⟩) := by
  unfold catX cat5 w2
  pointwise

theorem cat_2 (X : FVec Ideal S1x1024x3592 .f32) (E : FVec Ideal S1024x128 .bf16) (d : Fin 1024) (j : Fin 512) : catX X E (ix2 d ⟨1024 + j.val, by omega⟩) = X (ix3 0 d ⟨1024 + j.val, by omega⟩) := by
  unfold catX cat5 w2
  pointwise
  rw [dif_neg (by omega), dif_neg (by omega), dif_pos (by omega)]
  exact congrArg (fun n => X (ix3 0 d n)) (Fin.ext (by show 1024 + _ = _ + _; omega))

theorem cat_3 (X : FVec Ideal S1x1024x3592 .f32) (E : FVec Ideal S1024x128 .bf16) (d : Fin 1024) (j : Fin 512) : catX X E (ix2 d ⟨1536 + j.val, by omega⟩) = X (ix3 0 d ⟨1544 + j.val, by omega⟩) := by
  unfold catX cat5 w2
  pointwise
  rw [dif_neg (by omega), dif_neg (by omega), dif_neg (by omega), dif_pos (by omega)]
  exact congrArg (fun n => X (ix3 0 d n)) (Fin.ext (by show 1544 + _ = _ + _; omega))

theorem cat_4 (X : FVec Ideal S1x1024x3592 .f32) (E : FVec Ideal S1024x128 .bf16) (d : Fin 1024) (j : Fin 512) : catX X E (ix2 d ⟨2048 + j.val, by omega⟩) = X (ix3 0 d ⟨2056 + j.val, by omega⟩) := by
  unfold catX cat5 w2
  pointwise
  rw [dif_neg (by omega), dif_neg (by omega), dif_neg (by omega), dif_pos (by omega)]
  exact congrArg (fun n => X (ix3 0 d n)) (Fin.ext (by show 1544 + _ = _ + _; omega))

theorem cat_5 (X : FVec Ideal S1x1024x3592 .f32) (E : FVec Ideal S1024x128 .bf16) (d : Fin 1024) (j : Fin 512) : catX X E (ix2 d ⟨2560 + j.val, by omega⟩) = X (ix3 0 d ⟨2568 + j.val, by omega⟩) := by
  unfold catX cat5 w2
  pointwise
  rw [dif_neg (by omega), dif_neg (by omega), dif_neg (by omega), dif_pos (by omega)]
  exact congrArg (fun n => X (ix3 0 d n)) (Fin.ext (by show 1544 + _ = _ + _; omega))

theorem cat_6 (X : FVec Ideal S1x1024x3592 .f32) (E : FVec Ideal S1024x128 .bf16) (d : Fin 1024) (j : Fin 512) : catX X E (ix2 d ⟨3072 + j.val, by omega⟩) = X (ix3 0 d ⟨3080 + j.val, by omega⟩) := by
  unfold catX cat5 w2
  pointwise
  rw [dif_neg (by omega), dif_neg (by omega), dif_neg (by omega), dif_pos (by omega)]
  exact congrArg (fun n => X (ix3 0 d n)) (Fin.ext (by show 1544 + _ = _ + _; omega))

theorem cat_7 (X : FVec Ideal S1x1024x3592 .f32) (E : FVec Ideal S1024x128 .bf16) (d : Fin 1024) (j : Fin 8) : catX X E (ix2 d ⟨3584 + j.val, by omega⟩) = E (ix2 d ⟨j.val, by omega⟩) := by
  unfold catX cat5 w2
  pointwise
  rw [dif_neg (by omega), dif_neg (by omega), dif_neg (by omega), dif_neg (by omega)]
  exact congrArg (fun n => E (ix2 d n)) (Fin.ext (by show 3584 + j.val - 512 - 512 - 512 - 2048 = j.val; omega))

end Cert.Kernel4Ideal.Proj
end
-- ==== Proof.P4Ref.lean ====
module

public import proofs.«01_k».proof.Proof.P4Math
public import proofs.«01_k».proof.Proof.Gen.Reference4Ideal.Read

/-! The reference of the samples' projection over the extended reals, read at one entry of each of its results. -/

@[expose] public section

set_option maxRecDepth 16384

noncomputable section

namespace Cert.Reference4Ideal.Proj

open Cert.Reference4Ideal Cert.Reference4Ideal.Gen Cert.Reference4Ideal.Read
open Cert.Kernel2Ideal.Proj (lgf siluf)
open Cert.Kernel4Ideal.Proj (zR yR)
open Idealize.ShloMosaic Idealize.ShloMosaic.TcCoe Idealize.ShloMosaic.Pointwise

variable (X : FVec Ideal S128x4x1024 .f32) (G : FVec Ideal S1x1024 .f32) (W : FVec Ideal S1x1024x3592 .f32) (B : FVec Ideal S1x8 .f32)

theorem v13_at (b : Fin 128) (t : Fin 4) (d : Fin 1024) : val_main_v13 (F := Ideal) X G (ix3 b t d) = zR (fun j => X (ix3 b t j)) (fun j => G (ix2 0 j)) d := by
  unfold zR val_main_v13 val_main_v12 val_main_v11 val_main_v10 val_main_v9 val_main_v8 val_main_v7 val_main_v6 val_main_v5 val_main_cst_1 val_main_v4 val_main_v3 val_main_cst_0 val_main_v2 val_main_v1 val_main_cst val_main_v0
  pointwise

theorem v15_bt (b : Fin 128) (t : Fin 4) (col : Fin 3592) : val_main_v15 (F := Ideal) X G W (ix3 b t col) = yR (fun j => X (ix3 b t j)) (fun j => G (ix2 0 j)) (fun k => W (ix3 0 k col)) := by
  unfold yR
  refine (val_main_v15_apply X G W (ix3 b t col)).trans (Finset.sum_congr rfl fun k _ => ?_)
  refine congrArg₂ (· * ·) ?_ ?_
  · refine Eq.trans (congrArg (val_main_v13 (F := Ideal) X G) ?_) (v13_at X G b t k)
    idx_ext
  · unfold val_main_v14
    have e : ridx_main_v15 (ix3 b t col) k = ix2 k col := by idx_ext
    rw [e]
    pointwise

/-- Row `n` of the samples: position `n % 4` of sequence `n / 4`. -/
def rX (n : Fin 512) (j : Fin 1024) : EReal := X (ix3 ⟨n.val / 4, by omega⟩ ⟨n.val % 4, by omega⟩ j)

theorem v15_at (n : Fin 512) (col : Fin 3592) : val_main_v15 (F := Ideal) X G W (ix3 ⟨n.val / 4, by omega⟩ ⟨n.val % 4, by omega⟩ col) = yR (rX X n) (fun j => G (ix2 0 j)) (fun k => W (ix3 0 k col)) :=
  v15_bt X G W _ _ col

theorem v39_at (n j : Fin 512) : val_main_v39 (F := Ideal) X G W (ix2 n j) = yR (rX X n) (fun j => G (ix2 0 j)) (fun k => W (ix3 0 k ⟨0 + j.val, by omega⟩)) * Ideal.ofBits FTy.f32 1040187392#32 := by
  rw [← v15_at]
  unfold val_main_v39 val_main_v38 val_main_v37 val_main_v36 val_main_cst_4 val_main_v16
  simp only [Nat.zero_add]
  generalize val_main_v15 (F := Ideal) X G W = y
  pointwise

theorem v40_at (n j : Fin 512) : val_main_v40 (F := Ideal) X G W (ix2 n j) = yR (rX X n) (fun j => G (ix2 0 j)) (fun k => W (ix3 0 k ⟨512 + j.val, by omega⟩)) := by
  rw [← v15_at]
  unfold val_main_v40 val_main_v17
  generalize val_main_v15 (F := Ideal) X G W = y
  pointwise

theorem v41_at (n j : Fin 512) : val_main_v41 (F := Ideal) X G W (ix2 n j) = yR (rX X n) (fun j => G (ix2 0 j)) (fun k => W (ix3 0 k ⟨1024 + j.val, by omega⟩)) := by
  rw [← v15_at]
  unfold val_main_v41 val_main_v18
  generalize val_main_v15 (F := Ideal) X G W = y
  pointwise

theorem v44_at (n j : Fin 512) : val_main_v44 (F := Ideal) X G W (ix2 n j) = siluf (yR (rX X n) (fun j => G (ix2 0 j)) (fun k => W (ix3 0 k ⟨1544 + j.val, by omega⟩))) := by
  rw [← v15_at]
  unfold val_main_v44 val_main_v43 val_main_call1_v5 val_main_call1_v4 val_main_call1_cst_0 val_main_call1_v3 val_main_call1_v2 val_main_call1_cst val_main_call1_v1 val_main_call1_v0 val_main_v20
  generalize val_main_v15 (F := Ideal) X G W = y
  unfold siluf Ideal.logistic
  pointwise

theorem v45_at (n j : Fin 512) : val_main_v45 (F := Ideal) X G W (ix2 n j) = yR (rX X n) (fun j => G (ix2 0 j)) (fun k => W (ix3 0 k ⟨2056 + j.val, by omega⟩)) * Ideal.logistic (yR (rX X n) (fun j => G (ix2 0 j)) (fun k => W (ix3 0 k ⟨2568 + j.val, by omega⟩))) := by
  rw [← v15_at, ← v15_at]
  unfold val_main_v45 val_main_v35 val_main_v34 val_main_v33 val_main_cst_3 val_main_v32 val_main_v31 val_main_cst_2 val_main_v30 val_main_v29 val_main_v22 val_main_v21
  generalize val_main_v15 (F := Ideal) X G W = y
  unfold Ideal.logistic
  pointwise

theorem v47_at (n j : Fin 512) : val_main_v47 (F := Ideal) X G W (ix2 n j) = siluf (yR (rX X n) (fun j => G (ix2 0 j)) (fun k => W (ix3 0 k ⟨3080 + j.val, by omega⟩))) := by
  rw [← v15_at]
  unfold val_main_v47 val_main_v46 val_main_call2_v5 val_main_call2_v4 val_main_call2_cst_0 val_main_call2_v3 val_main_call2_v2 val_main_call2_cst val_main_call2_v1 val_main_call2_v0 val_main_v23
  generalize val_main_v15 (F := Ideal) X G W = y
  unfold siluf Ideal.logistic
  pointwise

theorem neg_eq_zero_sub (x : EReal) : -x = 0 - x := by rw [sub_eq_add_neg, zero_add]

theorem v42_at (n : Fin 512) (h : Fin 8) : val_main_v42 (F := Ideal) X G W B (ix2 n h) = lgf (yR (rX X n) (fun j => G (ix2 0 j)) (fun k => W (ix3 0 k ⟨1536 + h.val, by omega⟩)) + B (ix2 0 h)) := by
  rw [← v15_at]
  unfold val_main_v42 val_main_v28 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  have e : val_main_v27 (F := Ideal) X G W B (ix3 ⟨n.val / 4, by omega⟩ ⟨n.val % 4, by omega⟩ h) = val_main_v15 (F := Ideal) X G W (ix3 ⟨n.val / 4, by omega⟩ ⟨n.val % 4, by omega⟩ ⟨1536 + h.val, by omega⟩) + B (ix2 0 h) := by
    unfold val_main_v27 val_main_v26 val_main_v25 val_main_v24 val_main_v19
    generalize val_main_v15 (F := Ideal) X G W = y
    pointwise
  rw [← e]
  generalize val_main_v27 (F := Ideal) X G W B = y
  unfold lgf
  pointwise
  rw [if_neg (fun h => h rfl)]
  simp only [neg_eq_zero_sub]

end Cert.Reference4Ideal.Proj
end
-- ==== Proof.P4Val.lean ====
module

public import proofs.«01_k».proof.Proof.P4Ref
public import proofs.«01_k».proof.Proof.Gen.Kernel4Ideal.Value

/-! The result arrays of the samples' projection, which are the reference's. -/

@[expose] public section

set_option maxRecDepth 16384

noncomputable section

namespace Cert.Kernel4Ideal.Proj

open Cert.Kernel4Ideal Cert.Kernel4Ideal.Gen Cert.Kernel4Ideal.Value
open Cert.Kernel2Ideal.Proj (lgf siluf)
open Cert.Reference4Ideal.Proj (rX)
open Cert.Reference4Ideal.Read
open Idealize.ShloMosaic Idealize.ShloMosaic.TcCoe Idealize.ShloMosaic.Tactic Idealize.ShloMosaic.Pointwise
open Idealize.SL.Sem

theorem ext2 {α : Type} {A B : ℕ} {f g : (⟨2, ![A, B]⟩ : Shape).Idx → α} (h : ∀ a b, f (ix2 a b) = g (ix2 a b)) : f = g := by
  funext i
  have e : i = ix2 (i 0) (i 1) := by
    funext a
    match a with
    | ⟨0, _⟩ => rfl
    | ⟨1, _⟩ => rfl
  rw [e]
  exact h _ _

variable (m : (ℓ : Loc nD τ sig) → Buf (Elt Ideal) ℓ)

/-- The program's arguments. -/
abbrev aX (c : Dev nD) : FVec Ideal S128x4x1024 .f32 := m ((c : Thread nD τ).loc main_arg0)
abbrev aG (c : Dev nD) : FVec Ideal S1x1024 .f32 := m ((c : Thread nD τ).loc main_arg1)
abbrev aW (c : Dev nD) : FVec Ideal S1x1024x3592 .f32 := m ((c : Thread nD τ).loc main_arg2)
abbrev aB (c : Dev nD) : FVec Ideal S1x8 .f32 := m ((c : Thread nD τ).loc main_arg3)

theorem blk0_eq (c : Dev nD) (t : Fin cfg0.N) : (iblk m c 0 t : FVec Ideal S512x1024 .f32) = V m c main_v20 := by
  funext j
  show V m c main_v20 (((cfg0.win 0).blk t).view.emb j) = _
  refine congrArg (V m c main_v20) ?_
  funext a; apply Fin.ext
  match a with
  | ⟨0, _⟩ => show (0#32 : BitVec 32).toNat * 512 + 1 * (j 0).val = (j 0).val; simp
  | ⟨1, _⟩ => show (0#32 : BitVec 32).toNat * 1024 + 1 * (j 1).val = (j 1).val; simp

theorem blk1_eq (c : Dev nD) (t : Fin cfg0.N) : (iblk m c 1 t : FVec Ideal S1x1024 .f32) = V m c main_v19 := by
  funext j
  show V m c main_v19 (((cfg0.win 1).blk t).view.emb j) = _
  refine congrArg (V m c main_v19) ?_
  funext a; apply Fin.ext
  match a with
  | ⟨0, _⟩ => show (0#32 : BitVec 32).toNat * 1 + 1 * (j 0).val = (j 0).val; simp
  | ⟨1, _⟩ => show (0#32 : BitVec 32).toNat * 1024 + 1 * (j 1).val = (j 1).val; simp

theorem blk2_eq (c : Dev nD) (t : Fin cfg0.N) : (iblk m c 2 t : FVec Ideal S1024x3712 .bf16) = V m c main_v15 := by
  funext j
  show V m c main_v15 (((cfg0.win 2).blk t).view.emb j) = _
  refine congrArg (V m c main_v15) ?_
  funext a; apply Fin.ext
  match a with
  | ⟨0, _⟩ => show (0#32 : BitVec 32).toNat * 1024 + 1 * (j 0).val = (j 0).val; simp
  | ⟨1, _⟩ => show (0#32 : BitVec 32).toNat * 3712 + 1 * (j 1).val = (j 1).val; simp

theorem blk3_eq (c : Dev nD) (t : Fin cfg0.N) : (iblk m c 3 t : FVec Ideal S1x128 .f32) = V m c main_v17 := by
  funext j
  show V m c main_v17 (((cfg0.win 3).blk t).view.emb j) = _
  refine congrArg (V m c main_v17) ?_
  funext a; apply Fin.ext
  match a with
  | ⟨0, _⟩ => show (0#32 : BitVec 32).toNat * 1 + 1 * (j 0).val = (j 0).val; simp
  | ⟨1, _⟩ => show (0#32 : BitVec 32).toNat * 128 + 1 * (j 1).val = (j 1).val; simp

theorem zz : (![0, 0] : Fin 2 → ℕ) = fun _ => 0 := by decide

theorem row_eq (c : Dev nD) (n : Fin 512) : (fun j => (V m c main_v20 : FVec Ideal S512x1024 .f32) (ix2 n j)) = rX (aX m c) n := funext fun j => V_x m c n j

theorem gain_eq (c : Dev nD) : (fun j => (V m c main_v19 : FVec Ideal S1x1024 .f32) (ix2 0 j)) = fun j => aG m c (ix2 0 j) := funext fun j => V_g m c j

theorem col_0 (c : Dev nD) (j : Fin 512) :
    (fun k : Fin 1024 => (View.ld (Val := Elt Ideal) (e' := .bf16) (V m c main_v15) r0_2 : FVec Ideal S1024x512 .bf16) (ix2 k j)) = fun k => aW m c (ix3 0 k ⟨0 + j.val, by omega⟩) := by
  funext k
  refine Eq.trans ?_ (cat_0 (aW m c) (wfp m c) k j)
  rw [V_w]
  refine congrArg (catX (aW m c) (wfp m c)) (show r0_2.idx (ix2 k j) = ix2 k ⟨0 + j.val, by omega⟩ by
    funext a; apply Fin.ext
    match a with
    | ⟨0, _⟩ => show 0 + 1 * k.val = k.val; omega
    | ⟨1, _⟩ => show 0 + 1 * j.val = 0 + j.val; omega)

theorem col_1 (c : Dev nD) (j : Fin 512) :
    (fun k : Fin 1024 => (View.ld (Val := Elt Ideal) (e' := .bf16) (V m c main_v15) r0_4 : FVec Ideal S1024x512 .bf16) (ix2 k j)) = fun k => aW m c (ix3 0 k ⟨512 + j.val, by omega⟩) := by
  funext k
  refine Eq.trans ?_ (cat_1 (aW m c) (wfp m c) k j)
  rw [V_w]
  refine congrArg (catX (aW m c) (wfp m c)) (show r0_4.idx (ix2 k j) = ix2 k ⟨512 + j.val, by omega⟩ by
    funext a; apply Fin.ext
    match a with
    | ⟨0, _⟩ => show 0 + 1 * k.val = k.val; omega
    | ⟨1, _⟩ => show 512 + 1 * j.val = 512 + j.val; omega)

theorem col_2 (c : Dev nD) (j : Fin 512) :
    (fun k : Fin 1024 => (View.ld (Val := Elt Ideal) (e' := .bf16) (V m c main_v15) r0_5 : FVec Ideal S1024x512 .bf16) (ix2 k j)) = fun k => aW m c (ix3 0 k ⟨1024 + j.val, by omega⟩) := by
  funext k
  refine Eq.trans ?_ (cat_2 (aW m c) (wfp m c) k j)
  rw [V_w]
  refine congrArg (catX (aW m c) (wfp m c)) (show r0_5.idx (ix2 k j) = ix2 k ⟨1024 + j.val, by omega⟩ by
    funext a; apply Fin.ext
    match a with
    | ⟨0, _⟩ => show 0 + 1 * k.val = k.val; omega
    | ⟨1, _⟩ => show 1024 + 1 * j.val = 1024 + j.val; omega)

theorem col_3 (c : Dev nD) (j : Fin 512) :
    (fun k : Fin 1024 => (View.ld (Val := Elt Ideal) (e' := .bf16) (V m c main_v15) r0_6 : FVec Ideal S1024x512 .bf16) (ix2 k j)) = fun k => aW m c (ix3 0 k ⟨1544 + j.val, by omega⟩) := by
  funext k
  refine Eq.trans ?_ (cat_3 (aW m c) (wfp m c) k j)
  rw [V_w]
  refine congrArg (catX (aW m c) (wfp m c)) (show r0_6.idx (ix2 k j) = ix2 k ⟨1536 + j.val, by omega⟩ by
    funext a; apply Fin.ext
    match a with
    | ⟨0, _⟩ => show 0 + 1 * k.val = k.val; omega
    | ⟨1, _⟩ => show 1536 + 1 * j.val = 1536 + j.val; omega)

theorem col_4 (c : Dev nD) (j : Fin 512) :
    (fun k : Fin 1024 => (View.ld (Val := Elt Ideal) (e' := .bf16) (V m c main_v15) r0_7 : FVec Ideal S1024x512 .bf16) (ix2 k j)) = fun k => aW m c (ix3 0 k ⟨2056 + j.val, by omega⟩) := by
  funext k
  refine Eq.trans ?_ (cat_4 (aW m c) (wfp m c) k j)
  rw [V_w]
  refine congrArg (catX (aW m c) (wfp m c)) (show r0_7.idx (ix2 k j) = ix2 k ⟨2048 + j.val, by omega⟩ by
    funext a; apply Fin.ext
    match a with
    | ⟨0, _⟩ => show 0 + 1 * k.val = k.val; omega
    | ⟨1, _⟩ => show 2048 + 1 * j.val = 2048 + j.val; omega)

theorem col_5 (c : Dev nD) (j : Fin 512) :
    (fun k : Fin 1024 => (View.ld (Val := Elt Ideal) (e' := .bf16) (V m c main_v15) r0_8 : FVec Ideal S1024x512 .bf16) (ix2 k j)) = fun k => aW m c (ix3 0 k ⟨2568 + j.val, by omega⟩) := by
  funext k
  refine Eq.trans ?_ (cat_5 (aW m c) (wfp m c) k j)
  rw [V_w]
  refine congrArg (catX (aW m c) (wfp m c)) (show r0_8.idx (ix2 k j) = ix2 k ⟨2560 + j.val, by omega⟩ by
    funext a; apply Fin.ext
    match a with
    | ⟨0, _⟩ => show 0 + 1 * k.val = k.val; omega
    | ⟨1, _⟩ => show 2560 + 1 * j.val = 2560 + j.val; omega)

theorem col_6 (c : Dev nD) (j : Fin 512) :
    (fun k : Fin 1024 => (View.ld (Val := Elt Ideal) (e' := .bf16) (V m c main_v15) r0_9 : FVec Ideal S1024x512 .bf16) (ix2 k j)) = fun k => aW m c (ix3 0 k ⟨3080 + j.val, by omega⟩) := by
  funext k
  refine Eq.trans ?_ (cat_6 (aW m c) (wfp m c) k j)
  rw [V_w]
  refine congrArg (catX (aW m c) (wfp m c)) (show r0_9.idx (ix2 k j) = ix2 k ⟨3072 + j.val, by omega⟩ by
    funext a; apply Fin.ext
    match a with
    | ⟨0, _⟩ => show 0 + 1 * k.val = k.val; omega
    | ⟨1, _⟩ => show 3072 + 1 * j.val = 3072 + j.val; omega)

theorem col_7 (c : Dev nD) (j : Fin 8) :
    (fun k : Fin 1024 => (View.ld (Val := Elt Ideal) (e' := .bf16) (V m c main_v15) r0_10 : FVec Ideal S1024x128 .bf16) (ix2 k ⟨j.val, by omega⟩)) = fun k => aW m c (ix3 0 k ⟨1536 + j.val, by omega⟩) := by
  funext k
  refine Eq.trans ?_ ((cat_7 (aW m c) (wfp m c) k j).trans (wfp_at m c k j))
  rw [V_w]
  refine congrArg (catX (aW m c) (wfp m c)) (show r0_10.idx (ix2 k ⟨j.val, by omega⟩) = ix2 k ⟨3584 + j.val, by omega⟩ by
    funext a; apply Fin.ext
    match a with
    | ⟨0, _⟩ => show 0 + 1 * k.val = k.val; omega
    | ⟨1, _⟩ => show 3584 + 1 * j.val = 3584 + j.val; omega)

/-- The reference's result at the program's arguments. -/
def G4 (c : Dev nD) : FVec Ideal S512x512 .bf16 := val_main_v39 (F := Ideal) (aX m c) (aG m c) (aW m c)

theorem point4 (c : Dev nD) (t : Fin cfg0.N) (n : Fin 512) (j : Fin 512) :
    (out0_4 (F := Ideal) (iblk m c 0 t) (iblk m c 1 t) (iblk m c 2 t) (iblk m c 3 t) : FVec Ideal S512x512 .bf16) (ix2 n j) = G4 m c (ix2 n j) := by
  unfold G4
  rw [Cert.Reference4Ideal.Proj.v39_at, blk0_eq, blk1_eq, blk2_eq, blk3_eq]
  unfold out0_4
  rw [View.canon_unit_zero zz, View.ld_unit_zero zz, View.ld_unit_zero zz]
  rw [q_at, dot_z, row_eq, gain_eq, col_0]

theorem emb4 (t : Fin cfg0.N) (j : S512x512.Idx) : (((cfg0.win 4).blk t).view.emb j : S512x512.Idx) = j := by
  funext a; apply Fin.ext
  match a with
  | ⟨0, _⟩ => show (0#32 : BitVec 32).toNat * 512 + 1 * (j 0).val = (j 0).val; simp
  | ⟨1, _⟩ => show (0#32 : BitVec 32).toNat * 512 + 1 * (j 1).val = (j 1).val; simp

theorem flushed4_eq (c : Dev nD) (t : Fin cfg0.N) :
    (dats m 0 c).flushed 4 t = ((cfg0.win 4).blk t).view.read (Elt Ideal) (G4 m c) := by
  rw [flushed4]
  refine ext2 fun n j => ?_
  refine (point4 m c t n j).trans ?_
  exact (congrArg (G4 m c) (emb4 t _)).symm

/-- The result array after the run is the reference's. -/
theorem final4 (c : Dev nD) : (dats m 0 c).arrAt 4 cfg0.N = G4 m c := by
  refine (dats m 0 c).arrAt_eq_of_cover 4 (G4 m c) (fun t _ => flushed4_eq m c t) fun y => ?_
  have ht : 0 < cfg0.N := by rw [show cfg0.N = 1 from N_0]; omega
  refine ⟨⟨0, ht⟩, flush0_4 _, ?_⟩
  have h := ((cfg0.win 4).blk ⟨0, ht⟩).view.emb_mem_set y
  rwa [emb4] at h

/-- The reference's result at the program's arguments. -/
def G5 (c : Dev nD) : FVec Ideal S512x512 .f32 := val_main_v40 (F := Ideal) (aX m c) (aG m c) (aW m c)

theorem point5 (c : Dev nD) (t : Fin cfg0.N) (n : Fin 512) (j : Fin 512) :
    (out0_5 (F := Ideal) (iblk m c 0 t) (iblk m c 1 t) (iblk m c 2 t) (iblk m c 3 t) : FVec Ideal S512x512 .f32) (ix2 n j) = G5 m c (ix2 n j) := by
  unfold G5
  rw [Cert.Reference4Ideal.Proj.v40_at, blk0_eq, blk1_eq, blk2_eq, blk3_eq]
  unfold out0_5
  rw [View.canon_unit_zero zz, View.ld_unit_zero zz, View.ld_unit_zero zz]
  rw [k_at, dot_z, row_eq, gain_eq, col_1]

theorem emb5 (t : Fin cfg0.N) (j : S512x512.Idx) : (((cfg0.win 5).blk t).view.emb j : S512x512.Idx) = j := by
  funext a; apply Fin.ext
  match a with
  | ⟨0, _⟩ => show (0#32 : BitVec 32).toNat * 512 + 1 * (j 0).val = (j 0).val; simp
  | ⟨1, _⟩ => show (0#32 : BitVec 32).toNat * 512 + 1 * (j 1).val = (j 1).val; simp

theorem flushed5_eq (c : Dev nD) (t : Fin cfg0.N) :
    (dats m 0 c).flushed 5 t = ((cfg0.win 5).blk t).view.read (Elt Ideal) (G5 m c) := by
  rw [flushed5]
  refine ext2 fun n j => ?_
  refine (point5 m c t n j).trans ?_
  exact (congrArg (G5 m c) (emb5 t _)).symm

/-- The result array after the run is the reference's. -/
theorem final5 (c : Dev nD) : (dats m 0 c).arrAt 5 cfg0.N = G5 m c := by
  refine (dats m 0 c).arrAt_eq_of_cover 5 (G5 m c) (fun t _ => flushed5_eq m c t) fun y => ?_
  have ht : 0 < cfg0.N := by rw [show cfg0.N = 1 from N_0]; omega
  refine ⟨⟨0, ht⟩, flush0_5 _, ?_⟩
  have h := ((cfg0.win 5).blk ⟨0, ht⟩).view.emb_mem_set y
  rwa [emb5] at h

/-- The reference's result at the program's arguments. -/
def G6 (c : Dev nD) : FVec Ideal S512x512 .f32 := val_main_v41 (F := Ideal) (aX m c) (aG m c) (aW m c)

theorem point6 (c : Dev nD) (t : Fin cfg0.N) (n : Fin 512) (j : Fin 512) :
    (out0_6 (F := Ideal) (iblk m c 0 t) (iblk m c 1 t) (iblk m c 2 t) (iblk m c 3 t) : FVec Ideal S512x512 .f32) (ix2 n j) = G6 m c (ix2 n j) := by
  unfold G6
  rw [Cert.Reference4Ideal.Proj.v41_at, blk0_eq, blk1_eq, blk2_eq, blk3_eq]
  unfold out0_6
  rw [View.canon_unit_zero zz, View.ld_unit_zero zz, View.ld_unit_zero zz]
  rw [v_at, dot_z, row_eq, gain_eq, col_2]

theorem emb6 (t : Fin cfg0.N) (j : S512x512.Idx) : (((cfg0.win 6).blk t).view.emb j : S512x512.Idx) = j := by
  funext a; apply Fin.ext
  match a with
  | ⟨0, _⟩ => show (0#32 : BitVec 32).toNat * 512 + 1 * (j 0).val = (j 0).val; simp
  | ⟨1, _⟩ => show (0#32 : BitVec 32).toNat * 512 + 1 * (j 1).val = (j 1).val; simp

theorem flushed6_eq (c : Dev nD) (t : Fin cfg0.N) :
    (dats m 0 c).flushed 6 t = ((cfg0.win 6).blk t).view.read (Elt Ideal) (G6 m c) := by
  rw [flushed6]
  refine ext2 fun n j => ?_
  refine (point6 m c t n j).trans ?_
  exact (congrArg (G6 m c) (emb6 t _)).symm

/-- The result array after the run is the reference's. -/
theorem final6 (c : Dev nD) : (dats m 0 c).arrAt 6 cfg0.N = G6 m c := by
  refine (dats m 0 c).arrAt_eq_of_cover 6 (G6 m c) (fun t _ => flushed6_eq m c t) fun y => ?_
  have ht : 0 < cfg0.N := by rw [show cfg0.N = 1 from N_0]; omega
  refine ⟨⟨0, ht⟩, flush0_6 _, ?_⟩
  have h := ((cfg0.win 6).blk ⟨0, ht⟩).view.emb_mem_set y
  rwa [emb6] at h

/-- The reference's result at the program's arguments. -/
def G7 (c : Dev nD) : FVec Ideal S512x8 .f32 := val_main_v42 (F := Ideal) (aX m c) (aG m c) (aW m c) (aB m c)

theorem point7 (c : Dev nD) (t : Fin cfg0.N) (n : Fin 512) (j : Fin 8) :
    (out0_7 (F := Ideal) (iblk m c 0 t) (iblk m c 1 t) (iblk m c 2 t) (iblk m c 3 t) : FVec Ideal S512x8 .f32) (ix2 n j) = G7 m c (ix2 n j) := by
  unfold G7
  rw [Cert.Reference4Ideal.Proj.v42_at, blk0_eq, blk1_eq, blk2_eq, blk3_eq]
  unfold out0_7 k0_pay12
  rw [View.canon_unit_zero zz, View.ld_unit_zero zz, View.ld_unit_zero zz, View.ld_unit_zero zz]
  rw [l_at, dot_z, row_eq, gain_eq, col_7, V_b]

theorem emb7 (t : Fin cfg0.N) (j : S512x8.Idx) : (((cfg0.win 7).blk t).view.emb j : S512x8.Idx) = j := by
  funext a; apply Fin.ext
  match a with
  | ⟨0, _⟩ => show (0#32 : BitVec 32).toNat * 512 + 1 * (j 0).val = (j 0).val; simp
  | ⟨1, _⟩ => show (0#32 : BitVec 32).toNat * 8 + 1 * (j 1).val = (j 1).val; simp

theorem flushed7_eq (c : Dev nD) (t : Fin cfg0.N) :
    (dats m 0 c).flushed 7 t = ((cfg0.win 7).blk t).view.read (Elt Ideal) (G7 m c) := by
  rw [flushed7]
  refine ext2 fun n j => ?_
  refine (point7 m c t n j).trans ?_
  exact (congrArg (G7 m c) (emb7 t _)).symm

/-- The result array after the run is the reference's. -/
theorem final7 (c : Dev nD) : (dats m 0 c).arrAt 7 cfg0.N = G7 m c := by
  refine (dats m 0 c).arrAt_eq_of_cover 7 (G7 m c) (fun t _ => flushed7_eq m c t) fun y => ?_
  have ht : 0 < cfg0.N := by rw [show cfg0.N = 1 from N_0]; omega
  refine ⟨⟨0, ht⟩, flush0_7 _, ?_⟩
  have h := ((cfg0.win 7).blk ⟨0, ht⟩).view.emb_mem_set y
  rwa [emb7] at h

/-- The reference's result at the program's arguments. -/
def G8 (c : Dev nD) : FVec Ideal S512x512 .f32 := val_main_v44 (F := Ideal) (aX m c) (aG m c) (aW m c)

theorem point8 (c : Dev nD) (t : Fin cfg0.N) (n : Fin 512) (j : Fin 512) :
    (out0_8 (F := Ideal) (iblk m c 0 t) (iblk m c 1 t) (iblk m c 2 t) (iblk m c 3 t) : FVec Ideal S512x512 .f32) (ix2 n j) = G8 m c (ix2 n j) := by
  unfold G8
  rw [Cert.Reference4Ideal.Proj.v44_at, blk0_eq, blk1_eq, blk2_eq, blk3_eq]
  unfold out0_8 k0_pay12
  rw [View.canon_unit_zero zz, View.ld_unit_zero zz, View.ld_unit_zero zz]
  rw [sa_at, dot_z, row_eq, gain_eq, col_3]

theorem emb8 (t : Fin cfg0.N) (j : S512x512.Idx) : (((cfg0.win 8).blk t).view.emb j : S512x512.Idx) = j := by
  funext a; apply Fin.ext
  match a with
  | ⟨0, _⟩ => show (0#32 : BitVec 32).toNat * 512 + 1 * (j 0).val = (j 0).val; simp
  | ⟨1, _⟩ => show (0#32 : BitVec 32).toNat * 512 + 1 * (j 1).val = (j 1).val; simp

theorem flushed8_eq (c : Dev nD) (t : Fin cfg0.N) :
    (dats m 0 c).flushed 8 t = ((cfg0.win 8).blk t).view.read (Elt Ideal) (G8 m c) := by
  rw [flushed8]
  refine ext2 fun n j => ?_
  refine (point8 m c t n j).trans ?_
  exact (congrArg (G8 m c) (emb8 t _)).symm

/-- The result array after the run is the reference's. -/
theorem final8 (c : Dev nD) : (dats m 0 c).arrAt 8 cfg0.N = G8 m c := by
  refine (dats m 0 c).arrAt_eq_of_cover 8 (G8 m c) (fun t _ => flushed8_eq m c t) fun y => ?_
  have ht : 0 < cfg0.N := by rw [show cfg0.N = 1 from N_0]; omega
  refine ⟨⟨0, ht⟩, flush0_8 _, ?_⟩
  have h := ((cfg0.win 8).blk ⟨0, ht⟩).view.emb_mem_set y
  rwa [emb8] at h

/-- The reference's result at the program's arguments. -/
def G9 (c : Dev nD) : FVec Ideal S512x512 .f32 := val_main_v45 (F := Ideal) (aX m c) (aG m c) (aW m c)

theorem point9 (c : Dev nD) (t : Fin cfg0.N) (n : Fin 512) (j : Fin 512) :
    (out0_9 (F := Ideal) (iblk m c 0 t) (iblk m c 1 t) (iblk m c 2 t) (iblk m c 3 t) : FVec Ideal S512x512 .f32) (ix2 n j) = G9 m c (ix2 n j) := by
  unfold G9
  rw [Cert.Reference4Ideal.Proj.v45_at, blk0_eq, blk1_eq, blk2_eq, blk3_eq]
  unfold out0_9 k0_pay12
  rw [View.canon_unit_zero zz, View.ld_unit_zero zz, View.ld_unit_zero zz]
  rw [u_at, dot_z, dot_z, row_eq, gain_eq, col_4, col_5]

theorem emb9 (t : Fin cfg0.N) (j : S512x512.Idx) : (((cfg0.win 9).blk t).view.emb j : S512x512.Idx) = j := by
  funext a; apply Fin.ext
  match a with
  | ⟨0, _⟩ => show (0#32 : BitVec 32).toNat * 512 + 1 * (j 0).val = (j 0).val; simp
  | ⟨1, _⟩ => show (0#32 : BitVec 32).toNat * 512 + 1 * (j 1).val = (j 1).val; simp

theorem flushed9_eq (c : Dev nD) (t : Fin cfg0.N) :
    (dats m 0 c).flushed 9 t = ((cfg0.win 9).blk t).view.read (Elt Ideal) (G9 m c) := by
  rw [flushed9]
  refine ext2 fun n j => ?_
  refine (point9 m c t n j).trans ?_
  exact (congrArg (G9 m c) (emb9 t _)).symm

/-- The result array after the run is the reference's. -/
theorem final9 (c : Dev nD) : (dats m 0 c).arrAt 9 cfg0.N = G9 m c := by
  refine (dats m 0 c).arrAt_eq_of_cover 9 (G9 m c) (fun t _ => flushed9_eq m c t) fun y => ?_
  have ht : 0 < cfg0.N := by rw [show cfg0.N = 1 from N_0]; omega
  refine ⟨⟨0, ht⟩, flush0_9 _, ?_⟩
  have h := ((cfg0.win 9).blk ⟨0, ht⟩).view.emb_mem_set y
  rwa [emb9] at h

/-- The reference's result at the program's arguments. -/
def G10 (c : Dev nD) : FVec Ideal S512x512 .f32 := val_main_v47 (F := Ideal) (aX m c) (aG m c) (aW m c)

theorem point10 (c : Dev nD) (t : Fin cfg0.N) (n : Fin 512) (j : Fin 512) :
    (out0_10 (F := Ideal) (iblk m c 0 t) (iblk m c 1 t) (iblk m c 2 t) (iblk m c 3 t) : FVec Ideal S512x512 .f32) (ix2 n j) = G10 m c (ix2 n j) := by
  unfold G10
  rw [Cert.Reference4Ideal.Proj.v47_at, blk0_eq, blk1_eq, blk2_eq, blk3_eq]
  unfold out0_10 k0_pay12
  rw [View.canon_unit_zero zz, View.ld_unit_zero zz, View.ld_unit_zero zz]
  rw [sc_at, dot_z, row_eq, gain_eq, col_6]

theorem emb10 (t : Fin cfg0.N) (j : S512x512.Idx) : (((cfg0.win 10).blk t).view.emb j : S512x512.Idx) = j := by
  funext a; apply Fin.ext
  match a with
  | ⟨0, _⟩ => show (0#32 : BitVec 32).toNat * 512 + 1 * (j 0).val = (j 0).val; simp
  | ⟨1, _⟩ => show (0#32 : BitVec 32).toNat * 512 + 1 * (j 1).val = (j 1).val; simp

theorem flushed10_eq (c : Dev nD) (t : Fin cfg0.N) :
    (dats m 0 c).flushed 10 t = ((cfg0.win 10).blk t).view.read (Elt Ideal) (G10 m c) := by
  rw [flushed10]
  refine ext2 fun n j => ?_
  refine (point10 m c t n j).trans ?_
  exact (congrArg (G10 m c) (emb10 t _)).symm

/-- The result array after the run is the reference's. -/
theorem final10 (c : Dev nD) : (dats m 0 c).arrAt 10 cfg0.N = G10 m c := by
  refine (dats m 0 c).arrAt_eq_of_cover 10 (G10 m c) (fun t _ => flushed10_eq m c t) fun y => ?_
  have ht : 0 < cfg0.N := by rw [show cfg0.N = 1 from N_0]; omega
  refine ⟨⟨0, ht⟩, flush0_10 _, ?_⟩
  have h := ((cfg0.win 10).blk ⟨0, ht⟩).view.emb_mem_set y
  rwa [emb10] at h

end Cert.Kernel4Ideal.Proj
end
-- ==== Proof.P4Claim.lean ====
module

public import proofs.«01_k».proof.Defs
public import proofs.«01_k».proof.Proof.P4Val
public import proofs.«01_k».proof.Proof.Gen.Kernel4.Frame
public import Idealize.ShloMosaic.Adequacy
public import Idealize.ShloMosaic.Init

/-! The claims about the projection of the samples: the runs of the kernel and of the reference, and the equality of all seven results. -/

@[expose] public section

set_option maxRecDepth 16384

noncomputable section

namespace Cert.SampleProjClaim

open Idealize.ShloMosaic Idealize.ShloMosaic.TcCoe Idealize.SL.Sem

/-- The projection of the samples over machine floats runs, leaves its arguments and ends with every semaphore at zero. -/
theorem frame_kernel : Cert.quiescent_Kernel4 (hKernel4 := Cert.Kernel4.Gen.facts) := fun m ρ _ => Cert.Kernel4.Gen.frame m ρ

/-- The same of the idealized kernel. -/
theorem frame_ideal : Cert.quiescent_Kernel4Ideal (hKernel4Ideal := Cert.Kernel4Ideal.Gen.facts) := fun m ρ _ => Cert.Kernel4Ideal.Gen.frame m ρ

/-- The same of the reference. -/
theorem frame_reference : Cert.quiescent_Reference4Ideal (hReference4Ideal := Cert.Reference4Ideal.Gen.facts) := fun m ρ _ =>
  (θ_run Cert.Reference4Ideal.defs _ _).mono (fun r h => ⟨fun c => (h c).2.2.2.2.2.2.2, sem_eq_zero_of_no_sems (by decide) r.2⟩) (Cert.Reference4Ideal.Value.run (F := Ideal) m ρ)

/-- No constant is named and no operation is rewritten. -/
theorem preserves : Cert.preserves_Kernel4_Kernel4Ideal := trivial

/-- Every result is the reference's. -/
theorem value : Cert.algebraic_Kernel4Ideal_Reference4Ideal (hKernel4Ideal := Cert.Kernel4Ideal.Gen.facts) (hReference4Ideal := Cert.Reference4Ideal.Gen.facts) := by
  intro m ρ m' ρ' _ hagree
  refine ⟨Cert.Kernel4Ideal.Proj.G4 m, Cert.Kernel4Ideal.Proj.G5 m, Cert.Kernel4Ideal.Proj.G6 m, Cert.Kernel4Ideal.Proj.G7 m, Cert.Kernel4Ideal.Proj.G8 m, Cert.Kernel4Ideal.Proj.G9 m, Cert.Kernel4Ideal.Proj.G10 m, (θ_run Cert.Kernel4Ideal.defs _ _).mono (fun r h c => ?_) (Cert.Kernel4Ideal.Value.run_blocks m ρ), ?_⟩
  · obtain ⟨h0, h1, h2, h3, h4, h5, h6, hr⟩ := h c
    exact ⟨h0.trans (Cert.Kernel4Ideal.Proj.final4 m c), h1.trans (Cert.Kernel4Ideal.Proj.final5 m c), h2.trans (Cert.Kernel4Ideal.Proj.final6 m c), h3.trans (Cert.Kernel4Ideal.Proj.final7 m c), h4.trans (Cert.Kernel4Ideal.Proj.final8 m c), h5.trans (Cert.Kernel4Ideal.Proj.final9 m c), h6.trans (Cert.Kernel4Ideal.Proj.final10 m c), hr⟩
  refine (θ_run Cert.Reference4Ideal.defs _ _).mono (fun r h c => ?_) (Cert.Reference4Ideal.Value.run (F := Ideal) m' ρ')
  obtain ⟨g0, g1, g2, g3⟩ := hagree c
  obtain ⟨h0, h1, h2, h3, h4, h5, h6, hr⟩ := h c
  refine ⟨h0.trans ?_, h1.trans ?_, h2.trans ?_, h3.trans ?_, h4.trans ?_, h5.trans ?_, h6.trans ?_, hr⟩
  · refine (Cert.Reference4Ideal.Read.val_main_v39_eq _ _ _).trans ?_
    exact congr (congr (congrArg (Cert.Reference4Ideal.Read.val_main_v39 (F := Ideal)) g0) g1) g2
  · refine (Cert.Reference4Ideal.Read.val_main_v40_eq _ _ _).trans ?_
    exact congr (congr (congrArg (Cert.Reference4Ideal.Read.val_main_v40 (F := Ideal)) g0) g1) g2
  · refine (Cert.Reference4Ideal.Read.val_main_v41_eq _ _ _).trans ?_
    exact congr (congr (congrArg (Cert.Reference4Ideal.Read.val_main_v41 (F := Ideal)) g0) g1) g2
  · refine (Cert.Reference4Ideal.Read.val_main_v42_eq m' c).trans ?_
    exact congr (congr (congr (congrArg (Cert.Reference4Ideal.Read.val_main_v42 (F := Ideal)) g0) g1) g2) g3
  · refine (Cert.Reference4Ideal.Read.val_main_v44_eq _ _ _).trans ?_
    exact congr (congr (congrArg (Cert.Reference4Ideal.Read.val_main_v44 (F := Ideal)) g0) g1) g2
  · refine (Cert.Reference4Ideal.Read.val_main_v45_eq _ _ _).trans ?_
    exact congr (congr (congrArg (Cert.Reference4Ideal.Read.val_main_v45 (F := Ideal)) g0) g1) g2
  · refine (Cert.Reference4Ideal.Read.val_main_v47_eq _ _ _).trans ?_
    exact congr (congr (congrArg (Cert.Reference4Ideal.Read.val_main_v47 (F := Ideal)) g0) g1) g2

end Cert.SampleProjClaim

end
-- ==== Proof.P5Math.lean ====
module

public import proofs.«01_k».proof.Proof.P2Math
public import proofs.«01_k».proof.Proof.Gen.Kernel5Ideal.Frame
public import Idealize.ShloMosaic.Lib.Claim
public import Idealize.ShloMosaic.Lib.StableHlo.ReadAt
public import Idealize.ShloMosaic.Lib.Pointwise
public import Idealize.ShloMosaic.Lib.Pipeline.Value

/-! The convolution of the samples: its body at one entry of its blocks, and its operands as the host code leaves them. -/

@[expose] public section

set_option maxRecDepth 16384

noncomputable section

namespace Cert.Kernel5Ideal.Conv

open Cert.Kernel5Ideal Cert.Kernel5Ideal.Gen
open Cert.Kernel2Ideal.Proj (siluf)
open Idealize.ShloMosaic Idealize.ShloMosaic.TcCoe Idealize.ShloMosaic.Tactic Idealize.ShloMosaic.Pointwise
open Idealize.SL.Sem

/-- The sum of 31 taps, left to right. -/
def conv (f w : ℕ → EReal) : EReal :=
  Ideal.ofBits FTy.f32 0#32 + f 0 * w 0 + f 1 * w 1 + f 2 * w 2 + f 3 * w 3 + f 4 * w 4 + f 5 * w 5 + f 6 * w 6 + f 7 * w 7 + f 8 * w 8 + f 9 * w 9 + f 10 * w 10 + f 11 * w 11 + f 12 * w 12 + f 13 * w 13 + f 14 * w 14 + f 15 * w 15 + f 16 * w 16 + f 17 * w 17 + f 18 * w 18 + f 19 * w 19 + f 20 * w 20 + f 21 * w 21 + f 22 * w 22 + f 23 * w 23 + f 24 * w 24 + f 25 * w 25 + f 26 * w 26 + f 27 * w 27 + f 28 * w 28 + f 29 * w 29 + f 30 * w 30

/-- A row less its mean. -/
def lnC (y : Fin 512 → EReal) (d : Fin 512) : EReal := y d - Ideal.div (∑ j, y j) (Ideal.ofBits FTy.f32 1140850688#32)

/-- The mean square of what is left. -/
def lnV (y : Fin 512 → EReal) : EReal := Ideal.div (∑ j, lnC y j * lnC y j) (Ideal.ofBits FTy.f32 1140850688#32)

/-- The row at mean zero and unit variance. -/
def lnN (y : Fin 512 → EReal) (d : Fin 512) : EReal := lnC y d * Ideal.rsqrt (lnV y + Ideal.ofBits FTy.f32 897988541#32)

/-- The normalised row with its gains and offsets. -/
def lnR (y g h : Fin 512 → EReal) (d : Fin 512) : EReal := lnN y d * g d + h d

theorem pay2_at (v1 : FVec Ideal S1x32x512 .f32) (v3 : FVec Ideal S1x512 .f32) (v8 : FVec Ideal S1x32x512 .f32) (v10 : FVec Ideal S1x512 .f32) (v15 : FVec Ideal S1x32x512 .f32) (v17 : FVec Ideal S1x512 .f32) (v22 : FVec Ideal S1x32x512 .f32) (v24 : FVec Ideal S1x512 .f32) (b : Fin 32) (d : Fin 512) :
    (k0_pay2 v1 v3 v8 v10 v15 v17 v22 v24 : FVec Ideal S32x512 .f32) (ix2 b d) = Ideal.ofBits FTy.f32 0#32 + v1 (ix3 0 b d) * v3 (ix2 0 d) + v8 (ix3 0 b d) * v10 (ix2 0 d) + v15 (ix3 0 b d) * v17 (ix2 0 d) + v22 (ix3 0 b d) * v24 (ix2 0 d) := by
  unfold k0_pay2
  pointwise

theorem pay3_at (v29 : FVec Ideal S1x32x512 .f32) (b : Fin 32) (d : Fin 512) :
    (k0_pay3 v29 : FVec Ideal S32x512 .f32) (ix2 b d) = v29 (ix3 0 b d) := by
  unfold k0_pay3
  pointwise

theorem pay4_at (v31 : FVec Ideal S1x512 .f32) (d : Fin 512) : (k0_pay4 v31 : FVec Ideal S1x512 .f32) (ix2 0 d) = v31 (ix2 0 d) := by
  unfold k0_pay4
  pointwise

theorem pay5_at (v28 : FVec Ideal S32x512 .f32) (v30 : FVec Ideal S32x512 .f32) (v32 : FVec Ideal S1x512 .f32) (v36 : FVec Ideal S1x32x512 .f32) (v38 : FVec Ideal S1x512 .f32) (v43 : FVec Ideal S1x32x512 .f32) (v45 : FVec Ideal S1x512 .f32) (v50 : FVec Ideal S1x32x512 .f32) (v52 : FVec Ideal S1x512 .f32) (v57 : FVec Ideal S1x32x512 .f32) (v59 : FVec Ideal S1x512 .f32) (b : Fin 32) (d : Fin 512) :
    (k0_pay5 v28 v30 v32 v36 v38 v43 v45 v50 v52 v57 v59 : FVec Ideal S32x512 .f32) (ix2 b d) = v28 (ix2 b d) + v30 (ix2 b d) * v32 (ix2 0 d) + v36 (ix3 0 b d) * v38 (ix2 0 d) + v43 (ix3 0 b d) * v45 (ix2 0 d) + v50 (ix3 0 b d) * v52 (ix2 0 d) + v57 (ix3 0 b d) * v59 (ix2 0 d) := by
  unfold k0_pay5
  pointwise

theorem pay6_at (v64 : FVec Ideal S1x32x512 .f32) (b : Fin 32) (d : Fin 512) :
    (k0_pay6 v64 : FVec Ideal S32x512 .f32) (ix2 b d) = v64 (ix3 0 b d) := by
  unfold k0_pay6
  pointwise

theorem pay7_at (v66 : FVec Ideal S1x512 .f32) (d : Fin 512) : (k0_pay7 v66 : FVec Ideal S1x512 .f32) (ix2 0 d) = v66 (ix2 0 d) := by
  unfold k0_pay7
  pointwise

theorem pay8_at (v63 : FVec Ideal S32x512 .f32) (v65 : FVec Ideal S32x512 .f32) (v67 : FVec Ideal S1x512 .f32) (v71 : FVec Ideal S1x32x512 .f32) (v73 : FVec Ideal S1x512 .f32) (v78 : FVec Ideal S1x32x512 .f32) (v80 : FVec Ideal S1x512 .f32) (v85 : FVec Ideal S1x32x512 .f32) (v87 : FVec Ideal S1x512 .f32) (v92 : FVec Ideal S1x32x512 .f32) (v94 : FVec Ideal S1x512 .f32) (b : Fin 32) (d : Fin 512) :
    (k0_pay8 v63 v65 v67 v71 v73 v78 v80 v85 v87 v92 v94 : FVec Ideal S32x512 .f32) (ix2 b d) = v63 (ix2 b d) + v65 (ix2 b d) * v67 (ix2 0 d) + v71 (ix3 0 b d) * v73 (ix2 0 d) + v78 (ix3 0 b d) * v80 (ix2 0 d) + v85 (ix3 0 b d) * v87 (ix2 0 d) + v92 (ix3 0 b d) * v94 (ix2 0 d) := by
  unfold k0_pay8
  pointwise

theorem pay9_at (v99 : FVec Ideal S1x32x512 .f32) (b : Fin 32) (d : Fin 512) :
    (k0_pay9 v99 : FVec Ideal S32x512 .f32) (ix2 b d) = v99 (ix3 0 b d) := by
  unfold k0_pay9
  pointwise

theorem pay10_at (v101 : FVec Ideal S1x512 .f32) (d : Fin 512) : (k0_pay10 v101 : FVec Ideal S1x512 .f32) (ix2 0 d) = v101 (ix2 0 d) := by
  unfold k0_pay10
  pointwise

theorem pay11_at (v98 : FVec Ideal S32x512 .f32) (v100 : FVec Ideal S32x512 .f32) (v102 : FVec Ideal S1x512 .f32) (v106 : FVec Ideal S1x32x512 .f32) (v108 : FVec Ideal S1x512 .f32) (v113 : FVec Ideal S1x32x512 .f32) (v115 : FVec Ideal S1x512 .f32) (v120 : FVec Ideal S1x32x512 .f32) (v122 : FVec Ideal S1x512 .f32) (v127 : FVec Ideal S1x32x512 .f32) (v129 : FVec Ideal S1x512 .f32) (b : Fin 32) (d : Fin 512) :
    (k0_pay11 v98 v100 v102 v106 v108 v113 v115 v120 v122 v127 v129 : FVec Ideal S32x512 .f32) (ix2 b d) = v98 (ix2 b d) + v100 (ix2 b d) * v102 (ix2 0 d) + v106 (ix3 0 b d) * v108 (ix2 0 d) + v113 (ix3 0 b d) * v115 (ix2 0 d) + v120 (ix3 0 b d) * v122 (ix2 0 d) + v127 (ix3 0 b d) * v129 (ix2 0 d) := by
  unfold k0_pay11
  pointwise

theorem pay12_at (v134 : FVec Ideal S1x32x512 .f32) (b : Fin 32) (d : Fin 512) :
    (k0_pay12 v134 : FVec Ideal S32x512 .f32) (ix2 b d) = v134 (ix3 0 b d) := by
  unfold k0_pay12
  pointwise

theorem pay13_at (v136 : FVec Ideal S1x512 .f32) (d : Fin 512) : (k0_pay13 v136 : FVec Ideal S1x512 .f32) (ix2 0 d) = v136 (ix2 0 d) := by
  unfold k0_pay13
  pointwise

theorem pay14_at (v133 : FVec Ideal S32x512 .f32) (v135 : FVec Ideal S32x512 .f32) (v137 : FVec Ideal S1x512 .f32) (v141 : FVec Ideal S1x32x512 .f32) (v143 : FVec Ideal S1x512 .f32) (v148 : FVec Ideal S1x32x512 .f32) (v150 : FVec Ideal S1x512 .f32) (v155 : FVec Ideal S1x32x512 .f32) (v157 : FVec Ideal S1x512 .f32) (v162 : FVec Ideal S1x32x512 .f32) (v164 : FVec Ideal S1x512 .f32) (b : Fin 32) (d : Fin 512) :
    (k0_pay14 v133 v135 v137 v141 v143 v148 v150 v155 v157 v162 v164 : FVec Ideal S32x512 .f32) (ix2 b d) = v133 (ix2 b d) + v135 (ix2 b d) * v137 (ix2 0 d) + v141 (ix3 0 b d) * v143 (ix2 0 d) + v148 (ix3 0 b d) * v150 (ix2 0 d) + v155 (ix3 0 b d) * v157 (ix2 0 d) + v162 (ix3 0 b d) * v164 (ix2 0 d) := by
  unfold k0_pay14
  pointwise

theorem pay15_at (v169 : FVec Ideal S1x32x512 .f32) (b : Fin 32) (d : Fin 512) :
    (k0_pay15 v169 : FVec Ideal S32x512 .f32) (ix2 b d) = v169 (ix3 0 b d) := by
  unfold k0_pay15
  pointwise

theorem pay16_at (v171 : FVec Ideal S1x512 .f32) (d : Fin 512) : (k0_pay16 v171 : FVec Ideal S1x512 .f32) (ix2 0 d) = v171 (ix2 0 d) := by
  unfold k0_pay16
  pointwise

theorem pay17_at (v168 : FVec Ideal S32x512 .f32) (v170 : FVec Ideal S32x512 .f32) (v172 : FVec Ideal S1x512 .f32) (v176 : FVec Ideal S1x32x512 .f32) (v178 : FVec Ideal S1x512 .f32) (v183 : FVec Ideal S1x32x512 .f32) (v185 : FVec Ideal S1x512 .f32) (v190 : FVec Ideal S1x32x512 .f32) (v192 : FVec Ideal S1x512 .f32) (v197 : FVec Ideal S1x32x512 .f32) (v199 : FVec Ideal S1x512 .f32) (b : Fin 32) (d : Fin 512) :
    (k0_pay17 v168 v170 v172 v176 v178 v183 v185 v190 v192 v197 v199 : FVec Ideal S32x512 .f32) (ix2 b d) = v168 (ix2 b d) + v170 (ix2 b d) * v172 (ix2 0 d) + v176 (ix3 0 b d) * v178 (ix2 0 d) + v183 (ix3 0 b d) * v185 (ix2 0 d) + v190 (ix3 0 b d) * v192 (ix2 0 d) + v197 (ix3 0 b d) * v199 (ix2 0 d) := by
  unfold k0_pay17
  pointwise

theorem pay18_at (v204 : FVec Ideal S1x32x512 .f32) (b : Fin 32) (d : Fin 512) :
    (k0_pay18 v204 : FVec Ideal S32x512 .f32) (ix2 b d) = v204 (ix3 0 b d) := by
  unfold k0_pay18
  pointwise

theorem pay19_at (v206 : FVec Ideal S1x512 .f32) (d : Fin 512) : (k0_pay19 v206 : FVec Ideal S1x512 .f32) (ix2 0 d) = v206 (ix2 0 d) := by
  unfold k0_pay19
  pointwise

theorem pay22_at (v255 : FVec Ideal S1x32x512 .f32) (v257 : FVec Ideal S1x512 .f32) (v262 : FVec Ideal S1x32x512 .f32) (v264 : FVec Ideal S1x512 .f32) (v269 : FVec Ideal S1x32x512 .f32) (v271 : FVec Ideal S1x512 .f32) (v276 : FVec Ideal S1x32x512 .f32) (v278 : FVec Ideal S1x512 .f32) (b : Fin 32) (d : Fin 512) :
    (k0_pay22 v255 v257 v262 v264 v269 v271 v276 v278 : FVec Ideal S32x512 .f32) (ix2 b d) = Ideal.ofBits FTy.f32 0#32 + v255 (ix3 0 b d) * v257 (ix2 0 d) + v262 (ix3 0 b d) * v264 (ix2 0 d) + v269 (ix3 0 b d) * v271 (ix2 0 d) + v276 (ix3 0 b d) * v278 (ix2 0 d) := by
  unfold k0_pay22
  pointwise

theorem pay23_at (v282 : FVec Ideal S32x512 .f32) (v283 : FVec Ideal S1x32x512 .f32) (v285 : FVec Ideal S1x512 .f32) (v290 : FVec Ideal S1x32x512 .f32) (v292 : FVec Ideal S1x512 .f32) (v297 : FVec Ideal S1x32x512 .f32) (v299 : FVec Ideal S1x512 .f32) (v304 : FVec Ideal S1x32x512 .f32) (v306 : FVec Ideal S1x512 .f32) (v311 : FVec Ideal S1x32x512 .f32) (v313 : FVec Ideal S1x512 .f32) (b : Fin 32) (d : Fin 512) :
    (k0_pay23 v282 v283 v285 v290 v292 v297 v299 v304 v306 v311 v313 : FVec Ideal S32x512 .f32) (ix2 b d) = v282 (ix2 b d) + v283 (ix3 0 b d) * v285 (ix2 0 d) + v290 (ix3 0 b d) * v292 (ix2 0 d) + v297 (ix3 0 b d) * v299 (ix2 0 d) + v304 (ix3 0 b d) * v306 (ix2 0 d) + v311 (ix3 0 b d) * v313 (ix2 0 d) := by
  unfold k0_pay23
  pointwise

theorem pay24_at (v317 : FVec Ideal S32x512 .f32) (v318 : FVec Ideal S1x32x512 .f32) (v320 : FVec Ideal S1x512 .f32) (v325 : FVec Ideal S1x32x512 .f32) (v327 : FVec Ideal S1x512 .f32) (v332 : FVec Ideal S1x32x512 .f32) (v334 : FVec Ideal S1x512 .f32) (v339 : FVec Ideal S1x32x512 .f32) (v341 : FVec Ideal S1x512 .f32) (v346 : FVec Ideal S1x32x512 .f32) (v348 : FVec Ideal S1x512 .f32) (b : Fin 32) (d : Fin 512) :
    (k0_pay24 v317 v318 v320 v325 v327 v332 v334 v339 v341 v346 v348 : FVec Ideal S32x512 .f32) (ix2 b d) = v317 (ix2 b d) + v318 (ix3 0 b d) * v320 (ix2 0 d) + v325 (ix3 0 b d) * v327 (ix2 0 d) + v332 (ix3 0 b d) * v334 (ix2 0 d) + v339 (ix3 0 b d) * v341 (ix2 0 d) + v346 (ix3 0 b d) * v348 (ix2 0 d) := by
  unfold k0_pay24
  pointwise

theorem pay25_at (v352 : FVec Ideal S32x512 .f32) (v353 : FVec Ideal S1x32x512 .f32) (v355 : FVec Ideal S1x512 .f32) (v360 : FVec Ideal S1x32x512 .f32) (v362 : FVec Ideal S1x512 .f32) (v367 : FVec Ideal S1x32x512 .f32) (v369 : FVec Ideal S1x512 .f32) (v374 : FVec Ideal S1x32x512 .f32) (v376 : FVec Ideal S1x512 .f32) (v381 : FVec Ideal S1x32x512 .f32) (v383 : FVec Ideal S1x512 .f32) (b : Fin 32) (d : Fin 512) :
    (k0_pay25 v352 v353 v355 v360 v362 v367 v369 v374 v376 v381 v383 : FVec Ideal S32x512 .f32) (ix2 b d) = v352 (ix2 b d) + v353 (ix3 0 b d) * v355 (ix2 0 d) + v360 (ix3 0 b d) * v362 (ix2 0 d) + v367 (ix3 0 b d) * v369 (ix2 0 d) + v374 (ix3 0 b d) * v376 (ix2 0 d) + v381 (ix3 0 b d) * v383 (ix2 0 d) := by
  unfold k0_pay25
  pointwise

theorem pay26_at (v387 : FVec Ideal S32x512 .f32) (v388 : FVec Ideal S1x32x512 .f32) (v390 : FVec Ideal S1x512 .f32) (v395 : FVec Ideal S1x32x512 .f32) (v397 : FVec Ideal S1x512 .f32) (v402 : FVec Ideal S1x32x512 .f32) (v404 : FVec Ideal S1x512 .f32) (v409 : FVec Ideal S1x32x512 .f32) (v411 : FVec Ideal S1x512 .f32) (v416 : FVec Ideal S1x32x512 .f32) (v418 : FVec Ideal S1x512 .f32) (b : Fin 32) (d : Fin 512) :
    (k0_pay26 v387 v388 v390 v395 v397 v402 v404 v409 v411 v416 v418 : FVec Ideal S32x512 .f32) (ix2 b d) = v387 (ix2 b d) + v388 (ix3 0 b d) * v390 (ix2 0 d) + v395 (ix3 0 b d) * v397 (ix2 0 d) + v402 (ix3 0 b d) * v404 (ix2 0 d) + v409 (ix3 0 b d) * v411 (ix2 0 d) + v416 (ix3 0 b d) * v418 (ix2 0 d) := by
  unfold k0_pay26
  pointwise

theorem pay27_at (v422 : FVec Ideal S32x512 .f32) (v423 : FVec Ideal S1x32x512 .f32) (v425 : FVec Ideal S1x512 .f32) (v430 : FVec Ideal S1x32x512 .f32) (v432 : FVec Ideal S1x512 .f32) (v437 : FVec Ideal S1x32x512 .f32) (v439 : FVec Ideal S1x512 .f32) (v444 : FVec Ideal S1x32x512 .f32) (v446 : FVec Ideal S1x512 .f32) (v451 : FVec Ideal S1x32x512 .f32) (v453 : FVec Ideal S1x512 .f32) (b : Fin 32) (d : Fin 512) :
    (k0_pay27 v422 v423 v425 v430 v432 v437 v439 v444 v446 v451 v453 : FVec Ideal S32x512 .f32) (ix2 b d) = v422 (ix2 b d) + v423 (ix3 0 b d) * v425 (ix2 0 d) + v430 (ix3 0 b d) * v432 (ix2 0 d) + v437 (ix3 0 b d) * v439 (ix2 0 d) + v444 (ix3 0 b d) * v446 (ix2 0 d) + v451 (ix3 0 b d) * v453 (ix2 0 d) := by
  unfold k0_pay27
  pointwise

theorem pay31_at (v509 : FVec Ideal S1x32x512 .f32) (v511 : FVec Ideal S1x512 .f32) (v516 : FVec Ideal S1x32x512 .f32) (v518 : FVec Ideal S1x512 .f32) (v523 : FVec Ideal S1x32x512 .f32) (v525 : FVec Ideal S1x512 .f32) (b : Fin 32) (d : Fin 512) :
    (k0_pay31 v509 v511 v516 v518 v523 v525 : FVec Ideal S32x512 .f32) (ix2 b d) = Ideal.ofBits FTy.f32 0#32 + v509 (ix3 0 b d) * v511 (ix2 0 d) + v516 (ix3 0 b d) * v518 (ix2 0 d) + v523 (ix3 0 b d) * v525 (ix2 0 d) := by
  unfold k0_pay31
  pointwise

theorem pay32_at (v530 : FVec Ideal S1x32x512 .f32) (b : Fin 32) (d : Fin 512) :
    (k0_pay32 v530 : FVec Ideal S32x512 .f32) (ix2 b d) = v530 (ix3 0 b d) := by
  unfold k0_pay32
  pointwise

theorem pay33_at (v529 : FVec Ideal S32x512 .f32) (v531 : FVec Ideal S32x512 .f32) (v532 : FVec Ideal S1x512 .f32) (v537 : FVec Ideal S1x32x512 .f32) (v539 : FVec Ideal S1x512 .f32) (v544 : FVec Ideal S1x32x512 .f32) (v546 : FVec Ideal S1x512 .f32) (v551 : FVec Ideal S1x32x512 .f32) (v553 : FVec Ideal S1x512 .f32) (v558 : FVec Ideal S1x32x512 .f32) (v560 : FVec Ideal S1x512 .f32) (b : Fin 32) (d : Fin 512) :
    (k0_pay33 v529 v531 v532 v537 v539 v544 v546 v551 v553 v558 v560 : FVec Ideal S32x512 .f32) (ix2 b d) = v529 (ix2 b d) + v531 (ix2 b d) * v532 (ix2 0 d) + v537 (ix3 0 b d) * v539 (ix2 0 d) + v544 (ix3 0 b d) * v546 (ix2 0 d) + v551 (ix3 0 b d) * v553 (ix2 0 d) + v558 (ix3 0 b d) * v560 (ix2 0 d) := by
  unfold k0_pay33
  pointwise

theorem pay34_at (v565 : FVec Ideal S1x32x512 .f32) (b : Fin 32) (d : Fin 512) :
    (k0_pay34 v565 : FVec Ideal S32x512 .f32) (ix2 b d) = v565 (ix3 0 b d) := by
  unfold k0_pay34
  pointwise

theorem pay35_at (v564 : FVec Ideal S32x512 .f32) (v566 : FVec Ideal S32x512 .f32) (v567 : FVec Ideal S1x512 .f32) (v572 : FVec Ideal S1x32x512 .f32) (v574 : FVec Ideal S1x512 .f32) (v579 : FVec Ideal S1x32x512 .f32) (v581 : FVec Ideal S1x512 .f32) (v586 : FVec Ideal S1x32x512 .f32) (v588 : FVec Ideal S1x512 .f32) (v593 : FVec Ideal S1x32x512 .f32) (v595 : FVec Ideal S1x512 .f32) (b : Fin 32) (d : Fin 512) :
    (k0_pay35 v564 v566 v567 v572 v574 v579 v581 v586 v588 v593 v595 : FVec Ideal S32x512 .f32) (ix2 b d) = v564 (ix2 b d) + v566 (ix2 b d) * v567 (ix2 0 d) + v572 (ix3 0 b d) * v574 (ix2 0 d) + v579 (ix3 0 b d) * v581 (ix2 0 d) + v586 (ix3 0 b d) * v588 (ix2 0 d) + v593 (ix3 0 b d) * v595 (ix2 0 d) := by
  unfold k0_pay35
  pointwise

theorem pay36_at (v600 : FVec Ideal S1x32x512 .f32) (b : Fin 32) (d : Fin 512) :
    (k0_pay36 v600 : FVec Ideal S32x512 .f32) (ix2 b d) = v600 (ix3 0 b d) := by
  unfold k0_pay36
  pointwise

theorem pay37_at (v599 : FVec Ideal S32x512 .f32) (v601 : FVec Ideal S32x512 .f32) (v602 : FVec Ideal S1x512 .f32) (v607 : FVec Ideal S1x32x512 .f32) (v609 : FVec Ideal S1x512 .f32) (v614 : FVec Ideal S1x32x512 .f32) (v616 : FVec Ideal S1x512 .f32) (v621 : FVec Ideal S1x32x512 .f32) (v623 : FVec Ideal S1x512 .f32) (v628 : FVec Ideal S1x32x512 .f32) (v630 : FVec Ideal S1x512 .f32) (b : Fin 32) (d : Fin 512) :
    (k0_pay37 v599 v601 v602 v607 v609 v614 v616 v621 v623 v628 v630 : FVec Ideal S32x512 .f32) (ix2 b d) = v599 (ix2 b d) + v601 (ix2 b d) * v602 (ix2 0 d) + v607 (ix3 0 b d) * v609 (ix2 0 d) + v614 (ix3 0 b d) * v616 (ix2 0 d) + v621 (ix3 0 b d) * v623 (ix2 0 d) + v628 (ix3 0 b d) * v630 (ix2 0 d) := by
  unfold k0_pay37
  pointwise

theorem pay38_at (v635 : FVec Ideal S1x32x512 .f32) (b : Fin 32) (d : Fin 512) :
    (k0_pay38 v635 : FVec Ideal S32x512 .f32) (ix2 b d) = v635 (ix3 0 b d) := by
  unfold k0_pay38
  pointwise

theorem pay39_at (v634 : FVec Ideal S32x512 .f32) (v636 : FVec Ideal S32x512 .f32) (v637 : FVec Ideal S1x512 .f32) (v642 : FVec Ideal S1x32x512 .f32) (v644 : FVec Ideal S1x512 .f32) (v649 : FVec Ideal S1x32x512 .f32) (v651 : FVec Ideal S1x512 .f32) (v656 : FVec Ideal S1x32x512 .f32) (v658 : FVec Ideal S1x512 .f32) (v663 : FVec Ideal S1x32x512 .f32) (v665 : FVec Ideal S1x512 .f32) (b : Fin 32) (d : Fin 512) :
    (k0_pay39 v634 v636 v637 v642 v644 v649 v651 v656 v658 v663 v665 : FVec Ideal S32x512 .f32) (ix2 b d) = v634 (ix2 b d) + v636 (ix2 b d) * v637 (ix2 0 d) + v642 (ix3 0 b d) * v644 (ix2 0 d) + v649 (ix3 0 b d) * v651 (ix2 0 d) + v656 (ix3 0 b d) * v658 (ix2 0 d) + v663 (ix3 0 b d) * v665 (ix2 0 d) := by
  unfold k0_pay39
  pointwise

theorem pay40_at (v670 : FVec Ideal S1x32x512 .f32) (b : Fin 32) (d : Fin 512) :
    (k0_pay40 v670 : FVec Ideal S32x512 .f32) (ix2 b d) = v670 (ix3 0 b d) := by
  unfold k0_pay40
  pointwise

theorem pay41_at (v669 : FVec Ideal S32x512 .f32) (v671 : FVec Ideal S32x512 .f32) (v672 : FVec Ideal S1x512 .f32) (v677 : FVec Ideal S1x32x512 .f32) (v679 : FVec Ideal S1x512 .f32) (v684 : FVec Ideal S1x32x512 .f32) (v686 : FVec Ideal S1x512 .f32) (v691 : FVec Ideal S1x32x512 .f32) (v693 : FVec Ideal S1x512 .f32) (v698 : FVec Ideal S1x32x512 .f32) (v700 : FVec Ideal S1x512 .f32) (b : Fin 32) (d : Fin 512) :
    (k0_pay41 v669 v671 v672 v677 v679 v684 v686 v691 v693 v698 v700 : FVec Ideal S32x512 .f32) (ix2 b d) = v669 (ix2 b d) + v671 (ix2 b d) * v672 (ix2 0 d) + v677 (ix3 0 b d) * v679 (ix2 0 d) + v684 (ix3 0 b d) * v686 (ix2 0 d) + v691 (ix3 0 b d) * v693 (ix2 0 d) + v698 (ix3 0 b d) * v700 (ix2 0 d) := by
  unfold k0_pay41
  pointwise

theorem pay42_at (v705 : FVec Ideal S32x1x512 .f32) (b : Fin 32) (d : Fin 512) :
    (k0_pay42 v705 : FVec Ideal S32x512 .f32) (ix2 b d) = v705 (ix3 b 0 d) := by
  unfold k0_pay42
  pointwise

theorem pay45_at (v763 : FVec Ideal S1x32x512 .f32) (v765 : FVec Ideal S1x512 .f32) (v770 : FVec Ideal S1x32x512 .f32) (v772 : FVec Ideal S1x512 .f32) (b : Fin 32) (d : Fin 512) :
    (k0_pay45 v763 v765 v770 v772 : FVec Ideal S32x512 .f32) (ix2 b d) = Ideal.ofBits FTy.f32 0#32 + v763 (ix3 0 b d) * v765 (ix2 0 d) + v770 (ix3 0 b d) * v772 (ix2 0 d) := by
  unfold k0_pay45
  pointwise

theorem pay46_at (v777 : FVec Ideal S1x32x512 .f32) (b : Fin 32) (d : Fin 512) :
    (k0_pay46 v777 : FVec Ideal S32x512 .f32) (ix2 b d) = v777 (ix3 0 b d) := by
  unfold k0_pay46
  pointwise

theorem pay47_at (v779 : FVec Ideal S1x512 .f32) (d : Fin 512) : (k0_pay47 v779 : FVec Ideal S1x512 .f32) (ix2 0 d) = v779 (ix2 0 d) := by
  unfold k0_pay47
  pointwise

theorem pay48_at (v776 : FVec Ideal S32x512 .f32) (v778 : FVec Ideal S32x512 .f32) (v780 : FVec Ideal S1x512 .f32) (v784 : FVec Ideal S1x32x512 .f32) (v786 : FVec Ideal S1x512 .f32) (v791 : FVec Ideal S1x32x512 .f32) (v793 : FVec Ideal S1x512 .f32) (v798 : FVec Ideal S1x32x512 .f32) (v800 : FVec Ideal S1x512 .f32) (v805 : FVec Ideal S1x32x512 .f32) (v807 : FVec Ideal S1x512 .f32) (b : Fin 32) (d : Fin 512) :
    (k0_pay48 v776 v778 v780 v784 v786 v791 v793 v798 v800 v805 v807 : FVec Ideal S32x512 .f32) (ix2 b d) = v776 (ix2 b d) + v778 (ix2 b d) * v780 (ix2 0 d) + v784 (ix3 0 b d) * v786 (ix2 0 d) + v791 (ix3 0 b d) * v793 (ix2 0 d) + v798 (ix3 0 b d) * v800 (ix2 0 d) + v805 (ix3 0 b d) * v807 (ix2 0 d) := by
  unfold k0_pay48
  pointwise

theorem pay49_at (v812 : FVec Ideal S1x32x512 .f32) (b : Fin 32) (d : Fin 512) :
    (k0_pay49 v812 : FVec Ideal S32x512 .f32) (ix2 b d) = v812 (ix3 0 b d) := by
  unfold k0_pay49
  pointwise

theorem pay50_at (v814 : FVec Ideal S1x512 .f32) (d : Fin 512) : (k0_pay50 v814 : FVec Ideal S1x512 .f32) (ix2 0 d) = v814 (ix2 0 d) := by
  unfold k0_pay50
  pointwise

theorem pay51_at (v811 : FVec Ideal S32x512 .f32) (v813 : FVec Ideal S32x512 .f32) (v815 : FVec Ideal S1x512 .f32) (v819 : FVec Ideal S1x32x512 .f32) (v821 : FVec Ideal S1x512 .f32) (v826 : FVec Ideal S1x32x512 .f32) (v828 : FVec Ideal S1x512 .f32) (v833 : FVec Ideal S1x32x512 .f32) (v835 : FVec Ideal S1x512 .f32) (v840 : FVec Ideal S1x32x512 .f32) (v842 : FVec Ideal S1x512 .f32) (b : Fin 32) (d : Fin 512) :
    (k0_pay51 v811 v813 v815 v819 v821 v826 v828 v833 v835 v840 v842 : FVec Ideal S32x512 .f32) (ix2 b d) = v811 (ix2 b d) + v813 (ix2 b d) * v815 (ix2 0 d) + v819 (ix3 0 b d) * v821 (ix2 0 d) + v826 (ix3 0 b d) * v828 (ix2 0 d) + v833 (ix3 0 b d) * v835 (ix2 0 d) + v840 (ix3 0 b d) * v842 (ix2 0 d) := by
  unfold k0_pay51
  pointwise

theorem pay52_at (v847 : FVec Ideal S1x32x512 .f32) (b : Fin 32) (d : Fin 512) :
    (k0_pay52 v847 : FVec Ideal S32x512 .f32) (ix2 b d) = v847 (ix3 0 b d) := by
  unfold k0_pay52
  pointwise

theorem pay53_at (v849 : FVec Ideal S1x512 .f32) (d : Fin 512) : (k0_pay53 v849 : FVec Ideal S1x512 .f32) (ix2 0 d) = v849 (ix2 0 d) := by
  unfold k0_pay53
  pointwise

theorem pay54_at (v846 : FVec Ideal S32x512 .f32) (v848 : FVec Ideal S32x512 .f32) (v850 : FVec Ideal S1x512 .f32) (v854 : FVec Ideal S1x32x512 .f32) (v856 : FVec Ideal S1x512 .f32) (v861 : FVec Ideal S1x32x512 .f32) (v863 : FVec Ideal S1x512 .f32) (v868 : FVec Ideal S1x32x512 .f32) (v870 : FVec Ideal S1x512 .f32) (v875 : FVec Ideal S1x32x512 .f32) (v877 : FVec Ideal S1x512 .f32) (b : Fin 32) (d : Fin 512) :
    (k0_pay54 v846 v848 v850 v854 v856 v861 v863 v868 v870 v875 v877 : FVec Ideal S32x512 .f32) (ix2 b d) = v846 (ix2 b d) + v848 (ix2 b d) * v850 (ix2 0 d) + v854 (ix3 0 b d) * v856 (ix2 0 d) + v861 (ix3 0 b d) * v863 (ix2 0 d) + v868 (ix3 0 b d) * v870 (ix2 0 d) + v875 (ix3 0 b d) * v877 (ix2 0 d) := by
  unfold k0_pay54
  pointwise

theorem pay55_at (v882 : FVec Ideal S1x32x512 .f32) (b : Fin 32) (d : Fin 512) :
    (k0_pay55 v882 : FVec Ideal S32x512 .f32) (ix2 b d) = v882 (ix3 0 b d) := by
  unfold k0_pay55
  pointwise

theorem pay56_at (v884 : FVec Ideal S1x512 .f32) (d : Fin 512) : (k0_pay56 v884 : FVec Ideal S1x512 .f32) (ix2 0 d) = v884 (ix2 0 d) := by
  unfold k0_pay56
  pointwise

theorem pay57_at (v881 : FVec Ideal S32x512 .f32) (v883 : FVec Ideal S32x512 .f32) (v885 : FVec Ideal S1x512 .f32) (v889 : FVec Ideal S1x32x512 .f32) (v891 : FVec Ideal S1x512 .f32) (v896 : FVec Ideal S1x32x512 .f32) (v898 : FVec Ideal S1x512 .f32) (v903 : FVec Ideal S1x32x512 .f32) (v905 : FVec Ideal S1x512 .f32) (v910 : FVec Ideal S1x32x512 .f32) (v912 : FVec Ideal S1x512 .f32) (b : Fin 32) (d : Fin 512) :
    (k0_pay57 v881 v883 v885 v889 v891 v896 v898 v903 v905 v910 v912 : FVec Ideal S32x512 .f32) (ix2 b d) = v881 (ix2 b d) + v883 (ix2 b d) * v885 (ix2 0 d) + v889 (ix3 0 b d) * v891 (ix2 0 d) + v896 (ix3 0 b d) * v898 (ix2 0 d) + v903 (ix3 0 b d) * v905 (ix2 0 d) + v910 (ix3 0 b d) * v912 (ix2 0 d) := by
  unfold k0_pay57
  pointwise

theorem pay58_at (v917 : FVec Ideal S1x32x512 .f32) (b : Fin 32) (d : Fin 512) :
    (k0_pay58 v917 : FVec Ideal S32x512 .f32) (ix2 b d) = v917 (ix3 0 b d) := by
  unfold k0_pay58
  pointwise

theorem pay59_at (v919 : FVec Ideal S1x512 .f32) (d : Fin 512) : (k0_pay59 v919 : FVec Ideal S1x512 .f32) (ix2 0 d) = v919 (ix2 0 d) := by
  unfold k0_pay59
  pointwise

theorem pay60_at (v916 : FVec Ideal S32x512 .f32) (v918 : FVec Ideal S32x512 .f32) (v920 : FVec Ideal S1x512 .f32) (v924 : FVec Ideal S1x32x512 .f32) (v926 : FVec Ideal S1x512 .f32) (v931 : FVec Ideal S1x32x512 .f32) (v933 : FVec Ideal S1x512 .f32) (v938 : FVec Ideal S1x32x512 .f32) (v940 : FVec Ideal S1x512 .f32) (v945 : FVec Ideal S1x32x512 .f32) (v947 : FVec Ideal S1x512 .f32) (b : Fin 32) (d : Fin 512) :
    (k0_pay60 v916 v918 v920 v924 v926 v931 v933 v938 v940 v945 v947 : FVec Ideal S32x512 .f32) (ix2 b d) = v916 (ix2 b d) + v918 (ix2 b d) * v920 (ix2 0 d) + v924 (ix3 0 b d) * v926 (ix2 0 d) + v931 (ix3 0 b d) * v933 (ix2 0 d) + v938 (ix3 0 b d) * v940 (ix2 0 d) + v945 (ix3 0 b d) * v947 (ix2 0 d) := by
  unfold k0_pay60
  pointwise

theorem pay61_at (v952 : FVec Ideal S32x1x512 .f32) (b : Fin 32) (d : Fin 512) :
    (k0_pay61 v952 : FVec Ideal S32x512 .f32) (ix2 b d) = v952 (ix3 b 0 d) := by
  unfold k0_pay61
  pointwise

theorem pay62_at (v954 : FVec Ideal S1x512 .f32) (d : Fin 512) : (k0_pay62 v954 : FVec Ideal S1x512 .f32) (ix2 0 d) = v954 (ix2 0 d) := by
  unfold k0_pay62
  pointwise

theorem pay20_at (v203 : FVec Ideal S32x512 .f32) (v205 : FVec Ideal S32x512 .f32) (v207 : FVec Ideal S1x512 .f32) (v211 : FVec Ideal S32x1x512 .f32) (v213 : FVec Ideal S1x512 .f32) (v218 : FVec Ideal S1x512 .f32) (v238 : FVec Ideal S1x512 .f32) (v242 : FVec Ideal S1x512 .f32) (b : Fin 32) (d : Fin 512) :
    (k0_pay20 v203 v205 v207 v211 v213 v218 v238 v242 : FVec Ideal S32x512 .f32) (ix2 b d) = siluf (lnR (fun d => v203 (ix2 b d) + v205 (ix2 b d) * v207 (ix2 0 d) + v211 (ix3 b 0 d) * v213 (ix2 0 d) + v218 (ix2 0 d)) (fun d => v238 (ix2 0 d)) (fun d => v242 (ix2 0 d)) d) := by
  unfold k0_pay20 siluf lnR lnN lnV lnC
  pointwise

theorem pay21_at (v247 : FVec Ideal S32x512 .f32) (v248 : FVec Ideal S32x1x512 .f32) (b : Fin 32) (d : Fin 512) :
    (k0_pay21 v247 v248 : FVec Ideal S32x1x512 .f32) (ix3 b 0 d) = v247 (ix2 b d) * v248 (ix3 b 0 d) := by
  unfold k0_pay21
  pointwise

theorem pay28_at (v457 : FVec Ideal S32x512 .f32) (v458 : FVec Ideal S32x1x512 .f32) (v460 : FVec Ideal S1x512 .f32) (v465 : FVec Ideal S32x1x512 .f32) (v467 : FVec Ideal S1x512 .f32) (v472 : FVec Ideal S1x512 .f32) (v492 : FVec Ideal S1x512 .f32) (b : Fin 32) (d : Fin 512) :
    (k0_pay28 v457 v458 v460 v465 v467 v472 v492 : FVec Ideal S32x512 .f32) (ix2 b d) = lnN (fun d => v457 (ix2 b d) + v458 (ix3 b 0 d) * v460 (ix2 0 d) + v465 (ix3 b 0 d) * v467 (ix2 0 d) + v472 (ix2 0 d)) d * v492 (ix2 0 d) := by
  unfold k0_pay28 lnN lnV lnC
  pointwise

theorem pay29_at (v496 : FVec Ideal S1x512 .f32) (d : Fin 512) : (k0_pay29 v496 : FVec Ideal S1x512 .f32) (ix2 0 d) = v496 (ix2 0 d) := by
  unfold k0_pay29
  pointwise

theorem pay30_at (v495 : FVec Ideal S32x512 .f32) (v497 : FVec Ideal S1x512 .f32) (v502 : FVec Ideal S32x1x512 .f32) (b : Fin 32) (d : Fin 512) :
    (k0_pay30 v495 v497 v502 : FVec Ideal S32x1x512 .f32) (ix3 b 0 d) = siluf (v495 (ix2 b d) + v497 (ix2 0 d)) * v502 (ix3 b 0 d) := by
  unfold k0_pay30 siluf
  pointwise

theorem pay43_at (v704 : FVec Ideal S32x512 .f32) (v706 : FVec Ideal S32x512 .f32) (v707 : FVec Ideal S1x512 .f32) (v712 : FVec Ideal S32x1x512 .f32) (v714 : FVec Ideal S1x512 .f32) (v719 : FVec Ideal S32x1x512 .f32) (v721 : FVec Ideal S1x512 .f32) (v726 : FVec Ideal S1x512 .f32) (b : Fin 32) (d : Fin 512) :
    (k0_pay43 v704 v706 v707 v712 v714 v719 v721 v726 : FVec Ideal S32x512 .f32) (ix2 b d) = lnN (fun d => v704 (ix2 b d) + v706 (ix2 b d) * v707 (ix2 0 d) + v712 (ix3 b 0 d) * v714 (ix2 0 d) + v719 (ix3 b 0 d) * v721 (ix2 0 d) + v726 (ix2 0 d)) d := by
  unfold k0_pay43 lnN lnV lnC
  pointwise

theorem pay44_at (v745 : FVec Ideal S32x512 .f32) (v746 : FVec Ideal S1x512 .f32) (v750 : FVec Ideal S1x512 .f32) (v756 : FVec Ideal S32x1x512 .f32) (b : Fin 32) (d : Fin 512) :
    (k0_pay44 v745 v746 v750 v756 : FVec Ideal S32x1x512 .f32) (ix3 b 0 d) = siluf (v745 (ix2 b d) * v746 (ix2 0 d) + v750 (ix2 0 d)) * v756 (ix3 b 0 d) := by
  unfold k0_pay44 siluf
  pointwise

theorem pay63_at (v951 : FVec Ideal S32x512 .f32) (v953 : FVec Ideal S32x512 .f32) (v955 : FVec Ideal S1x512 .f32) (v959 : FVec Ideal S32x1x512 .f32) (v961 : FVec Ideal S1x512 .f32) (v966 : FVec Ideal S32x1x512 .f32) (v968 : FVec Ideal S1x512 .f32) (v973 : FVec Ideal S32x1x512 .f32) (v975 : FVec Ideal S1x512 .f32) (v980 : FVec Ideal S1x512 .f32) (b : Fin 32) (d : Fin 512) :
    (k0_pay63 v951 v953 v955 v959 v961 v966 v968 v973 v975 v980 : FVec Ideal S32x512 .f32) (ix2 b d) = lnC (fun d => v951 (ix2 b d) + v953 (ix2 b d) * v955 (ix2 0 d) + v959 (ix3 b 0 d) * v961 (ix2 0 d) + v966 (ix3 b 0 d) * v968 (ix2 0 d) + v973 (ix3 b 0 d) * v975 (ix2 0 d) + v980 (ix2 0 d)) d := by
  unfold k0_pay63 lnC
  pointwise

theorem pay64_at (v951 : FVec Ideal S32x512 .f32) (v953 : FVec Ideal S32x512 .f32) (v955 : FVec Ideal S1x512 .f32) (v959 : FVec Ideal S32x1x512 .f32) (v961 : FVec Ideal S1x512 .f32) (v966 : FVec Ideal S32x1x512 .f32) (v968 : FVec Ideal S1x512 .f32) (v973 : FVec Ideal S32x1x512 .f32) (v975 : FVec Ideal S1x512 .f32) (v980 : FVec Ideal S1x512 .f32) (b : Fin 32) :
    (k0_pay64 v951 v953 v955 v959 v961 v966 v968 v973 v975 v980 : FVec Ideal S32x1 .f32) (ix2 b 0) = lnV (fun d => v951 (ix2 b d) + v953 (ix2 b d) * v955 (ix2 0 d) + v959 (ix3 b 0 d) * v961 (ix2 0 d) + v966 (ix3 b 0 d) * v968 (ix2 0 d) + v973 (ix3 b 0 d) * v975 (ix2 0 d) + v980 (ix2 0 d)) := by
  have e : ∀ j, (k0_pay63 v951 v953 v955 v959 v961 v966 v968 v973 v975 v980 : FVec Ideal S32x512 .f32) (ix2 b j) = lnC (fun d => v951 (ix2 b d) + v953 (ix2 b d) * v955 (ix2 0 d) + v959 (ix3 b 0 d) * v961 (ix2 0 d) + v966 (ix3 b 0 d) * v968 (ix2 0 d) + v973 (ix3 b 0 d) * v975 (ix2 0 d) + v980 (ix2 0 d)) j := fun j => pay63_at _ _ _ _ _ _ _ _ _ _ b j
  unfold k0_pay64 lnV
  simp only [← e]
  generalize k0_pay63 (F := Ideal) v951 v953 v955 v959 v961 v966 v968 v973 v975 v980 = z
  pointwise

theorem pay65_at (v989 : FVec Ideal S32x512 .f32) (v994 : FVec Ideal S32x1 .f32) (v1000 : FVec Ideal S1x512 .f32) (v1004 : FVec Ideal S1x512 .f32) (v1010 : FVec Ideal S32x1x512 .f32) (b : Fin 32) (d : Fin 512) :
    (k0_pay65 v989 v994 v1000 v1004 v1010 : FVec Ideal S32x1x512 .f32) (ix3 b 0 d) = siluf (v989 (ix2 b d) * Ideal.rsqrt (v994 (ix2 b 0) + Ideal.ofBits FTy.f32 897988541#32) * v1000 (ix2 0 d) + v1004 (ix2 0 d)) * v1010 (ix3 b 0 d) := by
  unfold k0_pay65 siluf
  pointwise

/-- A sequence's rows, the state's 30 before the new ones. -/
def ext (x0 : FVec Ideal S30x32x512 .f32) (x1 : FVec Ideal S32x4x512 .f32) (b : Fin 32) (d : Fin 512) (n : ℕ) : EReal :=
  if h : n < 30 then x0 (ix3 ⟨n, h⟩ b d) else if h : n - 30 < 4 then x1 (ix3 b ⟨n - 30, h⟩ d) else 0

/-- A tap's weight. -/
def wt (x3 : FVec Ideal S31x512 .f32) (d : Fin 512) (n : ℕ) : EReal := if h : n < 31 then x3 (ix2 ⟨n, h⟩ d) else 0

theorem ld0_0 (x0 : FVec Ideal S30x32x512 .f32) (x1 : FVec Ideal S32x4x512 .f32) (b : Fin 32) (d : Fin 512) : (View.ld (Val := Elt Ideal) (e' := .f32) x0 r0_0 : FVec Ideal S1x32x512 .f32) (ix3 0 b d) = ext x0 x1 b d 0 :=
  congrArg x0 (show r0_0.idx (ix3 0 b d) = ix3 ⟨0, by omega⟩ b d by idx_ext)

theorem ld0_1 (x0 : FVec Ideal S30x32x512 .f32) (x1 : FVec Ideal S32x4x512 .f32) (b : Fin 32) (d : Fin 512) : (View.ld (Val := Elt Ideal) (e' := .f32) x0 r0_2 : FVec Ideal S1x32x512 .f32) (ix3 0 b d) = ext x0 x1 b d 1 :=
  congrArg x0 (show r0_2.idx (ix3 0 b d) = ix3 ⟨1, by omega⟩ b d by idx_ext)

theorem ld0_2 (x0 : FVec Ideal S30x32x512 .f32) (x1 : FVec Ideal S32x4x512 .f32) (b : Fin 32) (d : Fin 512) : (View.ld (Val := Elt Ideal) (e' := .f32) x0 r0_4 : FVec Ideal S1x32x512 .f32) (ix3 0 b d) = ext x0 x1 b d 2 :=
  congrArg x0 (show r0_4.idx (ix3 0 b d) = ix3 ⟨2, by omega⟩ b d by idx_ext)

theorem ld0_3 (x0 : FVec Ideal S30x32x512 .f32) (x1 : FVec Ideal S32x4x512 .f32) (b : Fin 32) (d : Fin 512) : (View.ld (Val := Elt Ideal) (e' := .f32) x0 r0_6 : FVec Ideal S1x32x512 .f32) (ix3 0 b d) = ext x0 x1 b d 3 :=
  congrArg x0 (show r0_6.idx (ix3 0 b d) = ix3 ⟨3, by omega⟩ b d by idx_ext)

theorem ld0_4 (x0 : FVec Ideal S30x32x512 .f32) (x1 : FVec Ideal S32x4x512 .f32) (b : Fin 32) (d : Fin 512) : (View.ld (Val := Elt Ideal) (e' := .f32) x0 r0_8 : FVec Ideal S1x32x512 .f32) (ix3 0 b d) = ext x0 x1 b d 4 :=
  congrArg x0 (show r0_8.idx (ix3 0 b d) = ix3 ⟨4, by omega⟩ b d by idx_ext)

theorem ld0_5 (x0 : FVec Ideal S30x32x512 .f32) (x1 : FVec Ideal S32x4x512 .f32) (b : Fin 32) (d : Fin 512) : (View.ld (Val := Elt Ideal) (e' := .f32) x0 r0_10 : FVec Ideal S1x32x512 .f32) (ix3 0 b d) = ext x0 x1 b d 5 :=
  congrArg x0 (show r0_10.idx (ix3 0 b d) = ix3 ⟨5, by omega⟩ b d by idx_ext)

theorem ld0_6 (x0 : FVec Ideal S30x32x512 .f32) (x1 : FVec Ideal S32x4x512 .f32) (b : Fin 32) (d : Fin 512) : (View.ld (Val := Elt Ideal) (e' := .f32) x0 r0_12 : FVec Ideal S1x32x512 .f32) (ix3 0 b d) = ext x0 x1 b d 6 :=
  congrArg x0 (show r0_12.idx (ix3 0 b d) = ix3 ⟨6, by omega⟩ b d by idx_ext)

theorem ld0_7 (x0 : FVec Ideal S30x32x512 .f32) (x1 : FVec Ideal S32x4x512 .f32) (b : Fin 32) (d : Fin 512) : (View.ld (Val := Elt Ideal) (e' := .f32) x0 r0_14 : FVec Ideal S1x32x512 .f32) (ix3 0 b d) = ext x0 x1 b d 7 :=
  congrArg x0 (show r0_14.idx (ix3 0 b d) = ix3 ⟨7, by omega⟩ b d by idx_ext)

theorem ld0_8 (x0 : FVec Ideal S30x32x512 .f32) (x1 : FVec Ideal S32x4x512 .f32) (b : Fin 32) (d : Fin 512) : (View.ld (Val := Elt Ideal) (e' := .f32) x0 r0_16 : FVec Ideal S1x32x512 .f32) (ix3 0 b d) = ext x0 x1 b d 8 :=
  congrArg x0 (show r0_16.idx (ix3 0 b d) = ix3 ⟨8, by omega⟩ b d by idx_ext)

theorem ld0_9 (x0 : FVec Ideal S30x32x512 .f32) (x1 : FVec Ideal S32x4x512 .f32) (b : Fin 32) (d : Fin 512) : (View.ld (Val := Elt Ideal) (e' := .f32) x0 r0_18 : FVec Ideal S1x32x512 .f32) (ix3 0 b d) = ext x0 x1 b d 9 :=
  congrArg x0 (show r0_18.idx (ix3 0 b d) = ix3 ⟨9, by omega⟩ b d by idx_ext)

theorem ld0_10 (x0 : FVec Ideal S30x32x512 .f32) (x1 : FVec Ideal S32x4x512 .f32) (b : Fin 32) (d : Fin 512) : (View.ld (Val := Elt Ideal) (e' := .f32) x0 r0_20 : FVec Ideal S1x32x512 .f32) (ix3 0 b d) = ext x0 x1 b d 10 :=
  congrArg x0 (show r0_20.idx (ix3 0 b d) = ix3 ⟨10, by omega⟩ b d by idx_ext)

theorem ld0_11 (x0 : FVec Ideal S30x32x512 .f32) (x1 : FVec Ideal S32x4x512 .f32) (b : Fin 32) (d : Fin 512) : (View.ld (Val := Elt Ideal) (e' := .f32) x0 r0_22 : FVec Ideal S1x32x512 .f32) (ix3 0 b d) = ext x0 x1 b d 11 :=
  congrArg x0 (show r0_22.idx (ix3 0 b d) = ix3 ⟨11, by omega⟩ b d by idx_ext)

theorem ld0_12 (x0 : FVec Ideal S30x32x512 .f32) (x1 : FVec Ideal S32x4x512 .f32) (b : Fin 32) (d : Fin 512) : (View.ld (Val := Elt Ideal) (e' := .f32) x0 r0_24 : FVec Ideal S1x32x512 .f32) (ix3 0 b d) = ext x0 x1 b d 12 :=
  congrArg x0 (show r0_24.idx (ix3 0 b d) = ix3 ⟨12, by omega⟩ b d by idx_ext)

theorem ld0_13 (x0 : FVec Ideal S30x32x512 .f32) (x1 : FVec Ideal S32x4x512 .f32) (b : Fin 32) (d : Fin 512) : (View.ld (Val := Elt Ideal) (e' := .f32) x0 r0_26 : FVec Ideal S1x32x512 .f32) (ix3 0 b d) = ext x0 x1 b d 13 :=
  congrArg x0 (show r0_26.idx (ix3 0 b d) = ix3 ⟨13, by omega⟩ b d by idx_ext)

theorem ld0_14 (x0 : FVec Ideal S30x32x512 .f32) (x1 : FVec Ideal S32x4x512 .f32) (b : Fin 32) (d : Fin 512) : (View.ld (Val := Elt Ideal) (e' := .f32) x0 r0_28 : FVec Ideal S1x32x512 .f32) (ix3 0 b d) = ext x0 x1 b d 14 :=
  congrArg x0 (show r0_28.idx (ix3 0 b d) = ix3 ⟨14, by omega⟩ b d by idx_ext)

theorem ld0_15 (x0 : FVec Ideal S30x32x512 .f32) (x1 : FVec Ideal S32x4x512 .f32) (b : Fin 32) (d : Fin 512) : (View.ld (Val := Elt Ideal) (e' := .f32) x0 r0_30 : FVec Ideal S1x32x512 .f32) (ix3 0 b d) = ext x0 x1 b d 15 :=
  congrArg x0 (show r0_30.idx (ix3 0 b d) = ix3 ⟨15, by omega⟩ b d by idx_ext)

theorem ld0_16 (x0 : FVec Ideal S30x32x512 .f32) (x1 : FVec Ideal S32x4x512 .f32) (b : Fin 32) (d : Fin 512) : (View.ld (Val := Elt Ideal) (e' := .f32) x0 r0_32 : FVec Ideal S1x32x512 .f32) (ix3 0 b d) = ext x0 x1 b d 16 :=
  congrArg x0 (show r0_32.idx (ix3 0 b d) = ix3 ⟨16, by omega⟩ b d by idx_ext)

theorem ld0_17 (x0 : FVec Ideal S30x32x512 .f32) (x1 : FVec Ideal S32x4x512 .f32) (b : Fin 32) (d : Fin 512) : (View.ld (Val := Elt Ideal) (e' := .f32) x0 r0_34 : FVec Ideal S1x32x512 .f32) (ix3 0 b d) = ext x0 x1 b d 17 :=
  congrArg x0 (show r0_34.idx (ix3 0 b d) = ix3 ⟨17, by omega⟩ b d by idx_ext)

theorem ld0_18 (x0 : FVec Ideal S30x32x512 .f32) (x1 : FVec Ideal S32x4x512 .f32) (b : Fin 32) (d : Fin 512) : (View.ld (Val := Elt Ideal) (e' := .f32) x0 r0_36 : FVec Ideal S1x32x512 .f32) (ix3 0 b d) = ext x0 x1 b d 18 :=
  congrArg x0 (show r0_36.idx (ix3 0 b d) = ix3 ⟨18, by omega⟩ b d by idx_ext)

theorem ld0_19 (x0 : FVec Ideal S30x32x512 .f32) (x1 : FVec Ideal S32x4x512 .f32) (b : Fin 32) (d : Fin 512) : (View.ld (Val := Elt Ideal) (e' := .f32) x0 r0_38 : FVec Ideal S1x32x512 .f32) (ix3 0 b d) = ext x0 x1 b d 19 :=
  congrArg x0 (show r0_38.idx (ix3 0 b d) = ix3 ⟨19, by omega⟩ b d by idx_ext)

theorem ld0_20 (x0 : FVec Ideal S30x32x512 .f32) (x1 : FVec Ideal S32x4x512 .f32) (b : Fin 32) (d : Fin 512) : (View.ld (Val := Elt Ideal) (e' := .f32) x0 r0_40 : FVec Ideal S1x32x512 .f32) (ix3 0 b d) = ext x0 x1 b d 20 :=
  congrArg x0 (show r0_40.idx (ix3 0 b d) = ix3 ⟨20, by omega⟩ b d by idx_ext)

theorem ld0_21 (x0 : FVec Ideal S30x32x512 .f32) (x1 : FVec Ideal S32x4x512 .f32) (b : Fin 32) (d : Fin 512) : (View.ld (Val := Elt Ideal) (e' := .f32) x0 r0_42 : FVec Ideal S1x32x512 .f32) (ix3 0 b d) = ext x0 x1 b d 21 :=
  congrArg x0 (show r0_42.idx (ix3 0 b d) = ix3 ⟨21, by omega⟩ b d by idx_ext)

theorem ld0_22 (x0 : FVec Ideal S30x32x512 .f32) (x1 : FVec Ideal S32x4x512 .f32) (b : Fin 32) (d : Fin 512) : (View.ld (Val := Elt Ideal) (e' := .f32) x0 r0_44 : FVec Ideal S1x32x512 .f32) (ix3 0 b d) = ext x0 x1 b d 22 :=
  congrArg x0 (show r0_44.idx (ix3 0 b d) = ix3 ⟨22, by omega⟩ b d by idx_ext)

theorem ld0_23 (x0 : FVec Ideal S30x32x512 .f32) (x1 : FVec Ideal S32x4x512 .f32) (b : Fin 32) (d : Fin 512) : (View.ld (Val := Elt Ideal) (e' := .f32) x0 r0_46 : FVec Ideal S1x32x512 .f32) (ix3 0 b d) = ext x0 x1 b d 23 :=
  congrArg x0 (show r0_46.idx (ix3 0 b d) = ix3 ⟨23, by omega⟩ b d by idx_ext)

theorem ld0_24 (x0 : FVec Ideal S30x32x512 .f32) (x1 : FVec Ideal S32x4x512 .f32) (b : Fin 32) (d : Fin 512) : (View.ld (Val := Elt Ideal) (e' := .f32) x0 r0_48 : FVec Ideal S1x32x512 .f32) (ix3 0 b d) = ext x0 x1 b d 24 :=
  congrArg x0 (show r0_48.idx (ix3 0 b d) = ix3 ⟨24, by omega⟩ b d by idx_ext)

theorem ld0_25 (x0 : FVec Ideal S30x32x512 .f32) (x1 : FVec Ideal S32x4x512 .f32) (b : Fin 32) (d : Fin 512) : (View.ld (Val := Elt Ideal) (e' := .f32) x0 r0_50 : FVec Ideal S1x32x512 .f32) (ix3 0 b d) = ext x0 x1 b d 25 :=
  congrArg x0 (show r0_50.idx (ix3 0 b d) = ix3 ⟨25, by omega⟩ b d by idx_ext)

theorem ld0_26 (x0 : FVec Ideal S30x32x512 .f32) (x1 : FVec Ideal S32x4x512 .f32) (b : Fin 32) (d : Fin 512) : (View.ld (Val := Elt Ideal) (e' := .f32) x0 r0_52 : FVec Ideal S1x32x512 .f32) (ix3 0 b d) = ext x0 x1 b d 26 :=
  congrArg x0 (show r0_52.idx (ix3 0 b d) = ix3 ⟨26, by omega⟩ b d by idx_ext)

theorem ld0_27 (x0 : FVec Ideal S30x32x512 .f32) (x1 : FVec Ideal S32x4x512 .f32) (b : Fin 32) (d : Fin 512) : (View.ld (Val := Elt Ideal) (e' := .f32) x0 r0_54 : FVec Ideal S1x32x512 .f32) (ix3 0 b d) = ext x0 x1 b d 27 :=
  congrArg x0 (show r0_54.idx (ix3 0 b d) = ix3 ⟨27, by omega⟩ b d by idx_ext)

theorem ld0_28 (x0 : FVec Ideal S30x32x512 .f32) (x1 : FVec Ideal S32x4x512 .f32) (b : Fin 32) (d : Fin 512) : (View.ld (Val := Elt Ideal) (e' := .f32) x0 r0_56 : FVec Ideal S1x32x512 .f32) (ix3 0 b d) = ext x0 x1 b d 28 :=
  congrArg x0 (show r0_56.idx (ix3 0 b d) = ix3 ⟨28, by omega⟩ b d by idx_ext)

theorem ld0_29 (x0 : FVec Ideal S30x32x512 .f32) (x1 : FVec Ideal S32x4x512 .f32) (b : Fin 32) (d : Fin 512) : (View.ld (Val := Elt Ideal) (e' := .f32) x0 r0_58 : FVec Ideal S1x32x512 .f32) (ix3 0 b d) = ext x0 x1 b d 29 :=
  congrArg x0 (show r0_58.idx (ix3 0 b d) = ix3 ⟨29, by omega⟩ b d by idx_ext)

theorem ld1_0 (x0 : FVec Ideal S30x32x512 .f32) (x1 : FVec Ideal S32x4x512 .f32) (b : Fin 32) (d : Fin 512) : (View.ld (Val := Elt Ideal) (e' := .f32) x1 r0_60 : FVec Ideal S32x1x512 .f32) (ix3 b 0 d) = x1 (ix3 b 0 d) :=
  congrArg x1 (show r0_60.idx (ix3 b 0 d) = ix3 b 0 d by idx_ext)

theorem ld1_1 (x0 : FVec Ideal S30x32x512 .f32) (x1 : FVec Ideal S32x4x512 .f32) (b : Fin 32) (d : Fin 512) : (View.ld (Val := Elt Ideal) (e' := .f32) x1 r0_63 : FVec Ideal S32x1x512 .f32) (ix3 b 0 d) = x1 (ix3 b 1 d) :=
  congrArg x1 (show r0_63.idx (ix3 b 0 d) = ix3 b 1 d by idx_ext)

theorem ld1_2 (x0 : FVec Ideal S30x32x512 .f32) (x1 : FVec Ideal S32x4x512 .f32) (b : Fin 32) (d : Fin 512) : (View.ld (Val := Elt Ideal) (e' := .f32) x1 r0_64 : FVec Ideal S32x1x512 .f32) (ix3 b 0 d) = x1 (ix3 b 2 d) :=
  congrArg x1 (show r0_64.idx (ix3 b 0 d) = ix3 b 2 d by idx_ext)

theorem ld1_3 (x0 : FVec Ideal S30x32x512 .f32) (x1 : FVec Ideal S32x4x512 .f32) (b : Fin 32) (d : Fin 512) : (View.ld (Val := Elt Ideal) (e' := .f32) x1 r0_65 : FVec Ideal S32x1x512 .f32) (ix3 b 0 d) = x1 (ix3 b 3 d) :=
  congrArg x1 (show r0_65.idx (ix3 b 0 d) = ix3 b 3 d by idx_ext)

theorem ld3_0 (x3 : FVec Ideal S31x512 .f32) (d : Fin 512) : (View.ld (Val := Elt Ideal) (e' := .f32) x3 r0_1 : FVec Ideal S1x512 .f32) (ix2 0 d) = wt x3 d 0 :=
  congrArg x3 (show r0_1.idx (ix2 0 d) = ix2 ⟨0, by omega⟩ d by idx_ext)

theorem ld3_1 (x3 : FVec Ideal S31x512 .f32) (d : Fin 512) : (View.ld (Val := Elt Ideal) (e' := .f32) x3 r0_3 : FVec Ideal S1x512 .f32) (ix2 0 d) = wt x3 d 1 :=
  congrArg x3 (show r0_3.idx (ix2 0 d) = ix2 ⟨1, by omega⟩ d by idx_ext)

theorem ld3_2 (x3 : FVec Ideal S31x512 .f32) (d : Fin 512) : (View.ld (Val := Elt Ideal) (e' := .f32) x3 r0_5 : FVec Ideal S1x512 .f32) (ix2 0 d) = wt x3 d 2 :=
  congrArg x3 (show r0_5.idx (ix2 0 d) = ix2 ⟨2, by omega⟩ d by idx_ext)

theorem ld3_3 (x3 : FVec Ideal S31x512 .f32) (d : Fin 512) : (View.ld (Val := Elt Ideal) (e' := .f32) x3 r0_7 : FVec Ideal S1x512 .f32) (ix2 0 d) = wt x3 d 3 :=
  congrArg x3 (show r0_7.idx (ix2 0 d) = ix2 ⟨3, by omega⟩ d by idx_ext)

theorem ld3_4 (x3 : FVec Ideal S31x512 .f32) (d : Fin 512) : (View.ld (Val := Elt Ideal) (e' := .f32) x3 r0_9 : FVec Ideal S1x512 .f32) (ix2 0 d) = wt x3 d 4 :=
  congrArg x3 (show r0_9.idx (ix2 0 d) = ix2 ⟨4, by omega⟩ d by idx_ext)

theorem ld3_5 (x3 : FVec Ideal S31x512 .f32) (d : Fin 512) : (View.ld (Val := Elt Ideal) (e' := .f32) x3 r0_11 : FVec Ideal S1x512 .f32) (ix2 0 d) = wt x3 d 5 :=
  congrArg x3 (show r0_11.idx (ix2 0 d) = ix2 ⟨5, by omega⟩ d by idx_ext)

theorem ld3_6 (x3 : FVec Ideal S31x512 .f32) (d : Fin 512) : (View.ld (Val := Elt Ideal) (e' := .f32) x3 r0_13 : FVec Ideal S1x512 .f32) (ix2 0 d) = wt x3 d 6 :=
  congrArg x3 (show r0_13.idx (ix2 0 d) = ix2 ⟨6, by omega⟩ d by idx_ext)

theorem ld3_7 (x3 : FVec Ideal S31x512 .f32) (d : Fin 512) : (View.ld (Val := Elt Ideal) (e' := .f32) x3 r0_15 : FVec Ideal S1x512 .f32) (ix2 0 d) = wt x3 d 7 :=
  congrArg x3 (show r0_15.idx (ix2 0 d) = ix2 ⟨7, by omega⟩ d by idx_ext)

theorem ld3_8 (x3 : FVec Ideal S31x512 .f32) (d : Fin 512) : (View.ld (Val := Elt Ideal) (e' := .f32) x3 r0_17 : FVec Ideal S1x512 .f32) (ix2 0 d) = wt x3 d 8 :=
  congrArg x3 (show r0_17.idx (ix2 0 d) = ix2 ⟨8, by omega⟩ d by idx_ext)

theorem ld3_9 (x3 : FVec Ideal S31x512 .f32) (d : Fin 512) : (View.ld (Val := Elt Ideal) (e' := .f32) x3 r0_19 : FVec Ideal S1x512 .f32) (ix2 0 d) = wt x3 d 9 :=
  congrArg x3 (show r0_19.idx (ix2 0 d) = ix2 ⟨9, by omega⟩ d by idx_ext)

theorem ld3_10 (x3 : FVec Ideal S31x512 .f32) (d : Fin 512) : (View.ld (Val := Elt Ideal) (e' := .f32) x3 r0_21 : FVec Ideal S1x512 .f32) (ix2 0 d) = wt x3 d 10 :=
  congrArg x3 (show r0_21.idx (ix2 0 d) = ix2 ⟨10, by omega⟩ d by idx_ext)

theorem ld3_11 (x3 : FVec Ideal S31x512 .f32) (d : Fin 512) : (View.ld (Val := Elt Ideal) (e' := .f32) x3 r0_23 : FVec Ideal S1x512 .f32) (ix2 0 d) = wt x3 d 11 :=
  congrArg x3 (show r0_23.idx (ix2 0 d) = ix2 ⟨11, by omega⟩ d by idx_ext)

theorem ld3_12 (x3 : FVec Ideal S31x512 .f32) (d : Fin 512) : (View.ld (Val := Elt Ideal) (e' := .f32) x3 r0_25 : FVec Ideal S1x512 .f32) (ix2 0 d) = wt x3 d 12 :=
  congrArg x3 (show r0_25.idx (ix2 0 d) = ix2 ⟨12, by omega⟩ d by idx_ext)

theorem ld3_13 (x3 : FVec Ideal S31x512 .f32) (d : Fin 512) : (View.ld (Val := Elt Ideal) (e' := .f32) x3 r0_27 : FVec Ideal S1x512 .f32) (ix2 0 d) = wt x3 d 13 :=
  congrArg x3 (show r0_27.idx (ix2 0 d) = ix2 ⟨13, by omega⟩ d by idx_ext)

theorem ld3_14 (x3 : FVec Ideal S31x512 .f32) (d : Fin 512) : (View.ld (Val := Elt Ideal) (e' := .f32) x3 r0_29 : FVec Ideal S1x512 .f32) (ix2 0 d) = wt x3 d 14 :=
  congrArg x3 (show r0_29.idx (ix2 0 d) = ix2 ⟨14, by omega⟩ d by idx_ext)

theorem ld3_15 (x3 : FVec Ideal S31x512 .f32) (d : Fin 512) : (View.ld (Val := Elt Ideal) (e' := .f32) x3 r0_31 : FVec Ideal S1x512 .f32) (ix2 0 d) = wt x3 d 15 :=
  congrArg x3 (show r0_31.idx (ix2 0 d) = ix2 ⟨15, by omega⟩ d by idx_ext)

theorem ld3_16 (x3 : FVec Ideal S31x512 .f32) (d : Fin 512) : (View.ld (Val := Elt Ideal) (e' := .f32) x3 r0_33 : FVec Ideal S1x512 .f32) (ix2 0 d) = wt x3 d 16 :=
  congrArg x3 (show r0_33.idx (ix2 0 d) = ix2 ⟨16, by omega⟩ d by idx_ext)

theorem ld3_17 (x3 : FVec Ideal S31x512 .f32) (d : Fin 512) : (View.ld (Val := Elt Ideal) (e' := .f32) x3 r0_35 : FVec Ideal S1x512 .f32) (ix2 0 d) = wt x3 d 17 :=
  congrArg x3 (show r0_35.idx (ix2 0 d) = ix2 ⟨17, by omega⟩ d by idx_ext)

theorem ld3_18 (x3 : FVec Ideal S31x512 .f32) (d : Fin 512) : (View.ld (Val := Elt Ideal) (e' := .f32) x3 r0_37 : FVec Ideal S1x512 .f32) (ix2 0 d) = wt x3 d 18 :=
  congrArg x3 (show r0_37.idx (ix2 0 d) = ix2 ⟨18, by omega⟩ d by idx_ext)

theorem ld3_19 (x3 : FVec Ideal S31x512 .f32) (d : Fin 512) : (View.ld (Val := Elt Ideal) (e' := .f32) x3 r0_39 : FVec Ideal S1x512 .f32) (ix2 0 d) = wt x3 d 19 :=
  congrArg x3 (show r0_39.idx (ix2 0 d) = ix2 ⟨19, by omega⟩ d by idx_ext)

theorem ld3_20 (x3 : FVec Ideal S31x512 .f32) (d : Fin 512) : (View.ld (Val := Elt Ideal) (e' := .f32) x3 r0_41 : FVec Ideal S1x512 .f32) (ix2 0 d) = wt x3 d 20 :=
  congrArg x3 (show r0_41.idx (ix2 0 d) = ix2 ⟨20, by omega⟩ d by idx_ext)

theorem ld3_21 (x3 : FVec Ideal S31x512 .f32) (d : Fin 512) : (View.ld (Val := Elt Ideal) (e' := .f32) x3 r0_43 : FVec Ideal S1x512 .f32) (ix2 0 d) = wt x3 d 21 :=
  congrArg x3 (show r0_43.idx (ix2 0 d) = ix2 ⟨21, by omega⟩ d by idx_ext)

theorem ld3_22 (x3 : FVec Ideal S31x512 .f32) (d : Fin 512) : (View.ld (Val := Elt Ideal) (e' := .f32) x3 r0_45 : FVec Ideal S1x512 .f32) (ix2 0 d) = wt x3 d 22 :=
  congrArg x3 (show r0_45.idx (ix2 0 d) = ix2 ⟨22, by omega⟩ d by idx_ext)

theorem ld3_23 (x3 : FVec Ideal S31x512 .f32) (d : Fin 512) : (View.ld (Val := Elt Ideal) (e' := .f32) x3 r0_47 : FVec Ideal S1x512 .f32) (ix2 0 d) = wt x3 d 23 :=
  congrArg x3 (show r0_47.idx (ix2 0 d) = ix2 ⟨23, by omega⟩ d by idx_ext)

theorem ld3_24 (x3 : FVec Ideal S31x512 .f32) (d : Fin 512) : (View.ld (Val := Elt Ideal) (e' := .f32) x3 r0_49 : FVec Ideal S1x512 .f32) (ix2 0 d) = wt x3 d 24 :=
  congrArg x3 (show r0_49.idx (ix2 0 d) = ix2 ⟨24, by omega⟩ d by idx_ext)

theorem ld3_25 (x3 : FVec Ideal S31x512 .f32) (d : Fin 512) : (View.ld (Val := Elt Ideal) (e' := .f32) x3 r0_51 : FVec Ideal S1x512 .f32) (ix2 0 d) = wt x3 d 25 :=
  congrArg x3 (show r0_51.idx (ix2 0 d) = ix2 ⟨25, by omega⟩ d by idx_ext)

theorem ld3_26 (x3 : FVec Ideal S31x512 .f32) (d : Fin 512) : (View.ld (Val := Elt Ideal) (e' := .f32) x3 r0_53 : FVec Ideal S1x512 .f32) (ix2 0 d) = wt x3 d 26 :=
  congrArg x3 (show r0_53.idx (ix2 0 d) = ix2 ⟨26, by omega⟩ d by idx_ext)

theorem ld3_27 (x3 : FVec Ideal S31x512 .f32) (d : Fin 512) : (View.ld (Val := Elt Ideal) (e' := .f32) x3 r0_55 : FVec Ideal S1x512 .f32) (ix2 0 d) = wt x3 d 27 :=
  congrArg x3 (show r0_55.idx (ix2 0 d) = ix2 ⟨27, by omega⟩ d by idx_ext)

theorem ld3_28 (x3 : FVec Ideal S31x512 .f32) (d : Fin 512) : (View.ld (Val := Elt Ideal) (e' := .f32) x3 r0_57 : FVec Ideal S1x512 .f32) (ix2 0 d) = wt x3 d 28 :=
  congrArg x3 (show r0_57.idx (ix2 0 d) = ix2 ⟨28, by omega⟩ d by idx_ext)

theorem ld3_29 (x3 : FVec Ideal S31x512 .f32) (d : Fin 512) : (View.ld (Val := Elt Ideal) (e' := .f32) x3 r0_59 : FVec Ideal S1x512 .f32) (ix2 0 d) = wt x3 d 29 :=
  congrArg x3 (show r0_59.idx (ix2 0 d) = ix2 ⟨29, by omega⟩ d by idx_ext)

theorem ld3_30 (x3 : FVec Ideal S31x512 .f32) (d : Fin 512) : (View.ld (Val := Elt Ideal) (e' := .f32) x3 r0_61 : FVec Ideal S1x512 .f32) (ix2 0 d) = wt x3 d 30 :=
  congrArg x3 (show r0_61.idx (ix2 0 d) = ix2 ⟨30, by omega⟩ d by idx_ext)

theorem zz : (![0, 0] : Fin 2 → ℕ) = fun _ => 0 := by decide

end Cert.Kernel5Ideal.Conv
end
-- ==== Proof.P5Body.lean ====
module

public import proofs.«01_k».proof.Proof.P5Math

/-! The two blocks that the body leaves, each as one function of its operands' blocks. -/

@[expose] public section

set_option maxRecDepth 16384

noncomputable section

namespace Cert.Kernel5Ideal.Conv

open Cert.Kernel5Ideal Cert.Kernel5Ideal.Gen
open Cert.Kernel2Ideal.Proj (siluf)
open Idealize.ShloMosaic Idealize.ShloMosaic.TcCoe Idealize.ShloMosaic.Tactic Idealize.ShloMosaic.Pointwise
open Idealize.SL.Sem

variable (x0 : FVec Ideal S30x32x512 .f32) (x1 x2 : FVec Ideal S32x4x512 .f32) (x3 : FVec Ideal S31x512 .f32) (x4 x5 x6 : FVec Ideal S1x512 .f32)

/-- The convolution of one sequence at one new position, with its offset. -/
def rowK (b : Fin 32) (t : ℕ) (d : Fin 512) : EReal := conv (fun j => ext x0 x1 b d (t + j)) (wt x3 d) + x4 (ix2 0 d)

/-- The result at one entry. -/
def outK (b : Fin 32) (t : Fin 4) (d : Fin 512) : EReal :=
  siluf (lnR (rowK x0 x1 x3 x4 b t.val) (fun d => x5 (ix2 0 d)) (fun d => x6 (ix2 0 d)) d) * x2 (ix3 b t d)

theorem u_ext (t : Fin 4) (b : Fin 32) (d : Fin 512) : x1 (ix3 b t d) = ext x0 x1 b d (30 + t.val) := by
  unfold ext
  rw [dif_neg (by omega), dif_pos (show 30 + t.val - 30 < 4 by omega)]
  exact congrArg (fun k => x1 (ix3 b k d)) (Fin.ext (by show t.val = 30 + t.val - 30; omega))

theorem all3 {A B C : ℕ} {P : (⟨3, ![A, B, C]⟩ : Shape).Idx → Prop} (h : ∀ a b c, P (ix3 a b c)) (i : (⟨3, ![A, B, C]⟩ : Shape).Idx) : P i := by
  have e : i = ix3 (i 0) (i 1) (i 2) := by
    funext a
    match a with
    | ⟨0, _⟩ => rfl
    | ⟨1, _⟩ => rfl
    | ⟨2, _⟩ => rfl
  rw [e]
  exact h _ _ _

theorem one (i : Fin 1) : i = 0 := Fin.ext (by omega)

theorem piece_3 (b : Fin 32) (d : Fin 512) : (k0_pay65 (k0_pay63 (k0_pay96 x0 x1 x2 x3 x4 x5 x6) (k0_pay97 x0 x1 x2 x3 x4 x5 x6) (k0_pay98 x0 x1 x2 x3 x4 x5 x6) (View.ld x1 r0_63) (View.ld x3 r0_57) (View.ld x1 r0_64) (View.ld x3 r0_59) (View.ld x1 r0_65) (View.ld x3 r0_61) (View.ld x4 r0_62)) (k0_pay64 (k0_pay96 x0 x1 x2 x3 x4 x5 x6) (k0_pay97 x0 x1 x2 x3 x4 x5 x6) (k0_pay98 x0 x1 x2 x3 x4 x5 x6) (View.ld x1 r0_63) (View.ld x3 r0_57) (View.ld x1 r0_64) (View.ld x3 r0_59) (View.ld x1 r0_65) (View.ld x3 r0_61) (View.ld x4 r0_62)) (View.ld x5 r0_62) (View.ld x6 r0_62) (View.ld x2 r0_65) : FVec Ideal S32x1x512 .f32) (ix3 b 0 d) = outK x0 x1 x2 x3 x4 x5 x6 b 3 d := by
  rw [View.ld_unit_zero zz, View.ld_unit_zero zz, View.ld_unit_zero zz]
  unfold k0_pay98 k0_pay97 k0_pay96
  simp only [pay45_at, pay46_at, pay47_at, pay48_at, pay49_at, pay50_at, pay51_at, pay52_at, pay53_at, pay54_at, pay55_at, pay56_at, pay57_at, pay58_at, pay59_at, pay60_at, pay61_at, pay62_at, pay63_at, pay64_at, pay65_at, ld0_0 x0 x1, ld0_1 x0 x1, ld0_2 x0 x1, ld0_3 x0 x1, ld0_4 x0 x1, ld0_5 x0 x1, ld0_6 x0 x1, ld0_7 x0 x1, ld0_8 x0 x1, ld0_9 x0 x1, ld0_10 x0 x1, ld0_11 x0 x1, ld0_12 x0 x1, ld0_13 x0 x1, ld0_14 x0 x1, ld0_15 x0 x1, ld0_16 x0 x1, ld0_17 x0 x1, ld0_18 x0 x1, ld0_19 x0 x1, ld0_20 x0 x1, ld0_21 x0 x1, ld0_22 x0 x1, ld0_23 x0 x1, ld0_24 x0 x1, ld0_25 x0 x1, ld0_26 x0 x1, ld0_27 x0 x1, ld0_28 x0 x1, ld0_29 x0 x1, ld1_0 x0 x1, ld1_0 x0 x2, ld1_1 x0 x1, ld1_1 x0 x2, ld1_2 x0 x1, ld1_2 x0 x2, ld1_3 x0 x1, ld1_3 x0 x2, ld3_0 x3, ld3_1 x3, ld3_2 x3, ld3_3 x3, ld3_4 x3, ld3_5 x3, ld3_6 x3, ld3_7 x3, ld3_8 x3, ld3_9 x3, ld3_10 x3, ld3_11 x3, ld3_12 x3, ld3_13 x3, ld3_14 x3, ld3_15 x3, ld3_16 x3, ld3_17 x3, ld3_18 x3, ld3_19 x3, ld3_20 x3, ld3_21 x3, ld3_22 x3, ld3_23 x3, ld3_24 x3, ld3_25 x3, ld3_26 x3, ld3_27 x3, ld3_28 x3, ld3_29 x3, ld3_30 x3]
  unfold outK
  try unfold lnR
  try unfold lnN
  simp only [u_ext x0 x1]
  rfl

theorem piece_2 (b : Fin 32) (d : Fin 512) : (k0_pay44 (k0_pay43 (k0_pay41 (k0_pay39 (k0_pay37 (k0_pay35 (k0_pay33 (k0_pay31 (View.ld x0 r0_4) (View.ld x3 r0_1) (View.ld x0 r0_6) (View.ld x3 r0_3) (View.ld x0 r0_8) (View.ld x3 r0_5)) (k0_pay32 (View.ld x0 r0_10)) (View.ld x3 r0_7) (View.ld x0 r0_12) (View.ld x3 r0_9) (View.ld x0 r0_14) (View.ld x3 r0_11) (View.ld x0 r0_16) (View.ld x3 r0_13) (View.ld x0 r0_18) (View.ld x3 r0_15)) (k0_pay34 (View.ld x0 r0_20)) (View.ld x3 r0_17) (View.ld x0 r0_22) (View.ld x3 r0_19) (View.ld x0 r0_24) (View.ld x3 r0_21) (View.ld x0 r0_26) (View.ld x3 r0_23) (View.ld x0 r0_28) (View.ld x3 r0_25)) (k0_pay36 (View.ld x0 r0_30)) (View.ld x3 r0_27) (View.ld x0 r0_32) (View.ld x3 r0_29) (View.ld x0 r0_34) (View.ld x3 r0_31) (View.ld x0 r0_36) (View.ld x3 r0_33) (View.ld x0 r0_38) (View.ld x3 r0_35)) (k0_pay38 (View.ld x0 r0_40)) (View.ld x3 r0_37) (View.ld x0 r0_42) (View.ld x3 r0_39) (View.ld x0 r0_44) (View.ld x3 r0_41) (View.ld x0 r0_46) (View.ld x3 r0_43) (View.ld x0 r0_48) (View.ld x3 r0_45)) (k0_pay40 (View.ld x0 r0_50)) (View.ld x3 r0_47) (View.ld x0 r0_52) (View.ld x3 r0_49) (View.ld x0 r0_54) (View.ld x3 r0_51) (View.ld x0 r0_56) (View.ld x3 r0_53) (View.ld x0 r0_58) (View.ld x3 r0_55)) (k0_pay42 (View.ld x1 r0_60)) (View.ld x3 r0_57) (View.ld x1 r0_63) (View.ld x3 r0_59) (View.ld x1 r0_64) (View.ld x3 r0_61) (View.ld x4 r0_62)) (View.ld x5 r0_62) (View.ld x6 r0_62) (View.ld x2 r0_64) : FVec Ideal S32x1x512 .f32) (ix3 b 0 d) = outK x0 x1 x2 x3 x4 x5 x6 b 2 d := by
  rw [View.ld_unit_zero zz, View.ld_unit_zero zz, View.ld_unit_zero zz]
  skip
  simp only [pay31_at, pay32_at, pay33_at, pay34_at, pay35_at, pay36_at, pay37_at, pay38_at, pay39_at, pay40_at, pay41_at, pay42_at, pay43_at, pay44_at, ld0_0 x0 x1, ld0_1 x0 x1, ld0_2 x0 x1, ld0_3 x0 x1, ld0_4 x0 x1, ld0_5 x0 x1, ld0_6 x0 x1, ld0_7 x0 x1, ld0_8 x0 x1, ld0_9 x0 x1, ld0_10 x0 x1, ld0_11 x0 x1, ld0_12 x0 x1, ld0_13 x0 x1, ld0_14 x0 x1, ld0_15 x0 x1, ld0_16 x0 x1, ld0_17 x0 x1, ld0_18 x0 x1, ld0_19 x0 x1, ld0_20 x0 x1, ld0_21 x0 x1, ld0_22 x0 x1, ld0_23 x0 x1, ld0_24 x0 x1, ld0_25 x0 x1, ld0_26 x0 x1, ld0_27 x0 x1, ld0_28 x0 x1, ld0_29 x0 x1, ld1_0 x0 x1, ld1_0 x0 x2, ld1_1 x0 x1, ld1_1 x0 x2, ld1_2 x0 x1, ld1_2 x0 x2, ld1_3 x0 x1, ld1_3 x0 x2, ld3_0 x3, ld3_1 x3, ld3_2 x3, ld3_3 x3, ld3_4 x3, ld3_5 x3, ld3_6 x3, ld3_7 x3, ld3_8 x3, ld3_9 x3, ld3_10 x3, ld3_11 x3, ld3_12 x3, ld3_13 x3, ld3_14 x3, ld3_15 x3, ld3_16 x3, ld3_17 x3, ld3_18 x3, ld3_19 x3, ld3_20 x3, ld3_21 x3, ld3_22 x3, ld3_23 x3, ld3_24 x3, ld3_25 x3, ld3_26 x3, ld3_27 x3, ld3_28 x3, ld3_29 x3, ld3_30 x3]
  unfold outK
  try unfold lnR
  try unfold lnN
  simp only [u_ext x0 x1]
  rfl

theorem piece_1 (b : Fin 32) (d : Fin 512) : (k0_pay30 (k0_pay28 (k0_pay27 (k0_pay26 (k0_pay25 (k0_pay24 (k0_pay23 (k0_pay22 (View.ld x0 r0_2) (View.ld x3 r0_1) (View.ld x0 r0_4) (View.ld x3 r0_3) (View.ld x0 r0_6) (View.ld x3 r0_5) (View.ld x0 r0_8) (View.ld x3 r0_7)) (View.ld x0 r0_10) (View.ld x3 r0_9) (View.ld x0 r0_12) (View.ld x3 r0_11) (View.ld x0 r0_14) (View.ld x3 r0_13) (View.ld x0 r0_16) (View.ld x3 r0_15) (View.ld x0 r0_18) (View.ld x3 r0_17)) (View.ld x0 r0_20) (View.ld x3 r0_19) (View.ld x0 r0_22) (View.ld x3 r0_21) (View.ld x0 r0_24) (View.ld x3 r0_23) (View.ld x0 r0_26) (View.ld x3 r0_25) (View.ld x0 r0_28) (View.ld x3 r0_27)) (View.ld x0 r0_30) (View.ld x3 r0_29) (View.ld x0 r0_32) (View.ld x3 r0_31) (View.ld x0 r0_34) (View.ld x3 r0_33) (View.ld x0 r0_36) (View.ld x3 r0_35) (View.ld x0 r0_38) (View.ld x3 r0_37)) (View.ld x0 r0_40) (View.ld x3 r0_39) (View.ld x0 r0_42) (View.ld x3 r0_41) (View.ld x0 r0_44) (View.ld x3 r0_43) (View.ld x0 r0_46) (View.ld x3 r0_45) (View.ld x0 r0_48) (View.ld x3 r0_47)) (View.ld x0 r0_50) (View.ld x3 r0_49) (View.ld x0 r0_52) (View.ld x3 r0_51) (View.ld x0 r0_54) (View.ld x3 r0_53) (View.ld x0 r0_56) (View.ld x3 r0_55) (View.ld x0 r0_58) (View.ld x3 r0_57)) (View.ld x1 r0_60) (View.ld x3 r0_59) (View.ld x1 r0_63) (View.ld x3 r0_61) (View.ld x4 r0_62) (View.ld x5 r0_62)) (k0_pay29 (View.ld x6 r0_62)) (View.ld x2 r0_63) : FVec Ideal S32x1x512 .f32) (ix3 b 0 d) = outK x0 x1 x2 x3 x4 x5 x6 b 1 d := by
  rw [View.ld_unit_zero zz, View.ld_unit_zero zz, View.ld_unit_zero zz]
  skip
  simp only [pay22_at, pay23_at, pay24_at, pay25_at, pay26_at, pay27_at, pay28_at, pay29_at, pay30_at, ld0_0 x0 x1, ld0_1 x0 x1, ld0_2 x0 x1, ld0_3 x0 x1, ld0_4 x0 x1, ld0_5 x0 x1, ld0_6 x0 x1, ld0_7 x0 x1, ld0_8 x0 x1, ld0_9 x0 x1, ld0_10 x0 x1, ld0_11 x0 x1, ld0_12 x0 x1, ld0_13 x0 x1, ld0_14 x0 x1, ld0_15 x0 x1, ld0_16 x0 x1, ld0_17 x0 x1, ld0_18 x0 x1, ld0_19 x0 x1, ld0_20 x0 x1, ld0_21 x0 x1, ld0_22 x0 x1, ld0_23 x0 x1, ld0_24 x0 x1, ld0_25 x0 x1, ld0_26 x0 x1, ld0_27 x0 x1, ld0_28 x0 x1, ld0_29 x0 x1, ld1_0 x0 x1, ld1_0 x0 x2, ld1_1 x0 x1, ld1_1 x0 x2, ld1_2 x0 x1, ld1_2 x0 x2, ld1_3 x0 x1, ld1_3 x0 x2, ld3_0 x3, ld3_1 x3, ld3_2 x3, ld3_3 x3, ld3_4 x3, ld3_5 x3, ld3_6 x3, ld3_7 x3, ld3_8 x3, ld3_9 x3, ld3_10 x3, ld3_11 x3, ld3_12 x3, ld3_13 x3, ld3_14 x3, ld3_15 x3, ld3_16 x3, ld3_17 x3, ld3_18 x3, ld3_19 x3, ld3_20 x3, ld3_21 x3, ld3_22 x3, ld3_23 x3, ld3_24 x3, ld3_25 x3, ld3_26 x3, ld3_27 x3, ld3_28 x3, ld3_29 x3, ld3_30 x3]
  unfold outK
  try unfold lnR
  try unfold lnN
  simp only [u_ext x0 x1]
  rfl

theorem piece_0 (b : Fin 32) (d : Fin 512) : (k0_pay21 (k0_pay20 (k0_pay17 (k0_pay14 (k0_pay11 (k0_pay8 (k0_pay5 (k0_pay2 (View.ld x0 r0_0) (View.ld x3 r0_1) (View.ld x0 r0_2) (View.ld x3 r0_3) (View.ld x0 r0_4) (View.ld x3 r0_5) (View.ld x0 r0_6) (View.ld x3 r0_7)) (k0_pay3 (View.ld x0 r0_8)) (k0_pay4 (View.ld x3 r0_9)) (View.ld x0 r0_10) (View.ld x3 r0_11) (View.ld x0 r0_12) (View.ld x3 r0_13) (View.ld x0 r0_14) (View.ld x3 r0_15) (View.ld x0 r0_16) (View.ld x3 r0_17)) (k0_pay6 (View.ld x0 r0_18)) (k0_pay7 (View.ld x3 r0_19)) (View.ld x0 r0_20) (View.ld x3 r0_21) (View.ld x0 r0_22) (View.ld x3 r0_23) (View.ld x0 r0_24) (View.ld x3 r0_25) (View.ld x0 r0_26) (View.ld x3 r0_27)) (k0_pay9 (View.ld x0 r0_28)) (k0_pay10 (View.ld x3 r0_29)) (View.ld x0 r0_30) (View.ld x3 r0_31) (View.ld x0 r0_32) (View.ld x3 r0_33) (View.ld x0 r0_34) (View.ld x3 r0_35) (View.ld x0 r0_36) (View.ld x3 r0_37)) (k0_pay12 (View.ld x0 r0_38)) (k0_pay13 (View.ld x3 r0_39)) (View.ld x0 r0_40) (View.ld x3 r0_41) (View.ld x0 r0_42) (View.ld x3 r0_43) (View.ld x0 r0_44) (View.ld x3 r0_45) (View.ld x0 r0_46) (View.ld x3 r0_47)) (k0_pay15 (View.ld x0 r0_48)) (k0_pay16 (View.ld x3 r0_49)) (View.ld x0 r0_50) (View.ld x3 r0_51) (View.ld x0 r0_52) (View.ld x3 r0_53) (View.ld x0 r0_54) (View.ld x3 r0_55) (View.ld x0 r0_56) (View.ld x3 r0_57)) (k0_pay18 (View.ld x0 r0_58)) (k0_pay19 (View.ld x3 r0_59)) (View.ld x1 r0_60) (View.ld x3 r0_61) (View.ld x4 r0_62) (View.ld x5 r0_62) (View.ld x6 r0_62)) (View.ld x2 r0_60) : FVec Ideal S32x1x512 .f32) (ix3 b 0 d) = outK x0 x1 x2 x3 x4 x5 x6 b 0 d := by
  rw [View.ld_unit_zero zz, View.ld_unit_zero zz, View.ld_unit_zero zz]
  skip
  simp only [pay2_at, pay3_at, pay4_at, pay5_at, pay6_at, pay7_at, pay8_at, pay9_at, pay10_at, pay11_at, pay12_at, pay13_at, pay14_at, pay15_at, pay16_at, pay17_at, pay18_at, pay19_at, pay20_at, pay21_at, ld0_0 x0 x1, ld0_1 x0 x1, ld0_2 x0 x1, ld0_3 x0 x1, ld0_4 x0 x1, ld0_5 x0 x1, ld0_6 x0 x1, ld0_7 x0 x1, ld0_8 x0 x1, ld0_9 x0 x1, ld0_10 x0 x1, ld0_11 x0 x1, ld0_12 x0 x1, ld0_13 x0 x1, ld0_14 x0 x1, ld0_15 x0 x1, ld0_16 x0 x1, ld0_17 x0 x1, ld0_18 x0 x1, ld0_19 x0 x1, ld0_20 x0 x1, ld0_21 x0 x1, ld0_22 x0 x1, ld0_23 x0 x1, ld0_24 x0 x1, ld0_25 x0 x1, ld0_26 x0 x1, ld0_27 x0 x1, ld0_28 x0 x1, ld0_29 x0 x1, ld1_0 x0 x1, ld1_0 x0 x2, ld1_1 x0 x1, ld1_1 x0 x2, ld1_2 x0 x1, ld1_2 x0 x2, ld1_3 x0 x1, ld1_3 x0 x2, ld3_0 x3, ld3_1 x3, ld3_2 x3, ld3_3 x3, ld3_4 x3, ld3_5 x3, ld3_6 x3, ld3_7 x3, ld3_8 x3, ld3_9 x3, ld3_10 x3, ld3_11 x3, ld3_12 x3, ld3_13 x3, ld3_14 x3, ld3_15 x3, ld3_16 x3, ld3_17 x3, ld3_18 x3, ld3_19 x3, ld3_20 x3, ld3_21 x3, ld3_22 x3, ld3_23 x3, ld3_24 x3, ld3_25 x3, ld3_26 x3, ld3_27 x3, ld3_28 x3, ld3_29 x3, ld3_30 x3]
  unfold outK
  try unfold lnR
  try unfold lnN
  simp only [u_ext x0 x1]
  rfl

/-- The first block. -/
theorem out7_at (b : Fin 32) (t : Fin 4) (d : Fin 512) :
    (out0_7 (F := Ideal) x0 x1 x2 x3 x4 x5 x6 : FVec Ideal S32x4x512 .f32) (ix3 b t d) = outK x0 x1 x2 x3 x4 x5 x6 b t d := by
  unfold out0_7
  refine (View.canon_apply_of_pieces (Val := Elt Ideal) (e := .f32) (S := S32x4x512) (fun i => outK x0 x1 x2 x3 x4 x5 x6 (i 0) (i 1) (i 2)) _ ?_ (ix3 b t d) (cover0_7 _ _ _ _ _))
  intro p hp
  simp only [List.mem_cons, List.not_mem_nil, or_false] at hp
  rcases hp with rfl | rfl | rfl | rfl
  · refine all3 (A := 32) (B := 1) (C := 512) fun b u d => ?_
    rw [one u]
    refine (piece_3 x0 x1 x2 x3 x4 x5 x6 b d).trans ?_
    refine congr (congr (congrArg (outK x0 x1 x2 x3 x4 x5 x6) ?_) ?_) ?_ <;> apply Fin.ext
    · show b.val = 0 + 1 * b.val; omega
    · rfl
    · show d.val = 0 + 1 * d.val; omega
  · refine all3 (A := 32) (B := 1) (C := 512) fun b u d => ?_
    rw [one u]
    refine (piece_2 x0 x1 x2 x3 x4 x5 x6 b d).trans ?_
    refine congr (congr (congrArg (outK x0 x1 x2 x3 x4 x5 x6) ?_) ?_) ?_ <;> apply Fin.ext
    · show b.val = 0 + 1 * b.val; omega
    · rfl
    · show d.val = 0 + 1 * d.val; omega
  · refine all3 (A := 32) (B := 1) (C := 512) fun b u d => ?_
    rw [one u]
    refine (piece_1 x0 x1 x2 x3 x4 x5 x6 b d).trans ?_
    refine congr (congr (congrArg (outK x0 x1 x2 x3 x4 x5 x6) ?_) ?_) ?_ <;> apply Fin.ext
    · show b.val = 0 + 1 * b.val; omega
    · rfl
    · show d.val = 0 + 1 * d.val; omega
  · refine all3 (A := 32) (B := 1) (C := 512) fun b u d => ?_
    rw [one u]
    refine (piece_0 x0 x1 x2 x3 x4 x5 x6 b d).trans ?_
    refine congr (congr (congrArg (outK x0 x1 x2 x3 x4 x5 x6) ?_) ?_) ?_ <;> apply Fin.ext
    · show b.val = 0 + 1 * b.val; omega
    · rfl
    · show d.val = 0 + 1 * d.val; omega

theorem state_29 (b : Fin 32) (d : Fin 512) : (k0_pay1 (k0_pay95 (View.ld x1 r0_65)) : FVec Ideal S1x32x512 .f32) (ix3 0 b d) = ext x0 x1 b d (29 + 4) := by
  unfold k0_pay1 k0_pay95
  generalize hy : (View.ld (Val := Elt Ideal) (e' := .f32) x1 r0_65 : FVec Ideal S32x1x512 .f32) = y
  pointwise
  rw [← hy]
  exact (ld1_3 x0 x1 b d).trans (u_ext x0 x1 3 b d)

theorem state_28 (b : Fin 32) (d : Fin 512) : (k0_pay94 (View.ld x1 r0_64) : FVec Ideal S1x32x512 .f32) (ix3 0 b d) = ext x0 x1 b d (28 + 4) := by
  unfold k0_pay94
  generalize hy : (View.ld (Val := Elt Ideal) (e' := .f32) x1 r0_64 : FVec Ideal S32x1x512 .f32) = y
  pointwise
  rw [← hy]
  exact (ld1_2 x0 x1 b d).trans (u_ext x0 x1 2 b d)

theorem state_27 (b : Fin 32) (d : Fin 512) : (k0_pay93 (View.ld x1 r0_63) : FVec Ideal S1x32x512 .f32) (ix3 0 b d) = ext x0 x1 b d (27 + 4) := by
  unfold k0_pay93
  generalize hy : (View.ld (Val := Elt Ideal) (e' := .f32) x1 r0_63 : FVec Ideal S32x1x512 .f32) = y
  pointwise
  rw [← hy]
  exact (ld1_1 x0 x1 b d).trans (u_ext x0 x1 1 b d)

theorem state_26 (b : Fin 32) (d : Fin 512) : (k0_pay92 (View.ld x1 r0_60) : FVec Ideal S1x32x512 .f32) (ix3 0 b d) = ext x0 x1 b d (26 + 4) := by
  unfold k0_pay92
  generalize hy : (View.ld (Val := Elt Ideal) (e' := .f32) x1 r0_60 : FVec Ideal S32x1x512 .f32) = y
  pointwise
  rw [← hy]
  exact (ld1_0 x0 x1 b d).trans (u_ext x0 x1 0 b d)

theorem state_25 (b : Fin 32) (d : Fin 512) : (k0_pay91 (View.ld x0 r0_58) : FVec Ideal S1x32x512 .f32) (ix3 0 b d) = ext x0 x1 b d (25 + 4) := by
  unfold k0_pay91
  generalize hy : (View.ld (Val := Elt Ideal) (e' := .f32) x0 r0_58 : FVec Ideal S1x32x512 .f32) = y
  pointwise
  rw [← hy]
  exact ld0_29 x0 x1 b d

theorem state_24 (b : Fin 32) (d : Fin 512) : (k0_pay90 (View.ld x0 r0_56) : FVec Ideal S1x32x512 .f32) (ix3 0 b d) = ext x0 x1 b d (24 + 4) := by
  unfold k0_pay90
  generalize hy : (View.ld (Val := Elt Ideal) (e' := .f32) x0 r0_56 : FVec Ideal S1x32x512 .f32) = y
  pointwise
  rw [← hy]
  exact ld0_28 x0 x1 b d

theorem state_23 (b : Fin 32) (d : Fin 512) : (k0_pay89 (View.ld x0 r0_54) : FVec Ideal S1x32x512 .f32) (ix3 0 b d) = ext x0 x1 b d (23 + 4) := by
  unfold k0_pay89
  generalize hy : (View.ld (Val := Elt Ideal) (e' := .f32) x0 r0_54 : FVec Ideal S1x32x512 .f32) = y
  pointwise
  rw [← hy]
  exact ld0_27 x0 x1 b d

theorem state_22 (b : Fin 32) (d : Fin 512) : (k0_pay88 (View.ld x0 r0_52) : FVec Ideal S1x32x512 .f32) (ix3 0 b d) = ext x0 x1 b d (22 + 4) := by
  unfold k0_pay88
  generalize hy : (View.ld (Val := Elt Ideal) (e' := .f32) x0 r0_52 : FVec Ideal S1x32x512 .f32) = y
  pointwise
  rw [← hy]
  exact ld0_26 x0 x1 b d

theorem state_21 (b : Fin 32) (d : Fin 512) : (k0_pay87 (View.ld x0 r0_50) : FVec Ideal S1x32x512 .f32) (ix3 0 b d) = ext x0 x1 b d (21 + 4) := by
  unfold k0_pay87
  generalize hy : (View.ld (Val := Elt Ideal) (e' := .f32) x0 r0_50 : FVec Ideal S1x32x512 .f32) = y
  pointwise
  rw [← hy]
  exact ld0_25 x0 x1 b d

theorem state_20 (b : Fin 32) (d : Fin 512) : (k0_pay86 (View.ld x0 r0_48) : FVec Ideal S1x32x512 .f32) (ix3 0 b d) = ext x0 x1 b d (20 + 4) := by
  unfold k0_pay86
  generalize hy : (View.ld (Val := Elt Ideal) (e' := .f32) x0 r0_48 : FVec Ideal S1x32x512 .f32) = y
  pointwise
  rw [← hy]
  exact ld0_24 x0 x1 b d

theorem state_19 (b : Fin 32) (d : Fin 512) : (k0_pay85 (View.ld x0 r0_46) : FVec Ideal S1x32x512 .f32) (ix3 0 b d) = ext x0 x1 b d (19 + 4) := by
  unfold k0_pay85
  generalize hy : (View.ld (Val := Elt Ideal) (e' := .f32) x0 r0_46 : FVec Ideal S1x32x512 .f32) = y
  pointwise
  rw [← hy]
  exact ld0_23 x0 x1 b d

theorem state_18 (b : Fin 32) (d : Fin 512) : (k0_pay84 (View.ld x0 r0_44) : FVec Ideal S1x32x512 .f32) (ix3 0 b d) = ext x0 x1 b d (18 + 4) := by
  unfold k0_pay84
  generalize hy : (View.ld (Val := Elt Ideal) (e' := .f32) x0 r0_44 : FVec Ideal S1x32x512 .f32) = y
  pointwise
  rw [← hy]
  exact ld0_22 x0 x1 b d

theorem state_17 (b : Fin 32) (d : Fin 512) : (k0_pay83 (View.ld x0 r0_42) : FVec Ideal S1x32x512 .f32) (ix3 0 b d) = ext x0 x1 b d (17 + 4) := by
  unfold k0_pay83
  generalize hy : (View.ld (Val := Elt Ideal) (e' := .f32) x0 r0_42 : FVec Ideal S1x32x512 .f32) = y
  pointwise
  rw [← hy]
  exact ld0_21 x0 x1 b d

theorem state_16 (b : Fin 32) (d : Fin 512) : (k0_pay82 (View.ld x0 r0_40) : FVec Ideal S1x32x512 .f32) (ix3 0 b d) = ext x0 x1 b d (16 + 4) := by
  unfold k0_pay82
  generalize hy : (View.ld (Val := Elt Ideal) (e' := .f32) x0 r0_40 : FVec Ideal S1x32x512 .f32) = y
  pointwise
  rw [← hy]
  exact ld0_20 x0 x1 b d

theorem state_15 (b : Fin 32) (d : Fin 512) : (k0_pay81 (View.ld x0 r0_38) : FVec Ideal S1x32x512 .f32) (ix3 0 b d) = ext x0 x1 b d (15 + 4) := by
  unfold k0_pay81
  generalize hy : (View.ld (Val := Elt Ideal) (e' := .f32) x0 r0_38 : FVec Ideal S1x32x512 .f32) = y
  pointwise
  rw [← hy]
  exact ld0_19 x0 x1 b d

theorem state_14 (b : Fin 32) (d : Fin 512) : (k0_pay80 (View.ld x0 r0_36) : FVec Ideal S1x32x512 .f32) (ix3 0 b d) = ext x0 x1 b d (14 + 4) := by
  unfold k0_pay80
  generalize hy : (View.ld (Val := Elt Ideal) (e' := .f32) x0 r0_36 : FVec Ideal S1x32x512 .f32) = y
  pointwise
  rw [← hy]
  exact ld0_18 x0 x1 b d

theorem state_13 (b : Fin 32) (d : Fin 512) : (k0_pay79 (View.ld x0 r0_34) : FVec Ideal S1x32x512 .f32) (ix3 0 b d) = ext x0 x1 b d (13 + 4) := by
  unfold k0_pay79
  generalize hy : (View.ld (Val := Elt Ideal) (e' := .f32) x0 r0_34 : FVec Ideal S1x32x512 .f32) = y
  pointwise
  rw [← hy]
  exact ld0_17 x0 x1 b d

theorem state_12 (b : Fin 32) (d : Fin 512) : (k0_pay78 (View.ld x0 r0_32) : FVec Ideal S1x32x512 .f32) (ix3 0 b d) = ext x0 x1 b d (12 + 4) := by
  unfold k0_pay78
  generalize hy : (View.ld (Val := Elt Ideal) (e' := .f32) x0 r0_32 : FVec Ideal S1x32x512 .f32) = y
  pointwise
  rw [← hy]
  exact ld0_16 x0 x1 b d

theorem state_11 (b : Fin 32) (d : Fin 512) : (k0_pay77 (View.ld x0 r0_30) : FVec Ideal S1x32x512 .f32) (ix3 0 b d) = ext x0 x1 b d (11 + 4) := by
  unfold k0_pay77
  generalize hy : (View.ld (Val := Elt Ideal) (e' := .f32) x0 r0_30 : FVec Ideal S1x32x512 .f32) = y
  pointwise
  rw [← hy]
  exact ld0_15 x0 x1 b d

theorem state_10 (b : Fin 32) (d : Fin 512) : (k0_pay76 (View.ld x0 r0_28) : FVec Ideal S1x32x512 .f32) (ix3 0 b d) = ext x0 x1 b d (10 + 4) := by
  unfold k0_pay76
  generalize hy : (View.ld (Val := Elt Ideal) (e' := .f32) x0 r0_28 : FVec Ideal S1x32x512 .f32) = y
  pointwise
  rw [← hy]
  exact ld0_14 x0 x1 b d

theorem state_9 (b : Fin 32) (d : Fin 512) : (k0_pay75 (View.ld x0 r0_26) : FVec Ideal S1x32x512 .f32) (ix3 0 b d) = ext x0 x1 b d (9 + 4) := by
  unfold k0_pay75
  generalize hy : (View.ld (Val := Elt Ideal) (e' := .f32) x0 r0_26 : FVec Ideal S1x32x512 .f32) = y
  pointwise
  rw [← hy]
  exact ld0_13 x0 x1 b d

theorem state_8 (b : Fin 32) (d : Fin 512) : (k0_pay74 (View.ld x0 r0_24) : FVec Ideal S1x32x512 .f32) (ix3 0 b d) = ext x0 x1 b d (8 + 4) := by
  unfold k0_pay74
  generalize hy : (View.ld (Val := Elt Ideal) (e' := .f32) x0 r0_24 : FVec Ideal S1x32x512 .f32) = y
  pointwise
  rw [← hy]
  exact ld0_12 x0 x1 b d

theorem state_7 (b : Fin 32) (d : Fin 512) : (k0_pay73 (View.ld x0 r0_22) : FVec Ideal S1x32x512 .f32) (ix3 0 b d) = ext x0 x1 b d (7 + 4) := by
  unfold k0_pay73
  generalize hy : (View.ld (Val := Elt Ideal) (e' := .f32) x0 r0_22 : FVec Ideal S1x32x512 .f32) = y
  pointwise
  rw [← hy]
  exact ld0_11 x0 x1 b d

theorem state_6 (b : Fin 32) (d : Fin 512) : (k0_pay72 (View.ld x0 r0_20) : FVec Ideal S1x32x512 .f32) (ix3 0 b d) = ext x0 x1 b d (6 + 4) := by
  unfold k0_pay72
  generalize hy : (View.ld (Val := Elt Ideal) (e' := .f32) x0 r0_20 : FVec Ideal S1x32x512 .f32) = y
  pointwise
  rw [← hy]
  exact ld0_10 x0 x1 b d

theorem state_5 (b : Fin 32) (d : Fin 512) : (k0_pay71 (View.ld x0 r0_18) : FVec Ideal S1x32x512 .f32) (ix3 0 b d) = ext x0 x1 b d (5 + 4) := by
  unfold k0_pay71
  generalize hy : (View.ld (Val := Elt Ideal) (e' := .f32) x0 r0_18 : FVec Ideal S1x32x512 .f32) = y
  pointwise
  rw [← hy]
  exact ld0_9 x0 x1 b d

theorem state_4 (b : Fin 32) (d : Fin 512) : (k0_pay70 (View.ld x0 r0_16) : FVec Ideal S1x32x512 .f32) (ix3 0 b d) = ext x0 x1 b d (4 + 4) := by
  unfold k0_pay70
  generalize hy : (View.ld (Val := Elt Ideal) (e' := .f32) x0 r0_16 : FVec Ideal S1x32x512 .f32) = y
  pointwise
  rw [← hy]
  exact ld0_8 x0 x1 b d

theorem state_3 (b : Fin 32) (d : Fin 512) : (k0_pay69 (View.ld x0 r0_14) : FVec Ideal S1x32x512 .f32) (ix3 0 b d) = ext x0 x1 b d (3 + 4) := by
  unfold k0_pay69
  generalize hy : (View.ld (Val := Elt Ideal) (e' := .f32) x0 r0_14 : FVec Ideal S1x32x512 .f32) = y
  pointwise
  rw [← hy]
  exact ld0_7 x0 x1 b d

theorem state_2 (b : Fin 32) (d : Fin 512) : (k0_pay68 (View.ld x0 r0_12) : FVec Ideal S1x32x512 .f32) (ix3 0 b d) = ext x0 x1 b d (2 + 4) := by
  unfold k0_pay68
  generalize hy : (View.ld (Val := Elt Ideal) (e' := .f32) x0 r0_12 : FVec Ideal S1x32x512 .f32) = y
  pointwise
  rw [← hy]
  exact ld0_6 x0 x1 b d

theorem state_1 (b : Fin 32) (d : Fin 512) : (k0_pay67 (View.ld x0 r0_10) : FVec Ideal S1x32x512 .f32) (ix3 0 b d) = ext x0 x1 b d (1 + 4) := by
  unfold k0_pay67
  generalize hy : (View.ld (Val := Elt Ideal) (e' := .f32) x0 r0_10 : FVec Ideal S1x32x512 .f32) = y
  pointwise
  rw [← hy]
  exact ld0_5 x0 x1 b d

theorem state_0 (b : Fin 32) (d : Fin 512) : (k0_pay66 (View.ld x0 r0_8) : FVec Ideal S1x32x512 .f32) (ix3 0 b d) = ext x0 x1 b d (0 + 4) := by
  unfold k0_pay66
  generalize hy : (View.ld (Val := Elt Ideal) (e' := .f32) x0 r0_8 : FVec Ideal S1x32x512 .f32) = y
  pointwise
  rw [← hy]
  exact ld0_4 x0 x1 b d

/-- The second block. -/
theorem out8_at (k : Fin 30) (b : Fin 32) (d : Fin 512) :
    (out0_8 (F := Ideal) x0 x1 x2 x3 x4 x5 x6 : FVec Ideal S30x32x512 .f32) (ix3 k b d) = ext x0 x1 b d (k.val + 4) := by
  unfold out0_8
  refine (View.canon_apply_of_pieces (Val := Elt Ideal) (e := .f32) (S := S30x32x512) (fun i => ext x0 x1 (i 1) (i 2) ((i 0).val + 4)) _ ?_ (ix3 k b d) (cover0_8 _ _ _ _ _ _ _ _ _ _ _ _ _ _ _ _ _ _ _ _ _ _ _ _ _ _ _ _ _ _ _))
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
  · refine all3 (A := 1) (B := 32) (C := 512) fun u b d => ?_
    rw [one u]
    refine (state_29 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_28 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_27 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_26 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_25 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_24 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_23 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_22 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_21 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_20 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_19 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_18 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_17 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_16 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_15 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_14 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_13 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_12 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_11 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_10 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_9 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_8 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_7 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_6 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_5 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_4 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_3 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_2 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_1 x0 x1 b d).trans ?_
    refine congr (congr (congrArg (ext x0 x1) (Fin.ext ?_)) (Fin.ext ?_)) rfl
    · show b.val = 0 + 1 * b.val; omega
    · show d.val = 0 + 1 * d.val; omega
  · refine all3 (A := 1) (B := 32) (C := 512) fun u b d => ?_
    rw [one u]
    refine (state_0 x0 x1 b d).trans ?_
    refine congr (congr (congrArg (ext x0 x1) (Fin.ext ?_)) (Fin.ext ?_)) rfl
    · show b.val = 0 + 1 * b.val; omega
    · show d.val = 0 + 1 * d.val; omega

end Cert.Kernel5Ideal.Conv
end
-- ==== Proof.P5Ref.lean ====
module

public import proofs.«01_k».proof.Proof.P5Body
public import proofs.«01_k».proof.Proof.Gen.Reference5Ideal.Read

/-! The reference of the samples' convolution over the extended reals, read at one entry. -/

@[expose] public section

set_option maxRecDepth 16384

noncomputable section

namespace Cert.Reference5Ideal.Conv

open Cert.Reference5Ideal Cert.Reference5Ideal.Gen Cert.Reference5Ideal.Read
open Cert.Kernel2Ideal.Proj (siluf)
open Cert.Kernel5Ideal.Conv (conv lnC lnV lnN lnR all3)
open Idealize.ShloMosaic Idealize.ShloMosaic.TcCoe Idealize.ShloMosaic.Pointwise

variable (x0 : FVec Ideal S1x128x30x512 .f32) (x1 x2 : FVec Ideal S512x512 .f32) (x3 : FVec Ideal S1x31x512 .f32) (x4 x5 x6 : FVec Ideal S1x512 .f32)

/-- The row of the flattened arrays that is position `t` of sequence `b`. -/
def rowOf (b : Fin 128) (t : Fin 4) : Fin 512 := ⟨b.val * 4 + t.val, by omega⟩

/-- A sequence's held rows followed by its new ones. -/
def extR (b : Fin 128) (d : Fin 512) (n : ℕ) : EReal :=
  if h : n < 30 then x0 (ix4 0 b ⟨n, h⟩ d) else if h : n - 30 < 4 then x1 (ix2 (rowOf b ⟨n - 30, h⟩) d) else 0

/-- A column's taps. -/
def wtR (d : Fin 512) (n : ℕ) : EReal := if h : n < 31 then x3 (ix3 0 ⟨n, h⟩ d) else 0

/-- The convolution of one sequence at one new position, with its offset. -/
def rowR (b : Fin 128) (t : ℕ) (d : Fin 512) : EReal := conv (fun j => extR x0 x1 b d (t + j)) (wtR x3 d) + x4 (ix2 0 d)

/-- The result at one entry. -/
def outR (b : Fin 128) (t : Fin 4) (d : Fin 512) : EReal :=
  siluf (lnR (rowR x0 x1 x3 x4 b t.val) (fun d => x5 (ix2 0 d)) (fun d => x6 (ix2 0 d)) d) * x2 (ix2 (rowOf b t) d)

theorem v0_at (b : Fin 128) (t : Fin 4) (d : Fin 512) : val_main_v0 (F := Ideal) x1 (ix3 b t d) = x1 (ix2 (rowOf b t) d) := by
  unfold val_main_v0
  pointwise
  rfl

theorem v1_at (b : Fin 128) (t : Fin 4) (d : Fin 512) : val_main_v1 (F := Ideal) x2 (ix3 b t d) = x2 (ix2 (rowOf b t) d) := by
  unfold val_main_v1
  pointwise
  rfl

theorem v2_at (b : Fin 128) (t : Fin 30) (d : Fin 512) : val_main_v2 (F := Ideal) x0 (ix3 b t d) = x0 (ix4 0 b t d) := by
  unfold val_main_v2
  pointwise

theorem v3_at (b : Fin 128) (n : Fin 34) (d : Fin 512) : val_main_v3 (F := Ideal) x0 x1 (ix3 b n d) = extR x0 x1 b d n.val := by
  obtain ⟨n, hn⟩ := n
  show _ = extR x0 x1 b d n
  unfold extR
  by_cases h : n < 30
  · rw [dif_pos h]
    refine Eq.trans ?_ (v2_at x0 b ⟨n, h⟩ d)
    unfold val_main_v3
    generalize val_main_v2 (F := Ideal) x0 = y
    generalize val_main_v0 (F := Ideal) x1 = z
    pointwise
    try rw [dif_pos h]
    try rfl
  · rw [dif_neg h, dif_pos (show n - 30 < 4 by omega)]
    refine Eq.trans ?_ (v0_at x1 b ⟨n - 30, by omega⟩ d)
    unfold val_main_v3
    generalize val_main_v2 (F := Ideal) x0 = y
    generalize val_main_v0 (F := Ideal) x1 = z
    pointwise
    try rw [dif_neg h]
    try rfl

theorem v3_any (i : S128x34x512.Idx) : val_main_v3 (F := Ideal) x0 x1 i = extR x0 x1 (i 0) (i 2) (i 1).val :=
  all3 (P := fun i => val_main_v3 (F := Ideal) x0 x1 i = extR x0 x1 (i 0) (i 2) (i 1).val) (fun b n d => v3_at x0 x1 b n d) i

theorem s0 (b : Fin 128) (t : Fin 4) (d : Fin 512) : val_main_v4 (F := Ideal) x0 x1 (ix3 b t d) = extR x0 x1 b d (t.val + 0) :=
  (val_main_v4_apply (F := Ideal) x0 x1 (ix3 b t d)).trans ((v3_any x0 x1 (idx_main_v4 (ix3 b t d))).trans (congrArg (extR x0 x1 b d) (show t.val = t.val + 0 by omega)))

theorem w0 (b : Fin 128) (t : Fin 4) (d : Fin 512) : val_main_v8 (F := Ideal) x3 (ix3 b t d) = wtR x3 d 0 := by
  refine Eq.trans (b := x3 (ix3 0 ⟨0, by omega⟩ d)) ?_ rfl
  unfold val_main_v8 val_main_v7 val_main_v6 val_main_v5
  pointwise

theorem s1 (b : Fin 128) (t : Fin 4) (d : Fin 512) : val_main_v12 (F := Ideal) x0 x1 (ix3 b t d) = extR x0 x1 b d (t.val + 1) :=
  (val_main_v12_apply (F := Ideal) x0 x1 (ix3 b t d)).trans ((v3_any x0 x1 (idx_main_v12 (ix3 b t d))).trans (congrArg (extR x0 x1 b d) (show 1 + t.val = t.val + 1 by omega)))

theorem w1 (b : Fin 128) (t : Fin 4) (d : Fin 512) : val_main_v16 (F := Ideal) x3 (ix3 b t d) = wtR x3 d 1 := by
  refine Eq.trans (b := x3 (ix3 0 ⟨1, by omega⟩ d)) ?_ rfl
  unfold val_main_v16 val_main_v15 val_main_v14 val_main_v13
  pointwise

theorem s2 (b : Fin 128) (t : Fin 4) (d : Fin 512) : val_main_v19 (F := Ideal) x0 x1 (ix3 b t d) = extR x0 x1 b d (t.val + 2) :=
  (val_main_v19_apply (F := Ideal) x0 x1 (ix3 b t d)).trans ((v3_any x0 x1 (idx_main_v19 (ix3 b t d))).trans (congrArg (extR x0 x1 b d) (show 2 + t.val = t.val + 2 by omega)))

theorem w2 (b : Fin 128) (t : Fin 4) (d : Fin 512) : val_main_v23 (F := Ideal) x3 (ix3 b t d) = wtR x3 d 2 := by
  refine Eq.trans (b := x3 (ix3 0 ⟨2, by omega⟩ d)) ?_ rfl
  unfold val_main_v23 val_main_v22 val_main_v21 val_main_v20
  pointwise

theorem s3 (b : Fin 128) (t : Fin 4) (d : Fin 512) : val_main_v26 (F := Ideal) x0 x1 (ix3 b t d) = extR x0 x1 b d (t.val + 3) :=
  (val_main_v26_apply (F := Ideal) x0 x1 (ix3 b t d)).trans ((v3_any x0 x1 (idx_main_v26 (ix3 b t d))).trans (congrArg (extR x0 x1 b d) (show 3 + t.val = t.val + 3 by omega)))

theorem w3 (b : Fin 128) (t : Fin 4) (d : Fin 512) : val_main_v30 (F := Ideal) x3 (ix3 b t d) = wtR x3 d 3 := by
  refine Eq.trans (b := x3 (ix3 0 ⟨3, by omega⟩ d)) ?_ rfl
  unfold val_main_v30 val_main_v29 val_main_v28 val_main_v27
  pointwise

theorem s4 (b : Fin 128) (t : Fin 4) (d : Fin 512) : val_main_v33 (F := Ideal) x0 x1 (ix3 b t d) = extR x0 x1 b d (t.val + 4) :=
  (val_main_v33_apply (F := Ideal) x0 x1 (ix3 b t d)).trans ((v3_any x0 x1 (idx_main_v33 (ix3 b t d))).trans (congrArg (extR x0 x1 b d) (show 4 + t.val = t.val + 4 by omega)))

theorem w4 (b : Fin 128) (t : Fin 4) (d : Fin 512) : val_main_v37 (F := Ideal) x3 (ix3 b t d) = wtR x3 d 4 := by
  refine Eq.trans (b := x3 (ix3 0 ⟨4, by omega⟩ d)) ?_ rfl
  unfold val_main_v37 val_main_v36 val_main_v35 val_main_v34
  pointwise

theorem s5 (b : Fin 128) (t : Fin 4) (d : Fin 512) : val_main_v40 (F := Ideal) x0 x1 (ix3 b t d) = extR x0 x1 b d (t.val + 5) :=
  (val_main_v40_apply (F := Ideal) x0 x1 (ix3 b t d)).trans ((v3_any x0 x1 (idx_main_v40 (ix3 b t d))).trans (congrArg (extR x0 x1 b d) (show 5 + t.val = t.val + 5 by omega)))

theorem w5 (b : Fin 128) (t : Fin 4) (d : Fin 512) : val_main_v44 (F := Ideal) x3 (ix3 b t d) = wtR x3 d 5 := by
  refine Eq.trans (b := x3 (ix3 0 ⟨5, by omega⟩ d)) ?_ rfl
  unfold val_main_v44 val_main_v43 val_main_v42 val_main_v41
  pointwise

theorem s6 (b : Fin 128) (t : Fin 4) (d : Fin 512) : val_main_v47 (F := Ideal) x0 x1 (ix3 b t d) = extR x0 x1 b d (t.val + 6) :=
  (val_main_v47_apply (F := Ideal) x0 x1 (ix3 b t d)).trans ((v3_any x0 x1 (idx_main_v47 (ix3 b t d))).trans (congrArg (extR x0 x1 b d) (show 6 + t.val = t.val + 6 by omega)))

theorem w6 (b : Fin 128) (t : Fin 4) (d : Fin 512) : val_main_v51 (F := Ideal) x3 (ix3 b t d) = wtR x3 d 6 := by
  refine Eq.trans (b := x3 (ix3 0 ⟨6, by omega⟩ d)) ?_ rfl
  unfold val_main_v51 val_main_v50 val_main_v49 val_main_v48
  pointwise

theorem s7 (b : Fin 128) (t : Fin 4) (d : Fin 512) : val_main_v54 (F := Ideal) x0 x1 (ix3 b t d) = extR x0 x1 b d (t.val + 7) :=
  (val_main_v54_apply (F := Ideal) x0 x1 (ix3 b t d)).trans ((v3_any x0 x1 (idx_main_v54 (ix3 b t d))).trans (congrArg (extR x0 x1 b d) (show 7 + t.val = t.val + 7 by omega)))

theorem w7 (b : Fin 128) (t : Fin 4) (d : Fin 512) : val_main_v58 (F := Ideal) x3 (ix3 b t d) = wtR x3 d 7 := by
  refine Eq.trans (b := x3 (ix3 0 ⟨7, by omega⟩ d)) ?_ rfl
  unfold val_main_v58 val_main_v57 val_main_v56 val_main_v55
  pointwise

theorem s8 (b : Fin 128) (t : Fin 4) (d : Fin 512) : val_main_v61 (F := Ideal) x0 x1 (ix3 b t d) = extR x0 x1 b d (t.val + 8) :=
  (val_main_v61_apply (F := Ideal) x0 x1 (ix3 b t d)).trans ((v3_any x0 x1 (idx_main_v61 (ix3 b t d))).trans (congrArg (extR x0 x1 b d) (show 8 + t.val = t.val + 8 by omega)))

theorem w8 (b : Fin 128) (t : Fin 4) (d : Fin 512) : val_main_v65 (F := Ideal) x3 (ix3 b t d) = wtR x3 d 8 := by
  refine Eq.trans (b := x3 (ix3 0 ⟨8, by omega⟩ d)) ?_ rfl
  unfold val_main_v65 val_main_v64 val_main_v63 val_main_v62
  pointwise

theorem s9 (b : Fin 128) (t : Fin 4) (d : Fin 512) : val_main_v68 (F := Ideal) x0 x1 (ix3 b t d) = extR x0 x1 b d (t.val + 9) :=
  (val_main_v68_apply (F := Ideal) x0 x1 (ix3 b t d)).trans ((v3_any x0 x1 (idx_main_v68 (ix3 b t d))).trans (congrArg (extR x0 x1 b d) (show 9 + t.val = t.val + 9 by omega)))

theorem w9 (b : Fin 128) (t : Fin 4) (d : Fin 512) : val_main_v72 (F := Ideal) x3 (ix3 b t d) = wtR x3 d 9 := by
  refine Eq.trans (b := x3 (ix3 0 ⟨9, by omega⟩ d)) ?_ rfl
  unfold val_main_v72 val_main_v71 val_main_v70 val_main_v69
  pointwise

theorem s10 (b : Fin 128) (t : Fin 4) (d : Fin 512) : val_main_v75 (F := Ideal) x0 x1 (ix3 b t d) = extR x0 x1 b d (t.val + 10) :=
  (val_main_v75_apply (F := Ideal) x0 x1 (ix3 b t d)).trans ((v3_any x0 x1 (idx_main_v75 (ix3 b t d))).trans (congrArg (extR x0 x1 b d) (show 10 + t.val = t.val + 10 by omega)))

theorem w10 (b : Fin 128) (t : Fin 4) (d : Fin 512) : val_main_v79 (F := Ideal) x3 (ix3 b t d) = wtR x3 d 10 := by
  refine Eq.trans (b := x3 (ix3 0 ⟨10, by omega⟩ d)) ?_ rfl
  unfold val_main_v79 val_main_v78 val_main_v77 val_main_v76
  pointwise

theorem s11 (b : Fin 128) (t : Fin 4) (d : Fin 512) : val_main_v82 (F := Ideal) x0 x1 (ix3 b t d) = extR x0 x1 b d (t.val + 11) :=
  (val_main_v82_apply (F := Ideal) x0 x1 (ix3 b t d)).trans ((v3_any x0 x1 (idx_main_v82 (ix3 b t d))).trans (congrArg (extR x0 x1 b d) (show 11 + t.val = t.val + 11 by omega)))

theorem w11 (b : Fin 128) (t : Fin 4) (d : Fin 512) : val_main_v86 (F := Ideal) x3 (ix3 b t d) = wtR x3 d 11 := by
  refine Eq.trans (b := x3 (ix3 0 ⟨11, by omega⟩ d)) ?_ rfl
  unfold val_main_v86 val_main_v85 val_main_v84 val_main_v83
  pointwise

theorem s12 (b : Fin 128) (t : Fin 4) (d : Fin 512) : val_main_v89 (F := Ideal) x0 x1 (ix3 b t d) = extR x0 x1 b d (t.val + 12) :=
  (val_main_v89_apply (F := Ideal) x0 x1 (ix3 b t d)).trans ((v3_any x0 x1 (idx_main_v89 (ix3 b t d))).trans (congrArg (extR x0 x1 b d) (show 12 + t.val = t.val + 12 by omega)))

theorem w12 (b : Fin 128) (t : Fin 4) (d : Fin 512) : val_main_v93 (F := Ideal) x3 (ix3 b t d) = wtR x3 d 12 := by
  refine Eq.trans (b := x3 (ix3 0 ⟨12, by omega⟩ d)) ?_ rfl
  unfold val_main_v93 val_main_v92 val_main_v91 val_main_v90
  pointwise

theorem s13 (b : Fin 128) (t : Fin 4) (d : Fin 512) : val_main_v96 (F := Ideal) x0 x1 (ix3 b t d) = extR x0 x1 b d (t.val + 13) :=
  (val_main_v96_apply (F := Ideal) x0 x1 (ix3 b t d)).trans ((v3_any x0 x1 (idx_main_v96 (ix3 b t d))).trans (congrArg (extR x0 x1 b d) (show 13 + t.val = t.val + 13 by omega)))

theorem w13 (b : Fin 128) (t : Fin 4) (d : Fin 512) : val_main_v100 (F := Ideal) x3 (ix3 b t d) = wtR x3 d 13 := by
  refine Eq.trans (b := x3 (ix3 0 ⟨13, by omega⟩ d)) ?_ rfl
  unfold val_main_v100 val_main_v99 val_main_v98 val_main_v97
  pointwise

theorem s14 (b : Fin 128) (t : Fin 4) (d : Fin 512) : val_main_v103 (F := Ideal) x0 x1 (ix3 b t d) = extR x0 x1 b d (t.val + 14) :=
  (val_main_v103_apply (F := Ideal) x0 x1 (ix3 b t d)).trans ((v3_any x0 x1 (idx_main_v103 (ix3 b t d))).trans (congrArg (extR x0 x1 b d) (show 14 + t.val = t.val + 14 by omega)))

theorem w14 (b : Fin 128) (t : Fin 4) (d : Fin 512) : val_main_v107 (F := Ideal) x3 (ix3 b t d) = wtR x3 d 14 := by
  refine Eq.trans (b := x3 (ix3 0 ⟨14, by omega⟩ d)) ?_ rfl
  unfold val_main_v107 val_main_v106 val_main_v105 val_main_v104
  pointwise

theorem s15 (b : Fin 128) (t : Fin 4) (d : Fin 512) : val_main_v110 (F := Ideal) x0 x1 (ix3 b t d) = extR x0 x1 b d (t.val + 15) :=
  (val_main_v110_apply (F := Ideal) x0 x1 (ix3 b t d)).trans ((v3_any x0 x1 (idx_main_v110 (ix3 b t d))).trans (congrArg (extR x0 x1 b d) (show 15 + t.val = t.val + 15 by omega)))

theorem w15 (b : Fin 128) (t : Fin 4) (d : Fin 512) : val_main_v114 (F := Ideal) x3 (ix3 b t d) = wtR x3 d 15 := by
  refine Eq.trans (b := x3 (ix3 0 ⟨15, by omega⟩ d)) ?_ rfl
  unfold val_main_v114 val_main_v113 val_main_v112 val_main_v111
  pointwise

theorem s16 (b : Fin 128) (t : Fin 4) (d : Fin 512) : val_main_v117 (F := Ideal) x0 x1 (ix3 b t d) = extR x0 x1 b d (t.val + 16) :=
  (val_main_v117_apply (F := Ideal) x0 x1 (ix3 b t d)).trans ((v3_any x0 x1 (idx_main_v117 (ix3 b t d))).trans (congrArg (extR x0 x1 b d) (show 16 + t.val = t.val + 16 by omega)))

theorem w16 (b : Fin 128) (t : Fin 4) (d : Fin 512) : val_main_v121 (F := Ideal) x3 (ix3 b t d) = wtR x3 d 16 := by
  refine Eq.trans (b := x3 (ix3 0 ⟨16, by omega⟩ d)) ?_ rfl
  unfold val_main_v121 val_main_v120 val_main_v119 val_main_v118
  pointwise

theorem s17 (b : Fin 128) (t : Fin 4) (d : Fin 512) : val_main_v124 (F := Ideal) x0 x1 (ix3 b t d) = extR x0 x1 b d (t.val + 17) :=
  (val_main_v124_apply (F := Ideal) x0 x1 (ix3 b t d)).trans ((v3_any x0 x1 (idx_main_v124 (ix3 b t d))).trans (congrArg (extR x0 x1 b d) (show 17 + t.val = t.val + 17 by omega)))

theorem w17 (b : Fin 128) (t : Fin 4) (d : Fin 512) : val_main_v128 (F := Ideal) x3 (ix3 b t d) = wtR x3 d 17 := by
  refine Eq.trans (b := x3 (ix3 0 ⟨17, by omega⟩ d)) ?_ rfl
  unfold val_main_v128 val_main_v127 val_main_v126 val_main_v125
  pointwise

theorem s18 (b : Fin 128) (t : Fin 4) (d : Fin 512) : val_main_v131 (F := Ideal) x0 x1 (ix3 b t d) = extR x0 x1 b d (t.val + 18) :=
  (val_main_v131_apply (F := Ideal) x0 x1 (ix3 b t d)).trans ((v3_any x0 x1 (idx_main_v131 (ix3 b t d))).trans (congrArg (extR x0 x1 b d) (show 18 + t.val = t.val + 18 by omega)))

theorem w18 (b : Fin 128) (t : Fin 4) (d : Fin 512) : val_main_v135 (F := Ideal) x3 (ix3 b t d) = wtR x3 d 18 := by
  refine Eq.trans (b := x3 (ix3 0 ⟨18, by omega⟩ d)) ?_ rfl
  unfold val_main_v135 val_main_v134 val_main_v133 val_main_v132
  pointwise

theorem s19 (b : Fin 128) (t : Fin 4) (d : Fin 512) : val_main_v138 (F := Ideal) x0 x1 (ix3 b t d) = extR x0 x1 b d (t.val + 19) :=
  (val_main_v138_apply (F := Ideal) x0 x1 (ix3 b t d)).trans ((v3_any x0 x1 (idx_main_v138 (ix3 b t d))).trans (congrArg (extR x0 x1 b d) (show 19 + t.val = t.val + 19 by omega)))

theorem w19 (b : Fin 128) (t : Fin 4) (d : Fin 512) : val_main_v142 (F := Ideal) x3 (ix3 b t d) = wtR x3 d 19 := by
  refine Eq.trans (b := x3 (ix3 0 ⟨19, by omega⟩ d)) ?_ rfl
  unfold val_main_v142 val_main_v141 val_main_v140 val_main_v139
  pointwise

theorem s20 (b : Fin 128) (t : Fin 4) (d : Fin 512) : val_main_v145 (F := Ideal) x0 x1 (ix3 b t d) = extR x0 x1 b d (t.val + 20) :=
  (val_main_v145_apply (F := Ideal) x0 x1 (ix3 b t d)).trans ((v3_any x0 x1 (idx_main_v145 (ix3 b t d))).trans (congrArg (extR x0 x1 b d) (show 20 + t.val = t.val + 20 by omega)))

theorem w20 (b : Fin 128) (t : Fin 4) (d : Fin 512) : val_main_v149 (F := Ideal) x3 (ix3 b t d) = wtR x3 d 20 := by
  refine Eq.trans (b := x3 (ix3 0 ⟨20, by omega⟩ d)) ?_ rfl
  unfold val_main_v149 val_main_v148 val_main_v147 val_main_v146
  pointwise

theorem s21 (b : Fin 128) (t : Fin 4) (d : Fin 512) : val_main_v152 (F := Ideal) x0 x1 (ix3 b t d) = extR x0 x1 b d (t.val + 21) :=
  (val_main_v152_apply (F := Ideal) x0 x1 (ix3 b t d)).trans ((v3_any x0 x1 (idx_main_v152 (ix3 b t d))).trans (congrArg (extR x0 x1 b d) (show 21 + t.val = t.val + 21 by omega)))

theorem w21 (b : Fin 128) (t : Fin 4) (d : Fin 512) : val_main_v156 (F := Ideal) x3 (ix3 b t d) = wtR x3 d 21 := by
  refine Eq.trans (b := x3 (ix3 0 ⟨21, by omega⟩ d)) ?_ rfl
  unfold val_main_v156 val_main_v155 val_main_v154 val_main_v153
  pointwise

theorem s22 (b : Fin 128) (t : Fin 4) (d : Fin 512) : val_main_v159 (F := Ideal) x0 x1 (ix3 b t d) = extR x0 x1 b d (t.val + 22) :=
  (val_main_v159_apply (F := Ideal) x0 x1 (ix3 b t d)).trans ((v3_any x0 x1 (idx_main_v159 (ix3 b t d))).trans (congrArg (extR x0 x1 b d) (show 22 + t.val = t.val + 22 by omega)))

theorem w22 (b : Fin 128) (t : Fin 4) (d : Fin 512) : val_main_v163 (F := Ideal) x3 (ix3 b t d) = wtR x3 d 22 := by
  refine Eq.trans (b := x3 (ix3 0 ⟨22, by omega⟩ d)) ?_ rfl
  unfold val_main_v163 val_main_v162 val_main_v161 val_main_v160
  pointwise

theorem s23 (b : Fin 128) (t : Fin 4) (d : Fin 512) : val_main_v166 (F := Ideal) x0 x1 (ix3 b t d) = extR x0 x1 b d (t.val + 23) :=
  (val_main_v166_apply (F := Ideal) x0 x1 (ix3 b t d)).trans ((v3_any x0 x1 (idx_main_v166 (ix3 b t d))).trans (congrArg (extR x0 x1 b d) (show 23 + t.val = t.val + 23 by omega)))

theorem w23 (b : Fin 128) (t : Fin 4) (d : Fin 512) : val_main_v170 (F := Ideal) x3 (ix3 b t d) = wtR x3 d 23 := by
  refine Eq.trans (b := x3 (ix3 0 ⟨23, by omega⟩ d)) ?_ rfl
  unfold val_main_v170 val_main_v169 val_main_v168 val_main_v167
  pointwise

theorem s24 (b : Fin 128) (t : Fin 4) (d : Fin 512) : val_main_v173 (F := Ideal) x0 x1 (ix3 b t d) = extR x0 x1 b d (t.val + 24) :=
  (val_main_v173_apply (F := Ideal) x0 x1 (ix3 b t d)).trans ((v3_any x0 x1 (idx_main_v173 (ix3 b t d))).trans (congrArg (extR x0 x1 b d) (show 24 + t.val = t.val + 24 by omega)))

theorem w24 (b : Fin 128) (t : Fin 4) (d : Fin 512) : val_main_v177 (F := Ideal) x3 (ix3 b t d) = wtR x3 d 24 := by
  refine Eq.trans (b := x3 (ix3 0 ⟨24, by omega⟩ d)) ?_ rfl
  unfold val_main_v177 val_main_v176 val_main_v175 val_main_v174
  pointwise

theorem s25 (b : Fin 128) (t : Fin 4) (d : Fin 512) : val_main_v180 (F := Ideal) x0 x1 (ix3 b t d) = extR x0 x1 b d (t.val + 25) :=
  (val_main_v180_apply (F := Ideal) x0 x1 (ix3 b t d)).trans ((v3_any x0 x1 (idx_main_v180 (ix3 b t d))).trans (congrArg (extR x0 x1 b d) (show 25 + t.val = t.val + 25 by omega)))

theorem w25 (b : Fin 128) (t : Fin 4) (d : Fin 512) : val_main_v184 (F := Ideal) x3 (ix3 b t d) = wtR x3 d 25 := by
  refine Eq.trans (b := x3 (ix3 0 ⟨25, by omega⟩ d)) ?_ rfl
  unfold val_main_v184 val_main_v183 val_main_v182 val_main_v181
  pointwise

theorem s26 (b : Fin 128) (t : Fin 4) (d : Fin 512) : val_main_v187 (F := Ideal) x0 x1 (ix3 b t d) = extR x0 x1 b d (t.val + 26) :=
  (val_main_v187_apply (F := Ideal) x0 x1 (ix3 b t d)).trans ((v3_any x0 x1 (idx_main_v187 (ix3 b t d))).trans (congrArg (extR x0 x1 b d) (show 26 + t.val = t.val + 26 by omega)))

theorem w26 (b : Fin 128) (t : Fin 4) (d : Fin 512) : val_main_v191 (F := Ideal) x3 (ix3 b t d) = wtR x3 d 26 := by
  refine Eq.trans (b := x3 (ix3 0 ⟨26, by omega⟩ d)) ?_ rfl
  unfold val_main_v191 val_main_v190 val_main_v189 val_main_v188
  pointwise

theorem s27 (b : Fin 128) (t : Fin 4) (d : Fin 512) : val_main_v194 (F := Ideal) x0 x1 (ix3 b t d) = extR x0 x1 b d (t.val + 27) :=
  (val_main_v194_apply (F := Ideal) x0 x1 (ix3 b t d)).trans ((v3_any x0 x1 (idx_main_v194 (ix3 b t d))).trans (congrArg (extR x0 x1 b d) (show 27 + t.val = t.val + 27 by omega)))

theorem w27 (b : Fin 128) (t : Fin 4) (d : Fin 512) : val_main_v198 (F := Ideal) x3 (ix3 b t d) = wtR x3 d 27 := by
  refine Eq.trans (b := x3 (ix3 0 ⟨27, by omega⟩ d)) ?_ rfl
  unfold val_main_v198 val_main_v197 val_main_v196 val_main_v195
  pointwise

theorem s28 (b : Fin 128) (t : Fin 4) (d : Fin 512) : val_main_v201 (F := Ideal) x0 x1 (ix3 b t d) = extR x0 x1 b d (t.val + 28) :=
  (val_main_v201_apply (F := Ideal) x0 x1 (ix3 b t d)).trans ((v3_any x0 x1 (idx_main_v201 (ix3 b t d))).trans (congrArg (extR x0 x1 b d) (show 28 + t.val = t.val + 28 by omega)))

theorem w28 (b : Fin 128) (t : Fin 4) (d : Fin 512) : val_main_v205 (F := Ideal) x3 (ix3 b t d) = wtR x3 d 28 := by
  refine Eq.trans (b := x3 (ix3 0 ⟨28, by omega⟩ d)) ?_ rfl
  unfold val_main_v205 val_main_v204 val_main_v203 val_main_v202
  pointwise

theorem s29 (b : Fin 128) (t : Fin 4) (d : Fin 512) : val_main_v208 (F := Ideal) x0 x1 (ix3 b t d) = extR x0 x1 b d (t.val + 29) :=
  (val_main_v208_apply (F := Ideal) x0 x1 (ix3 b t d)).trans ((v3_any x0 x1 (idx_main_v208 (ix3 b t d))).trans (congrArg (extR x0 x1 b d) (show 29 + t.val = t.val + 29 by omega)))

theorem w29 (b : Fin 128) (t : Fin 4) (d : Fin 512) : val_main_v212 (F := Ideal) x3 (ix3 b t d) = wtR x3 d 29 := by
  refine Eq.trans (b := x3 (ix3 0 ⟨29, by omega⟩ d)) ?_ rfl
  unfold val_main_v212 val_main_v211 val_main_v210 val_main_v209
  pointwise

theorem s30 (b : Fin 128) (t : Fin 4) (d : Fin 512) : val_main_v215 (F := Ideal) x0 x1 (ix3 b t d) = extR x0 x1 b d (t.val + 30) :=
  (val_main_v215_apply (F := Ideal) x0 x1 (ix3 b t d)).trans ((v3_any x0 x1 (idx_main_v215 (ix3 b t d))).trans (congrArg (extR x0 x1 b d) (show 30 + t.val = t.val + 30 by omega)))

theorem w30 (b : Fin 128) (t : Fin 4) (d : Fin 512) : val_main_v219 (F := Ideal) x3 (ix3 b t d) = wtR x3 d 30 := by
  refine Eq.trans (b := x3 (ix3 0 ⟨30, by omega⟩ d)) ?_ rfl
  unfold val_main_v219 val_main_v218 val_main_v217 val_main_v216
  pointwise

theorem bias (b : Fin 128) (t : Fin 4) (d : Fin 512) : val_main_v224 (F := Ideal) x4 (ix3 b t d) = x4 (ix2 0 d) := by
  unfold val_main_v224 val_main_v223 val_main_v222
  pointwise

theorem zero_at (b : Fin 128) (t : Fin 4) (d : Fin 512) : val_main_v10 (F := Ideal) (ix3 b t d) = Ideal.ofBits FTy.f32 0#32 := by
  unfold val_main_v10 val_main_cst
  pointwise

/-- The convolution at one entry. -/
theorem row_at (b : Fin 128) (t : Fin 4) (d : Fin 512) : val_main_v225 (F := Ideal) x0 x1 x3 x4 (ix3 b t d) = rowR x0 x1 x3 x4 b t.val d := by
  have m0 := (val_main_v9_apply (F := Ideal) x0 x1 x3 (ix3 b t d)).trans (congrArg₂ (fun x y : EReal => x * y) (s0 x0 x1 b t d) (w0 x3 b t d))
  have a0 := (val_main_v11_apply (F := Ideal) x0 x1 x3 (ix3 b t d)).trans (congrArg₂ (fun x y : EReal => x + y) (zero_at b t d) m0)
  have m1 := (val_main_v17_apply (F := Ideal) x0 x1 x3 (ix3 b t d)).trans (congrArg₂ (fun x y : EReal => x * y) (s1 x0 x1 b t d) (w1 x3 b t d))
  have a1 := (val_main_v18_apply (F := Ideal) x0 x1 x3 (ix3 b t d)).trans (congrArg₂ (fun x y : EReal => x + y) a0 m1)
  have m2 := (val_main_v24_apply (F := Ideal) x0 x1 x3 (ix3 b t d)).trans (congrArg₂ (fun x y : EReal => x * y) (s2 x0 x1 b t d) (w2 x3 b t d))
  have a2 := (val_main_v25_apply (F := Ideal) x0 x1 x3 (ix3 b t d)).trans (congrArg₂ (fun x y : EReal => x + y) a1 m2)
  have m3 := (val_main_v31_apply (F := Ideal) x0 x1 x3 (ix3 b t d)).trans (congrArg₂ (fun x y : EReal => x * y) (s3 x0 x1 b t d) (w3 x3 b t d))
  have a3 := (val_main_v32_apply (F := Ideal) x0 x1 x3 (ix3 b t d)).trans (congrArg₂ (fun x y : EReal => x + y) a2 m3)
  have m4 := (val_main_v38_apply (F := Ideal) x0 x1 x3 (ix3 b t d)).trans (congrArg₂ (fun x y : EReal => x * y) (s4 x0 x1 b t d) (w4 x3 b t d))
  have a4 := (val_main_v39_apply (F := Ideal) x0 x1 x3 (ix3 b t d)).trans (congrArg₂ (fun x y : EReal => x + y) a3 m4)
  have m5 := (val_main_v45_apply (F := Ideal) x0 x1 x3 (ix3 b t d)).trans (congrArg₂ (fun x y : EReal => x * y) (s5 x0 x1 b t d) (w5 x3 b t d))
  have a5 := (val_main_v46_apply (F := Ideal) x0 x1 x3 (ix3 b t d)).trans (congrArg₂ (fun x y : EReal => x + y) a4 m5)
  have m6 := (val_main_v52_apply (F := Ideal) x0 x1 x3 (ix3 b t d)).trans (congrArg₂ (fun x y : EReal => x * y) (s6 x0 x1 b t d) (w6 x3 b t d))
  have a6 := (val_main_v53_apply (F := Ideal) x0 x1 x3 (ix3 b t d)).trans (congrArg₂ (fun x y : EReal => x + y) a5 m6)
  have m7 := (val_main_v59_apply (F := Ideal) x0 x1 x3 (ix3 b t d)).trans (congrArg₂ (fun x y : EReal => x * y) (s7 x0 x1 b t d) (w7 x3 b t d))
  have a7 := (val_main_v60_apply (F := Ideal) x0 x1 x3 (ix3 b t d)).trans (congrArg₂ (fun x y : EReal => x + y) a6 m7)
  have m8 := (val_main_v66_apply (F := Ideal) x0 x1 x3 (ix3 b t d)).trans (congrArg₂ (fun x y : EReal => x * y) (s8 x0 x1 b t d) (w8 x3 b t d))
  have a8 := (val_main_v67_apply (F := Ideal) x0 x1 x3 (ix3 b t d)).trans (congrArg₂ (fun x y : EReal => x + y) a7 m8)
  have m9 := (val_main_v73_apply (F := Ideal) x0 x1 x3 (ix3 b t d)).trans (congrArg₂ (fun x y : EReal => x * y) (s9 x0 x1 b t d) (w9 x3 b t d))
  have a9 := (val_main_v74_apply (F := Ideal) x0 x1 x3 (ix3 b t d)).trans (congrArg₂ (fun x y : EReal => x + y) a8 m9)
  have m10 := (val_main_v80_apply (F := Ideal) x0 x1 x3 (ix3 b t d)).trans (congrArg₂ (fun x y : EReal => x * y) (s10 x0 x1 b t d) (w10 x3 b t d))
  have a10 := (val_main_v81_apply (F := Ideal) x0 x1 x3 (ix3 b t d)).trans (congrArg₂ (fun x y : EReal => x + y) a9 m10)
  have m11 := (val_main_v87_apply (F := Ideal) x0 x1 x3 (ix3 b t d)).trans (congrArg₂ (fun x y : EReal => x * y) (s11 x0 x1 b t d) (w11 x3 b t d))
  have a11 := (val_main_v88_apply (F := Ideal) x0 x1 x3 (ix3 b t d)).trans (congrArg₂ (fun x y : EReal => x + y) a10 m11)
  have m12 := (val_main_v94_apply (F := Ideal) x0 x1 x3 (ix3 b t d)).trans (congrArg₂ (fun x y : EReal => x * y) (s12 x0 x1 b t d) (w12 x3 b t d))
  have a12 := (val_main_v95_apply (F := Ideal) x0 x1 x3 (ix3 b t d)).trans (congrArg₂ (fun x y : EReal => x + y) a11 m12)
  have m13 := (val_main_v101_apply (F := Ideal) x0 x1 x3 (ix3 b t d)).trans (congrArg₂ (fun x y : EReal => x * y) (s13 x0 x1 b t d) (w13 x3 b t d))
  have a13 := (val_main_v102_apply (F := Ideal) x0 x1 x3 (ix3 b t d)).trans (congrArg₂ (fun x y : EReal => x + y) a12 m13)
  have m14 := (val_main_v108_apply (F := Ideal) x0 x1 x3 (ix3 b t d)).trans (congrArg₂ (fun x y : EReal => x * y) (s14 x0 x1 b t d) (w14 x3 b t d))
  have a14 := (val_main_v109_apply (F := Ideal) x0 x1 x3 (ix3 b t d)).trans (congrArg₂ (fun x y : EReal => x + y) a13 m14)
  have m15 := (val_main_v115_apply (F := Ideal) x0 x1 x3 (ix3 b t d)).trans (congrArg₂ (fun x y : EReal => x * y) (s15 x0 x1 b t d) (w15 x3 b t d))
  have a15 := (val_main_v116_apply (F := Ideal) x0 x1 x3 (ix3 b t d)).trans (congrArg₂ (fun x y : EReal => x + y) a14 m15)
  have m16 := (val_main_v122_apply (F := Ideal) x0 x1 x3 (ix3 b t d)).trans (congrArg₂ (fun x y : EReal => x * y) (s16 x0 x1 b t d) (w16 x3 b t d))
  have a16 := (val_main_v123_apply (F := Ideal) x0 x1 x3 (ix3 b t d)).trans (congrArg₂ (fun x y : EReal => x + y) a15 m16)
  have m17 := (val_main_v129_apply (F := Ideal) x0 x1 x3 (ix3 b t d)).trans (congrArg₂ (fun x y : EReal => x * y) (s17 x0 x1 b t d) (w17 x3 b t d))
  have a17 := (val_main_v130_apply (F := Ideal) x0 x1 x3 (ix3 b t d)).trans (congrArg₂ (fun x y : EReal => x + y) a16 m17)
  have m18 := (val_main_v136_apply (F := Ideal) x0 x1 x3 (ix3 b t d)).trans (congrArg₂ (fun x y : EReal => x * y) (s18 x0 x1 b t d) (w18 x3 b t d))
  have a18 := (val_main_v137_apply (F := Ideal) x0 x1 x3 (ix3 b t d)).trans (congrArg₂ (fun x y : EReal => x + y) a17 m18)
  have m19 := (val_main_v143_apply (F := Ideal) x0 x1 x3 (ix3 b t d)).trans (congrArg₂ (fun x y : EReal => x * y) (s19 x0 x1 b t d) (w19 x3 b t d))
  have a19 := (val_main_v144_apply (F := Ideal) x0 x1 x3 (ix3 b t d)).trans (congrArg₂ (fun x y : EReal => x + y) a18 m19)
  have m20 := (val_main_v150_apply (F := Ideal) x0 x1 x3 (ix3 b t d)).trans (congrArg₂ (fun x y : EReal => x * y) (s20 x0 x1 b t d) (w20 x3 b t d))
  have a20 := (val_main_v151_apply (F := Ideal) x0 x1 x3 (ix3 b t d)).trans (congrArg₂ (fun x y : EReal => x + y) a19 m20)
  have m21 := (val_main_v157_apply (F := Ideal) x0 x1 x3 (ix3 b t d)).trans (congrArg₂ (fun x y : EReal => x * y) (s21 x0 x1 b t d) (w21 x3 b t d))
  have a21 := (val_main_v158_apply (F := Ideal) x0 x1 x3 (ix3 b t d)).trans (congrArg₂ (fun x y : EReal => x + y) a20 m21)
  have m22 := (val_main_v164_apply (F := Ideal) x0 x1 x3 (ix3 b t d)).trans (congrArg₂ (fun x y : EReal => x * y) (s22 x0 x1 b t d) (w22 x3 b t d))
  have a22 := (val_main_v165_apply (F := Ideal) x0 x1 x3 (ix3 b t d)).trans (congrArg₂ (fun x y : EReal => x + y) a21 m22)
  have m23 := (val_main_v171_apply (F := Ideal) x0 x1 x3 (ix3 b t d)).trans (congrArg₂ (fun x y : EReal => x * y) (s23 x0 x1 b t d) (w23 x3 b t d))
  have a23 := (val_main_v172_apply (F := Ideal) x0 x1 x3 (ix3 b t d)).trans (congrArg₂ (fun x y : EReal => x + y) a22 m23)
  have m24 := (val_main_v178_apply (F := Ideal) x0 x1 x3 (ix3 b t d)).trans (congrArg₂ (fun x y : EReal => x * y) (s24 x0 x1 b t d) (w24 x3 b t d))
  have a24 := (val_main_v179_apply (F := Ideal) x0 x1 x3 (ix3 b t d)).trans (congrArg₂ (fun x y : EReal => x + y) a23 m24)
  have m25 := (val_main_v185_apply (F := Ideal) x0 x1 x3 (ix3 b t d)).trans (congrArg₂ (fun x y : EReal => x * y) (s25 x0 x1 b t d) (w25 x3 b t d))
  have a25 := (val_main_v186_apply (F := Ideal) x0 x1 x3 (ix3 b t d)).trans (congrArg₂ (fun x y : EReal => x + y) a24 m25)
  have m26 := (val_main_v192_apply (F := Ideal) x0 x1 x3 (ix3 b t d)).trans (congrArg₂ (fun x y : EReal => x * y) (s26 x0 x1 b t d) (w26 x3 b t d))
  have a26 := (val_main_v193_apply (F := Ideal) x0 x1 x3 (ix3 b t d)).trans (congrArg₂ (fun x y : EReal => x + y) a25 m26)
  have m27 := (val_main_v199_apply (F := Ideal) x0 x1 x3 (ix3 b t d)).trans (congrArg₂ (fun x y : EReal => x * y) (s27 x0 x1 b t d) (w27 x3 b t d))
  have a27 := (val_main_v200_apply (F := Ideal) x0 x1 x3 (ix3 b t d)).trans (congrArg₂ (fun x y : EReal => x + y) a26 m27)
  have m28 := (val_main_v206_apply (F := Ideal) x0 x1 x3 (ix3 b t d)).trans (congrArg₂ (fun x y : EReal => x * y) (s28 x0 x1 b t d) (w28 x3 b t d))
  have a28 := (val_main_v207_apply (F := Ideal) x0 x1 x3 (ix3 b t d)).trans (congrArg₂ (fun x y : EReal => x + y) a27 m28)
  have m29 := (val_main_v213_apply (F := Ideal) x0 x1 x3 (ix3 b t d)).trans (congrArg₂ (fun x y : EReal => x * y) (s29 x0 x1 b t d) (w29 x3 b t d))
  have a29 := (val_main_v214_apply (F := Ideal) x0 x1 x3 (ix3 b t d)).trans (congrArg₂ (fun x y : EReal => x + y) a28 m29)
  have m30 := (val_main_v220_apply (F := Ideal) x0 x1 x3 (ix3 b t d)).trans (congrArg₂ (fun x y : EReal => x * y) (s30 x0 x1 b t d) (w30 x3 b t d))
  have a30 := (val_main_v221_apply (F := Ideal) x0 x1 x3 (ix3 b t d)).trans (congrArg₂ (fun x y : EReal => x + y) a29 m30)
  exact (val_main_v225_apply (F := Ideal) x0 x1 x3 x4 (ix3 b t d)).trans (congrArg₂ (fun x y : EReal => x + y) a30 (bias x4 b t d))

theorem ln_at (b : Fin 128) (t : Fin 4) (d : Fin 512) : val_main_v251 (F := Ideal) x0 x1 x3 x4 x5 x6 (ix3 b t d)
    = lnR (fun d => val_main_v225 (F := Ideal) x0 x1 x3 x4 (ix3 b t d)) (fun d => x5 (ix2 0 d)) (fun d => x6 (ix2 0 d)) d := by
  unfold val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227 val_main_v226 val_main_cst_0 val_main_cst_1 val_main_cst_2 val_main_cst_3 val_main_cst_4
  generalize val_main_v225 (F := Ideal) x0 x1 x3 x4 = y
  unfold lnR lnN lnV lnC
  pointwise

/-- The reference's result at one entry. -/
theorem v253_at (b : Fin 128) (t : Fin 4) (d : Fin 512) : val_main_v253 (F := Ideal) x0 x1 x2 x3 x4 x5 x6 (ix3 b t d) = outR x0 x1 x2 x3 x4 x5 x6 b t d := by
  refine Eq.trans (b := siluf (val_main_v251 (F := Ideal) x0 x1 x3 x4 x5 x6 (ix3 b t d)) * val_main_v1 (F := Ideal) x2 (ix3 b t d)) ?_ ?_
  · unfold val_main_v253 val_main_v252 val_main_call0_v5 val_main_call0_v4 val_main_call0_cst_0 val_main_call0_v3 val_main_call0_v2 val_main_call0_cst val_main_call0_v1 val_main_call0_v0
    generalize val_main_v251 (F := Ideal) x0 x1 x3 x4 x5 x6 = y
    generalize val_main_v1 (F := Ideal) x2 = z
    unfold siluf Ideal.logistic
    pointwise
  · rw [ln_at, v1_at]
    unfold outR
    simp only [row_at]

/-- The reference's state at one entry. -/
theorem v255_at (k : Fin 30) (b : Fin 128) (d : Fin 512) : val_main_v255 (F := Ideal) x0 x1 (ix3 k b d) = extR x0 x1 b d (k.val + 4) :=
  (val_main_v255_apply (F := Ideal) x0 x1 (ix3 k b d)).trans ((val_main_v254_apply (F := Ideal) x0 x1 _).trans ((v3_any x0 x1 _).trans (congrArg (extR x0 x1 b d) (show 4 + k.val = k.val + 4 by omega))))

end Cert.Reference5Ideal.Conv
end
-- ==== Proof.P5Val.lean ====
module

public import proofs.«01_k».proof.Proof.P5Ref
public import proofs.«01_k».proof.Proof.Gen.Kernel5Ideal.Value
public import Idealize.ShloMosaic.Lib.Claim
public import Idealize.ShloMosaic.Lib.StableHlo.ReadAt

/-! The two result arrays of the samples' convolution, which are the reference's. -/

@[expose] public section

set_option maxRecDepth 16384

noncomputable section

namespace Cert.Kernel5Ideal.Conv

open Cert.Kernel5Ideal Cert.Kernel5Ideal.Gen Cert.Kernel5Ideal.Value
open Cert.Reference5Ideal.Conv (rowOf extR wtR rowR outR)
open Cert.Reference5Ideal.Read (val_main_v253 val_main_v255)
open Idealize.ShloMosaic Idealize.ShloMosaic.TcCoe Idealize.ShloMosaic.Tactic Idealize.ShloMosaic.Pointwise
open Idealize.SL.Sem

variable (m : (ℓ : Loc nD τ sig) → Buf (Elt Ideal) ℓ)

/-- The program's arguments. -/
abbrev a0 (c : Dev nD) : FVec Ideal S1x128x30x512 .f32 := m ((c : Thread nD τ).loc main_arg0)
abbrev a1 (c : Dev nD) : FVec Ideal S512x512 .f32 := m ((c : Thread nD τ).loc main_arg1)
abbrev a2 (c : Dev nD) : FVec Ideal S512x512 .f32 := m ((c : Thread nD τ).loc main_arg2)
abbrev a3 (c : Dev nD) : FVec Ideal S1x31x512 .f32 := m ((c : Thread nD τ).loc main_arg3)
abbrev a4 (c : Dev nD) : FVec Ideal S1x512 .f32 := m ((c : Thread nD τ).loc main_arg4)
abbrev a5 (c : Dev nD) : FVec Ideal S1x512 .f32 := m ((c : Thread nD τ).loc main_arg5)
abbrev a6 (c : Dev nD) : FVec Ideal S1x512 .f32 := m ((c : Thread nD τ).loc main_arg6)

/-- The reference's results at the program's arguments. -/
def G7 (c : Dev nD) : FVec Ideal S128x4x512 .f32 :=
  val_main_v253 (F := Ideal) (a0 m c) (a1 m c) (a2 m c) (a3 m c) (a4 m c) (a5 m c) (a6 m c)

def G8 (c : Dev nD) : FVec Ideal S30x128x512 .f32 := val_main_v255 (F := Ideal) (a0 m c) (a1 m c)

theorem V_x0 (c : Dev nD) (k : Fin 30) (b : Fin 128) (d : Fin 512) :
    (V m c main_v7 : FVec Ideal S30x128x512 _) (ix3 k b d) = a0 m c (ix4 0 b k d) := by
  unfold V
  after_reads_at

theorem V_x1 (c : Dev nD) (b : Fin 128) (t : Fin 4) (d : Fin 512) :
    (V m c main_v8 : FVec Ideal S128x4x512 _) (ix3 b t d) = a1 m c (ix2 (rowOf b t) d) := by
  unfold V
  after_reads_at
  rfl

theorem V_x2 (c : Dev nD) (b : Fin 128) (t : Fin 4) (d : Fin 512) :
    (V m c main_v9 : FVec Ideal S128x4x512 _) (ix3 b t d) = a2 m c (ix2 (rowOf b t) d) := by
  unfold V
  after_reads_at
  rfl

theorem V_x3 (c : Dev nD) (k : Fin 31) (d : Fin 512) :
    (V m c main_v10 : FVec Ideal S31x512 _) (ix2 k d) = a3 m c (ix3 0 k d) := by
  unfold V
  after_reads_at

theorem V_x4 (c : Dev nD) (d : Fin 512) :
    (V m c main_v1 : FVec Ideal S1x512 _) (ix2 0 d) = a4 m c (ix2 0 d) := by
  unfold V
  after_reads_at

theorem V_x5 (c : Dev nD) (d : Fin 512) :
    (V m c main_v3 : FVec Ideal S1x512 _) (ix2 0 d) = a5 m c (ix2 0 d) := by
  unfold V
  after_reads_at

theorem V_x6 (c : Dev nD) (d : Fin 512) :
    (V m c main_v5 : FVec Ideal S1x512 _) (ix2 0 d) = a6 m c (ix2 0 d) := by
  unfold V
  after_reads_at

theorem tr0 : ∀ a : Fin 4, (BitVec.ofNat 32 a.val).toNat = a.val := by decide +kernel

theorem coords_eq : ∀ t : Fin grid0.N, (grid0.coords t 0).val = t.val := by decide +kernel

/-- The sequence that sequence `r` of a point's block is. -/
def nOf (t : Fin cfg0.N) (r : Fin 32) : Fin 128 := ⟨32 * t.val + r.val, by have := lt_of_lt_of_eq t.isLt (show cfg0.N = 4 from N_0); omega⟩

theorem blk0_at (c : Dev nD) (t : Fin cfg0.N) (k : Fin 30) (b : Fin 32) (d : Fin 512) :
    (iblk m c 0 t : FVec Ideal S30x32x512 .f32) (ix3 k b d) = (V m c main_v7 : FVec Ideal S30x128x512 .f32) (ix3 k (nOf t b) d) := by
  have e0 := tr0 (grid0.coords t 0)
  have f0 := coords_eq t
  show V m c main_v7 (((cfg0.win 0).blk t).view.emb (ix3 k b d)) = _
  refine congrArg (V m c main_v7) ?_
  funext a; apply Fin.ext
  match a with
  | ⟨0, _⟩ => show (0#32 : BitVec 32).toNat * 30 + 1 * k.val = k.val; simp
  | ⟨1, _⟩ => show (BitVec.ofNat 32 (grid0.coords t 0).val).toNat * 32 + 1 * b.val = 32 * t.val + b.val; omega
  | ⟨2, _⟩ => show (0#32 : BitVec 32).toNat * 512 + 1 * d.val = d.val; simp

theorem blk1_at (c : Dev nD) (t : Fin cfg0.N) (b : Fin 32) (s : Fin 4) (d : Fin 512) :
    (iblk m c 1 t : FVec Ideal S32x4x512 .f32) (ix3 b s d) = (V m c main_v8 : FVec Ideal S128x4x512 .f32) (ix3 (nOf t b) s d) := by
  have e0 := tr0 (grid0.coords t 0)
  have f0 := coords_eq t
  show V m c main_v8 (((cfg0.win 1).blk t).view.emb (ix3 b s d)) = _
  refine congrArg (V m c main_v8) ?_
  funext a; apply Fin.ext
  match a with
  | ⟨0, _⟩ => show (BitVec.ofNat 32 (grid0.coords t 0).val).toNat * 32 + 1 * b.val = 32 * t.val + b.val; omega
  | ⟨1, _⟩ => show (0#32 : BitVec 32).toNat * 4 + 1 * s.val = s.val; simp
  | ⟨2, _⟩ => show (0#32 : BitVec 32).toNat * 512 + 1 * d.val = d.val; simp

theorem blk2_at (c : Dev nD) (t : Fin cfg0.N) (b : Fin 32) (s : Fin 4) (d : Fin 512) :
    (iblk m c 2 t : FVec Ideal S32x4x512 .f32) (ix3 b s d) = (V m c main_v9 : FVec Ideal S128x4x512 .f32) (ix3 (nOf t b) s d) := by
  have e0 := tr0 (grid0.coords t 0)
  have f0 := coords_eq t
  show V m c main_v9 (((cfg0.win 2).blk t).view.emb (ix3 b s d)) = _
  refine congrArg (V m c main_v9) ?_
  funext a; apply Fin.ext
  match a with
  | ⟨0, _⟩ => show (BitVec.ofNat 32 (grid0.coords t 0).val).toNat * 32 + 1 * b.val = 32 * t.val + b.val; omega
  | ⟨1, _⟩ => show (0#32 : BitVec 32).toNat * 4 + 1 * s.val = s.val; simp
  | ⟨2, _⟩ => show (0#32 : BitVec 32).toNat * 512 + 1 * d.val = d.val; simp

theorem blk3_at (c : Dev nD) (t : Fin cfg0.N) (k : Fin 31) (d : Fin 512) :
    (iblk m c 3 t : FVec Ideal S31x512 .f32) (ix2 k d) = (V m c main_v10 : FVec Ideal S31x512 .f32) (ix2 k d) := by
  have e0 := tr0 (grid0.coords t 0)
  have f0 := coords_eq t
  show V m c main_v10 (((cfg0.win 3).blk t).view.emb (ix2 k d)) = _
  refine congrArg (V m c main_v10) ?_
  funext a; apply Fin.ext
  match a with
  | ⟨0, _⟩ => show (0#32 : BitVec 32).toNat * 31 + 1 * k.val = k.val; simp
  | ⟨1, _⟩ => show (0#32 : BitVec 32).toNat * 512 + 1 * d.val = d.val; simp

theorem blk4_at (c : Dev nD) (t : Fin cfg0.N) (d : Fin 512) :
    (iblk m c 4 t : FVec Ideal S1x512 .f32) (ix2 0 d) = (V m c main_v1 : FVec Ideal S1x512 .f32) (ix2 0 d) := by
  have e0 := tr0 (grid0.coords t 0)
  have f0 := coords_eq t
  show V m c main_v1 (((cfg0.win 4).blk t).view.emb (ix2 0 d)) = _
  refine congrArg (V m c main_v1) ?_
  funext a; apply Fin.ext
  match a with
  | ⟨0, _⟩ => rfl
  | ⟨1, _⟩ => show (0#32 : BitVec 32).toNat * 512 + 1 * d.val = d.val; simp

theorem blk5_at (c : Dev nD) (t : Fin cfg0.N) (d : Fin 512) :
    (iblk m c 5 t : FVec Ideal S1x512 .f32) (ix2 0 d) = (V m c main_v3 : FVec Ideal S1x512 .f32) (ix2 0 d) := by
  have e0 := tr0 (grid0.coords t 0)
  have f0 := coords_eq t
  show V m c main_v3 (((cfg0.win 5).blk t).view.emb (ix2 0 d)) = _
  refine congrArg (V m c main_v3) ?_
  funext a; apply Fin.ext
  match a with
  | ⟨0, _⟩ => rfl
  | ⟨1, _⟩ => show (0#32 : BitVec 32).toNat * 512 + 1 * d.val = d.val; simp

theorem blk6_at (c : Dev nD) (t : Fin cfg0.N) (d : Fin 512) :
    (iblk m c 6 t : FVec Ideal S1x512 .f32) (ix2 0 d) = (V m c main_v5 : FVec Ideal S1x512 .f32) (ix2 0 d) := by
  have e0 := tr0 (grid0.coords t 0)
  have f0 := coords_eq t
  show V m c main_v5 (((cfg0.win 6).blk t).view.emb (ix2 0 d)) = _
  refine congrArg (V m c main_v5) ?_
  funext a; apply Fin.ext
  match a with
  | ⟨0, _⟩ => rfl
  | ⟨1, _⟩ => show (0#32 : BitVec 32).toNat * 512 + 1 * d.val = d.val; simp

/-- A point's sequences are the reference's. -/
theorem ext_eq (c : Dev nD) (t : Fin cfg0.N) (b : Fin 32) (d : Fin 512) (n : ℕ) :
    ext (iblk m c 0 t) (iblk m c 1 t) b d n = extR (a0 m c) (a1 m c) (nOf t b) d n := by
  unfold ext extR
  split
  · exact (blk0_at m c t _ b d).trans (V_x0 m c _ _ d)
  · split
    · exact (blk1_at m c t b _ d).trans (V_x1 m c _ _ d)
    · rfl

/-- A point's taps are the reference's. -/
theorem wt_eq (c : Dev nD) (t : Fin cfg0.N) (d : Fin 512) : wt (iblk m c 3 t) d = wtR (a3 m c) d := by
  funext n
  unfold wt wtR
  split
  · exact (blk3_at m c t _ d).trans (V_x3 m c _ d)
  · rfl

theorem row_eq (c : Dev nD) (t : Fin cfg0.N) (b : Fin 32) (s : ℕ) :
    rowK (iblk m c 0 t) (iblk m c 1 t) (iblk m c 3 t) (iblk m c 4 t) b s = rowR (a0 m c) (a1 m c) (a3 m c) (a4 m c) (nOf t b) s := by
  funext d
  unfold rowK rowR
  simp only [ext_eq, wt_eq]
  exact congrArg _ ((blk4_at m c t d).trans (V_x4 m c d))

/-- What a point leaves of the result, at an entry: the reference's entry. -/
theorem point7 (c : Dev nD) (t : Fin cfg0.N) (b : Fin 32) (s : Fin 4) (d : Fin 512) :
    (out0_7 (F := Ideal) (iblk m c 0 t) (iblk m c 1 t) (iblk m c 2 t) (iblk m c 3 t) (iblk m c 4 t) (iblk m c 5 t) (iblk m c 6 t) : FVec Ideal S32x4x512 .f32) (ix3 b s d)
      = G7 m c (ix3 (nOf t b) s d) := by
  rw [out7_at]
  unfold G7
  rw [Cert.Reference5Ideal.Conv.v253_at]
  unfold outK outR
  have h5 : (fun d : Fin 512 => (iblk m c 5 t : FVec Ideal S1x512 .f32) (ix2 0 d)) = fun d => a5 m c (ix2 0 d) := funext fun d => (blk5_at m c t d).trans (V_x5 m c d)
  have h6 : (fun d : Fin 512 => (iblk m c 6 t : FVec Ideal S1x512 .f32) (ix2 0 d)) = fun d => a6 m c (ix2 0 d) := funext fun d => (blk6_at m c t d).trans (V_x6 m c d)
  have h2 := (blk2_at m c t b s d).trans (V_x2 m c _ _ d)
  rw [row_eq, h5, h6, h2]

/-- What a point leaves of the state, at an entry: the reference's entry. -/
theorem point8 (c : Dev nD) (t : Fin cfg0.N) (k : Fin 30) (b : Fin 32) (d : Fin 512) :
    (out0_8 (F := Ideal) (iblk m c 0 t) (iblk m c 1 t) (iblk m c 2 t) (iblk m c 3 t) (iblk m c 4 t) (iblk m c 5 t) (iblk m c 6 t) : FVec Ideal S30x32x512 .f32) (ix3 k b d)
      = G8 m c (ix3 k (nOf t b) d) := by
  rw [out8_at]
  unfold G8
  rw [Cert.Reference5Ideal.Conv.v255_at, ext_eq]

theorem ext3 {α : Type} {A B C : ℕ} {f g : (⟨3, ![A, B, C]⟩ : Shape).Idx → α} (h : ∀ a b c, f (ix3 a b c) = g (ix3 a b c)) : f = g :=
  funext fun i => all3 (P := fun i => f i = g i) h i

/-- Where an entry of a point's block lies in the array. -/
theorem emb7 (t : Fin cfg0.N) (b : Fin 32) (s : Fin 4) (d : Fin 512) : (((cfg0.win 7).blk t).view.emb (ix3 b s d) : S128x4x512.Idx) = ix3 (nOf t b) s d := by
  have e0 := tr0 (grid0.coords t 0)
  have f0 := coords_eq t
  funext a; apply Fin.ext
  match a with
  | ⟨0, _⟩ => show (BitVec.ofNat 32 (grid0.coords t 0).val).toNat * 32 + 1 * b.val = 32 * t.val + b.val; omega
  | ⟨1, _⟩ => show (0#32 : BitVec 32).toNat * 4 + 1 * s.val = s.val; simp
  | ⟨2, _⟩ => show (0#32 : BitVec 32).toNat * 512 + 1 * d.val = d.val; simp

theorem flushed_eq7 (c : Dev nD) (t : Fin cfg0.N) :
    (dats m 0 c).flushed 7 t = ((cfg0.win 7).blk t).view.read (Elt Ideal) (G7 m c) := by
  rw [flushed7]
  refine ext3 fun b s d => ?_
  refine (point7 m c t b s d).trans ?_
  exact (congrArg (G7 m c) (emb7 t b s d)).symm

theorem covered7 (y : S128x4x512.Idx) : ∃ t : Fin cfg0.N, (cfg0.win 7).flush t = true ∧ y ∈ ((cfg0.win 7).blk t).view.set := by
  have h0 : (y 0).val < 128 := (y 0).isLt
  have h1 : (y 1).val < 4 := (y 1).isLt
  have h2 : (y 2).val < 512 := (y 2).isLt
  have ht : (y 0).val / 32 < cfg0.N := by rw [show cfg0.N = 4 from N_0]; omega
  refine ⟨⟨(y 0).val / 32, ht⟩, flush0_7 _, ?_⟩
  have h := ((cfg0.win 7).blk ⟨(y 0).val / 32, ht⟩).view.emb_mem_set (ix3 ⟨(y 0).val % 32, by omega⟩ ⟨(y 1).val, h1⟩ ⟨(y 2).val, h2⟩)
  rw [emb7] at h
  refine (congrArg (· ∈ ((cfg0.win 7).blk ⟨(y 0).val / 32, ht⟩).view.set) ?_).mp h
  funext a; apply Fin.ext
  match a with
  | ⟨0, _⟩ => show 32 * ((y 0).val / 32) + (y 0).val % 32 = (y 0).val; omega
  | ⟨1, _⟩ => rfl
  | ⟨2, _⟩ => rfl

/-- The array after the run is the reference's. -/
theorem final7 (c : Dev nD) : (dats m 0 c).arrAt 7 cfg0.N = G7 m c :=
  (dats m 0 c).arrAt_eq_of_cover 7 (G7 m c) (fun t _ => flushed_eq7 m c t) covered7

/-- Where an entry of a point's block lies in the array. -/
theorem emb8 (t : Fin cfg0.N) (k : Fin 30) (b : Fin 32) (d : Fin 512) : (((cfg0.win 8).blk t).view.emb (ix3 k b d) : S30x128x512.Idx) = ix3 k (nOf t b) d := by
  have e0 := tr0 (grid0.coords t 0)
  have f0 := coords_eq t
  funext a; apply Fin.ext
  match a with
  | ⟨0, _⟩ => show (0#32 : BitVec 32).toNat * 30 + 1 * k.val = k.val; simp
  | ⟨1, _⟩ => show (BitVec.ofNat 32 (grid0.coords t 0).val).toNat * 32 + 1 * b.val = 32 * t.val + b.val; omega
  | ⟨2, _⟩ => show (0#32 : BitVec 32).toNat * 512 + 1 * d.val = d.val; simp

theorem flushed_eq8 (c : Dev nD) (t : Fin cfg0.N) :
    (dats m 0 c).flushed 8 t = ((cfg0.win 8).blk t).view.read (Elt Ideal) (G8 m c) := by
  rw [flushed8]
  refine ext3 fun k b d => ?_
  refine (point8 m c t k b d).trans ?_
  exact (congrArg (G8 m c) (emb8 t k b d)).symm

theorem covered8 (y : S30x128x512.Idx) : ∃ t : Fin cfg0.N, (cfg0.win 8).flush t = true ∧ y ∈ ((cfg0.win 8).blk t).view.set := by
  have h0 : (y 0).val < 30 := (y 0).isLt
  have h1 : (y 1).val < 128 := (y 1).isLt
  have h2 : (y 2).val < 512 := (y 2).isLt
  have ht : (y 1).val / 32 < cfg0.N := by rw [show cfg0.N = 4 from N_0]; omega
  refine ⟨⟨(y 1).val / 32, ht⟩, flush0_8 _, ?_⟩
  have h := ((cfg0.win 8).blk ⟨(y 1).val / 32, ht⟩).view.emb_mem_set (ix3 ⟨(y 0).val, h0⟩ ⟨(y 1).val % 32, by omega⟩ ⟨(y 2).val, h2⟩)
  rw [emb8] at h
  refine (congrArg (· ∈ ((cfg0.win 8).blk ⟨(y 1).val / 32, ht⟩).view.set) ?_).mp h
  funext a; apply Fin.ext
  match a with
  | ⟨0, _⟩ => rfl
  | ⟨1, _⟩ => show 32 * ((y 1).val / 32) + (y 1).val % 32 = (y 1).val; omega
  | ⟨2, _⟩ => rfl

/-- The array after the run is the reference's. -/
theorem final8 (c : Dev nD) : (dats m 0 c).arrAt 8 cfg0.N = G8 m c :=
  (dats m 0 c).arrAt_eq_of_cover 8 (G8 m c) (fun t _ => flushed_eq8 m c t) covered8

end Cert.Kernel5Ideal.Conv
end
-- ==== Proof.P5Claim.lean ====
module

public import proofs.«01_k».proof.Defs
public import proofs.«01_k».proof.Proof.P5Val
public import proofs.«01_k».proof.Proof.Gen.Kernel5.Frame
public import Idealize.ShloMosaic.Adequacy
public import Idealize.ShloMosaic.Init

/-! The claims about the convolution of the samples: the runs of the kernel and of the reference, and the equality of both results. -/

@[expose] public section

set_option maxRecDepth 16384

noncomputable section

namespace Cert.SampleConvClaim

open Idealize.ShloMosaic Idealize.ShloMosaic.TcCoe Idealize.SL.Sem

/-- The convolution of the samples over machine floats runs, leaves its arguments and ends with every semaphore at zero. -/
theorem frame_kernel : Cert.quiescent_Kernel5 (hKernel5 := Cert.Kernel5.Gen.facts) := fun m ρ _ => Cert.Kernel5.Gen.frame m ρ

/-- The same of the idealized kernel. -/
theorem frame_ideal : Cert.quiescent_Kernel5Ideal (hKernel5Ideal := Cert.Kernel5Ideal.Gen.facts) := fun m ρ _ => Cert.Kernel5Ideal.Gen.frame m ρ

/-- The same of the reference. -/
theorem frame_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩) (Cert.Reference5Ideal.Value.run (F := Ideal) m ρ)

/-- No constant is named and no operation is rewritten. -/
theorem preserves : Cert.preserves_Kernel5_Kernel5Ideal := trivial

/-- Both results are the reference's. -/
theorem value : Cert.algebraic_Kernel5Ideal_Reference5Ideal (hKernel5Ideal := Cert.Kernel5Ideal.Gen.facts) (hReference5Ideal := Cert.Reference5Ideal.Gen.facts) := by
  intro m ρ m' ρ' _ hagree
  refine ⟨Cert.Kernel5Ideal.Conv.G7 m, Cert.Kernel5Ideal.Conv.G8 m, (θ_run Cert.Kernel5Ideal.defs _ _).mono (fun r h c => ?_) (Cert.Kernel5Ideal.Value.run_blocks m ρ), ?_⟩
  · obtain ⟨h0, h1, hr⟩ := h c
    exact ⟨h0.trans (Cert.Kernel5Ideal.Conv.final7 m c), h1.trans (Cert.Kernel5Ideal.Conv.final8 m c), hr⟩
  refine (θ_run Cert.Reference5Ideal.defs _ _).mono (fun r h c => ?_) (Cert.Reference5Ideal.Value.run (F := Ideal) m' ρ')
  obtain ⟨g0, g1, g2, g3, g4, g5, g6⟩ := hagree c
  obtain ⟨h0, h1, hr⟩ := h c
  refine ⟨h0.trans ?_, h1.trans ?_, hr⟩
  · refine (Cert.Reference5Ideal.Read.val_main_v253_eq _).trans ?_
    exact congr (congr (congr (congr (congr (congr (congrArg (Cert.Reference5Ideal.Read.val_main_v253 (F := Ideal)) g0) g1) g2) g3) g4) g5) g6
  · refine (Cert.Reference5Ideal.Read.val_main_v255_eq _).trans ?_
    exact congr (congrArg (Cert.Reference5Ideal.Read.val_main_v255 (F := Ideal)) g0) g1

end Cert.SampleConvClaim

end
-- ==== Proof.P6Ref.lean ====
module

public import proofs.«01_k».proof.Proof.P3Math
public import proofs.«01_k».proof.Proof.Gen.Reference6Ideal.Read

/-! The output stage's reference over the extended reals, read at one entry. -/

@[expose] public section

set_option maxRecDepth 16384

noncomputable section

namespace Cert.Reference6Ideal.Out

open Cert.Reference6Ideal Cert.Reference6Ideal.Gen Cert.Reference6Ideal.Read Cert.OutRow
open Idealize.ShloMosaic Idealize.ShloMosaic.TcCoe Idealize.ShloMosaic.Pointwise

variable (x0 x2 : FVec Ideal S128x4x512 .f32) (x1 : FVec Ideal S512x512 .f32) (x3 : FVec Ideal S128x4x1024 .f32) (x4 : FVec Ideal S1x128x4x256 .f32)
  (x5 x8 : FVec Ideal S1x1024x1024 .f32) (x6 : FVec Ideal S1x256x1024 .f32) (x7 : FVec Ideal S1x1024 .f32) (x9 : FVec Ideal S1024 .f32)

/-- The row of the flattened arrays that is position `t` of sequence `b`. -/
def rowOf (b : Fin 128) (t : Fin 4) : Fin 512 := ⟨b.val * 4 + t.val, by omega⟩

/-- The row of the arguments' output stage that is position `t` of sequence `b`. -/
def rowR (b : Fin 128) (t : Fin 4) : Fin 1024 → EReal :=
  outR (fun j => x0 (ix3 b t j)) (fun j => x1 (ix2 (rowOf b t) j)) (fun j => x2 (ix3 b t j)) (fun j => x3 (ix3 b t j)) (fun j => x4 (ix4 0 b t j))
    (fun k d => x5 (ix3 0 k d)) (fun k d => x6 (ix3 0 k d)) (fun d => x7 (ix2 0 d)) (fun k d => x8 (ix3 0 k d)) (fun d => x9 (ix1 d))

theorem left_at (b : Fin 128) (t : Fin 4) (j : Fin 512) :
    val_main_v2 (F := Ideal) x0 x1 x2 (ix3 b t ⟨j.val, by omega⟩) = x0 (ix3 b t j) * x1 (ix2 (rowOf b t) j) := by
  unfold val_main_v2 val_main_v1 val_main_v0
  pointwise
  rfl

theorem right_at (b : Fin 128) (t : Fin 4) (j : Fin 512) :
    val_main_v2 (F := Ideal) x0 x1 x2 (ix3 b t ⟨512 + j.val, by omega⟩) = x2 (ix3 b t j) := by
  unfold val_main_v2
  generalize val_main_v1 (F := Ideal) x0 x1 = y
  pointwise

theorem sum_halves (f : Fin 1024 → EReal) : ∑ k, f k = ∑ j : Fin 512, f ⟨j.val, by omega⟩ + ∑ j : Fin 512, f ⟨512 + j.val, by omega⟩ :=
  Fin.sum_univ_add (a := 512) (b := 512) f

theorem h_at (b : Fin 128) (t : Fin 4) (d : Fin 1024) : val_main_v5 (F := Ideal) x0 x1 x2 x3 x5 (ix3 b t d) =
    hRow (fun j => x0 (ix3 b t j)) (fun j => x1 (ix2 (rowOf b t) j)) (fun j => x2 (ix3 b t j)) (fun j => x3 (ix3 b t j)) (fun k d => x5 (ix3 0 k d)) d := by
  unfold hRow val_main_v5
  refine congrArg (x3 (ix3 b t d) + ·) ?_
  refine (val_main_v4_apply x0 x1 x2 x5 (ix3 b t d)).trans ?_
  have e : ∀ k : Fin 1024, lidx_main_v4 (ix3 b t d) k = ix3 b t k := fun k => by idx_ext
  have e' : ∀ k : Fin 1024, val_main_v3 (F := Ideal) x5 (ridx_main_v4 (ix3 b t d) k) = x5 (ix3 0 k d) := fun k => by
    have e2 : ridx_main_v4 (ix3 b t d) k = ix2 k d := by idx_ext
    rw [e2]
    unfold val_main_v3
    pointwise
  simp only [e, e']
  rw [sum_halves]
  refine congrArg₂ (· + ·) (Finset.sum_congr rfl fun j _ => ?_) (Finset.sum_congr rfl fun j _ => ?_)
  · rw [left_at]
  · rw [right_at]

theorem p_at (b : Fin 128) (t : Fin 4) (d : Fin 1024) : val_main_v8 (F := Ideal) x4 x6 (ix3 b t d) =
    dotR (fun j => x4 (ix4 0 b t j)) (fun k d => x6 (ix3 0 k d)) d := by
  unfold dotR
  refine (val_main_v8_apply x4 x6 (ix3 b t d)).trans (Finset.sum_congr rfl fun k _ => congrArg₂ (· * ·) ?_ ?_)
  · have e : lidx_main_v8 (ix3 b t d) k = ix3 b t k := by idx_ext
    rw [e]
    unfold val_main_v6
    pointwise
  · have e : ridx_main_v8 (ix3 b t d) k = ix2 k d := by idx_ext
    rw [e]
    unfold val_main_v7
    pointwise

theorem e_at (b : Fin 128) (t : Fin 4) (d : Fin 1024) : val_main_v22 (F := Ideal) x4 x6 x7 (ix3 b t d) =
    rmsR (dotR (fun j => x4 (ix4 0 b t j)) (fun k d => x6 (ix3 0 k d))) (fun d => x7 (ix2 0 d)) d := by
  have e : dotR (fun j => x4 (ix4 0 b t j)) (fun k d => x6 (ix3 0 k d)) = fun d => val_main_v8 (F := Ideal) x4 x6 (ix3 b t d) :=
    funext fun d => (p_at x4 x6 b t d).symm
  rw [e]
  unfold rmsR val_main_v22 val_main_v21 val_main_v20 val_main_v19 val_main_v18 val_main_v17 val_main_v16 val_main_v15 val_main_cst_1 val_main_v14 val_main_v13 val_main_cst_0 val_main_v12 val_main_v11 val_main_cst val_main_v10 val_main_v9
  generalize val_main_v8 (F := Ideal) x4 x6 = y
  pointwise

theorem d_at (b : Fin 128) (t : Fin 4) (d : Fin 1024) : val_main_v24 (F := Ideal) x0 x1 x2 x3 x5 x8 (ix3 b t d) =
    dotR (fun d => val_main_v5 (F := Ideal) x0 x1 x2 x3 x5 (ix3 b t d)) (fun k d => x8 (ix3 0 k d)) d := by
  unfold dotR
  refine (val_main_v24_apply x0 x1 x2 x3 x5 x8 (ix3 b t d)).trans (Finset.sum_congr rfl fun k _ => congrArg₂ (· * ·) ?_ ?_)
  · have e : lidx_main_v24 (ix3 b t d) k = ix3 b t k := by idx_ext
    rw [e]
  · have e : ridx_main_v24 (ix3 b t d) k = ix2 k d := by idx_ext
    rw [e]
    unfold val_main_v23
    pointwise

theorem g_at (b : Fin 128) (t : Fin 4) (d : Fin 1024) : val_main_v32 (F := Ideal) x0 x1 x2 x3 x4 x5 x6 x7 x8 (ix3 b t d) =
    gateR (fun d => val_main_v5 (F := Ideal) x0 x1 x2 x3 x5 (ix3 b t d)) (fun d => val_main_v22 (F := Ideal) x4 x6 x7 (ix3 b t d)) (fun k d => x8 (ix3 0 k d)) d := by
  unfold gateR
  rw [← d_at]
  unfold val_main_v32 val_main_v31 val_main_v30 val_main_v29 val_main_cst_3 val_main_v28 val_main_v27 val_main_cst_2 val_main_v26 val_main_v25
  generalize val_main_v5 (F := Ideal) x0 x1 x2 x3 x5 = y
  generalize val_main_v22 (F := Ideal) x4 x6 x7 = z
  generalize val_main_v24 (F := Ideal) x0 x1 x2 x3 x5 x8 = w
  unfold Ideal.logistic
  pointwise

theorem out_at (b : Fin 128) (t : Fin 4) (d : Fin 1024) :
    val_main_v46 (F := Ideal) x0 x1 x2 x3 x4 x5 x6 x7 x8 x9 (ix2 (rowOf b t) d) = rowR x0 x2 x1 x3 x4 x5 x8 x6 x7 x9 b t d := by
  unfold rowR outR
  have eh : hRow (fun j => x0 (ix3 b t j)) (fun j => x1 (ix2 (rowOf b t) j)) (fun j => x2 (ix3 b t j)) (fun j => x3 (ix3 b t j)) (fun k d => x5 (ix3 0 k d))
      = fun d => val_main_v5 (F := Ideal) x0 x1 x2 x3 x5 (ix3 b t d) := funext fun d => (h_at x0 x2 x1 x3 x5 b t d).symm
  have ee : rmsR (dotR (fun j => x4 (ix4 0 b t j)) (fun k d => x6 (ix3 0 k d))) (fun d => x7 (ix2 0 d))
      = fun d => val_main_v22 (F := Ideal) x4 x6 x7 (ix3 b t d) := funext fun d => (e_at x4 x6 x7 b t d).symm
  rw [eh, ee]
  have eg := funext fun d => (g_at x0 x2 x1 x3 x4 x5 x8 x6 x7 b t d).symm
  rw [eg]
  have er : val_main_v46 (F := Ideal) x0 x1 x2 x3 x4 x5 x6 x7 x8 x9 (ix2 (rowOf b t) d) = val_main_v45 (F := Ideal) x0 x1 x2 x3 x4 x5 x6 x7 x8 x9 (ix3 b t d) := by
    refine (val_main_v46_apply (F := Ideal) x0 x1 x2 x3 x4 x5 x6 x7 x8 x9 _).trans (congrArg _ ?_)
    funext a; apply Fin.ext
    have hb := b.isLt
    have ht := t.isLt
    have hd := d.isLt
    match a with
    | ⟨0, _⟩ => show ((b.val * 4 + t.val) * 1024 + d.val) / 4096 = b.val; omega
    | ⟨1, _⟩ => show ((b.val * 4 + t.val) * 1024 + d.val) / 1024 % 4 = t.val; omega
    | ⟨2, _⟩ => show ((b.val * 4 + t.val) * 1024 + d.val) % 1024 = d.val; omega
  rw [er]
  unfold rmsR val_main_v45 val_main_v44 val_main_v43 val_main_v42 val_main_v41 val_main_v40 val_main_v39 val_main_v38 val_main_cst_6 val_main_v37 val_main_v36 val_main_cst_5 val_main_v35 val_main_v34 val_main_cst_4 val_main_v33
  generalize val_main_v32 (F := Ideal) x0 x1 x2 x3 x4 x5 x6 x7 x8 = y
  pointwise

end Cert.Reference6Ideal.Out
end
-- ==== Proof.P6Math.lean ====
module

public import proofs.«01_k».proof.Proof.P3Math
public import proofs.«01_k».proof.Proof.Gen.Kernel6Ideal.Frame

/-! The output stage of the sample, read at one entry of the blocks it loads. -/

@[expose] public section

set_option maxRecDepth 16384

noncomputable section

namespace Cert.Kernel6Ideal.Out

open Cert.Kernel6Ideal Cert.Kernel6Ideal.Gen Cert.OutRow
open Idealize.ShloMosaic Idealize.ShloMosaic.TcCoe Idealize.ShloMosaic.Tactic Idealize.ShloMosaic.Pointwise

theorem pay2_at (v0 v2 v6 : FVec Ideal S512x512 .f32) (v9 : FVec Ideal S512x1024 .f32) (v11 v15 : FVec Ideal S512x1024 .bf16) (r : Fin 512) (d : Fin 1024) :
    (k0_pay2 v0 v2 v6 v9 v11 v15 : FVec Ideal S512x1024 .f32) (ix2 r d) =
      v9 (ix2 r d) + (∑ j : Fin 512, v0 (ix2 r j) * v2 (ix2 r j) * v11 (ix2 j d) + ∑ j : Fin 512, v6 (ix2 r j) * v15 (ix2 j d)) := by
  rw [← add_assoc]
  unfold k0_pay2
  pointwise

theorem pay3_at (v19 : FVec Ideal S512x256 .f32) (v22 : FVec Ideal S256x1024 .bf16) (r : Fin 512) (d : Fin 1024) :
    (k0_pay3 v19 v22 : FVec Ideal S512x1024 .f32) (ix2 r d) =
      rmsR (dotR (fun k => v19 (ix2 r k)) (fun k d => v22 (ix2 k d))) (fun _ => 1) d := by
  unfold k0_pay3 rmsR dotR
  rw [mul_one]
  pointwise

theorem pay1_at (v18 v34 : FVec Ideal S512x1024 .f32) (v35 v56 : FVec Ideal S1x1024 .f32) (v40 : FVec Ideal S1024x1024 .bf16) (r : Fin 512) (d : Fin 1024) :
    (k0_pay1 v18 v34 v35 v40 v56 : FVec Ideal S512x1024 .f32) (ix2 r d) =
      rmsR (gateR (fun d => v18 (ix2 r d)) (fun d => v34 (ix2 r d) * v35 (ix2 0 d)) (fun k d => v40 (ix2 k d))) (fun d => v56 (ix2 0 d)) d := by
  unfold k0_pay1 rmsR gateR dotR
  pointwise

end Cert.Kernel6Ideal.Out
end
-- ==== Proof.P6Val.lean ====
module

public import proofs.«01_k».proof.Proof.P6Ref
public import proofs.«01_k».proof.Proof.P6Math
public import proofs.«01_k».proof.Proof.Gen.Kernel6Ideal.Value
public import Idealize.ShloMosaic.Lib.Claim
public import Idealize.ShloMosaic.Lib.StableHlo.ReadAt

/-! The output stage's result array, which is the reference's. -/

@[expose] public section

set_option maxRecDepth 16384

noncomputable section

namespace Cert.Kernel6Ideal.Out

open Cert.Kernel6Ideal Cert.Kernel6Ideal.Gen Cert.Kernel6Ideal.Value Cert.OutRow
open Cert.Reference6Ideal.Out (rowOf rowR)
open Cert.Reference6Ideal.Read (val_main_v46)
open Idealize.ShloMosaic Idealize.ShloMosaic.TcCoe Idealize.ShloMosaic.Tactic Idealize.ShloMosaic.Pointwise
open Idealize.SL.Sem

variable (m : (ℓ : Loc nD τ sig) → Buf (Elt Ideal) ℓ)

/-- The program's arguments. -/
abbrev a0 (c : Dev nD) : FVec Ideal S128x4x512 .f32 := m ((c : Thread nD τ).loc main_arg0)
abbrev a1 (c : Dev nD) : FVec Ideal S512x512 .f32 := m ((c : Thread nD τ).loc main_arg1)
abbrev a2 (c : Dev nD) : FVec Ideal S128x4x512 .f32 := m ((c : Thread nD τ).loc main_arg2)
abbrev a3 (c : Dev nD) : FVec Ideal S128x4x1024 .f32 := m ((c : Thread nD τ).loc main_arg3)
abbrev a4 (c : Dev nD) : FVec Ideal S1x128x4x256 .f32 := m ((c : Thread nD τ).loc main_arg4)
abbrev a5 (c : Dev nD) : FVec Ideal S1x1024x1024 .f32 := m ((c : Thread nD τ).loc main_arg5)
abbrev a6 (c : Dev nD) : FVec Ideal S1x256x1024 .f32 := m ((c : Thread nD τ).loc main_arg6)
abbrev a7 (c : Dev nD) : FVec Ideal S1x1024 .f32 := m ((c : Thread nD τ).loc main_arg7)
abbrev a8 (c : Dev nD) : FVec Ideal S1x1024x1024 .f32 := m ((c : Thread nD τ).loc main_arg8)
abbrev a9 (c : Dev nD) : FVec Ideal S1024 .f32 := m ((c : Thread nD τ).loc main_arg9)

/-- The reference's result at the program's arguments. -/
def G (c : Dev nD) : FVec Ideal S512x1024 .f32 :=
  val_main_v46 (F := Ideal) (a0 m c) (a1 m c) (a2 m c) (a3 m c) (a4 m c) (a5 m c) (a6 m c) (a7 m c) (a8 m c) (a9 m c)

theorem row_div (b : Fin 128) (t : Fin 4) (h : (rowOf b t).val / 4 < 128) : (⟨(rowOf b t).val / 4, h⟩ : Fin 128) = b := by
  apply Fin.ext
  show (b.val * 4 + t.val) / 4 = b.val
  omega

theorem row_mod (b : Fin 128) (t : Fin 4) (h : (rowOf b t).val % 4 < 4) : (⟨(rowOf b t).val % 4, h⟩ : Fin 4) = t := by
  apply Fin.ext
  show (b.val * 4 + t.val) % 4 = t.val
  omega

theorem ext2 {α : Type} {A B : ℕ} {f g : (⟨2, ![A, B]⟩ : Shape).Idx → α} (h : ∀ a b, f (ix2 a b) = g (ix2 a b)) : f = g := by
  funext i
  have e : i = ix2 (i 0) (i 1) := by
    funext a
    match a with
    | ⟨0, _⟩ => rfl
    | ⟨1, _⟩ => rfl
  rw [e]
  exact h _ _

theorem V_x0 (c : Dev nD) (b : Fin 128) (t : Fin 4) (j : Fin 512) :
    (V m c main_v9 : FVec Ideal S512x512 _) (ix2 (rowOf b t) j) = a0 m c (ix3 b t j) := by
  unfold V
  after_reads_at
  rw [row_div, row_mod]

theorem V_x1 (c : Dev nD) (b : Fin 128) (t : Fin 4) (j : Fin 512) :
    (V m c main_arg1 : FVec Ideal S512x512 _) (ix2 (rowOf b t) j) = a1 m c (ix2 (rowOf b t) j) := congrFun (V_main_arg1 m c) _

theorem V_x2 (c : Dev nD) (b : Fin 128) (t : Fin 4) (j : Fin 512) :
    (V m c main_v10 : FVec Ideal S512x512 _) (ix2 (rowOf b t) j) = a2 m c (ix3 b t j) := by
  unfold V
  after_reads_at
  rw [row_div, row_mod]

theorem V_x3 (c : Dev nD) (b : Fin 128) (t : Fin 4) (j : Fin 1024) :
    (V m c main_v11 : FVec Ideal S512x1024 _) (ix2 (rowOf b t) j) = a3 m c (ix3 b t j) := by
  unfold V
  after_reads_at
  rw [row_div, row_mod]

theorem V_x4 (c : Dev nD) (b : Fin 128) (t : Fin 4) (j : Fin 256) :
    (V m c main_v13 : FVec Ideal S512x256 _) (ix2 (rowOf b t) j) = a4 m c (ix4 0 b t j) := by
  unfold V
  after_reads_at
  rw [row_div, row_mod]

theorem V_x5 (c : Dev nD) (k d : Fin 1024) :
    (V m c main_v1 : FVec Ideal S1024x1024 _) (ix2 k d) = a5 m c (ix3 0 k d) := by
  unfold V
  after_reads_at

theorem V_x6 (c : Dev nD) (k : Fin 256) (d : Fin 1024) :
    (V m c main_v3 : FVec Ideal S256x1024 _) (ix2 k d) = a6 m c (ix3 0 k d) := by
  unfold V
  after_reads_at

theorem V_x7 (c : Dev nD) (d : Fin 1024) :
    (V m c main_v7 : FVec Ideal S1x1024 _) (ix2 0 d) = a7 m c (ix2 0 d) := by
  unfold V
  after_reads_at

theorem V_x8 (c : Dev nD) (k d : Fin 1024) :
    (V m c main_v5 : FVec Ideal S1024x1024 _) (ix2 k d) = a8 m c (ix3 0 k d) := by
  unfold V
  after_reads_at

theorem V_x9 (c : Dev nD) (d : Fin 1024) :
    (V m c main_v8 : FVec Ideal S1x1024 _) (ix2 0 d) = a9 m c (ix1 d) := by
  unfold V
  after_reads_at

theorem tr0 : ∀ a : Fin 1, (BitVec.ofNat 32 a.val).toNat = a.val := by decide +kernel

theorem coords_eq : ∀ t : Fin grid0.N, (grid0.coords t 0).val = t.val := by decide +kernel

/-- The row of the flattened arrays that row `r` of a point's block is. -/
def nOf (t : Fin cfg0.N) (r : Fin 512) : Fin 512 := ⟨512 * t.val + r.val, by have := lt_of_lt_of_eq t.isLt (show cfg0.N = 1 from N_0); omega⟩

theorem blk0_at (c : Dev nD) (t : Fin cfg0.N) (r : Fin 512) (j : Fin 512) :
    (iblk m c 0 t : FVec Ideal S512x512 .f32) (ix2 r j) = (V m c main_v9 : FVec Ideal S512x512 .f32) (ix2 (nOf t r) j) := by
  have e0 := tr0 (grid0.coords t 0)
  have f0 := coords_eq t
  show V m c main_v9 (((cfg0.win 0).blk t).view.emb (ix2 r j)) = _
  refine congrArg (V m c main_v9) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 512 + 1 * j.val = j.val; simp

theorem blk1_at (c : Dev nD) (t : Fin cfg0.N) (r : Fin 512) (j : Fin 512) :
    (iblk m c 1 t : FVec Ideal S512x512 .f32) (ix2 r j) = (V m c main_arg1 : FVec Ideal S512x512 .f32) (ix2 (nOf t r) j) := by
  have e0 := tr0 (grid0.coords t 0)
  have f0 := coords_eq t
  show V m c main_arg1 (((cfg0.win 1).blk t).view.emb (ix2 r j)) = _
  refine congrArg (V m c main_arg1) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 512 + 1 * j.val = j.val; simp

theorem blk2_at (c : Dev nD) (t : Fin cfg0.N) (r : Fin 512) (j : Fin 512) :
    (iblk m c 2 t : FVec Ideal S512x512 .f32) (ix2 r j) = (V m c main_v10 : FVec Ideal S512x512 .f32) (ix2 (nOf t r) j) := by
  have e0 := tr0 (grid0.coords t 0)
  have f0 := coords_eq t
  show V m c main_v10 (((cfg0.win 2).blk t).view.emb (ix2 r j)) = _
  refine congrArg (V m c main_v10) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 512 + 1 * j.val = j.val; simp

theorem blk3_at (c : Dev nD) (t : Fin cfg0.N) (r : Fin 512) (j : Fin 1024) :
    (iblk m c 3 t : FVec Ideal S512x1024 .f32) (ix2 r j) = (V m c main_v11 : FVec Ideal S512x1024 .f32) (ix2 (nOf t r) j) := by
  have e0 := tr0 (grid0.coords t 0)
  have f0 := coords_eq t
  show V m c main_v11 (((cfg0.win 3).blk t).view.emb (ix2 r j)) = _
  refine congrArg (V m c main_v11) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 1024 + 1 * j.val = j.val; simp

theorem blk4_at (c : Dev nD) (t : Fin cfg0.N) (r : Fin 512) (j : Fin 256) :
    (iblk m c 4 t : FVec Ideal S512x256 .f32) (ix2 r j) = (V m c main_v13 : FVec Ideal S512x256 .f32) (ix2 (nOf t r) j) := by
  have e0 := tr0 (grid0.coords t 0)
  have f0 := coords_eq t
  show V m c main_v13 (((cfg0.win 4).blk t).view.emb (ix2 r j)) = _
  refine congrArg (V m c main_v13) ?_
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 256 + 1 * j.val = j.val; simp

theorem blk5_eq (c : Dev nD) (t : Fin cfg0.N) : (iblk m c 5 t : FVec Ideal S1024x1024 .bf16) = V m c main_v1 := by
  funext j
  show V m c main_v1 (((cfg0.win 5).blk t).view.emb j) = _
  refine congrArg (V m c main_v1) ?_
  funext a; apply Fin.ext
  match a with
  | ⟨0, _⟩ => show (0#32 : BitVec 32).toNat * 1024 + 1 * (j 0).val = (j 0).val; simp
  | ⟨1, _⟩ => show (0#32 : BitVec 32).toNat * 1024 + 1 * (j 1).val = (j 1).val; simp

theorem blk6_eq (c : Dev nD) (t : Fin cfg0.N) : (iblk m c 6 t : FVec Ideal S256x1024 .bf16) = V m c main_v3 := by
  funext j
  show V m c main_v3 (((cfg0.win 6).blk t).view.emb j) = _
  refine congrArg (V m c main_v3) ?_
  funext a; apply Fin.ext
  match a with
  | ⟨0, _⟩ => show (0#32 : BitVec 32).toNat * 256 + 1 * (j 0).val = (j 0).val; simp
  | ⟨1, _⟩ => show (0#32 : BitVec 32).toNat * 1024 + 1 * (j 1).val = (j 1).val; simp

theorem blk7_eq (c : Dev nD) (t : Fin cfg0.N) : (iblk m c 7 t : FVec Ideal S1x1024 .f32) = V m c main_v7 := by
  funext j
  show V m c main_v7 (((cfg0.win 7).blk t).view.emb j) = _
  refine congrArg (V m c main_v7) ?_
  funext a; apply Fin.ext
  match a with
  | ⟨0, _⟩ => show (0#32 : BitVec 32).toNat * 1 + 1 * (j 0).val = (j 0).val; simp
  | ⟨1, _⟩ => show (0#32 : BitVec 32).toNat * 1024 + 1 * (j 1).val = (j 1).val; simp

theorem blk8_eq (c : Dev nD) (t : Fin cfg0.N) : (iblk m c 8 t : FVec Ideal S1024x1024 .bf16) = V m c main_v5 := by
  funext j
  show V m c main_v5 (((cfg0.win 8).blk t).view.emb j) = _
  refine congrArg (V m c main_v5) ?_
  funext a; apply Fin.ext
  match a with
  | ⟨0, _⟩ => show (0#32 : BitVec 32).toNat * 1024 + 1 * (j 0).val = (j 0).val; simp
  | ⟨1, _⟩ => show (0#32 : BitVec 32).toNat * 1024 + 1 * (j 1).val = (j 1).val; simp

theorem blk9_eq (c : Dev nD) (t : Fin cfg0.N) : (iblk m c 9 t : FVec Ideal S1x1024 .f32) = V m c main_v8 := by
  funext j
  show V m c main_v8 (((cfg0.win 9).blk t).view.emb j) = _
  refine congrArg (V m c main_v8) ?_
  funext a; apply Fin.ext
  match a with
  | ⟨0, _⟩ => show (0#32 : BitVec 32).toNat * 1 + 1 * (j 0).val = (j 0).val; simp
  | ⟨1, _⟩ => show (0#32 : BitVec 32).toNat * 1024 + 1 * (j 1).val = (j 1).val; simp

theorem zz : (![0, 0] : Fin 2 → ℕ) = fun _ => 0 := by decide

/-- The body's block, at an entry of the blocks it loads. -/
theorem body_at (x0 x1 x2 : FVec Ideal S512x512 .f32) (x3 : FVec Ideal S512x1024 .f32) (x4 : FVec Ideal S512x256 .f32) (x5 x8 : FVec Ideal S1024x1024 .bf16) (x6 : FVec Ideal S256x1024 .bf16)
    (x7 x9 : FVec Ideal S1x1024 .f32) (r : Fin 512) (d : Fin 1024) :
    (out0_10 (F := Ideal) x0 x1 x2 x3 x4 x5 x6 x7 x8 x9 : FVec Ideal S512x1024 .f32) (ix2 r d) =
      outR (fun j => x0 (ix2 r j)) (fun j => x1 (ix2 r j)) (fun j => x2 (ix2 r j)) (fun j => x3 (ix2 r j)) (fun j => x4 (ix2 r j))
        (fun k d => x5 (ix2 k d)) (fun k d => x6 (ix2 k d)) (fun d => x7 (ix2 0 d)) (fun k d => x8 (ix2 k d)) (fun d => x9 (ix2 0 d)) d := by
  unfold out0_10
  rw [View.canon_unit_zero zz, View.ld_unit_zero zz, View.ld_unit_zero zz, View.ld_unit_zero zz, View.ld_unit_zero zz, View.ld_unit_zero zz, View.ld_unit_zero zz, View.ld_unit_zero zz, View.ld_unit_zero zz, View.ld_unit_zero zz]
  rw [pay1_at]
  have top : ∀ (k : Fin 512) (d : Fin 1024), (View.ld (Val := Elt Ideal) (e' := .bf16) x5 r0_2 : FVec Ideal S512x1024 .bf16) (ix2 k d) = x5 (ix2 ⟨k.val, by omega⟩ d) := fun k d => congrArg x5 (show r0_2.idx (ix2 k d) = ix2 ⟨k.val, by omega⟩ d by
    funext a; apply Fin.ext
    match a with
    | ⟨0, _⟩ => show 0 + 1 * k.val = k.val; omega
    | ⟨1, _⟩ => show 0 + 1 * d.val = d.val; omega)
  have bot : ∀ (k : Fin 512) (d : Fin 1024), (View.ld (Val := Elt Ideal) (e' := .bf16) x5 r0_3 : FVec Ideal S512x1024 .bf16) (ix2 k d) = x5 (ix2 ⟨512 + k.val, by omega⟩ d) := fun k d => congrArg x5 (show r0_3.idx (ix2 k d) = ix2 ⟨512 + k.val, by omega⟩ d by
    funext a; apply Fin.ext
    match a with
    | ⟨0, _⟩ => show 512 + 1 * k.val = 512 + k.val; omega
    | ⟨1, _⟩ => show 0 + 1 * d.val = d.val; omega)
  have eh : (fun d => (k0_pay2 x0 x1 x2 x3 (View.ld x5 r0_2) (View.ld x5 r0_3) : FVec Ideal S512x1024 .f32) (ix2 r d)) =
      hRow (fun j => x0 (ix2 r j)) (fun j => x1 (ix2 r j)) (fun j => x2 (ix2 r j)) (fun j => x3 (ix2 r j)) (fun k d => x5 (ix2 k d)) := by
    funext d
    rw [pay2_at]
    unfold hRow
    simp only [top, bot]
  have ee : (fun d => (k0_pay3 x4 x6 : FVec Ideal S512x1024 .f32) (ix2 r d) * x7 (ix2 0 d)) =
      rmsR (dotR (fun j => x4 (ix2 r j)) (fun k d => x6 (ix2 k d))) (fun d => x7 (ix2 0 d)) := by
    funext d
    rw [pay3_at]
    unfold rmsR
    rw [mul_one]
  rw [eh, ee]
  rfl

/-- What a point leaves, at an entry: the reference's entry. -/
theorem point_at (c : Dev nD) (t : Fin cfg0.N) (r : Fin 512) (d : Fin 1024) :
    (out0_10 (F := Ideal) (iblk m c 0 t) (iblk m c 1 t) (iblk m c 2 t) (iblk m c 3 t) (iblk m c 4 t) (iblk m c 5 t) (iblk m c 6 t) (iblk m c 7 t) (iblk m c 8 t) (iblk m c 9 t)
      : FVec Ideal S512x1024 .f32) (ix2 r d) = G m c (ix2 (nOf t r) d) := by
  obtain ⟨b, s, hn⟩ : ∃ (b : Fin 128) (s : Fin 4), nOf t r = rowOf b s :=
    ⟨⟨(nOf t r).val / 4, by have := (nOf t r).isLt; omega⟩, ⟨(nOf t r).val % 4, by omega⟩, by
      apply Fin.ext
      show (nOf t r).val = (nOf t r).val / 4 * 4 + (nOf t r).val % 4
      omega⟩
  rw [body_at]
  unfold G
  rw [hn, Cert.Reference6Ideal.Out.out_at]
  unfold rowR
  refine congrFun ?_ d
  have h0 : (fun j : Fin 512 => (iblk m c 0 t : FVec Ideal S512x512 .f32) (ix2 r j)) = fun j => a0 m c (ix3 b s j) := funext fun j => by rw [blk0_at, hn, V_x0]
  have h1 : (fun j : Fin 512 => (iblk m c 1 t : FVec Ideal S512x512 .f32) (ix2 r j)) = fun j => a1 m c (ix2 (rowOf b s) j) := funext fun j => by rw [blk1_at, hn, V_x1]
  have h2 : (fun j : Fin 512 => (iblk m c 2 t : FVec Ideal S512x512 .f32) (ix2 r j)) = fun j => a2 m c (ix3 b s j) := funext fun j => by rw [blk2_at, hn, V_x2]
  have h3 : (fun j : Fin 1024 => (iblk m c 3 t : FVec Ideal S512x1024 .f32) (ix2 r j)) = fun j => a3 m c (ix3 b s j) := funext fun j => by rw [blk3_at, hn, V_x3]
  have h4 : (fun j : Fin 256 => (iblk m c 4 t : FVec Ideal S512x256 .f32) (ix2 r j)) = fun j => a4 m c (ix4 0 b s j) := funext fun j => by rw [blk4_at, hn, V_x4]
  have h5 : (fun k d : Fin 1024 => (iblk m c 5 t : FVec Ideal S1024x1024 .bf16) (ix2 k d)) = fun k d => a5 m c (ix3 0 k d) := funext fun k => funext fun d => (congrFun (blk5_eq m c t) _).trans (V_x5 m c k d)
  have h6 : (fun (k : Fin 256) (d : Fin 1024) => (iblk m c 6 t : FVec Ideal S256x1024 .bf16) (ix2 k d)) = fun k d => a6 m c (ix3 0 k d) := funext fun k => funext fun d => (congrFun (blk6_eq m c t) _).trans (V_x6 m c k d)
  have h7 : (fun d : Fin 1024 => (iblk m c 7 t : FVec Ideal S1x1024 .f32) (ix2 0 d)) = fun d => a7 m c (ix2 0 d) := funext fun d => (congrFun (blk7_eq m c t) _).trans (V_x7 m c d)
  have h8 : (fun k d : Fin 1024 => (iblk m c 8 t : FVec Ideal S1024x1024 .bf16) (ix2 k d)) = fun k d => a8 m c (ix3 0 k d) := funext fun k => funext fun d => (congrFun (blk8_eq m c t) _).trans (V_x8 m c k d)
  have h9 : (fun d : Fin 1024 => (iblk m c 9 t : FVec Ideal S1x1024 .f32) (ix2 0 d)) = fun d => a9 m c (ix1 d) := funext fun d => (congrFun (blk9_eq m c t) _).trans (V_x9 m c d)
  rw [h0, h1, h2, h3, h4, h5, h6, h7, h8, h9]

/-- Where an entry of a point's block lies in the result. -/
theorem emb10 (t : Fin cfg0.N) (r : Fin 512) (d : Fin 1024) : (((cfg0.win 10).blk t).view.emb (ix2 r d) : S512x1024.Idx) = ix2 (nOf t r) d := by
  have e0 := tr0 (grid0.coords t 0)
  have f0 := coords_eq t
  funext a; apply Fin.ext
  match a with
  | ⟨0, _⟩ => show (BitVec.ofNat 32 (grid0.coords t 0).val).toNat * 512 + 1 * r.val = 512 * t.val + r.val; omega
  | ⟨1, _⟩ => show (0#32 : BitVec 32).toNat * 1024 + 1 * d.val = d.val; simp

theorem flushed_eq (c : Dev nD) (t : Fin cfg0.N) :
    (dats m 0 c).flushed 10 t = ((cfg0.win 10).blk t).view.read (Elt Ideal) (G m c) := by
  rw [flushed10]
  refine ext2 fun r d => ?_
  refine (point_at m c t r d).trans ?_
  exact (congrArg (G m c) (emb10 t r d)).symm

theorem covered (y : S512x1024.Idx) : ∃ t : Fin cfg0.N, (cfg0.win 10).flush t = true ∧ y ∈ ((cfg0.win 10).blk t).view.set := by
  have h0 : (y 0).val < 512 := (y 0).isLt
  have h1 : (y 1).val < 1024 := (y 1).isLt
  have ht : (y 0).val / 512 < cfg0.N := by rw [show cfg0.N = 1 from N_0]; omega
  refine ⟨⟨(y 0).val / 512, ht⟩, flush0_10 _, ?_⟩
  have h := ((cfg0.win 10).blk ⟨(y 0).val / 512, ht⟩).view.emb_mem_set (ix2 ⟨(y 0).val % 512, by omega⟩ ⟨(y 1).val, h1⟩)
  rw [emb10] at h
  refine (congrArg (· ∈ ((cfg0.win 10).blk ⟨(y 0).val / 512, ht⟩).view.set) ?_).mp h
  funext a; apply Fin.ext
  match a with
  | ⟨0, _⟩ => show 512 * ((y 0).val / 512) + (y 0).val % 512 = (y 0).val; omega
  | ⟨1, _⟩ => rfl

/-- The result array after the run is the reference's. -/
theorem final (c : Dev nD) : (dats m 0 c).arrAt 10 cfg0.N = G m c :=
  (dats m 0 c).arrAt_eq_of_cover 10 (G m c) (fun t _ => flushed_eq m c t) covered

end Cert.Kernel6Ideal.Out
end
-- ==== Proof.P6Claim.lean ====
module

public import proofs.«01_k».proof.Defs
public import proofs.«01_k».proof.Proof.P6Val
public import proofs.«01_k».proof.Proof.Gen.Kernel6.Frame
public import Idealize.ShloMosaic.Adequacy
public import Idealize.ShloMosaic.Init

/-! The claims about the output stage of the sample: the runs of the kernel and of the reference, and the equality of the result. -/

@[expose] public section

set_option maxRecDepth 16384

noncomputable section

namespace Cert.OutClaim6

open Idealize.ShloMosaic Idealize.ShloMosaic.TcCoe Idealize.SL.Sem

/-- The output stage of the sample over machine floats runs, leaves its arguments and ends with every semaphore at zero. -/
theorem frame_kernel : Cert.quiescent_Kernel6 (hKernel6 := Cert.Kernel6.Gen.facts) := fun m ρ _ => Cert.Kernel6.Gen.frame m ρ

/-- The same of the idealized kernel. -/
theorem frame_ideal : Cert.quiescent_Kernel6Ideal (hKernel6Ideal := Cert.Kernel6Ideal.Gen.facts) := fun m ρ _ => Cert.Kernel6Ideal.Gen.frame m ρ

/-- The same of the reference. -/
theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run (F := Ideal) m ρ)

/-- No constant is named and no operation is rewritten. -/
theorem preserves : Cert.preserves_Kernel6_Kernel6Ideal := trivial

/-- The result is the reference's. -/
theorem value : Cert.algebraic_Kernel6Ideal_Reference6Ideal (hKernel6Ideal := Cert.Kernel6Ideal.Gen.facts) (hReference6Ideal := Cert.Reference6Ideal.Gen.facts) := by
  intro m ρ m' ρ' _ hagree
  refine ⟨Cert.Kernel6Ideal.Out.G m, (θ_run Cert.Kernel6Ideal.defs _ _).mono (fun r h c => ⟨(h c).1.trans (Cert.Kernel6Ideal.Out.final m c), (h c).2⟩) (Cert.Kernel6Ideal.Value.run_blocks m ρ), ?_⟩
  refine (θ_run Cert.Reference6Ideal.defs _ _).mono (fun r h c => ?_) (Cert.Reference6Ideal.Value.run (F := Ideal) m' ρ')
  obtain ⟨g0, g1, g2, g3, g4, g5, g6, g7, g8, g9⟩ := hagree c
  obtain ⟨h0, hr⟩ := h c
  refine ⟨h0.trans ?_, hr⟩
  refine (Cert.Reference6Ideal.Read.val_main_v46_eq m' c).trans ?_
  exact congr (congr (congr (congr (congr (congr (congr (congr (congr (congrArg (Cert.Reference6Ideal.Read.val_main_v46 (F := Ideal)) g0) g1) g2) g3) g4) g5) g6) g7) g8) g9

end Cert.OutClaim6

end
-- ==== Proof.P7Ref.lean ====
module

public import proofs.«01_k».proof.Proof.P5Body
public import proofs.«01_k».proof.Proof.Gen.Reference7Ideal.Read
public import Idealize.ShloMosaic.Lib.KernelVsHost

/-! The reference of the prompt's convolution over the extended reals, read at one entry. -/

@[expose] public section

set_option maxRecDepth 16384

noncomputable section

namespace Cert.Reference7Ideal.Conv

open Cert.Reference7Ideal Cert.Reference7Ideal.Gen Cert.Reference7Ideal.Read
open Cert.Kernel2Ideal.Proj (siluf)
open Cert.Kernel5Ideal.Conv (conv lnC lnV lnN lnR all3)
open Idealize.ShloMosaic Idealize.ShloMosaic.TcCoe Idealize.ShloMosaic.Pointwise

variable (x0 x1 : FVec Ideal S4x8192x512 .f32) (x2 : FVec Ideal S1x31x512 .f32) (x3 x4 x5 : FVec Ideal S1x512 .f32)

/-- A sequence's rows with thirty rows of zeros in front. -/
def extR (b : Fin 4) (d : Fin 512) (n : ℕ) : EReal :=
  if h : 30 ≤ n ∧ n < 8222 then x0 (ix3 b ⟨n - 30, by omega⟩ d) else 0

/-- A column's taps. -/
def wtR (d : Fin 512) (n : ℕ) : EReal := if h : n < 31 then x2 (ix3 0 ⟨n, h⟩ d) else 0

/-- The convolution of one sequence at one position, with its offset. -/
def rowR (b : Fin 4) (t : ℕ) (d : Fin 512) : EReal := conv (fun j => extR x0 b d (t + j)) (wtR x2 d) + x3 (ix2 0 d)

/-- The result at one entry. -/
def outR (b : Fin 4) (t : Fin 8192) (d : Fin 512) : EReal :=
  siluf (lnR (rowR x0 x2 x3 b t.val) (fun d => x4 (ix2 0 d)) (fun d => x5 (ix2 0 d)) d) * x1 (ix3 b t d)

theorem v0_at (b : Fin 4) (n : Fin 8222) (d : Fin 512) : val_main_v0 (F := Ideal) x0 (ix3 b n d) = extR x0 b d n.val := by
  unfold extR val_main_v0
  by_cases h : 30 ≤ n.val
  · rw [dif_pos ⟨h, n.isLt⟩]
    refine pad_apply_of_inside _ _ _ x0 _ _ _ _ _ (fun a => ?_)
    match a with
    | ⟨0, _⟩ => show b.val = 0 + b.val * (0 + 1); omega
    | ⟨1, _⟩ => show n.val = 30 + (n.val - 30) * (0 + 1); omega
    | ⟨2, _⟩ => show d.val = 0 + d.val * (0 + 1); omega
  · rw [dif_neg (fun g => h g.1)]
    refine (pad_apply_of_not_inside _ _ _ x0 _ _ _ _ (a := 1) (fun g => ?_)).trans ?_
    · have e : 30 ≤ n.val := g.1
      exact h e
    · unfold val_main_call0_v0 val_main_c
      show ((((0#32 : BitVec 32).toInt : ℝ) : EReal)) = 0
      simp

theorem v0_any (i : S4x8222x512.Idx) : val_main_v0 (F := Ideal) x0 i = extR x0 (i 0) (i 2) (i 1).val :=
  all3 (P := fun i => val_main_v0 (F := Ideal) x0 i = extR x0 (i 0) (i 2) (i 1).val) (fun b n d => v0_at x0 b n d) i

theorem s0 (b : Fin 4) (t : Fin 8192) (d : Fin 512) : val_main_v1 (F := Ideal) x0 (ix3 b t d) = extR x0 b d (t.val + 0) :=
  (val_main_v1_apply (F := Ideal) x0 (ix3 b t d)).trans ((v0_any x0 (idx_main_v1 (ix3 b t d))).trans (congrArg (extR x0 b d) (show t.val = t.val + 0 by omega)))

theorem w0 (b : Fin 4) (t : Fin 8192) (d : Fin 512) : val_main_v5 (F := Ideal) x2 (ix3 b t d) = wtR x2 d 0 := by
  refine Eq.trans (b := x2 (ix3 0 ⟨0, by omega⟩ d)) ?_ rfl
  unfold val_main_v5 val_main_v4 val_main_v3 val_main_v2
  pointwise

theorem s1 (b : Fin 4) (t : Fin 8192) (d : Fin 512) : val_main_v9 (F := Ideal) x0 (ix3 b t d) = extR x0 b d (t.val + 1) :=
  (val_main_v9_apply (F := Ideal) x0 (ix3 b t d)).trans ((v0_any x0 (idx_main_v9 (ix3 b t d))).trans (congrArg (extR x0 b d) (show 1 + t.val = t.val + 1 by omega)))

theorem w1 (b : Fin 4) (t : Fin 8192) (d : Fin 512) : val_main_v13 (F := Ideal) x2 (ix3 b t d) = wtR x2 d 1 := by
  refine Eq.trans (b := x2 (ix3 0 ⟨1, by omega⟩ d)) ?_ rfl
  unfold val_main_v13 val_main_v12 val_main_v11 val_main_v10
  pointwise

theorem s2 (b : Fin 4) (t : Fin 8192) (d : Fin 512) : val_main_v16 (F := Ideal) x0 (ix3 b t d) = extR x0 b d (t.val + 2) :=
  (val_main_v16_apply (F := Ideal) x0 (ix3 b t d)).trans ((v0_any x0 (idx_main_v16 (ix3 b t d))).trans (congrArg (extR x0 b d) (show 2 + t.val = t.val + 2 by omega)))

theorem w2 (b : Fin 4) (t : Fin 8192) (d : Fin 512) : val_main_v20 (F := Ideal) x2 (ix3 b t d) = wtR x2 d 2 := by
  refine Eq.trans (b := x2 (ix3 0 ⟨2, by omega⟩ d)) ?_ rfl
  unfold val_main_v20 val_main_v19 val_main_v18 val_main_v17
  pointwise

theorem s3 (b : Fin 4) (t : Fin 8192) (d : Fin 512) : val_main_v23 (F := Ideal) x0 (ix3 b t d) = extR x0 b d (t.val + 3) :=
  (val_main_v23_apply (F := Ideal) x0 (ix3 b t d)).trans ((v0_any x0 (idx_main_v23 (ix3 b t d))).trans (congrArg (extR x0 b d) (show 3 + t.val = t.val + 3 by omega)))

theorem w3 (b : Fin 4) (t : Fin 8192) (d : Fin 512) : val_main_v27 (F := Ideal) x2 (ix3 b t d) = wtR x2 d 3 := by
  refine Eq.trans (b := x2 (ix3 0 ⟨3, by omega⟩ d)) ?_ rfl
  unfold val_main_v27 val_main_v26 val_main_v25 val_main_v24
  pointwise

theorem s4 (b : Fin 4) (t : Fin 8192) (d : Fin 512) : val_main_v30 (F := Ideal) x0 (ix3 b t d) = extR x0 b d (t.val + 4) :=
  (val_main_v30_apply (F := Ideal) x0 (ix3 b t d)).trans ((v0_any x0 (idx_main_v30 (ix3 b t d))).trans (congrArg (extR x0 b d) (show 4 + t.val = t.val + 4 by omega)))

theorem w4 (b : Fin 4) (t : Fin 8192) (d : Fin 512) : val_main_v34 (F := Ideal) x2 (ix3 b t d) = wtR x2 d 4 := by
  refine Eq.trans (b := x2 (ix3 0 ⟨4, by omega⟩ d)) ?_ rfl
  unfold val_main_v34 val_main_v33 val_main_v32 val_main_v31
  pointwise

theorem s5 (b : Fin 4) (t : Fin 8192) (d : Fin 512) : val_main_v37 (F := Ideal) x0 (ix3 b t d) = extR x0 b d (t.val + 5) :=
  (val_main_v37_apply (F := Ideal) x0 (ix3 b t d)).trans ((v0_any x0 (idx_main_v37 (ix3 b t d))).trans (congrArg (extR x0 b d) (show 5 + t.val = t.val + 5 by omega)))

theorem w5 (b : Fin 4) (t : Fin 8192) (d : Fin 512) : val_main_v41 (F := Ideal) x2 (ix3 b t d) = wtR x2 d 5 := by
  refine Eq.trans (b := x2 (ix3 0 ⟨5, by omega⟩ d)) ?_ rfl
  unfold val_main_v41 val_main_v40 val_main_v39 val_main_v38
  pointwise

theorem s6 (b : Fin 4) (t : Fin 8192) (d : Fin 512) : val_main_v44 (F := Ideal) x0 (ix3 b t d) = extR x0 b d (t.val + 6) :=
  (val_main_v44_apply (F := Ideal) x0 (ix3 b t d)).trans ((v0_any x0 (idx_main_v44 (ix3 b t d))).trans (congrArg (extR x0 b d) (show 6 + t.val = t.val + 6 by omega)))

theorem w6 (b : Fin 4) (t : Fin 8192) (d : Fin 512) : val_main_v48 (F := Ideal) x2 (ix3 b t d) = wtR x2 d 6 := by
  refine Eq.trans (b := x2 (ix3 0 ⟨6, by omega⟩ d)) ?_ rfl
  unfold val_main_v48 val_main_v47 val_main_v46 val_main_v45
  pointwise

theorem s7 (b : Fin 4) (t : Fin 8192) (d : Fin 512) : val_main_v51 (F := Ideal) x0 (ix3 b t d) = extR x0 b d (t.val + 7) :=
  (val_main_v51_apply (F := Ideal) x0 (ix3 b t d)).trans ((v0_any x0 (idx_main_v51 (ix3 b t d))).trans (congrArg (extR x0 b d) (show 7 + t.val = t.val + 7 by omega)))

theorem w7 (b : Fin 4) (t : Fin 8192) (d : Fin 512) : val_main_v55 (F := Ideal) x2 (ix3 b t d) = wtR x2 d 7 := by
  refine Eq.trans (b := x2 (ix3 0 ⟨7, by omega⟩ d)) ?_ rfl
  unfold val_main_v55 val_main_v54 val_main_v53 val_main_v52
  pointwise

theorem s8 (b : Fin 4) (t : Fin 8192) (d : Fin 512) : val_main_v58 (F := Ideal) x0 (ix3 b t d) = extR x0 b d (t.val + 8) :=
  (val_main_v58_apply (F := Ideal) x0 (ix3 b t d)).trans ((v0_any x0 (idx_main_v58 (ix3 b t d))).trans (congrArg (extR x0 b d) (show 8 + t.val = t.val + 8 by omega)))

theorem w8 (b : Fin 4) (t : Fin 8192) (d : Fin 512) : val_main_v62 (F := Ideal) x2 (ix3 b t d) = wtR x2 d 8 := by
  refine Eq.trans (b := x2 (ix3 0 ⟨8, by omega⟩ d)) ?_ rfl
  unfold val_main_v62 val_main_v61 val_main_v60 val_main_v59
  pointwise

theorem s9 (b : Fin 4) (t : Fin 8192) (d : Fin 512) : val_main_v65 (F := Ideal) x0 (ix3 b t d) = extR x0 b d (t.val + 9) :=
  (val_main_v65_apply (F := Ideal) x0 (ix3 b t d)).trans ((v0_any x0 (idx_main_v65 (ix3 b t d))).trans (congrArg (extR x0 b d) (show 9 + t.val = t.val + 9 by omega)))

theorem w9 (b : Fin 4) (t : Fin 8192) (d : Fin 512) : val_main_v69 (F := Ideal) x2 (ix3 b t d) = wtR x2 d 9 := by
  refine Eq.trans (b := x2 (ix3 0 ⟨9, by omega⟩ d)) ?_ rfl
  unfold val_main_v69 val_main_v68 val_main_v67 val_main_v66
  pointwise

theorem s10 (b : Fin 4) (t : Fin 8192) (d : Fin 512) : val_main_v72 (F := Ideal) x0 (ix3 b t d) = extR x0 b d (t.val + 10) :=
  (val_main_v72_apply (F := Ideal) x0 (ix3 b t d)).trans ((v0_any x0 (idx_main_v72 (ix3 b t d))).trans (congrArg (extR x0 b d) (show 10 + t.val = t.val + 10 by omega)))

theorem w10 (b : Fin 4) (t : Fin 8192) (d : Fin 512) : val_main_v76 (F := Ideal) x2 (ix3 b t d) = wtR x2 d 10 := by
  refine Eq.trans (b := x2 (ix3 0 ⟨10, by omega⟩ d)) ?_ rfl
  unfold val_main_v76 val_main_v75 val_main_v74 val_main_v73
  pointwise

theorem s11 (b : Fin 4) (t : Fin 8192) (d : Fin 512) : val_main_v79 (F := Ideal) x0 (ix3 b t d) = extR x0 b d (t.val + 11) :=
  (val_main_v79_apply (F := Ideal) x0 (ix3 b t d)).trans ((v0_any x0 (idx_main_v79 (ix3 b t d))).trans (congrArg (extR x0 b d) (show 11 + t.val = t.val + 11 by omega)))

theorem w11 (b : Fin 4) (t : Fin 8192) (d : Fin 512) : val_main_v83 (F := Ideal) x2 (ix3 b t d) = wtR x2 d 11 := by
  refine Eq.trans (b := x2 (ix3 0 ⟨11, by omega⟩ d)) ?_ rfl
  unfold val_main_v83 val_main_v82 val_main_v81 val_main_v80
  pointwise

theorem s12 (b : Fin 4) (t : Fin 8192) (d : Fin 512) : val_main_v86 (F := Ideal) x0 (ix3 b t d) = extR x0 b d (t.val + 12) :=
  (val_main_v86_apply (F := Ideal) x0 (ix3 b t d)).trans ((v0_any x0 (idx_main_v86 (ix3 b t d))).trans (congrArg (extR x0 b d) (show 12 + t.val = t.val + 12 by omega)))

theorem w12 (b : Fin 4) (t : Fin 8192) (d : Fin 512) : val_main_v90 (F := Ideal) x2 (ix3 b t d) = wtR x2 d 12 := by
  refine Eq.trans (b := x2 (ix3 0 ⟨12, by omega⟩ d)) ?_ rfl
  unfold val_main_v90 val_main_v89 val_main_v88 val_main_v87
  pointwise

theorem s13 (b : Fin 4) (t : Fin 8192) (d : Fin 512) : val_main_v93 (F := Ideal) x0 (ix3 b t d) = extR x0 b d (t.val + 13) :=
  (val_main_v93_apply (F := Ideal) x0 (ix3 b t d)).trans ((v0_any x0 (idx_main_v93 (ix3 b t d))).trans (congrArg (extR x0 b d) (show 13 + t.val = t.val + 13 by omega)))

theorem w13 (b : Fin 4) (t : Fin 8192) (d : Fin 512) : val_main_v97 (F := Ideal) x2 (ix3 b t d) = wtR x2 d 13 := by
  refine Eq.trans (b := x2 (ix3 0 ⟨13, by omega⟩ d)) ?_ rfl
  unfold val_main_v97 val_main_v96 val_main_v95 val_main_v94
  pointwise

theorem s14 (b : Fin 4) (t : Fin 8192) (d : Fin 512) : val_main_v100 (F := Ideal) x0 (ix3 b t d) = extR x0 b d (t.val + 14) :=
  (val_main_v100_apply (F := Ideal) x0 (ix3 b t d)).trans ((v0_any x0 (idx_main_v100 (ix3 b t d))).trans (congrArg (extR x0 b d) (show 14 + t.val = t.val + 14 by omega)))

theorem w14 (b : Fin 4) (t : Fin 8192) (d : Fin 512) : val_main_v104 (F := Ideal) x2 (ix3 b t d) = wtR x2 d 14 := by
  refine Eq.trans (b := x2 (ix3 0 ⟨14, by omega⟩ d)) ?_ rfl
  unfold val_main_v104 val_main_v103 val_main_v102 val_main_v101
  pointwise

theorem s15 (b : Fin 4) (t : Fin 8192) (d : Fin 512) : val_main_v107 (F := Ideal) x0 (ix3 b t d) = extR x0 b d (t.val + 15) :=
  (val_main_v107_apply (F := Ideal) x0 (ix3 b t d)).trans ((v0_any x0 (idx_main_v107 (ix3 b t d))).trans (congrArg (extR x0 b d) (show 15 + t.val = t.val + 15 by omega)))

theorem w15 (b : Fin 4) (t : Fin 8192) (d : Fin 512) : val_main_v111 (F := Ideal) x2 (ix3 b t d) = wtR x2 d 15 := by
  refine Eq.trans (b := x2 (ix3 0 ⟨15, by omega⟩ d)) ?_ rfl
  unfold val_main_v111 val_main_v110 val_main_v109 val_main_v108
  pointwise

theorem s16 (b : Fin 4) (t : Fin 8192) (d : Fin 512) : val_main_v114 (F := Ideal) x0 (ix3 b t d) = extR x0 b d (t.val + 16) :=
  (val_main_v114_apply (F := Ideal) x0 (ix3 b t d)).trans ((v0_any x0 (idx_main_v114 (ix3 b t d))).trans (congrArg (extR x0 b d) (show 16 + t.val = t.val + 16 by omega)))

theorem w16 (b : Fin 4) (t : Fin 8192) (d : Fin 512) : val_main_v118 (F := Ideal) x2 (ix3 b t d) = wtR x2 d 16 := by
  refine Eq.trans (b := x2 (ix3 0 ⟨16, by omega⟩ d)) ?_ rfl
  unfold val_main_v118 val_main_v117 val_main_v116 val_main_v115
  pointwise

theorem s17 (b : Fin 4) (t : Fin 8192) (d : Fin 512) : val_main_v121 (F := Ideal) x0 (ix3 b t d) = extR x0 b d (t.val + 17) :=
  (val_main_v121_apply (F := Ideal) x0 (ix3 b t d)).trans ((v0_any x0 (idx_main_v121 (ix3 b t d))).trans (congrArg (extR x0 b d) (show 17 + t.val = t.val + 17 by omega)))

theorem w17 (b : Fin 4) (t : Fin 8192) (d : Fin 512) : val_main_v125 (F := Ideal) x2 (ix3 b t d) = wtR x2 d 17 := by
  refine Eq.trans (b := x2 (ix3 0 ⟨17, by omega⟩ d)) ?_ rfl
  unfold val_main_v125 val_main_v124 val_main_v123 val_main_v122
  pointwise

theorem s18 (b : Fin 4) (t : Fin 8192) (d : Fin 512) : val_main_v128 (F := Ideal) x0 (ix3 b t d) = extR x0 b d (t.val + 18) :=
  (val_main_v128_apply (F := Ideal) x0 (ix3 b t d)).trans ((v0_any x0 (idx_main_v128 (ix3 b t d))).trans (congrArg (extR x0 b d) (show 18 + t.val = t.val + 18 by omega)))

theorem w18 (b : Fin 4) (t : Fin 8192) (d : Fin 512) : val_main_v132 (F := Ideal) x2 (ix3 b t d) = wtR x2 d 18 := by
  refine Eq.trans (b := x2 (ix3 0 ⟨18, by omega⟩ d)) ?_ rfl
  unfold val_main_v132 val_main_v131 val_main_v130 val_main_v129
  pointwise

theorem s19 (b : Fin 4) (t : Fin 8192) (d : Fin 512) : val_main_v135 (F := Ideal) x0 (ix3 b t d) = extR x0 b d (t.val + 19) :=
  (val_main_v135_apply (F := Ideal) x0 (ix3 b t d)).trans ((v0_any x0 (idx_main_v135 (ix3 b t d))).trans (congrArg (extR x0 b d) (show 19 + t.val = t.val + 19 by omega)))

theorem w19 (b : Fin 4) (t : Fin 8192) (d : Fin 512) : val_main_v139 (F := Ideal) x2 (ix3 b t d) = wtR x2 d 19 := by
  refine Eq.trans (b := x2 (ix3 0 ⟨19, by omega⟩ d)) ?_ rfl
  unfold val_main_v139 val_main_v138 val_main_v137 val_main_v136
  pointwise

theorem s20 (b : Fin 4) (t : Fin 8192) (d : Fin 512) : val_main_v142 (F := Ideal) x0 (ix3 b t d) = extR x0 b d (t.val + 20) :=
  (val_main_v142_apply (F := Ideal) x0 (ix3 b t d)).trans ((v0_any x0 (idx_main_v142 (ix3 b t d))).trans (congrArg (extR x0 b d) (show 20 + t.val = t.val + 20 by omega)))

theorem w20 (b : Fin 4) (t : Fin 8192) (d : Fin 512) : val_main_v146 (F := Ideal) x2 (ix3 b t d) = wtR x2 d 20 := by
  refine Eq.trans (b := x2 (ix3 0 ⟨20, by omega⟩ d)) ?_ rfl
  unfold val_main_v146 val_main_v145 val_main_v144 val_main_v143
  pointwise

theorem s21 (b : Fin 4) (t : Fin 8192) (d : Fin 512) : val_main_v149 (F := Ideal) x0 (ix3 b t d) = extR x0 b d (t.val + 21) :=
  (val_main_v149_apply (F := Ideal) x0 (ix3 b t d)).trans ((v0_any x0 (idx_main_v149 (ix3 b t d))).trans (congrArg (extR x0 b d) (show 21 + t.val = t.val + 21 by omega)))

theorem w21 (b : Fin 4) (t : Fin 8192) (d : Fin 512) : val_main_v153 (F := Ideal) x2 (ix3 b t d) = wtR x2 d 21 := by
  refine Eq.trans (b := x2 (ix3 0 ⟨21, by omega⟩ d)) ?_ rfl
  unfold val_main_v153 val_main_v152 val_main_v151 val_main_v150
  pointwise

theorem s22 (b : Fin 4) (t : Fin 8192) (d : Fin 512) : val_main_v156 (F := Ideal) x0 (ix3 b t d) = extR x0 b d (t.val + 22) :=
  (val_main_v156_apply (F := Ideal) x0 (ix3 b t d)).trans ((v0_any x0 (idx_main_v156 (ix3 b t d))).trans (congrArg (extR x0 b d) (show 22 + t.val = t.val + 22 by omega)))

theorem w22 (b : Fin 4) (t : Fin 8192) (d : Fin 512) : val_main_v160 (F := Ideal) x2 (ix3 b t d) = wtR x2 d 22 := by
  refine Eq.trans (b := x2 (ix3 0 ⟨22, by omega⟩ d)) ?_ rfl
  unfold val_main_v160 val_main_v159 val_main_v158 val_main_v157
  pointwise

theorem s23 (b : Fin 4) (t : Fin 8192) (d : Fin 512) : val_main_v163 (F := Ideal) x0 (ix3 b t d) = extR x0 b d (t.val + 23) :=
  (val_main_v163_apply (F := Ideal) x0 (ix3 b t d)).trans ((v0_any x0 (idx_main_v163 (ix3 b t d))).trans (congrArg (extR x0 b d) (show 23 + t.val = t.val + 23 by omega)))

theorem w23 (b : Fin 4) (t : Fin 8192) (d : Fin 512) : val_main_v167 (F := Ideal) x2 (ix3 b t d) = wtR x2 d 23 := by
  refine Eq.trans (b := x2 (ix3 0 ⟨23, by omega⟩ d)) ?_ rfl
  unfold val_main_v167 val_main_v166 val_main_v165 val_main_v164
  pointwise

theorem s24 (b : Fin 4) (t : Fin 8192) (d : Fin 512) : val_main_v170 (F := Ideal) x0 (ix3 b t d) = extR x0 b d (t.val + 24) :=
  (val_main_v170_apply (F := Ideal) x0 (ix3 b t d)).trans ((v0_any x0 (idx_main_v170 (ix3 b t d))).trans (congrArg (extR x0 b d) (show 24 + t.val = t.val + 24 by omega)))

theorem w24 (b : Fin 4) (t : Fin 8192) (d : Fin 512) : val_main_v174 (F := Ideal) x2 (ix3 b t d) = wtR x2 d 24 := by
  refine Eq.trans (b := x2 (ix3 0 ⟨24, by omega⟩ d)) ?_ rfl
  unfold val_main_v174 val_main_v173 val_main_v172 val_main_v171
  pointwise

theorem s25 (b : Fin 4) (t : Fin 8192) (d : Fin 512) : val_main_v177 (F := Ideal) x0 (ix3 b t d) = extR x0 b d (t.val + 25) :=
  (val_main_v177_apply (F := Ideal) x0 (ix3 b t d)).trans ((v0_any x0 (idx_main_v177 (ix3 b t d))).trans (congrArg (extR x0 b d) (show 25 + t.val = t.val + 25 by omega)))

theorem w25 (b : Fin 4) (t : Fin 8192) (d : Fin 512) : val_main_v181 (F := Ideal) x2 (ix3 b t d) = wtR x2 d 25 := by
  refine Eq.trans (b := x2 (ix3 0 ⟨25, by omega⟩ d)) ?_ rfl
  unfold val_main_v181 val_main_v180 val_main_v179 val_main_v178
  pointwise

theorem s26 (b : Fin 4) (t : Fin 8192) (d : Fin 512) : val_main_v184 (F := Ideal) x0 (ix3 b t d) = extR x0 b d (t.val + 26) :=
  (val_main_v184_apply (F := Ideal) x0 (ix3 b t d)).trans ((v0_any x0 (idx_main_v184 (ix3 b t d))).trans (congrArg (extR x0 b d) (show 26 + t.val = t.val + 26 by omega)))

theorem w26 (b : Fin 4) (t : Fin 8192) (d : Fin 512) : val_main_v188 (F := Ideal) x2 (ix3 b t d) = wtR x2 d 26 := by
  refine Eq.trans (b := x2 (ix3 0 ⟨26, by omega⟩ d)) ?_ rfl
  unfold val_main_v188 val_main_v187 val_main_v186 val_main_v185
  pointwise

theorem s27 (b : Fin 4) (t : Fin 8192) (d : Fin 512) : val_main_v191 (F := Ideal) x0 (ix3 b t d) = extR x0 b d (t.val + 27) :=
  (val_main_v191_apply (F := Ideal) x0 (ix3 b t d)).trans ((v0_any x0 (idx_main_v191 (ix3 b t d))).trans (congrArg (extR x0 b d) (show 27 + t.val = t.val + 27 by omega)))

theorem w27 (b : Fin 4) (t : Fin 8192) (d : Fin 512) : val_main_v195 (F := Ideal) x2 (ix3 b t d) = wtR x2 d 27 := by
  refine Eq.trans (b := x2 (ix3 0 ⟨27, by omega⟩ d)) ?_ rfl
  unfold val_main_v195 val_main_v194 val_main_v193 val_main_v192
  pointwise

theorem s28 (b : Fin 4) (t : Fin 8192) (d : Fin 512) : val_main_v198 (F := Ideal) x0 (ix3 b t d) = extR x0 b d (t.val + 28) :=
  (val_main_v198_apply (F := Ideal) x0 (ix3 b t d)).trans ((v0_any x0 (idx_main_v198 (ix3 b t d))).trans (congrArg (extR x0 b d) (show 28 + t.val = t.val + 28 by omega)))

theorem w28 (b : Fin 4) (t : Fin 8192) (d : Fin 512) : val_main_v202 (F := Ideal) x2 (ix3 b t d) = wtR x2 d 28 := by
  refine Eq.trans (b := x2 (ix3 0 ⟨28, by omega⟩ d)) ?_ rfl
  unfold val_main_v202 val_main_v201 val_main_v200 val_main_v199
  pointwise

theorem s29 (b : Fin 4) (t : Fin 8192) (d : Fin 512) : val_main_v205 (F := Ideal) x0 (ix3 b t d) = extR x0 b d (t.val + 29) :=
  (val_main_v205_apply (F := Ideal) x0 (ix3 b t d)).trans ((v0_any x0 (idx_main_v205 (ix3 b t d))).trans (congrArg (extR x0 b d) (show 29 + t.val = t.val + 29 by omega)))

theorem w29 (b : Fin 4) (t : Fin 8192) (d : Fin 512) : val_main_v209 (F := Ideal) x2 (ix3 b t d) = wtR x2 d 29 := by
  refine Eq.trans (b := x2 (ix3 0 ⟨29, by omega⟩ d)) ?_ rfl
  unfold val_main_v209 val_main_v208 val_main_v207 val_main_v206
  pointwise

theorem s30 (b : Fin 4) (t : Fin 8192) (d : Fin 512) : val_main_v212 (F := Ideal) x0 (ix3 b t d) = extR x0 b d (t.val + 30) :=
  (val_main_v212_apply (F := Ideal) x0 (ix3 b t d)).trans ((v0_any x0 (idx_main_v212 (ix3 b t d))).trans (congrArg (extR x0 b d) (show 30 + t.val = t.val + 30 by omega)))

theorem w30 (b : Fin 4) (t : Fin 8192) (d : Fin 512) : val_main_v216 (F := Ideal) x2 (ix3 b t d) = wtR x2 d 30 := by
  refine Eq.trans (b := x2 (ix3 0 ⟨30, by omega⟩ d)) ?_ rfl
  unfold val_main_v216 val_main_v215 val_main_v214 val_main_v213
  pointwise

theorem bias (b : Fin 4) (t : Fin 8192) (d : Fin 512) : val_main_v221 (F := Ideal) x3 (ix3 b t d) = x3 (ix2 0 d) := by
  unfold val_main_v221 val_main_v220 val_main_v219
  pointwise

theorem zero_at (b : Fin 4) (t : Fin 8192) (d : Fin 512) : val_main_v7 (F := Ideal) (ix3 b t d) = Ideal.ofBits FTy.f32 0#32 := by
  unfold val_main_v7 val_main_cst
  pointwise

/-- The convolution at one entry. -/
theorem row_at (b : Fin 4) (t : Fin 8192) (d : Fin 512) : val_main_v222 (F := Ideal) x0 x2 x3 (ix3 b t d) = rowR x0 x2 x3 b t.val d := by
  have m0 := (val_main_v6_apply (F := Ideal) x0 x2 (ix3 b t d)).trans (congrArg₂ (fun x y : EReal => x * y) (s0 x0 b t d) (w0 x2 b t d))
  have a0 := (val_main_v8_apply (F := Ideal) x0 x2 (ix3 b t d)).trans (congrArg₂ (fun x y : EReal => x + y) (zero_at b t d) m0)
  have m1 := (val_main_v14_apply (F := Ideal) x0 x2 (ix3 b t d)).trans (congrArg₂ (fun x y : EReal => x * y) (s1 x0 b t d) (w1 x2 b t d))
  have a1 := (val_main_v15_apply (F := Ideal) x0 x2 (ix3 b t d)).trans (congrArg₂ (fun x y : EReal => x + y) a0 m1)
  have m2 := (val_main_v21_apply (F := Ideal) x0 x2 (ix3 b t d)).trans (congrArg₂ (fun x y : EReal => x * y) (s2 x0 b t d) (w2 x2 b t d))
  have a2 := (val_main_v22_apply (F := Ideal) x0 x2 (ix3 b t d)).trans (congrArg₂ (fun x y : EReal => x + y) a1 m2)
  have m3 := (val_main_v28_apply (F := Ideal) x0 x2 (ix3 b t d)).trans (congrArg₂ (fun x y : EReal => x * y) (s3 x0 b t d) (w3 x2 b t d))
  have a3 := (val_main_v29_apply (F := Ideal) x0 x2 (ix3 b t d)).trans (congrArg₂ (fun x y : EReal => x + y) a2 m3)
  have m4 := (val_main_v35_apply (F := Ideal) x0 x2 (ix3 b t d)).trans (congrArg₂ (fun x y : EReal => x * y) (s4 x0 b t d) (w4 x2 b t d))
  have a4 := (val_main_v36_apply (F := Ideal) x0 x2 (ix3 b t d)).trans (congrArg₂ (fun x y : EReal => x + y) a3 m4)
  have m5 := (val_main_v42_apply (F := Ideal) x0 x2 (ix3 b t d)).trans (congrArg₂ (fun x y : EReal => x * y) (s5 x0 b t d) (w5 x2 b t d))
  have a5 := (val_main_v43_apply (F := Ideal) x0 x2 (ix3 b t d)).trans (congrArg₂ (fun x y : EReal => x + y) a4 m5)
  have m6 := (val_main_v49_apply (F := Ideal) x0 x2 (ix3 b t d)).trans (congrArg₂ (fun x y : EReal => x * y) (s6 x0 b t d) (w6 x2 b t d))
  have a6 := (val_main_v50_apply (F := Ideal) x0 x2 (ix3 b t d)).trans (congrArg₂ (fun x y : EReal => x + y) a5 m6)
  have m7 := (val_main_v56_apply (F := Ideal) x0 x2 (ix3 b t d)).trans (congrArg₂ (fun x y : EReal => x * y) (s7 x0 b t d) (w7 x2 b t d))
  have a7 := (val_main_v57_apply (F := Ideal) x0 x2 (ix3 b t d)).trans (congrArg₂ (fun x y : EReal => x + y) a6 m7)
  have m8 := (val_main_v63_apply (F := Ideal) x0 x2 (ix3 b t d)).trans (congrArg₂ (fun x y : EReal => x * y) (s8 x0 b t d) (w8 x2 b t d))
  have a8 := (val_main_v64_apply (F := Ideal) x0 x2 (ix3 b t d)).trans (congrArg₂ (fun x y : EReal => x + y) a7 m8)
  have m9 := (val_main_v70_apply (F := Ideal) x0 x2 (ix3 b t d)).trans (congrArg₂ (fun x y : EReal => x * y) (s9 x0 b t d) (w9 x2 b t d))
  have a9 := (val_main_v71_apply (F := Ideal) x0 x2 (ix3 b t d)).trans (congrArg₂ (fun x y : EReal => x + y) a8 m9)
  have m10 := (val_main_v77_apply (F := Ideal) x0 x2 (ix3 b t d)).trans (congrArg₂ (fun x y : EReal => x * y) (s10 x0 b t d) (w10 x2 b t d))
  have a10 := (val_main_v78_apply (F := Ideal) x0 x2 (ix3 b t d)).trans (congrArg₂ (fun x y : EReal => x + y) a9 m10)
  have m11 := (val_main_v84_apply (F := Ideal) x0 x2 (ix3 b t d)).trans (congrArg₂ (fun x y : EReal => x * y) (s11 x0 b t d) (w11 x2 b t d))
  have a11 := (val_main_v85_apply (F := Ideal) x0 x2 (ix3 b t d)).trans (congrArg₂ (fun x y : EReal => x + y) a10 m11)
  have m12 := (val_main_v91_apply (F := Ideal) x0 x2 (ix3 b t d)).trans (congrArg₂ (fun x y : EReal => x * y) (s12 x0 b t d) (w12 x2 b t d))
  have a12 := (val_main_v92_apply (F := Ideal) x0 x2 (ix3 b t d)).trans (congrArg₂ (fun x y : EReal => x + y) a11 m12)
  have m13 := (val_main_v98_apply (F := Ideal) x0 x2 (ix3 b t d)).trans (congrArg₂ (fun x y : EReal => x * y) (s13 x0 b t d) (w13 x2 b t d))
  have a13 := (val_main_v99_apply (F := Ideal) x0 x2 (ix3 b t d)).trans (congrArg₂ (fun x y : EReal => x + y) a12 m13)
  have m14 := (val_main_v105_apply (F := Ideal) x0 x2 (ix3 b t d)).trans (congrArg₂ (fun x y : EReal => x * y) (s14 x0 b t d) (w14 x2 b t d))
  have a14 := (val_main_v106_apply (F := Ideal) x0 x2 (ix3 b t d)).trans (congrArg₂ (fun x y : EReal => x + y) a13 m14)
  have m15 := (val_main_v112_apply (F := Ideal) x0 x2 (ix3 b t d)).trans (congrArg₂ (fun x y : EReal => x * y) (s15 x0 b t d) (w15 x2 b t d))
  have a15 := (val_main_v113_apply (F := Ideal) x0 x2 (ix3 b t d)).trans (congrArg₂ (fun x y : EReal => x + y) a14 m15)
  have m16 := (val_main_v119_apply (F := Ideal) x0 x2 (ix3 b t d)).trans (congrArg₂ (fun x y : EReal => x * y) (s16 x0 b t d) (w16 x2 b t d))
  have a16 := (val_main_v120_apply (F := Ideal) x0 x2 (ix3 b t d)).trans (congrArg₂ (fun x y : EReal => x + y) a15 m16)
  have m17 := (val_main_v126_apply (F := Ideal) x0 x2 (ix3 b t d)).trans (congrArg₂ (fun x y : EReal => x * y) (s17 x0 b t d) (w17 x2 b t d))
  have a17 := (val_main_v127_apply (F := Ideal) x0 x2 (ix3 b t d)).trans (congrArg₂ (fun x y : EReal => x + y) a16 m17)
  have m18 := (val_main_v133_apply (F := Ideal) x0 x2 (ix3 b t d)).trans (congrArg₂ (fun x y : EReal => x * y) (s18 x0 b t d) (w18 x2 b t d))
  have a18 := (val_main_v134_apply (F := Ideal) x0 x2 (ix3 b t d)).trans (congrArg₂ (fun x y : EReal => x + y) a17 m18)
  have m19 := (val_main_v140_apply (F := Ideal) x0 x2 (ix3 b t d)).trans (congrArg₂ (fun x y : EReal => x * y) (s19 x0 b t d) (w19 x2 b t d))
  have a19 := (val_main_v141_apply (F := Ideal) x0 x2 (ix3 b t d)).trans (congrArg₂ (fun x y : EReal => x + y) a18 m19)
  have m20 := (val_main_v147_apply (F := Ideal) x0 x2 (ix3 b t d)).trans (congrArg₂ (fun x y : EReal => x * y) (s20 x0 b t d) (w20 x2 b t d))
  have a20 := (val_main_v148_apply (F := Ideal) x0 x2 (ix3 b t d)).trans (congrArg₂ (fun x y : EReal => x + y) a19 m20)
  have m21 := (val_main_v154_apply (F := Ideal) x0 x2 (ix3 b t d)).trans (congrArg₂ (fun x y : EReal => x * y) (s21 x0 b t d) (w21 x2 b t d))
  have a21 := (val_main_v155_apply (F := Ideal) x0 x2 (ix3 b t d)).trans (congrArg₂ (fun x y : EReal => x + y) a20 m21)
  have m22 := (val_main_v161_apply (F := Ideal) x0 x2 (ix3 b t d)).trans (congrArg₂ (fun x y : EReal => x * y) (s22 x0 b t d) (w22 x2 b t d))
  have a22 := (val_main_v162_apply (F := Ideal) x0 x2 (ix3 b t d)).trans (congrArg₂ (fun x y : EReal => x + y) a21 m22)
  have m23 := (val_main_v168_apply (F := Ideal) x0 x2 (ix3 b t d)).trans (congrArg₂ (fun x y : EReal => x * y) (s23 x0 b t d) (w23 x2 b t d))
  have a23 := (val_main_v169_apply (F := Ideal) x0 x2 (ix3 b t d)).trans (congrArg₂ (fun x y : EReal => x + y) a22 m23)
  have m24 := (val_main_v175_apply (F := Ideal) x0 x2 (ix3 b t d)).trans (congrArg₂ (fun x y : EReal => x * y) (s24 x0 b t d) (w24 x2 b t d))
  have a24 := (val_main_v176_apply (F := Ideal) x0 x2 (ix3 b t d)).trans (congrArg₂ (fun x y : EReal => x + y) a23 m24)
  have m25 := (val_main_v182_apply (F := Ideal) x0 x2 (ix3 b t d)).trans (congrArg₂ (fun x y : EReal => x * y) (s25 x0 b t d) (w25 x2 b t d))
  have a25 := (val_main_v183_apply (F := Ideal) x0 x2 (ix3 b t d)).trans (congrArg₂ (fun x y : EReal => x + y) a24 m25)
  have m26 := (val_main_v189_apply (F := Ideal) x0 x2 (ix3 b t d)).trans (congrArg₂ (fun x y : EReal => x * y) (s26 x0 b t d) (w26 x2 b t d))
  have a26 := (val_main_v190_apply (F := Ideal) x0 x2 (ix3 b t d)).trans (congrArg₂ (fun x y : EReal => x + y) a25 m26)
  have m27 := (val_main_v196_apply (F := Ideal) x0 x2 (ix3 b t d)).trans (congrArg₂ (fun x y : EReal => x * y) (s27 x0 b t d) (w27 x2 b t d))
  have a27 := (val_main_v197_apply (F := Ideal) x0 x2 (ix3 b t d)).trans (congrArg₂ (fun x y : EReal => x + y) a26 m27)
  have m28 := (val_main_v203_apply (F := Ideal) x0 x2 (ix3 b t d)).trans (congrArg₂ (fun x y : EReal => x * y) (s28 x0 b t d) (w28 x2 b t d))
  have a28 := (val_main_v204_apply (F := Ideal) x0 x2 (ix3 b t d)).trans (congrArg₂ (fun x y : EReal => x + y) a27 m28)
  have m29 := (val_main_v210_apply (F := Ideal) x0 x2 (ix3 b t d)).trans (congrArg₂ (fun x y : EReal => x * y) (s29 x0 b t d) (w29 x2 b t d))
  have a29 := (val_main_v211_apply (F := Ideal) x0 x2 (ix3 b t d)).trans (congrArg₂ (fun x y : EReal => x + y) a28 m29)
  have m30 := (val_main_v217_apply (F := Ideal) x0 x2 (ix3 b t d)).trans (congrArg₂ (fun x y : EReal => x * y) (s30 x0 b t d) (w30 x2 b t d))
  have a30 := (val_main_v218_apply (F := Ideal) x0 x2 (ix3 b t d)).trans (congrArg₂ (fun x y : EReal => x + y) a29 m30)
  exact (val_main_v222_apply (F := Ideal) x0 x2 x3 (ix3 b t d)).trans (congrArg₂ (fun x y : EReal => x + y) a30 (bias x3 b t d))

theorem ln_at (b : Fin 4) (t : Fin 8192) (d : Fin 512) : val_main_v248 (F := Ideal) x0 x2 x3 x4 x5 (ix3 b t d)
    = lnR (fun d => val_main_v222 (F := Ideal) x0 x2 x3 (ix3 b t d)) (fun d => x4 (ix2 0 d)) (fun d => x5 (ix2 0 d)) d := by
  unfold val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227 val_main_v226 val_main_v225 val_main_v224 val_main_v223 val_main_cst_0 val_main_cst_1 val_main_cst_2 val_main_cst_3 val_main_cst_4
  generalize val_main_v222 (F := Ideal) x0 x2 x3 = y
  unfold lnR lnN lnV lnC
  pointwise

/-- The reference's result at one entry. -/
theorem v250_at (b : Fin 4) (t : Fin 8192) (d : Fin 512) : val_main_v250 (F := Ideal) x0 x1 x2 x3 x4 x5 (ix3 b t d) = outR x0 x1 x2 x3 x4 x5 b t d := by
  refine Eq.trans (b := siluf (val_main_v248 (F := Ideal) x0 x2 x3 x4 x5 (ix3 b t d)) * x1 (ix3 b t d)) ?_ ?_
  · unfold val_main_v250 val_main_v249 val_main_call1_v5 val_main_call1_v4 val_main_call1_cst_0 val_main_call1_v3 val_main_call1_v2 val_main_call1_cst val_main_call1_v1 val_main_call1_v0
    generalize val_main_v248 (F := Ideal) x0 x2 x3 x4 x5 = y
    unfold siluf Ideal.logistic
    pointwise
  · rw [ln_at]
    unfold outR
    simp only [row_at]

end Cert.Reference7Ideal.Conv
end
-- ==== Proof.P7Math.lean ====
module

public import proofs.«01_k».proof.Proof.P7Ref
public import proofs.«01_k».proof.Proof.Gen.Kernel7Ideal.Frame
public import Idealize.ShloMosaic.Lib.Claim
public import Idealize.ShloMosaic.Lib.VecWindow
public import Idealize.ShloMosaic.Lib.Pipeline.Value

/-! The convolution of the prompt: what one trip of its counted loop stores, at one entry of the 32 rows it stores. -/

@[expose] public section

set_option maxRecDepth 16384

noncomputable section

namespace Cert.Kernel7Ideal.Conv

open Cert.Kernel7Ideal Cert.Kernel7Ideal.Gen
open Cert.Kernel2Ideal.Proj (siluf)
open Cert.Kernel5Ideal.Conv (conv lnC lnV lnN lnR all3)
open Idealize.ShloMosaic Idealize.ShloMosaic.TcCoe Idealize.ShloMosaic.Tactic Idealize.ShloMosaic.Pointwise
open Idealize.SL.Sem

theorem pay5_at (v : FVec Ideal S64x512 .f32) (w0 : FVec Ideal S1x512 .f32) (w1 : FVec Ideal S1x512 .f32) (w2 : FVec Ideal S1x512 .f32) (w3 : FVec Ideal S1x512 .f32) (w4 : FVec Ideal S1x512 .f32) (w5 : FVec Ideal S1x512 .f32) (r : Fin 32) (d : Fin 512) :
    (k0_pay5 v w0 w1 w2 w3 w4 w5 : FVec Ideal S32x512 .f32) (ix2 r d) = Ideal.ofBits FTy.f32 0#32 + v (ix2 ⟨2 + r.val, by omega⟩ d) * w0 (ix2 0 d) + v (ix2 ⟨3 + r.val, by omega⟩ d) * w1 (ix2 0 d) + v (ix2 ⟨4 + r.val, by omega⟩ d) * w2 (ix2 0 d) + v (ix2 ⟨5 + r.val, by omega⟩ d) * w3 (ix2 0 d) + v (ix2 ⟨6 + r.val, by omega⟩ d) * w4 (ix2 0 d) + v (ix2 ⟨7 + r.val, by omega⟩ d) * w5 (ix2 0 d) := by
  unfold k0_pay5
  pointwise

theorem pay6_at (v : FVec Ideal S64x512 .f32) (r : Fin 32) (d : Fin 512) :
    (k0_pay6 v : FVec Ideal S32x512 .f32) (ix2 r d) = v (ix2 ⟨8 + r.val, by omega⟩ d) := by
  unfold k0_pay6
  pointwise

theorem pay7_at (v : FVec Ideal S64x512 .f32) (a : FVec Ideal S32x512 .f32) (b : FVec Ideal S32x512 .f32) (w6 : FVec Ideal S1x512 .f32) (w7 : FVec Ideal S1x512 .f32) (w8 : FVec Ideal S1x512 .f32) (w9 : FVec Ideal S1x512 .f32) (w10 : FVec Ideal S1x512 .f32) (w11 : FVec Ideal S1x512 .f32) (w12 : FVec Ideal S1x512 .f32) (r : Fin 32) (d : Fin 512) :
    (k0_pay7 v a b w6 w7 w8 w9 w10 w11 w12 : FVec Ideal S32x512 .f32) (ix2 r d) = a (ix2 r d) + b (ix2 r d) * w6 (ix2 0 d) + v (ix2 ⟨9 + r.val, by omega⟩ d) * w7 (ix2 0 d) + v (ix2 ⟨10 + r.val, by omega⟩ d) * w8 (ix2 0 d) + v (ix2 ⟨11 + r.val, by omega⟩ d) * w9 (ix2 0 d) + v (ix2 ⟨12 + r.val, by omega⟩ d) * w10 (ix2 0 d) + v (ix2 ⟨13 + r.val, by omega⟩ d) * w11 (ix2 0 d) + v (ix2 ⟨14 + r.val, by omega⟩ d) * w12 (ix2 0 d) := by
  unfold k0_pay7
  pointwise

theorem pay8_at (v : FVec Ideal S64x512 .f32) (w13 : FVec Ideal S1x512 .f32) (r : Fin 32) (d : Fin 512) :
    (k0_pay8 v w13 : FVec Ideal S32x512 .f32) (ix2 r d) = v (ix2 ⟨15 + r.val, by omega⟩ d) * w13 (ix2 0 d) := by
  unfold k0_pay8
  pointwise

theorem pay9_at (v : FVec Ideal S64x512 .f32) (a : FVec Ideal S32x512 .f32) (b : FVec Ideal S32x512 .f32) (w14 : FVec Ideal S1x512 .f32) (w15 : FVec Ideal S1x512 .f32) (w16 : FVec Ideal S1x512 .f32) (w17 : FVec Ideal S1x512 .f32) (w18 : FVec Ideal S1x512 .f32) (w19 : FVec Ideal S1x512 .f32) (w20 : FVec Ideal S1x512 .f32) (r : Fin 32) (d : Fin 512) :
    (k0_pay9 v a b w14 w15 w16 w17 w18 w19 w20 : FVec Ideal S32x512 .f32) (ix2 r d) = a (ix2 r d) + b (ix2 r d) + v (ix2 ⟨16 + r.val, by omega⟩ d) * w14 (ix2 0 d) + v (ix2 ⟨17 + r.val, by omega⟩ d) * w15 (ix2 0 d) + v (ix2 ⟨18 + r.val, by omega⟩ d) * w16 (ix2 0 d) + v (ix2 ⟨19 + r.val, by omega⟩ d) * w17 (ix2 0 d) + v (ix2 ⟨20 + r.val, by omega⟩ d) * w18 (ix2 0 d) + v (ix2 ⟨21 + r.val, by omega⟩ d) * w19 (ix2 0 d) + v (ix2 ⟨22 + r.val, by omega⟩ d) * w20 (ix2 0 d) := by
  unfold k0_pay9
  pointwise

theorem pay10_at (v : FVec Ideal S64x512 .f32) (r : Fin 32) (d : Fin 512) :
    (k0_pay10 v : FVec Ideal S32x512 .f32) (ix2 r d) = v (ix2 ⟨23 + r.val, by omega⟩ d) := by
  unfold k0_pay10
  pointwise

theorem pay11_at (v : FVec Ideal S64x512 .f32) (a : FVec Ideal S32x512 .f32) (b : FVec Ideal S32x512 .f32) (w21 : FVec Ideal S1x512 .f32) (w22 : FVec Ideal S1x512 .f32) (w23 : FVec Ideal S1x512 .f32) (w24 : FVec Ideal S1x512 .f32) (w25 : FVec Ideal S1x512 .f32) (w26 : FVec Ideal S1x512 .f32) (w27 : FVec Ideal S1x512 .f32) (r : Fin 32) (d : Fin 512) :
    (k0_pay11 v a b w21 w22 w23 w24 w25 w26 w27 : FVec Ideal S32x512 .f32) (ix2 r d) = a (ix2 r d) + b (ix2 r d) * w21 (ix2 0 d) + v (ix2 ⟨24 + r.val, by omega⟩ d) * w22 (ix2 0 d) + v (ix2 ⟨25 + r.val, by omega⟩ d) * w23 (ix2 0 d) + v (ix2 ⟨26 + r.val, by omega⟩ d) * w24 (ix2 0 d) + v (ix2 ⟨27 + r.val, by omega⟩ d) * w25 (ix2 0 d) + v (ix2 ⟨28 + r.val, by omega⟩ d) * w26 (ix2 0 d) + v (ix2 ⟨29 + r.val, by omega⟩ d) * w27 (ix2 0 d) := by
  unfold k0_pay11
  pointwise

theorem pay12_at (v : FVec Ideal S64x512 .f32) (w28 : FVec Ideal S1x512 .f32) (r : Fin 32) (d : Fin 512) :
    (k0_pay12 v w28 : FVec Ideal S32x512 .f32) (ix2 r d) = v (ix2 ⟨30 + r.val, by omega⟩ d) * w28 (ix2 0 d) := by
  unfold k0_pay12
  pointwise

theorem pay13_at (v : FVec Ideal S64x512 .f32) (a : FVec Ideal S32x512 .f32) (b : FVec Ideal S32x512 .f32) (w29 : FVec Ideal S1x512 .f32) (w30 : FVec Ideal S1x512 .f32) (c : FVec Ideal S1x512 .f32) (g : FVec Ideal S1x512 .f32) (h : FVec Ideal S1x512 .f32) (r : Fin 32) (d : Fin 512) :
    (k0_pay13 v a b w29 w30 c g h : FVec Ideal S32x512 .f32) (ix2 r d) = siluf (lnR (fun d => a (ix2 r d) + b (ix2 r d) + v (ix2 ⟨31 + r.val, by omega⟩ d) * w29 (ix2 0 d) + v (ix2 ⟨32 + r.val, by omega⟩ d) * w30 (ix2 0 d) + c (ix2 0 d)) (fun d => g (ix2 0 d)) (fun d => h (ix2 0 d)) d) := by
  unfold k0_pay13 siluf lnR lnN lnV lnC
  pointwise

theorem pay3_at (a : FVec Ideal S32x512 .f32) (g : FVec Ideal S1x32x512 .f32) (r : Fin 32) (d : Fin 512) :
    (k0_pay3 a g : FVec Ideal S1x32x512 .f32) (ix3 0 r d) = a (ix2 r d) * g (ix3 0 r d) := by
  unfold k0_pay3
  pointwise

theorem pay1_at (r : Fin 32) (d : Fin 512) : (k0_pay1 : FVec Ideal S32x512 .f32) (ix2 r d) = 0 := by
  refine Eq.trans (b := Ideal.ofBits FTy.f32 0#32) ?_ Ideal.ofBits_zero_f32
  unfold k0_pay1
  pointwise

theorem pay2_at (u : FVec Ideal S1x512x512 .f32) (r : Fin 512) (d : Fin 512) : (k0_pay2 u : FVec Ideal S512x512 .f32) (ix2 r d) = u (ix3 0 r d) := by
  unfold k0_pay2
  pointwise

theorem pay4_at (a : FVec Ideal S32x512 .f32) (r : Fin 32) (d : Fin 512) : (k0_pay4 a : FVec Ideal S32x512 .f32) (ix2 r d) = a (ix2 r d) := by
  unfold k0_pay4
  pointwise

section
variable {F : FTy → Type} [FloatOps F]

/-- Row `j` of the taps. -/
def wt (W : Vec F S31x512 .f32) (j : Fin 31) : Vec F S1x512 .f32 := VecWindow.window W ![j.val, 0] S1x512.size (by revert j; decide)

/-- What a trip stores, from the 64 rows it loads, the taps, the bias, the gains, the offsets and its 32 rows of the gate. -/
def tripF (v : Vec F S64x512 .f32) (W : Vec F S31x512 .f32) (c g h : Vec F S1x512 .f32) (z : Vec F S1x32x512 .f32) : FVec F S1x32x512 .f32 :=
  k0_pay3 (k0_pay13 v (k0_pay11 v (k0_pay9 v (k0_pay7 v (k0_pay5 v (wt W 0) (wt W 1) (wt W 2) (wt W 3) (wt W 4) (wt W 5)) (k0_pay6 v) (wt W 6) (wt W 7) (wt W 8) (wt W 9) (wt W 10) (wt W 11) (wt W 12))
    (k0_pay8 v (wt W 13)) (wt W 14) (wt W 15) (wt W 16) (wt W 17) (wt W 18) (wt W 19) (wt W 20)) (k0_pay10 v) (wt W 21) (wt W 22) (wt W 23) (wt W 24) (wt W 25) (wt W 26) (wt W 27)) (k0_pay12 v (wt W 28)) (wt W 29) (wt W 30) c g h) z

end

/-- A tap. -/
theorem wt_at (W : FVec Ideal S31x512 .f32) (j : Fin 31) (d : Fin 512) : (wt (F := Ideal) W j) (ix2 0 d) = W (ix2 j d) := by
  unfold wt VecWindow.window
  refine congrArg W (funext fun a => Fin.ext ?_)
  match a with
  | ⟨0, _⟩ => show j.val + 1 * 0 = j.val; omega
  | ⟨1, _⟩ => show 0 + 1 * d.val = d.val; omega

/-- Column `d` of the 64 rows. -/
def colN (v : FVec Ideal S64x512 .f32) (d : Fin 512) (n : ℕ) : EReal := if h : n < 64 then v (ix2 ⟨n, h⟩ d) else 0

/-- Column `d` of the taps. -/
def wtN (W : FVec Ideal S31x512 .f32) (d : Fin 512) (n : ℕ) : EReal := if h : n < 31 then W (ix2 ⟨n, h⟩ d) else 0

theorem colN_of (v : FVec Ideal S64x512 .f32) (d : Fin 512) (n : ℕ) (h : n < 64) : v (ix2 ⟨n, h⟩ d) = colN v d n := by
  unfold colN
  rw [dif_pos h]

theorem wtN_of (W : FVec Ideal S31x512 .f32) (d : Fin 512) (j : Fin 31) : W (ix2 j d) = wtN W d j.val := by
  unfold wtN
  rw [dif_pos j.isLt]

/-- The sum of the taps and the bias at one row and column. -/
theorem sum_at (v : FVec Ideal S64x512 .f32) (W : FVec Ideal S31x512 .f32) (c : FVec Ideal S1x512 .f32) (r : Fin 32) (d : Fin 512) :
    (k0_pay11 v (k0_pay9 v (k0_pay7 v (k0_pay5 v (wt W 0) (wt W 1) (wt W 2) (wt W 3) (wt W 4) (wt W 5)) (k0_pay6 v) (wt W 6) (wt W 7) (wt W 8) (wt W 9) (wt W 10) (wt W 11) (wt W 12))
    (k0_pay8 v (wt W 13)) (wt W 14) (wt W 15) (wt W 16) (wt W 17) (wt W 18) (wt W 19) (wt W 20)) (k0_pay10 v) (wt W 21) (wt W 22) (wt W 23) (wt W 24) (wt W 25) (wt W 26) (wt W 27) : FVec Ideal S32x512 .f32) (ix2 r d) + (k0_pay12 v (wt W 28) : FVec Ideal S32x512 .f32) (ix2 r d)
      + v (ix2 ⟨31 + r.val, by omega⟩ d) * (wt (F := Ideal) W 29) (ix2 0 d) + v (ix2 ⟨32 + r.val, by omega⟩ d) * (wt (F := Ideal) W 30) (ix2 0 d) + c (ix2 0 d)
      = conv (fun j => colN v d (2 + j + r.val)) (wtN W d) + c (ix2 0 d) := by
  rw [pay11_at, pay9_at, pay7_at, pay5_at, pay6_at, pay8_at, pay10_at, pay12_at]
  simp only [wt_at, colN_of, wtN_of]
  rfl

/-- What a trip stores, at one entry. -/
theorem tripF_at (v : FVec Ideal S64x512 .f32) (W : FVec Ideal S31x512 .f32) (c g h : FVec Ideal S1x512 .f32) (z : FVec Ideal S1x32x512 .f32) (r : Fin 32) (d : Fin 512) :
    (tripF (F := Ideal) v W c g h z) (ix3 0 r d)
      = siluf (lnR (fun d => conv (fun j => colN v d (2 + j + r.val)) (wtN W d) + c (ix2 0 d)) (fun d => g (ix2 0 d)) (fun d => h (ix2 0 d)) d) * z (ix3 0 r d) := by
  unfold tripF
  rw [pay3_at, pay13_at]
  refine congrArg (fun x : EReal => x * z (ix3 0 r d)) (congrArg siluf (congrArg (fun y => lnR y (fun d => g (ix2 0 d)) (fun d => h (ix2 0 d)) d) (funext fun d => ?_)))
  exact sum_at v W c r d

end Cert.Kernel7Ideal.Conv
end
-- ==== Proof.P7Body.lean ====
module

public import proofs.«01_k».proof.Proof.P7Math

/-! The convolution of the prompt: what a block's body leaves in the output's block and in the scratch rows it carries. -/

@[expose] public section

set_option maxRecDepth 16384

noncomputable section

namespace Cert.Kernel7Ideal.Conv

open Cert.Kernel7Ideal Cert.Kernel7Ideal.Gen
open Cert.Kernel2Ideal.Proj (siluf)
open Cert.Kernel5Ideal.Conv (conv lnC lnV lnN lnR all3)
open Idealize.ShloMosaic Idealize.ShloMosaic.TcCoe Idealize.ShloMosaic.Tactic Idealize.ShloMosaic.Pointwise
open Idealize.SL.Sem

theorem trips_eq : k0_t1_loop.trips = 16 := by decide

theorem ivOff : ∀ n : Fin 16, BitVec.toNat (Scalar.indexCast (Scalar.muli (Scf.iv 0#32 1#32 n.val) 32#32)) = 32 * n.val := by decide +kernel

theorem off1_eq (k : Fin k0_t1_loop.trips) (k' : Fin 16) (e : k.val = k'.val) : k0_off1 k = ![32 * k'.val, 0] := by
  obtain ⟨k, hk⟩ := k
  obtain rfl : k = k'.val := e
  funext a
  match a with
  | ⟨0, _⟩ => exact ivOff k'
  | ⟨1, _⟩ => rfl

theorem off2_eq (k : Fin k0_t1_loop.trips) (k' : Fin 16) (e : k.val = k'.val) : k0_off2 k = ![0, 32 * k'.val, 0] := by
  obtain ⟨k, hk⟩ := k
  obtain rfl : k = k'.val := e
  funext a
  match a with
  | ⟨0, _⟩ => rfl
  | ⟨1, _⟩ => exact ivOff k'
  | ⟨2, _⟩ => rfl

section
variable {F : FTy → Type} [FloatOps F]

/-- The 64 rows of the scratch a trip loads. -/
def sW (S : Vec F S544x512 .f32) (k : Fin 16) : Vec F S64x512 .f32 := VecWindow.window S ![32 * k.val, 0] S64x512.size (by revert k; decide)

/-- The 32 rows of the gate a trip loads. -/
def gW (x1 : Vec F S1x512x512 .f32) (k : Fin 16) : Vec F S1x32x512 .f32 := VecWindow.window x1 ![0, 32 * k.val, 0] S1x32x512.size (by revert k; decide)

variable (𝒱 : Variants) (bd : Option 𝒱.V) (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512x512 .f32) (harg8 : arg8.IsWhole) (arg9 : Memref sig .tc .vmem S544x512 .f32) (harg9 : arg9.IsWhole)
  (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (v : View sig .tc .vmem S1x512x512 .f32) (f : v.ty.Contents (Elt F))

set_option backward.isDefEq.respectTransparency false in
/-- Under the rows a trip stores, the block reads what the trip stores. -/
theorem trip_in (L : List (View.Piece (Elt F) S1x512x512 .f32)) (k : Fin k0_t1_loop.trips) (k' : Fin 16) (e : k.val = k'.val) (y : S1x512x512.Idx) (r : Fin 32) (d : Fin 512)
    (hy : ∀ a, (y a).val = (![0, 32 * k'.val, 0] : Fin 3 → ℕ) a + ((ix3 (n0 := 1) (n1 := 32) (n2 := 512) 0 r d) a).val) :
    v.read (Elt F) (v.writes (Elt F) f (tripL_k0_t1 (F := F) 𝒱 c bd i arg2 harg2 arg3 harg3 arg4 harg4 arg5 harg5 arg6 harg6 arg7 harg7 arg8 harg8 arg9 harg9 X_arg3 X_arg4 X_arg5 X_arg6 X_arg7 X_arg9 k ++ L)) y
      = tripF (sW (arg9.view.read (Elt F) X_arg9) k') (arg4.view.read (Elt F) X_arg4) (arg5.view.read (Elt F) X_arg5) (arg6.view.read (Elt F) X_arg6)
          (arg7.view.read (Elt F) X_arg7) (gW (arg3.view.read (Elt F) X_arg3) k') (ix3 0 r d) := by
  unfold tripL_k0_t1 trip_k0_t1
  dsimp only
  sl_unfold_words
  rw [List.cons_append, List.nil_append]
  refine (View.read_writes_cons_unit_of_mem v f _ _ _ y (ix3 (n0 := 1) (n1 := 32) (n2 := 512) 0 r d) (off2_eq k k' e) hy).trans ?_
  have e9 : ∀ (off : Fin 2 → ℕ) (inb), off = ![32 * k'.val, 0] → View.readAt (Elt F) arg9.view (Rect.unit (s := S544x512) off S64x512.size inb).toLoadRect X_arg9 = sW (arg9.view.read (Elt F) X_arg9) k' := by
    intro off inb ho
    subst ho
    rfl
  have e3 : ∀ (off : Fin 3 → ℕ) (inb), off = ![0, 32 * k'.val, 0] → View.readAt (Elt F) arg3.view (Rect.unit (s := S1x512x512) off S1x32x512.size inb).toLoadRect X_arg3 = gW (arg3.view.read (Elt F) X_arg3) k' := by
    intro off inb ho
    subst ho
    rfl
  rw [e9 _ _ (by exact off1_eq k k' e), e3 _ _ (by exact off2_eq k k' e), View.readAt_full arg5.view X_arg5, View.readAt_full arg6.view X_arg6, View.readAt_full arg7.view X_arg7]
  rfl

set_option backward.isDefEq.respectTransparency false in
/-- Elsewhere it reads what the trips before left. -/
theorem trip_out (L : List (View.Piece (Elt F) S1x512x512 .f32)) (k : Fin k0_t1_loop.trips) (k' : Fin 16) (e : k.val = k'.val) (y : S1x512x512.Idx)
    (hy : (y 1).val < 32 * k'.val) :
    v.read (Elt F) (v.writes (Elt F) f (tripL_k0_t1 (F := F) 𝒱 c bd i arg2 harg2 arg3 harg3 arg4 harg4 arg5 harg5 arg6 harg6 arg7 harg7 arg8 harg8 arg9 harg9 X_arg3 X_arg4 X_arg5 X_arg6 X_arg7 X_arg9 k ++ L)) y = v.read (Elt F) (v.writes (Elt F) f L) y := by
  unfold tripL_k0_t1 trip_k0_t1
  dsimp only
  sl_unfold_words
  rw [List.cons_append, List.nil_append]
  exact View.read_writes_cons_unit_of_not_mem v f _ _ _ y (off2_eq k k' e) 1 (Or.inl hy)

/-- After `n` trips each row below `32 n` reads what its own trip stores. -/
theorem loop_at (n : ℕ) (hn : n ≤ 16) (q d : Fin 512) (hq : q.val < 32 * n) :
    v.read (Elt F) (v.writes (Elt F) f (pb_k0_t1 (F := F) 𝒱 c bd i arg2 harg2 arg3 harg3 arg4 harg4 arg5 harg5 arg6 harg6 arg7 harg7 arg8 harg8 arg9 harg9 X_arg3 X_arg4 X_arg5 X_arg6 X_arg7 X_arg9 n)) (ix3 (n0 := 1) (n1 := 512) (n2 := 512) 0 q d)
      = tripF (sW (arg9.view.read (Elt F) X_arg9) ⟨q.val / 32, by omega⟩) (arg4.view.read (Elt F) X_arg4) (arg5.view.read (Elt F) X_arg5) (arg6.view.read (Elt F) X_arg6)
          (arg7.view.read (Elt F) X_arg7) (gW (arg3.view.read (Elt F) X_arg3) ⟨q.val / 32, by omega⟩) (ix3 0 ⟨q.val % 32, by omega⟩ d) := by
  induction n with
  | zero => omega
  | succ n ih =>
    have e := pb_k0_t1_succ (F := F) 𝒱 c bd i arg2 harg2 arg3 harg3 arg4 harg4 arg5 harg5 arg6 harg6 arg7 harg7 arg8 harg8 arg9 harg9 X_arg3 X_arg4 X_arg5 X_arg6 X_arg7 X_arg9 ⟨n, by rw [trips_eq]; omega⟩
    dsimp only at e
    rw [e]
    by_cases h : q.val < 32 * n
    · refine (trip_out 𝒱 bd c i arg2 harg2 arg3 harg3 arg4 harg4 arg5 harg5 arg6 harg6 arg7 harg7 arg8 harg8 arg9 harg9 X_arg3 X_arg4 X_arg5 X_arg6 X_arg7 X_arg9 v f _ ⟨n, by rw [trips_eq]; omega⟩ ⟨n, by omega⟩ rfl _ h).trans ?_
      exact ih (by omega) h
    · refine trip_in 𝒱 bd c i arg2 harg2 arg3 harg3 arg4 harg4 arg5 harg5 arg6 harg6 arg7 harg7 arg8 harg8 arg9 harg9 X_arg3 X_arg4 X_arg5 X_arg6 X_arg7 X_arg9 v f _ ⟨n, by rw [trips_eq]; omega⟩ ⟨q.val / 32, by omega⟩ (by show n = q.val / 32; omega) _ _ d fun a => ?_
      match a with
      | ⟨0, _⟩ => rfl
      | ⟨1, _⟩ => show q.val = 32 * (q.val / 32) + q.val % 32; omega
      | ⟨2, _⟩ => show d.val = 0 + d.val; omega

end

/-- The sum of taps reads only the first 31 entries. -/
theorem conv_congr (f g w z : ℕ → EReal) (hf : ∀ j : ℕ, j < 31 → f j = g j) (hw : ∀ j : ℕ, j < 31 → w j = z j) : conv f w = conv g z := by
  unfold conv

  rw [hf 0 (by omega), hw 0 (by omega)]
  rw [hf 1 (by omega), hw 1 (by omega)]
  rw [hf 2 (by omega), hw 2 (by omega)]
  rw [hf 3 (by omega), hw 3 (by omega)]
  rw [hf 4 (by omega), hw 4 (by omega)]
  rw [hf 5 (by omega), hw 5 (by omega)]
  rw [hf 6 (by omega), hw 6 (by omega)]
  rw [hf 7 (by omega), hw 7 (by omega)]
  rw [hf 8 (by omega), hw 8 (by omega)]
  rw [hf 9 (by omega), hw 9 (by omega)]
  rw [hf 10 (by omega), hw 10 (by omega)]
  rw [hf 11 (by omega), hw 11 (by omega)]
  rw [hf 12 (by omega), hw 12 (by omega)]
  rw [hf 13 (by omega), hw 13 (by omega)]
  rw [hf 14 (by omega), hw 14 (by omega)]
  rw [hf 15 (by omega), hw 15 (by omega)]
  rw [hf 16 (by omega), hw 16 (by omega)]
  rw [hf 17 (by omega), hw 17 (by omega)]
  rw [hf 18 (by omega), hw 18 (by omega)]
  rw [hf 19 (by omega), hw 19 (by omega)]
  rw [hf 20 (by omega), hw 20 (by omega)]
  rw [hf 21 (by omega), hw 21 (by omega)]
  rw [hf 22 (by omega), hw 22 (by omega)]
  rw [hf 23 (by omega), hw 23 (by omega)]
  rw [hf 24 (by omega), hw 24 (by omega)]
  rw [hf 25 (by omega), hw 25 (by omega)]
  rw [hf 26 (by omega), hw 26 (by omega)]
  rw [hf 27 (by omega), hw 27 (by omega)]
  rw [hf 28 (by omega), hw 28 (by omega)]
  rw [hf 29 (by omega), hw 29 (by omega)]
  rw [hf 30 (by omega), hw 30 (by omega)]

/-- A block's result at one entry, from the columns `E` of its rows with the 32 before them. -/
def outB (E : Fin 512 → ℕ → EReal) (x1 : Vec Ideal S1x512x512 .f32) (x2 : Vec Ideal S31x512 .f32) (x3 x4 x5 : Vec Ideal S1x512 .f32) (q d : Fin 512) : EReal :=
  siluf (lnR (fun d => conv (fun j => E d (q.val + 2 + j)) (wtN x2 d) + x3 (ix2 0 d)) (fun d => x4 (ix2 0 d)) (fun d => x5 (ix2 0 d)) d) * x1 (ix3 0 q d)

theorem gW_at (x1 : Vec Ideal S1x512x512 .f32) (q d : Fin 512) : (gW (F := Ideal) x1 ⟨q.val / 32, by omega⟩) (ix3 0 ⟨q.val % 32, by omega⟩ d) = x1 (ix3 0 q d) := by
  unfold gW VecWindow.window
  refine congrArg x1 (funext fun a => Fin.ext ?_)
  match a with
  | ⟨0, _⟩ => rfl
  | ⟨1, _⟩ => show 32 * (q.val / 32) + 1 * (q.val % 32) = q.val; omega
  | ⟨2, _⟩ => show 0 + 1 * d.val = d.val; omega

theorem sW_at (S : Vec Ideal S544x512 .f32) (k : Fin 16) (n : ℕ) (h : n < 64) (d : Fin 512) : colN (sW (F := Ideal) S k) d n = S (ix2 ⟨32 * k.val + n, by omega⟩ d) := by
  rw [← colN_of _ d n h]
  unfold sW VecWindow.window
  refine congrArg S (funext fun a => Fin.ext ?_)
  match a with
  | ⟨0, _⟩ => show 32 * k.val + 1 * n = 32 * k.val + n; omega
  | ⟨1, _⟩ => show 0 + 1 * d.val = d.val; omega

/-- The trip that stores row `q` leaves the block's result there. -/
theorem trip_outB (S : Vec Ideal S544x512 .f32) (E : Fin 512 → ℕ → EReal) (hE : ∀ (n : ℕ) (h : n < 544) (d : Fin 512), S (ix2 ⟨n, h⟩ d) = E d n)
    (x1 : Vec Ideal S1x512x512 .f32) (x2 : Vec Ideal S31x512 .f32) (x3 x4 x5 : Vec Ideal S1x512 .f32) (q d : Fin 512) :
    (tripF (F := Ideal) (sW S ⟨q.val / 32, by omega⟩) x2 x3 x4 x5 (gW x1 ⟨q.val / 32, by omega⟩)) (ix3 0 ⟨q.val % 32, by omega⟩ d) = outB E x1 x2 x3 x4 x5 q d := by
  rw [tripF_at, gW_at]
  unfold outB
  refine congrArg (fun x : EReal => x * x1 (ix3 0 q d)) (congrArg siluf (congrArg (fun y => lnR y (fun d => x4 (ix2 0 d)) (fun d => x5 (ix2 0 d)) d) (funext fun d => ?_)))
  refine congrArg (fun x : EReal => x + x3 (ix2 0 d)) (conv_congr _ _ _ _ (fun j hj => ?_) fun _ _ => rfl)
  show colN (sW S ⟨q.val / 32, _⟩) d (2 + j + q.val % 32) = E d (q.val + 2 + j)
  rw [sW_at S _ _ (by omega), hE]
  exact congrArg (E d) (by show 32 * (q.val / 32) + (2 + j + q.val % 32) = q.val + 2 + j; omega)

/-- A block's rows with 32 rows of zeros before them. -/
def extA (x0 : Vec Ideal S1x512x512 .f32) (d : Fin 512) (n : ℕ) : EReal :=
  if h : n < 32 then 0 else if h' : n - 32 < 512 then x0 (ix3 0 ⟨n - 32, h'⟩ d) else 0

/-- A block's rows with the carried scratch's first 32 rows before them. -/
def extB (x0 : Vec Ideal S1x512x512 .f32) (s : Vec Ideal S544x512 .f32) (d : Fin 512) (n : ℕ) : EReal :=
  if h : n < 32 then s (ix2 ⟨n, by omega⟩ d) else if h' : n - 32 < 512 then x0 (ix3 0 ⟨n - 32, h'⟩ d) else 0

section
variable (v : View sig .tc .vmem S544x512 .f32) (f : v.ty.Contents (Elt Ideal))

/-- Under the block's own rows the scratch reads the block, whatever lies under them. -/
theorem rows_in (x0 : Vec Ideal S1x512x512 .f32) (inb : ∀ a, (![32, 0] : Fin 2 → ℕ) a + S512x512.size a ≤ S544x512.size a) (L : List (View.Piece (Elt Ideal) S544x512 .f32)) (n : ℕ) (h : n < 544) (hn : 32 ≤ n) (d : Fin 512) :
    v.read (Elt Ideal) (v.writes (Elt Ideal) f (⟨Rect.unit ![32, 0] S512x512.size inb, k0_pay2 (F := Ideal) x0⟩ :: L)) (ix2 ⟨n, h⟩ d) = x0 (ix3 0 ⟨n - 32, by omega⟩ d) := by
  refine (View.read_writes_cons_unit_of_mem v f inb _ L (ix2 ⟨n, h⟩ d) (ix2 (n0 := 512) (n1 := 512) ⟨n - 32, by omega⟩ d) rfl fun a => ?_).trans (pay2_at x0 _ d)
  match a with
  | ⟨0, _⟩ => show n = 32 + (n - 32); omega
  | ⟨1, _⟩ => show d.val = 0 + d.val; omega

/-- Above them it reads what was there. -/
theorem rows_out (x0 : Vec Ideal S1x512x512 .f32) (inb : ∀ a, (![32, 0] : Fin 2 → ℕ) a + S512x512.size a ≤ S544x512.size a) (L : List (View.Piece (Elt Ideal) S544x512 .f32)) (n : ℕ) (h : n < 544) (hn : n < 32) (d : Fin 512) :
    v.read (Elt Ideal) (v.writes (Elt Ideal) f (⟨Rect.unit ![32, 0] S512x512.size inb, k0_pay2 (F := Ideal) x0⟩ :: L)) (ix2 ⟨n, h⟩ d)
      = v.read (Elt Ideal) (v.writes (Elt Ideal) f L) (ix2 ⟨n, h⟩ d) :=
  View.read_writes_cons_unit_of_not_mem v f inb _ L (ix2 ⟨n, h⟩ d) rfl 0 (Or.inl hn)

/-- The first 32 rows of the scratch, once stored, read what was stored. -/
theorem top_in (w : FVec Ideal S32x512 .f32) (inb : ∀ a, (![0, 0] : Fin 2 → ℕ) a + S32x512.size a ≤ S544x512.size a) (L : List (View.Piece (Elt Ideal) S544x512 .f32)) (n : ℕ) (h : n < 544) (hn : n < 32) (d : Fin 512) :
    v.read (Elt Ideal) (v.writes (Elt Ideal) f (⟨Rect.unit ![0, 0] S32x512.size inb, w⟩ :: L)) (ix2 ⟨n, h⟩ d) = w (ix2 ⟨n, hn⟩ d) := by
  refine View.read_writes_cons_unit_of_mem v f inb _ L (ix2 ⟨n, h⟩ d) (ix2 (n0 := 32) (n1 := 512) ⟨n, hn⟩ d) rfl fun a => ?_
  match a with
  | ⟨0, _⟩ => show n = 0 + n; omega
  | ⟨1, _⟩ => show d.val = 0 + d.val; omega

end

section
variable (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512x512 .f32) (harg8 : arg8.IsWhole) (arg9 : Memref sig .tc .vmem S544x512 .f32) (harg9 : arg9.IsWhole) (hc0 : cond0_0 i) (x0 : Vec Ideal S1x512x512 .f32) (x1 : Vec Ideal S1x512x512 .f32) (x2 : Vec Ideal S31x512 .f32) (x3 : Vec Ideal S1x512 .f32) (x4 : Vec Ideal S1x512 .f32) (x5 : Vec Ideal S1x512 .f32)

set_option backward.isDefEq.respectTransparency false in
/-- The block's result in a sequence's first block. -/
theorem out0_A_6_at (q d : Fin 512) : out0_A_6 (F := Ideal) c i arg2 harg2 arg3 harg3 arg4 harg4 arg5 harg5 arg6 harg6 arg7 harg7 arg8 harg8 arg9 harg9 hc0 x0 x1 x2 x3 x4 x5 (ix3 0 q d) = outB (extA x0) x1 x2 x3 x4 x5 q d := by
  unfold out0_A_6 kernelRun0_A
  dsimp only
  sl_unfold_words
  refine (loop_at (F := Ideal) Variants.none none c i arg2 harg2 arg3 harg3 arg4 harg4 arg5 harg5 arg6 harg6 arg7 harg7 arg8 harg8 arg9 harg9 _ _ _ _ _ _ VO0_6 _ 16 le_rfl q d (by omega)).trans ?_
  rw [harg3.read_unread, harg4.read_unread, harg5.read_unread, harg6.read_unread, harg7.read_unread]
  refine trip_outB _ (extA x0) (fun n h d => ?_) x1 x2 x3 x4 x5 q d
  rw [View.readAt_full arg2.view, harg2.read_unread]
  by_cases hn : n < 32
  · refine (rows_out arg9.view _ x0 _ _ n h hn d).trans ?_

    unfold extA
    rw [dif_pos hn]
    exact (top_in arg9.view _ _ _ _ n h hn d).trans (pay1_at _ d)
  · unfold extA
    rw [dif_neg hn, dif_pos (by omega)]
    exact rows_in arg9.view _ x0 _ _ n h (by omega) d

set_option backward.isDefEq.respectTransparency false in
/-- The first 32 rows the scratch carries on are the block's last 32. -/
theorem sout0_A_0_at (n : ℕ) (hn : n < 32) (d : Fin 512) : sout0_A_0 (F := Ideal) c i arg2 harg2 arg3 harg3 arg4 harg4 arg5 harg5 arg6 harg6 arg7 harg7 arg8 harg8 arg9 harg9 hc0 x0 x1 x2 x3 x4 x5 (ix2 ⟨n, by omega⟩ d) = x0 (ix3 0 ⟨480 + n, by omega⟩ d) := by
  unfold sout0_A_0 kernelRun0_A
  dsimp only
  sl_unfold_words
  rw [View.readAt_full arg2.view, harg2.read_unread]
  refine (top_in VS0_0 _ _ _ _ n _ hn d).trans ((pay4_at _ _ d).trans ?_)
  refine Eq.trans (b := arg9.view.read (Elt Ideal) (arg9.view.writes (Elt Ideal) arg9.view.junk [⟨Rect.unit ![32, 0] S512x512.size inb_S544x512_S512x512_32_0, k0_pay2 (F := Ideal) x0⟩, ⟨Rect.unit ![0, 0] S32x512.size inb_S544x512_S32x512_0_0, k0_pay1 (F := Ideal)⟩]) (ix2 ⟨512 + n, by omega⟩ d)) ?_
    ((rows_in arg9.view _ x0 inb_S544x512_S512x512_32_0 _ (512 + n) (by omega) (by omega) d).trans (congrArg (fun r => x0 (ix3 0 r d)) (Fin.ext (by show 512 + n - 32 = 480 + n; omega))))
  refine congrArg (arg9.view.read (Elt Ideal) _) (funext fun a => Fin.ext ?_)
  match a with
  | ⟨0, _⟩ => show 512 + 1 * n = 512 + n; omega
  | ⟨1, _⟩ => show 0 + 1 * d.val = d.val; omega

end

section
variable (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512x512 .f32) (harg8 : arg8.IsWhole) (arg9 : Memref sig .tc .vmem S544x512 .f32) (harg9 : arg9.IsWhole) (hc0 : ¬cond0_0 i) (x0 : Vec Ideal S1x512x512 .f32) (x1 : Vec Ideal S1x512x512 .f32) (x2 : Vec Ideal S31x512 .f32) (x3 : Vec Ideal S1x512 .f32) (x4 : Vec Ideal S1x512 .f32) (x5 : Vec Ideal S1x512 .f32) (xs0 : Vec Ideal S544x512 .f32)

set_option backward.isDefEq.respectTransparency false in
/-- The block's result in a later block. -/
theorem out0_B_6_at (q d : Fin 512) : out0_B_6 (F := Ideal) c i arg2 harg2 arg3 harg3 arg4 harg4 arg5 harg5 arg6 harg6 arg7 harg7 arg8 harg8 arg9 harg9 hc0 x0 x1 x2 x3 x4 x5 xs0 (ix3 0 q d) = outB (extB x0 xs0) x1 x2 x3 x4 x5 q d := by
  unfold out0_B_6 kernelRun0_B
  dsimp only
  sl_unfold_words
  refine (loop_at (F := Ideal) Variants.none none c i arg2 harg2 arg3 harg3 arg4 harg4 arg5 harg5 arg6 harg6 arg7 harg7 arg8 harg8 arg9 harg9 _ _ _ _ _ _ VO0_6 _ 16 le_rfl q d (by omega)).trans ?_
  rw [harg3.read_unread, harg4.read_unread, harg5.read_unread, harg6.read_unread, harg7.read_unread]
  refine trip_outB _ (extB x0 xs0) (fun n h d => ?_) x1 x2 x3 x4 x5 q d
  rw [View.readAt_full arg2.view, harg2.read_unread]
  by_cases hn : n < 32
  · refine (rows_out arg9.view _ x0 _ _ n h hn d).trans ?_

    unfold extB
    rw [dif_pos hn, View.writes_nil, harg9.read_unread]
  · unfold extB
    rw [dif_neg hn, dif_pos (by omega)]
    exact rows_in arg9.view _ x0 _ _ n h (by omega) d

set_option backward.isDefEq.respectTransparency false in
/-- The first 32 rows the scratch carries on are the block's last 32. -/
theorem sout0_B_0_at (n : ℕ) (hn : n < 32) (d : Fin 512) : sout0_B_0 (F := Ideal) c i arg2 harg2 arg3 harg3 arg4 harg4 arg5 harg5 arg6 harg6 arg7 harg7 arg8 harg8 arg9 harg9 hc0 x0 x1 x2 x3 x4 x5 xs0 (ix2 ⟨n, by omega⟩ d) = x0 (ix3 0 ⟨480 + n, by omega⟩ d) := by
  unfold sout0_B_0 kernelRun0_B
  dsimp only
  sl_unfold_words
  rw [View.readAt_full arg2.view, harg2.read_unread]
  refine (top_in VS0_0 _ _ _ _ n _ hn d).trans ((pay4_at _ _ d).trans ?_)
  refine Eq.trans (b := arg9.view.read (Elt Ideal) (arg9.view.writes (Elt Ideal) arg9.view.junk [⟨Rect.unit ![32, 0] S512x512.size inb_S544x512_S512x512_32_0, k0_pay2 (F := Ideal) x0⟩]) (ix2 ⟨512 + n, by omega⟩ d)) ?_
    ((rows_in arg9.view _ x0 inb_S544x512_S512x512_32_0 _ (512 + n) (by omega) (by omega) d).trans (congrArg (fun r => x0 (ix3 0 r d)) (Fin.ext (by show 512 + n - 32 = 480 + n; omega))))
  refine congrArg (arg9.view.read (Elt Ideal) _) (funext fun a => Fin.ext ?_)
  match a with
  | ⟨0, _⟩ => show 512 + 1 * n = 512 + n; omega
  | ⟨1, _⟩ => show 0 + 1 * d.val = d.val; omega

end

end Cert.Kernel7Ideal.Conv
end
-- ==== Proof.P7Val.lean ====
module

public import proofs.«01_k».proof.Proof.P7Body
public import proofs.«01_k».proof.Proof.Gen.Kernel7Ideal.Value
public import Idealize.ShloMosaic.Lib.Claim
public import Idealize.ShloMosaic.Lib.StableHlo.ReadAt

/-! The convolution of the prompt: its result array, which is the reference's. -/

@[expose] public section

set_option maxRecDepth 16384

noncomputable section

namespace Cert.Kernel7Ideal.Conv

open Cert.Kernel7Ideal Cert.Kernel7Ideal.Gen Cert.Kernel7Ideal.Value
open Cert.Kernel2Ideal.Proj (siluf)
open Cert.Kernel5Ideal.Conv (conv lnR all3)
open Cert.Reference7Ideal.Conv (extR wtR rowR outR)
open Cert.Reference7Ideal.Read (val_main_v250)
open Idealize.ShloMosaic Idealize.ShloMosaic.TcCoe Idealize.ShloMosaic.Tactic Idealize.ShloMosaic.Pointwise
open Idealize.SL.Sem

variable (m : (ℓ : Loc nD τ sig) → Buf (Elt Ideal) ℓ)

/-- The program's arguments. -/
abbrev aU (c : Dev nD) : FVec Ideal S4x8192x512 .f32 := m ((c : Thread nD τ).loc main_arg0)
abbrev aS (c : Dev nD) : FVec Ideal S4x8192x512 .f32 := m ((c : Thread nD τ).loc main_arg1)
abbrev aW (c : Dev nD) : FVec Ideal S1x31x512 .f32 := m ((c : Thread nD τ).loc main_arg2)
abbrev aB (c : Dev nD) : FVec Ideal S1x512 .f32 := m ((c : Thread nD τ).loc main_arg3)
abbrev aG (c : Dev nD) : FVec Ideal S1x512 .f32 := m ((c : Thread nD τ).loc main_arg4)
abbrev aH (c : Dev nD) : FVec Ideal S1x512 .f32 := m ((c : Thread nD τ).loc main_arg5)

/-- The reference's result at the program's arguments. -/
def G (c : Dev nD) : FVec Ideal S4x8192x512 .f32 :=
  val_main_v250 (F := Ideal) (aU m c) (aS m c) (aW m c) (aB m c) (aG m c) (aH m c)

theorem V_w (c : Dev nD) (j : Fin 31) (d : Fin 512) : (V m c main_v6 : FVec Ideal S31x512 _) (ix2 j d) = aW m c (ix3 0 j d) := by
  unfold V
  after_reads_at

theorem V_b (c : Dev nD) (d : Fin 512) : (V m c main_v1 : FVec Ideal S1x512 _) (ix2 0 d) = aB m c (ix2 0 d) := by
  unfold V
  after_reads_at

theorem V_g (c : Dev nD) (d : Fin 512) : (V m c main_v3 : FVec Ideal S1x512 _) (ix2 0 d) = aG m c (ix2 0 d) := by
  unfold V
  after_reads_at

theorem V_h (c : Dev nD) (d : Fin 512) : (V m c main_v5 : FVec Ideal S1x512 _) (ix2 0 d) = aH m c (ix2 0 d) := by
  unfold V
  after_reads_at

theorem tr0 : ∀ (a : Fin 4) (b : Fin 16), (BitVec.ofNat 32 a.val).toNat = a.val ∧ (BitVec.ofNat 32 b.val).toNat = b.val := by decide +kernel

theorem coords_eq : ∀ t : Fin grid0.N, (grid0.coords t 0).val = t.val / 16 ∧ (grid0.coords t 1).val = t.val % 16 := by decide +kernel

/-- The sequence a point works on. -/
def bOf (t : Fin cfg0.N) : Fin 4 := ⟨t.val / 16, by have := lt_of_lt_of_eq t.isLt (show cfg0.N = 64 from N_0); omega⟩

/-- The position that row `r` of a point's block is. -/
def rOf (t : Fin cfg0.N) (r : Fin 512) : Fin 8192 := ⟨512 * (t.val % 16) + r.val, by omega⟩

theorem blk0_at (c : Dev nD) (t : Fin cfg0.N) (r d : Fin 512) :
    (iblk m c 0 t : FVec Ideal S1x512x512 .f32) (ix3 0 r d) = aU m c (ix3 (bOf t) (rOf t r) d) := by
  obtain ⟨e0, e1⟩ := tr0 (grid0.coords t 0) (grid0.coords t 1)
  obtain ⟨f0, f1⟩ := coords_eq t
  show V m c main_arg0 (((cfg0.win 0).blk t).view.emb (ix3 0 r d)) = _
  refine (congrArg (V m c main_arg0) (?_ : _ = ix3 (bOf t) (rOf t r) d)).trans (congrFun (V_main_arg0 m c) _)
  funext a; apply Fin.ext
  match a with
  | ⟨0, _⟩ => show (BitVec.ofNat 32 (grid0.coords t 0).val).toNat * 1 + 1 * 0 = t.val / 16; omega
  | ⟨1, _⟩ => show (BitVec.ofNat 32 (grid0.coords t 1).val).toNat * 512 + 1 * r.val = 512 * (t.val % 16) + r.val; omega
  | ⟨2, _⟩ => show (0#32 : BitVec 32).toNat * 512 + 1 * d.val = d.val; simp

theorem blk1_at (c : Dev nD) (t : Fin cfg0.N) (r d : Fin 512) :
    (iblk m c 1 t : FVec Ideal S1x512x512 .f32) (ix3 0 r d) = aS m c (ix3 (bOf t) (rOf t r) d) := by
  obtain ⟨e0, e1⟩ := tr0 (grid0.coords t 0) (grid0.coords t 1)
  obtain ⟨f0, f1⟩ := coords_eq t
  show V m c main_arg1 (((cfg0.win 1).blk t).view.emb (ix3 0 r d)) = _
  refine (congrArg (V m c main_arg1) (?_ : _ = ix3 (bOf t) (rOf t r) d)).trans (congrFun (V_main_arg1 m c) _)
  funext a; apply Fin.ext
  match a with
  | ⟨0, _⟩ => show (BitVec.ofNat 32 (grid0.coords t 0).val).toNat * 1 + 1 * 0 = t.val / 16; omega
  | ⟨1, _⟩ => show (BitVec.ofNat 32 (grid0.coords t 1).val).toNat * 512 + 1 * r.val = 512 * (t.val % 16) + r.val; omega
  | ⟨2, _⟩ => show (0#32 : BitVec 32).toNat * 512 + 1 * d.val = d.val; simp

theorem blk2_at (c : Dev nD) (t : Fin cfg0.N) (j : Fin 31) (d : Fin 512) :
    (iblk m c 2 t : FVec Ideal S31x512 .f32) (ix2 j d) = aW m c (ix3 0 j d) := by
  show V m c main_v6 (((cfg0.win 2).blk t).view.emb (ix2 j d)) = _
  refine (congrArg (V m c main_v6) (?_ : _ = ix2 j d)).trans (V_w m c j d)
  funext a; apply Fin.ext
  match a with
  | ⟨0, _⟩ => show (0#32 : BitVec 32).toNat * 31 + 1 * j.val = j.val; simp
  | ⟨1, _⟩ => show (0#32 : BitVec 32).toNat * 512 + 1 * d.val = d.val; simp

theorem blk3_at (c : Dev nD) (t : Fin cfg0.N) (d : Fin 512) :
    (iblk m c 3 t : FVec Ideal S1x512 .f32) (ix2 0 d) = aB m c (ix2 0 d) := by
  show V m c main_v1 (((cfg0.win 3).blk t).view.emb (ix2 0 d)) = _
  refine (congrArg (V m c main_v1) (?_ : _ = ix2 0 d)).trans (V_b m c d)
  funext a; apply Fin.ext
  match a with
  | ⟨0, _⟩ => rfl
  | ⟨1, _⟩ => show (0#32 : BitVec 32).toNat * 512 + 1 * d.val = d.val; simp

theorem blk4_at (c : Dev nD) (t : Fin cfg0.N) (d : Fin 512) :
    (iblk m c 4 t : FVec Ideal S1x512 .f32) (ix2 0 d) = aG m c (ix2 0 d) := by
  show V m c main_v3 (((cfg0.win 4).blk t).view.emb (ix2 0 d)) = _
  refine (congrArg (V m c main_v3) (?_ : _ = ix2 0 d)).trans (V_g m c d)
  funext a; apply Fin.ext
  match a with
  | ⟨0, _⟩ => rfl
  | ⟨1, _⟩ => show (0#32 : BitVec 32).toNat * 512 + 1 * d.val = d.val; simp

theorem blk5_at (c : Dev nD) (t : Fin cfg0.N) (d : Fin 512) :
    (iblk m c 5 t : FVec Ideal S1x512 .f32) (ix2 0 d) = aH m c (ix2 0 d) := by
  show V m c main_v5 (((cfg0.win 5).blk t).view.emb (ix2 0 d)) = _
  refine (congrArg (V m c main_v5) (?_ : _ = ix2 0 d)).trans (V_h m c d)
  funext a; apply Fin.ext
  match a with
  | ⟨0, _⟩ => rfl
  | ⟨1, _⟩ => show (0#32 : BitVec 32).toNat * 512 + 1 * d.val = d.val; simp

/-- A block's result is the reference's, if the columns of its rows are the sequence's from 30 positions before. -/
theorem block_at (c : Dev nD) (t : Fin cfg0.N) (E : Fin 512 → ℕ → EReal)
    (hE : ∀ (d q : Fin 512) (j : ℕ), j < 31 → E d (q.val + 2 + j) = extR (aU m c) (bOf t) d (512 * (t.val % 16) + q.val + j)) (q d : Fin 512) :
    outB E (iblk m c 1 t) (iblk m c 2 t) (iblk m c 3 t) (iblk m c 4 t) (iblk m c 5 t) q d = G m c (ix3 (bOf t) (rOf t q) d) := by
  refine Eq.trans ?_ (Cert.Reference7Ideal.Conv.v250_at (aU m c) (aS m c) (aW m c) (aB m c) (aG m c) (aH m c) (bOf t) (rOf t q) d).symm
  unfold outB outR
  have hg : (fun d : Fin 512 => (iblk m c 4 t : FVec Ideal S1x512 .f32) (ix2 0 d)) = fun d => aG m c (ix2 0 d) := funext fun d => blk4_at m c t d
  have hh : (fun d : Fin 512 => (iblk m c 5 t : FVec Ideal S1x512 .f32) (ix2 0 d)) = fun d => aH m c (ix2 0 d) := funext fun d => blk5_at m c t d
  have hy : (fun d : Fin 512 => conv (fun j => E d (q.val + 2 + j)) (wtN (iblk m c 2 t) d) + (iblk m c 3 t : FVec Ideal S1x512 .f32) (ix2 0 d)) = rowR (aU m c) (aW m c) (aB m c) (bOf t) (rOf t q).val := by
    funext d
    unfold rowR
    refine congrArg₂ (fun x y : EReal => x + y) (conv_congr _ _ _ _ (fun j hj => hE d q j hj) fun j hj => ?_) (blk3_at m c t d)
    unfold wtN wtR
    rw [dif_pos hj, dif_pos hj]
    exact blk2_at m c t ⟨j, hj⟩ d
  rw [hg, hh, hy]
  exact congrArg (fun z : EReal => _ * z) (blk1_at m c t q d)

/-- The rows a point carries on are its block's last 32. -/
theorem carry_at (c : Dev nD) (t : Fin cfg0.N) (n : ℕ) (hn : n < 32) (d : Fin 512) :
    (outsAt0 m c t.val t.isLt).2 (ix2 ⟨n, by omega⟩ d) = aU m c (ix3 (bOf t) (rOf t ⟨480 + n, by omega⟩) d) := by
  by_cases h0 : t.val % 16 = 0
  · rw [outsAt0_A m c t h0]
    dsimp only
    rw [sout0_A_0_at (hn := hn)]
    exact blk0_at m c t _ d
  · rw [outsAt0_B m c t h0]
    dsimp only
    rw [sout0_B_0_at (hn := hn)]
    exact blk0_at m c t _ d

/-- A block's own rows are the sequence's. -/
theorem own_at (c : Dev nD) (t : Fin cfg0.N) (d q : Fin 512) (j : ℕ) (hj : j < 31) (h : 32 ≤ q.val + 2 + j) (h' : q.val + 2 + j - 32 < 512) :
    (iblk m c 0 t : FVec Ideal S1x512x512 .f32) (ix3 0 ⟨q.val + 2 + j - 32, h'⟩ d) = extR (aU m c) (bOf t) d (512 * (t.val % 16) + q.val + j) := by
  rw [blk0_at]
  unfold extR
  rw [dif_pos (by omega)]
  refine congrArg (fun r => aU m c (ix3 (bOf t) r d)) (Fin.ext ?_)
  show 512 * (t.val % 16) + (q.val + 2 + j - 32) = 512 * (t.val % 16) + q.val + j - 30
  omega

/-- What a point leaves, at an entry: the reference's entry. -/
theorem point_at (c : Dev nD) (t : Fin cfg0.N) (q d : Fin 512) : (outsAt0 m c t.val t.isLt).1 (ix3 0 q d) = G m c (ix3 (bOf t) (rOf t q) d) := by
  by_cases h0 : t.val % 16 = 0
  · rw [outsAt0_A m c t h0]
    refine (out0_A_6_at _ _ _ _ _ _ _ _ _ _ _ _ _ _ _ _ _ _ _ _ _ _ _ _ _ q d).trans (block_at m c t _ (fun d q j hj => ?_) q d)
    unfold extA
    by_cases hn : q.val + 2 + j < 32
    · rw [dif_pos hn]
      unfold extR
      rw [dif_neg (by omega)]
    · rw [dif_neg hn, dif_pos (by omega)]
      exact own_at m c t d q j hj (by omega) (by omega)
  · rw [outsAt0_B m c t h0]
    refine (out0_B_6_at _ _ _ _ _ _ _ _ _ _ _ _ _ _ _ _ _ _ _ _ _ _ _ _ _ _ q d).trans (block_at m c t _ (fun d q j hj => ?_) q d)
    unfold extB
    by_cases hn : q.val + 2 + j < 32
    · rw [dif_pos hn]
      refine (carry_at m c ⟨t.val - 1, Nat.lt_of_le_of_lt (Nat.sub_le _ _) t.isLt⟩ _ hn d).trans ?_
      unfold extR
      rw [dif_pos (by omega)]
      refine congrArg₂ (fun b r => aU m c (ix3 b r d)) (Fin.ext ?_) (Fin.ext ?_)
      · show (t.val - 1) / 16 = t.val / 16
        omega
      · show 512 * ((t.val - 1) % 16) + (480 + (q.val + 2 + j)) = 512 * (t.val % 16) + q.val + j - 30
        omega
    · rw [dif_neg hn, dif_pos (by omega)]
      exact own_at m c t d q j hj (by omega) (by omega)

/-- Where an entry of a point's block lies in the result. -/
theorem emb6 (t : Fin cfg0.N) (r d : Fin 512) : (((cfg0.win 6).blk t).view.emb (ix3 0 r d) : S4x8192x512.Idx) = ix3 (bOf t) (rOf t r) d := by
  obtain ⟨e0, e1⟩ := tr0 (grid0.coords t 0) (grid0.coords t 1)
  obtain ⟨f0, f1⟩ := coords_eq t
  funext a; apply Fin.ext
  match a with
  | ⟨0, _⟩ => show (BitVec.ofNat 32 (grid0.coords t 0).val).toNat * 1 + 1 * 0 = t.val / 16; omega
  | ⟨1, _⟩ => show (BitVec.ofNat 32 (grid0.coords t 1).val).toNat * 512 + 1 * r.val = 512 * (t.val % 16) + r.val; omega
  | ⟨2, _⟩ => show (0#32 : BitVec 32).toNat * 512 + 1 * d.val = d.val; simp

theorem flushed_eq (c : Dev nD) (t : Fin cfg0.N) :
    (dats m 0 c).flushed 6 t = ((cfg0.win 6).blk t).view.read (Elt Ideal) (G m c) := by
  rw [flushed6]
  funext y
  refine all3 (A := 1) (B := 512) (C := 512) (P := fun y => (outsAt0 m c t.val t.isLt).1 y = ((cfg0.win 6).blk t).view.read (Elt Ideal) (G m c) y) (fun u q d => ?_) y
  obtain rfl : u = 0 := Fin.ext (by omega)
  refine (point_at m c t q d).trans ?_
  exact (congrArg (G m c) (emb6 t q d)).symm

theorem covered (y : S4x8192x512.Idx) : ∃ t : Fin cfg0.N, (cfg0.win 6).flush t = true ∧ y ∈ ((cfg0.win 6).blk t).view.set := by
  have h0 : (y 0).val < 4 := (y 0).isLt
  have h1 : (y 1).val < 8192 := (y 1).isLt
  have h2 : (y 2).val < 512 := (y 2).isLt
  have ht : (y 0).val * 16 + (y 1).val / 512 < cfg0.N := by rw [show cfg0.N = 64 from N_0]; omega
  refine ⟨⟨(y 0).val * 16 + (y 1).val / 512, ht⟩, flush0_6 _, ?_⟩
  have h := ((cfg0.win 6).blk ⟨(y 0).val * 16 + (y 1).val / 512, ht⟩).view.emb_mem_set (ix3 0 ⟨(y 1).val % 512, by omega⟩ ⟨(y 2).val, h2⟩)
  rw [emb6] at h
  refine (congrArg (· ∈ ((cfg0.win 6).blk ⟨(y 0).val * 16 + (y 1).val / 512, ht⟩).view.set) ?_).mp h
  funext a; apply Fin.ext
  match a with
  | ⟨0, _⟩ => show ((y 0).val * 16 + (y 1).val / 512) / 16 = (y 0).val; omega
  | ⟨1, _⟩ => show 512 * (((y 0).val * 16 + (y 1).val / 512) % 16) + (y 1).val % 512 = (y 1).val; omega
  | ⟨2, _⟩ => rfl

/-- The result array after the run is the reference's. -/
theorem final (c : Dev nD) : (dats m 0 c).arrAt 6 cfg0.N = G m c :=
  (dats m 0 c).arrAt_eq_of_cover 6 (G m c) (fun t _ => flushed_eq m c t) covered

end Cert.Kernel7Ideal.Conv
end
-- ==== Proof.P7Claim.lean ====
module

public import proofs.«01_k».proof.Defs
public import proofs.«01_k».proof.Proof.P7Val
public import proofs.«01_k».proof.Proof.Gen.Kernel7.Frame
public import Idealize.ShloMosaic.Adequacy
public import Idealize.ShloMosaic.Init

/-! The claims about the convolution of the prompt: the runs of the kernel and of the reference, and the equality of the result. -/

@[expose] public section

set_option maxRecDepth 16384

noncomputable section

namespace Cert.PromptConvClaim

open Idealize.ShloMosaic Idealize.ShloMosaic.TcCoe Idealize.SL.Sem

/-- The convolution of the prompt over machine floats runs, leaves its arguments and ends with every semaphore at zero. -/
theorem frame_kernel : Cert.quiescent_Kernel7 (hKernel7 := Cert.Kernel7.Gen.facts) := fun m ρ _ => Cert.Kernel7.Gen.frame m ρ

/-- The same of the idealized kernel. -/
theorem frame_ideal : Cert.quiescent_Kernel7Ideal (hKernel7Ideal := Cert.Kernel7Ideal.Gen.facts) := fun m ρ _ => Cert.Kernel7Ideal.Gen.frame m ρ

/-- The same of the reference. -/
theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run (F := Ideal) m ρ)

/-- No constant is named and no operation is rewritten. -/
theorem preserves : Cert.preserves_Kernel7_Kernel7Ideal := trivial

/-- The result is the reference's. -/
theorem value : Cert.algebraic_Kernel7Ideal_Reference7Ideal (hKernel7Ideal := Cert.Kernel7Ideal.Gen.facts) (hReference7Ideal := Cert.Reference7Ideal.Gen.facts) := by
  intro m ρ m' ρ' _ hagree
  refine ⟨Cert.Kernel7Ideal.Conv.G m, (θ_run Cert.Kernel7Ideal.defs _ _).mono (fun r h c => ⟨(h c).1.trans (Cert.Kernel7Ideal.Conv.final m c), (h c).2⟩) (Cert.Kernel7Ideal.Value.run_blocks m ρ), ?_⟩
  refine (θ_run Cert.Reference7Ideal.defs _ _).mono (fun r h c => ?_) (Cert.Reference7Ideal.Value.run (F := Ideal) m' ρ')
  obtain ⟨g0, g1, g2, g3, g4, g5⟩ := hagree c
  obtain ⟨h0, hr⟩ := h c
  refine ⟨h0.trans ?_, hr⟩
  refine (Cert.Reference7Ideal.Read.val_main_v250_eq _).trans ?_
  exact congr (congr (congr (congr (congr (congrArg (Cert.Reference7Ideal.Read.val_main_v250 (F := Ideal)) g0) g1) g2) g3) g4) g5

end Cert.PromptConvClaim

end
-- ==== Proof.lean ====
module

public import proofs.«01_k».proof.Proof.AttnClaim
public import proofs.«01_k».proof.Proof.P2Claim
public import proofs.«01_k».proof.Proof.P3Claim
public import proofs.«01_k».proof.Proof.P4Claim
public import proofs.«01_k».proof.Proof.P5Claim
public import proofs.«01_k».proof.Proof.P6Claim
public import proofs.«01_k».proof.Proof.P7Claim

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Attn.preFacts,
  Cert.Attn.frame_kernel, Cert.Attn.frame_ideal, Cert.Attn.frame_ideal_pre, Cert.Attn.frame_reference, Cert.Attn.frame_reference_pre,
  Cert.ProjClaim.frame_kernel, Cert.ProjClaim.frame_ideal, Cert.ProjClaim.frame_reference,
  Cert.OutClaim3.frame_kernel, Cert.OutClaim3.frame_ideal, Cert.OutClaim3.frame_reference,
  Cert.SampleProjClaim.frame_kernel, Cert.SampleProjClaim.frame_ideal, Cert.SampleProjClaim.frame_reference,
  Cert.SampleConvClaim.frame_kernel, Cert.SampleConvClaim.frame_ideal, Cert.SampleConvClaim.frame_reference,
  Cert.OutClaim6.frame_kernel, Cert.OutClaim6.frame_ideal, Cert.OutClaim6.frame_reference,
  Cert.PromptConvClaim.frame_kernel, Cert.PromptConvClaim.frame_ideal, Cert.PromptConvClaim.frame_reference,
  Cert.Attn.preserves, Cert.Attn.value,
  Cert.ProjClaim.preserves, Cert.ProjClaim.value,
  Cert.OutClaim3.preserves, Cert.OutClaim3.value,
  Cert.SampleProjClaim.preserves, Cert.SampleProjClaim.value,
  Cert.SampleConvClaim.preserves, Cert.SampleConvClaim.value,
  Cert.OutClaim6.preserves, Cert.OutClaim6.value,
  Cert.PromptConvClaim.preserves, Cert.PromptConvClaim.value⟩

end Cert.Proof

end
